-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_MixtureIdeal (m : (ℓ : Loc Cert.MixtureIdeal.nD Cert.MixtureIdeal.τ Cert.MixtureIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_TotalsIdeal (m : (ℓ : Loc Cert.TotalsIdeal.nD Cert.TotalsIdeal.τ Cert.TotalsIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondPlainIdeal (m : (ℓ : Loc Cert.SecondPlainIdeal.nD Cert.SecondPlainIdeal.τ Cert.SecondPlainIdeal.sig) → Buf (Elt Ideal) ℓ) : Prop :=
  True

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdPlainIdeal (m : (ℓ : Loc Cert.ThirdPlainIdeal.nD Cert.ThirdPlainIdeal.τ Cert.ThirdPlainIdeal.sig) → Buf (Elt Ideal) ℓ) : Prop :=
  True

def Pre_Fourth (m : (ℓ : Loc Cert.Fourth.nD Cert.Fourth.τ Cert.Fourth.sig) → Buf (Elt Bits) ℓ) : Prop :=
  True

def Pre_FourthIdeal (m : (ℓ : Loc Cert.FourthIdeal.nD Cert.FourthIdeal.τ Cert.FourthIdeal.sig) → Buf (Elt Ideal) ℓ) : Prop :=
  True

def Pre_FourthPlainIdeal (m : (ℓ : Loc Cert.FourthPlainIdeal.nD Cert.FourthPlainIdeal.τ Cert.FourthPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_MixtureIdeal [hMixtureIdeal : Cert.MixtureIdeal.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ r.2.sem = fun _ => 0)

def quiescent_TotalsIdeal [hTotalsIdeal : Cert.TotalsIdeal.Facts] : Prop :=
  ∀ (m : (ℓ : Loc Cert.TotalsIdeal.nD Cert.TotalsIdeal.τ Cert.TotalsIdeal.sig) → Buf (Elt Ideal) ℓ) (g : Dev Cert.TotalsIdeal.nD → PrngReg), Pre_TotalsIdeal m →
    θ_run (Cert.TotalsIdeal.defs (F := Ideal)) (onTc (τ := Cert.TotalsIdeal.τ) (Cert.TotalsIdeal.main (F := Ideal))) ⟨m, fun _ => 0, g⟩ (fun r => (∀ c : Dev Cert.TotalsIdeal.nD,
      r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2))
      ∧ r.2.sem = fun _ => 0)

def quiescent_SecondPlainIdeal [hSecondPlainIdeal : Cert.SecondPlainIdeal.Facts] : Prop :=
  ∀ (m : (ℓ : Loc Cert.SecondPlainIdeal.nD Cert.SecondPlainIdeal.τ Cert.SecondPlainIdeal.sig) → Buf (Elt Ideal) ℓ) (g : Dev Cert.SecondPlainIdeal.nD → PrngReg), Pre_SecondPlainIdeal m →
    θ_run (Cert.SecondPlainIdeal.defs (F := Ideal)) (onTc (τ := Cert.SecondPlainIdeal.τ) (Cert.SecondPlainIdeal.main (F := Ideal))) ⟨m, fun _ => 0, g⟩ (fun r => (∀ c : Dev Cert.SecondPlainIdeal.nD,
      r.2.mem ((c.tc : Thread Cert.SecondPlainIdeal.nD Cert.SecondPlainIdeal.τ).loc Cert.SecondPlainIdeal.main_arg0) = m ((c.tc : Thread Cert.SecondPlainIdeal.nD Cert.SecondPlainIdeal.τ).loc Cert.SecondPlainIdeal.main_arg0)
      ∧ r.2.mem ((c.tc : Thread Cert.SecondPlainIdeal.nD Cert.SecondPlainIdeal.τ).loc Cert.SecondPlainIdeal.main_arg1) = m ((c.tc : Thread Cert.SecondPlainIdeal.nD Cert.SecondPlainIdeal.τ).loc Cert.SecondPlainIdeal.main_arg1)
      ∧ r.2.mem ((c.tc : Thread Cert.SecondPlainIdeal.nD Cert.SecondPlainIdeal.τ).loc Cert.SecondPlainIdeal.main_arg2) = m ((c.tc : Thread Cert.SecondPlainIdeal.nD Cert.SecondPlainIdeal.τ).loc Cert.SecondPlainIdeal.main_arg2))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2))
      ∧ r.2.sem = fun _ => 0)

def quiescent_ThirdPlainIdeal [hThirdPlainIdeal : Cert.ThirdPlainIdeal.Facts] : Prop :=
  ∀ (m : (ℓ : Loc Cert.ThirdPlainIdeal.nD Cert.ThirdPlainIdeal.τ Cert.ThirdPlainIdeal.sig) → Buf (Elt Ideal) ℓ) (g : Dev Cert.ThirdPlainIdeal.nD → PrngReg), Pre_ThirdPlainIdeal m →
    θ_run (Cert.ThirdPlainIdeal.defs (F := Ideal)) (onTc (τ := Cert.ThirdPlainIdeal.τ) (Cert.ThirdPlainIdeal.main (F := Ideal))) ⟨m, fun _ => 0, g⟩ (fun r => (∀ c : Dev Cert.ThirdPlainIdeal.nD,
      r.2.mem ((c.tc : Thread Cert.ThirdPlainIdeal.nD Cert.ThirdPlainIdeal.τ).loc Cert.ThirdPlainIdeal.main_arg0) = m ((c.tc : Thread Cert.ThirdPlainIdeal.nD Cert.ThirdPlainIdeal.τ).loc Cert.ThirdPlainIdeal.main_arg0)
      ∧ r.2.mem ((c.tc : Thread Cert.ThirdPlainIdeal.nD Cert.ThirdPlainIdeal.τ).loc Cert.ThirdPlainIdeal.main_arg1) = m ((c.tc : Thread Cert.ThirdPlainIdeal.nD Cert.ThirdPlainIdeal.τ).loc Cert.ThirdPlainIdeal.main_arg1)
      ∧ r.2.mem ((c.tc : Thread Cert.ThirdPlainIdeal.nD Cert.ThirdPlainIdeal.τ).loc Cert.ThirdPlainIdeal.main_arg2) = m ((c.tc : Thread Cert.ThirdPlainIdeal.nD Cert.ThirdPlainIdeal.τ).loc Cert.ThirdPlainIdeal.main_arg2))
      ∧ r.2.sem = fun _ => 0)

def quiescent_Fourth [hFourth : Cert.Fourth.Facts] : Prop :=
  ∀ (m : (ℓ : Loc Cert.Fourth.nD Cert.Fourth.τ Cert.Fourth.sig) → Buf (Elt Bits) ℓ) (g : Dev Cert.Fourth.nD → PrngReg), Pre_Fourth m →
    θ_run (Cert.Fourth.defs (F := Bits)) (onTc (τ := Cert.Fourth.τ) (Cert.Fourth.main (F := Bits))) ⟨m, fun _ => 0, g⟩ (fun r => (∀ c : Dev Cert.Fourth.nD,
      r.2.mem ((c.tc : Thread Cert.Fourth.nD Cert.Fourth.τ).loc Cert.Fourth.main_arg0) = m ((c.tc : Thread Cert.Fourth.nD Cert.Fourth.τ).loc Cert.Fourth.main_arg0)
      ∧ r.2.mem ((c.tc : Thread Cert.Fourth.nD Cert.Fourth.τ).loc Cert.Fourth.main_arg1) = m ((c.tc : Thread Cert.Fourth.nD Cert.Fourth.τ).loc Cert.Fourth.main_arg1)
      ∧ r.2.mem ((c.tc : Thread Cert.Fourth.nD Cert.Fourth.τ).loc Cert.Fourth.main_arg2) = m ((c.tc : Thread Cert.Fourth.nD Cert.Fourth.τ).loc Cert.Fourth.main_arg2))
      ∧ r.2.sem = fun _ => 0)

def quiescent_FourthIdeal [hFourthIdeal : Cert.FourthIdeal.Facts] : Prop :=
  ∀ (m : (ℓ : Loc Cert.FourthIdeal.nD Cert.FourthIdeal.τ Cert.FourthIdeal.sig) → Buf (Elt Ideal) ℓ) (g : Dev Cert.FourthIdeal.nD → PrngReg), Pre_FourthIdeal m →
    θ_run (Cert.FourthIdeal.defs (F := Ideal)) (onTc (τ := Cert.FourthIdeal.τ) (Cert.FourthIdeal.main (F := Ideal))) ⟨m, fun _ => 0, g⟩ (fun r => (∀ c : Dev Cert.FourthIdeal.nD,
      r.2.mem ((c.tc : Thread Cert.FourthIdeal.nD Cert.FourthIdeal.τ).loc Cert.FourthIdeal.main_arg0) = m ((c.tc : Thread Cert.FourthIdeal.nD Cert.FourthIdeal.τ).loc Cert.FourthIdeal.main_arg0)
      ∧ r.2.mem ((c.tc : Thread Cert.FourthIdeal.nD Cert.FourthIdeal.τ).loc Cert.FourthIdeal.main_arg1) = m ((c.tc : Thread Cert.FourthIdeal.nD Cert.FourthIdeal.τ).loc Cert.FourthIdeal.main_arg1)
      ∧ r.2.mem ((c.tc : Thread Cert.FourthIdeal.nD Cert.FourthIdeal.τ).loc Cert.FourthIdeal.main_arg2) = m ((c.tc : Thread Cert.FourthIdeal.nD Cert.FourthIdeal.τ).loc Cert.FourthIdeal.main_arg2))
      ∧ r.2.sem = fun _ => 0)

def quiescent_FourthPlainIdeal [hFourthPlainIdeal : Cert.FourthPlainIdeal.Facts] : Prop :=
  ∀ (m : (ℓ : Loc Cert.FourthPlainIdeal.nD Cert.FourthPlainIdeal.τ Cert.FourthPlainIdeal.sig) → Buf (Elt Ideal) ℓ) (g : Dev Cert.FourthPlainIdeal.nD → PrngReg), Pre_FourthPlainIdeal m →
    θ_run (Cert.FourthPlainIdeal.defs (F := Ideal)) (onTc (τ := Cert.FourthPlainIdeal.τ) (Cert.FourthPlainIdeal.main (F := Ideal))) ⟨m, fun _ => 0, g⟩ (fun r => (∀ c : Dev Cert.FourthPlainIdeal.nD,
      r.2.mem ((c.tc : Thread Cert.FourthPlainIdeal.nD Cert.FourthPlainIdeal.τ).loc Cert.FourthPlainIdeal.main_arg0) = m ((c.tc : Thread Cert.FourthPlainIdeal.nD Cert.FourthPlainIdeal.τ).loc Cert.FourthPlainIdeal.main_arg0)
      ∧ r.2.mem ((c.tc : Thread Cert.FourthPlainIdeal.nD Cert.FourthPlainIdeal.τ).loc Cert.FourthPlainIdeal.main_arg1) = m ((c.tc : Thread Cert.FourthPlainIdeal.nD Cert.FourthPlainIdeal.τ).loc Cert.FourthPlainIdeal.main_arg1)
      ∧ r.2.mem ((c.tc : Thread Cert.FourthPlainIdeal.nD Cert.FourthPlainIdeal.τ).loc Cert.FourthPlainIdeal.main_arg2) = m ((c.tc : Thread Cert.FourthPlainIdeal.nD Cert.FourthPlainIdeal.τ).loc Cert.FourthPlainIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![8192, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)) (v1 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![2, 512, 2048]⟩ ⟨3, ![32, 512, 2048]⟩ 0 16 c v0
          ∧ r.2.mem ((c.tc : Thread Cert.KernelIdeal.nD Cert.KernelIdeal.τ).loc Cert.KernelIdeal.main_v1_1) = Layout.block ⟨3, ![2, 512, 1]⟩ ⟨3, ![32, 512, 1]⟩ 0 16 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_v11) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Experts_ExpertsIdeal : Prop :=
  True

def algebraic_ExpertsIdeal_MixtureIdeal [hExpertsIdeal : Cert.ExpertsIdeal.Facts] [hMixtureIdeal : Cert.MixtureIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MixtureIdeal.nD Cert.MixtureIdeal.τ Cert.MixtureIdeal.sig) → Buf (Elt Ideal) ℓ) (g' : Dev Cert.MixtureIdeal.nD → PrngReg), Pre_ExpertsIdeal m →
    (∀ c : Dev Cert.ExpertsIdeal.nD,
      m ((c.tc : Thread Cert.ExpertsIdeal.nD Cert.ExpertsIdeal.τ).loc Cert.ExpertsIdeal.main_arg0) = Layout.block ⟨3, ![2, 512, 2048]⟩ ⟨3, ![32, 512, 2048]⟩ 0 16 c (m' (((0 : Dev Cert.MixtureIdeal.nD).tc : Thread Cert.MixtureIdeal.nD Cert.MixtureIdeal.τ).loc Cert.MixtureIdeal.main_arg0))
      ∧ m ((c.tc : Thread Cert.ExpertsIdeal.nD Cert.ExpertsIdeal.τ).loc Cert.ExpertsIdeal.main_arg1) = Layout.block ⟨3, ![2, 512, 1]⟩ ⟨3, ![32, 512, 1]⟩ 0 16 c (m' (((0 : Dev Cert.MixtureIdeal.nD).tc : Thread Cert.MixtureIdeal.nD Cert.MixtureIdeal.τ).loc Cert.MixtureIdeal.main_arg1))
      ∧ m ((c.tc : Thread Cert.ExpertsIdeal.nD Cert.ExpertsIdeal.τ).loc Cert.ExpertsIdeal.main_arg2) = Layout.blockN ⟨3, ![4, 2048, 4096]⟩ ⟨3, ![8, 2048, 4096]⟩ (Layout.meshBlock [2, 2, 4] ![[1], [], []] c) (m' (((0 : Dev Cert.MixtureIdeal.nD).tc : Thread Cert.MixtureIdeal.nD Cert.MixtureIdeal.τ).loc Cert.MixtureIdeal.main_arg2))
      ∧ m ((c.tc : Thread Cert.ExpertsIdeal.nD Cert.ExpertsIdeal.τ).loc Cert.ExpertsIdeal.main_arg3) = Layout.blockN ⟨3, ![4, 4096, 2048]⟩ ⟨3, ![8, 4096, 2048]⟩ (Layout.meshBlock [2, 2, 4] ![[1], [], []] c) (m' (((0 : Dev Cert.MixtureIdeal.nD).tc : Thread Cert.MixtureIdeal.nD Cert.MixtureIdeal.τ).loc Cert.MixtureIdeal.main_arg3))) →
    ∃ (v0 : Buf (Elt Ideal) (((0 : Dev Cert.MixtureIdeal.nD).tc : Thread Cert.MixtureIdeal.nD Cert.MixtureIdeal.τ).loc Cert.MixtureIdeal.main_v25)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = Layout.block ⟨2, ![1024, 2048]⟩ ⟨2, ![16384, 2048]⟩ 0 16 c v0
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.MixtureIdeal.defs (F := Ideal)) (onTc (τ := Cert.MixtureIdeal.τ) (Cert.MixtureIdeal.main (F := Ideal))) ⟨m', fun _ => 0, g'⟩ (fun r =>
          r.2.mem (((0 : Dev Cert.MixtureIdeal.nD).tc : Thread Cert.MixtureIdeal.nD Cert.MixtureIdeal.τ).loc Cert.MixtureIdeal.main_v25) = v0
          ∧ r.2.mem (((0 : Dev Cert.MixtureIdeal.nD).tc : Thread Cert.MixtureIdeal.nD Cert.MixtureIdeal.τ).loc Cert.MixtureIdeal.main_arg0) = m' (((0 : Dev Cert.MixtureIdeal.nD).tc : Thread Cert.MixtureIdeal.nD Cert.MixtureIdeal.τ).loc Cert.MixtureIdeal.main_arg0)
          ∧ r.2.mem (((0 : Dev Cert.MixtureIdeal.nD).tc : Thread Cert.MixtureIdeal.nD Cert.MixtureIdeal.τ).loc Cert.MixtureIdeal.main_arg1) = m' (((0 : Dev Cert.MixtureIdeal.nD).tc : Thread Cert.MixtureIdeal.nD Cert.MixtureIdeal.τ).loc Cert.MixtureIdeal.main_arg1)
          ∧ r.2.mem (((0 : Dev Cert.MixtureIdeal.nD).tc : Thread Cert.MixtureIdeal.nD Cert.MixtureIdeal.τ).loc Cert.MixtureIdeal.main_arg2) = m' (((0 : Dev Cert.MixtureIdeal.nD).tc : Thread Cert.MixtureIdeal.nD Cert.MixtureIdeal.τ).loc Cert.MixtureIdeal.main_arg2)
          ∧ r.2.mem (((0 : Dev Cert.MixtureIdeal.nD).tc : Thread Cert.MixtureIdeal.nD Cert.MixtureIdeal.τ).loc Cert.MixtureIdeal.main_arg3) = m' (((0 : Dev Cert.MixtureIdeal.nD).tc : Thread Cert.MixtureIdeal.nD Cert.MixtureIdeal.τ).loc Cert.MixtureIdeal.main_arg3))

def preserves_Combine_CombineIdeal : Prop :=
  True

def algebraic_CombineIdeal_TotalsIdeal [hCombineIdeal : Cert.CombineIdeal.Facts] [hTotalsIdeal : Cert.TotalsIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.TotalsIdeal.nD Cert.TotalsIdeal.τ Cert.TotalsIdeal.sig) → Buf (Elt Ideal) ℓ) (g' : Dev Cert.TotalsIdeal.nD → PrngReg), Pre_CombineIdeal m →
    (∀ c : Dev Cert.CombineIdeal.nD,
      m ((c.tc : Thread Cert.CombineIdeal.nD Cert.CombineIdeal.τ).loc Cert.CombineIdeal.main_arg0) = Layout.block ⟨2, ![1024, 2048]⟩ ⟨2, ![16384, 2048]⟩ 0 16 c (m' (((0 : Dev Cert.TotalsIdeal.nD).tc : Thread Cert.TotalsIdeal.nD Cert.TotalsIdeal.τ).loc Cert.TotalsIdeal.main_arg0))) →
    ∃ (v0 : Buf (Elt Ideal) (((0 : Dev Cert.TotalsIdeal.nD).tc : Thread Cert.TotalsIdeal.nD Cert.TotalsIdeal.τ).loc Cert.TotalsIdeal.main_v34)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = Layout.block ⟨2, ![4096, 2048]⟩ ⟨2, ![65536, 2048]⟩ 0 16 c v0
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ θ_run (Cert.TotalsIdeal.defs (F := Ideal)) (onTc (τ := Cert.TotalsIdeal.τ) (Cert.TotalsIdeal.main (F := Ideal))) ⟨m', fun _ => 0, g'⟩ (fun r =>
          r.2.mem (((0 : Dev Cert.TotalsIdeal.nD).tc : Thread Cert.TotalsIdeal.nD Cert.TotalsIdeal.τ).loc Cert.TotalsIdeal.main_v34) = v0
          ∧ r.2.mem (((0 : Dev Cert.TotalsIdeal.nD).tc : Thread Cert.TotalsIdeal.nD Cert.TotalsIdeal.τ).loc Cert.TotalsIdeal.main_arg0) = m' (((0 : Dev Cert.TotalsIdeal.nD).tc : Thread Cert.TotalsIdeal.nD Cert.TotalsIdeal.τ).loc Cert.TotalsIdeal.main_arg0))

def preserves_Second_SecondIdeal : Prop :=
  True

def algebraic_SecondIdeal_SecondPlainIdeal [hSecondIdeal : Cert.SecondIdeal.Facts] [hSecondPlainIdeal : Cert.SecondPlainIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondPlainIdeal.nD Cert.SecondPlainIdeal.τ Cert.SecondPlainIdeal.sig) → Buf (Elt Ideal) ℓ) (g' : Dev Cert.SecondPlainIdeal.nD → PrngReg), Pre_SecondIdeal m →
    (∀ c : Dev Cert.SecondIdeal.nD,
      m ((c.tc : Thread Cert.SecondIdeal.nD Cert.SecondIdeal.τ).loc Cert.SecondIdeal.main_arg0) = Layout.block ⟨2, ![4096, 2048]⟩ ⟨2, ![65536, 2048]⟩ 0 16 c (m' (((0 : Dev Cert.SecondPlainIdeal.nD).tc : Thread Cert.SecondPlainIdeal.nD Cert.SecondPlainIdeal.τ).loc Cert.SecondPlainIdeal.main_arg0))
      ∧ m ((c.tc : Thread Cert.SecondIdeal.nD Cert.SecondIdeal.τ).loc Cert.SecondIdeal.main_arg1) = Layout.block ⟨2, ![512, 2048]⟩ ⟨2, ![8192, 2048]⟩ 0 16 c (m' (((0 : Dev Cert.SecondPlainIdeal.nD).tc : Thread Cert.SecondPlainIdeal.nD Cert.SecondPlainIdeal.τ).loc Cert.SecondPlainIdeal.main_arg1))
      ∧ m ((c.tc : Thread Cert.SecondIdeal.nD Cert.SecondIdeal.τ).loc Cert.SecondIdeal.main_arg2) = Layout.block ⟨2, ![512, 2048]⟩ ⟨2, ![8192, 2048]⟩ 0 16 c (m' (((0 : Dev Cert.SecondPlainIdeal.nD).tc : Thread Cert.SecondPlainIdeal.nD Cert.SecondPlainIdeal.τ).loc Cert.SecondPlainIdeal.main_arg2))) →
    ∃ (v0 : Buf (Elt Ideal) (((0 : Dev Cert.SecondPlainIdeal.nD).tc : Thread Cert.SecondPlainIdeal.nD Cert.SecondPlainIdeal.τ).loc Cert.SecondPlainIdeal.main_v52)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v1) = Layout.block ⟨2, ![4096, 2048]⟩ ⟨2, ![65536, 2048]⟩ 0 16 c v0
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2))
      ∧ θ_run (Cert.SecondPlainIdeal.defs (F := Ideal)) (onTc (τ := Cert.SecondPlainIdeal.τ) (Cert.SecondPlainIdeal.main (F := Ideal))) ⟨m', fun _ => 0, g'⟩ (fun r =>
          r.2.mem (((0 : Dev Cert.SecondPlainIdeal.nD).tc : Thread Cert.SecondPlainIdeal.nD Cert.SecondPlainIdeal.τ).loc Cert.SecondPlainIdeal.main_v52) = v0
          ∧ r.2.mem (((0 : Dev Cert.SecondPlainIdeal.nD).tc : Thread Cert.SecondPlainIdeal.nD Cert.SecondPlainIdeal.τ).loc Cert.SecondPlainIdeal.main_arg0) = m' (((0 : Dev Cert.SecondPlainIdeal.nD).tc : Thread Cert.SecondPlainIdeal.nD Cert.SecondPlainIdeal.τ).loc Cert.SecondPlainIdeal.main_arg0)
          ∧ r.2.mem (((0 : Dev Cert.SecondPlainIdeal.nD).tc : Thread Cert.SecondPlainIdeal.nD Cert.SecondPlainIdeal.τ).loc Cert.SecondPlainIdeal.main_arg1) = m' (((0 : Dev Cert.SecondPlainIdeal.nD).tc : Thread Cert.SecondPlainIdeal.nD Cert.SecondPlainIdeal.τ).loc Cert.SecondPlainIdeal.main_arg1)
          ∧ r.2.mem (((0 : Dev Cert.SecondPlainIdeal.nD).tc : Thread Cert.SecondPlainIdeal.nD Cert.SecondPlainIdeal.τ).loc Cert.SecondPlainIdeal.main_arg2) = m' (((0 : Dev Cert.SecondPlainIdeal.nD).tc : Thread Cert.SecondPlainIdeal.nD Cert.SecondPlainIdeal.τ).loc Cert.SecondPlainIdeal.main_arg2))

def preserves_Third_ThirdIdeal : Prop :=
  True

def algebraic_ThirdIdeal_ThirdPlainIdeal [hThirdIdeal : Cert.ThirdIdeal.Facts] [hThirdPlainIdeal : Cert.ThirdPlainIdeal.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdPlainIdeal.nD Cert.ThirdPlainIdeal.τ Cert.ThirdPlainIdeal.sig) → Buf (Elt Ideal) ℓ) (g' : Dev Cert.ThirdPlainIdeal.nD → PrngReg), Pre_ThirdIdeal m →
    (∀ c : Dev Cert.ThirdIdeal.nD,
      m ((c.tc : Thread Cert.ThirdIdeal.nD Cert.ThirdIdeal.τ).loc Cert.ThirdIdeal.main_arg0) = Layout.block ⟨2, ![4096, 2048]⟩ ⟨2, ![65536, 2048]⟩ 0 16 c (m' (((0 : Dev Cert.ThirdPlainIdeal.nD).tc : Thread Cert.ThirdPlainIdeal.nD Cert.ThirdPlainIdeal.τ).loc Cert.ThirdPlainIdeal.main_arg0))
      ∧ m ((c.tc : Thread Cert.ThirdIdeal.nD Cert.ThirdIdeal.τ).loc Cert.ThirdIdeal.main_arg1) = Layout.block ⟨2, ![512, 2048]⟩ ⟨2, ![8192, 2048]⟩ 0 16 c (m' (((0 : Dev Cert.ThirdPlainIdeal.nD).tc : Thread Cert.ThirdPlainIdeal.nD Cert.ThirdPlainIdeal.τ).loc Cert.ThirdPlainIdeal.main_arg1))
      ∧ m ((c.tc : Thread Cert.ThirdIdeal.nD Cert.ThirdIdeal.τ).loc Cert.ThirdIdeal.main_arg2) = Layout.block ⟨2, ![512, 2048]⟩ ⟨2, ![8192, 2048]⟩ 0 16 c (m' (((0 : Dev Cert.ThirdPlainIdeal.nD).tc : Thread Cert.ThirdPlainIdeal.nD Cert.ThirdPlainIdeal.τ).loc Cert.ThirdPlainIdeal.main_arg2))) →
    ∃ (v0 : Buf (Elt Ideal) (((0 : Dev Cert.ThirdPlainIdeal.nD).tc : Thread Cert.ThirdPlainIdeal.nD Cert.ThirdPlainIdeal.τ).loc Cert.ThirdPlainIdeal.main_v52)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v1) = Layout.block ⟨2, ![4096, 2048]⟩ ⟨2, ![65536, 2048]⟩ 0 16 c v0
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2))
      ∧ θ_run (Cert.ThirdPlainIdeal.defs (F := Ideal)) (onTc (τ := Cert.ThirdPlainIdeal.τ) (Cert.ThirdPlainIdeal.main (F := Ideal))) ⟨m', fun _ => 0, g'⟩ (fun r =>
          r.2.mem (((0 : Dev Cert.ThirdPlainIdeal.nD).tc : Thread Cert.ThirdPlainIdeal.nD Cert.ThirdPlainIdeal.τ).loc Cert.ThirdPlainIdeal.main_v52) = v0
          ∧ r.2.mem (((0 : Dev Cert.ThirdPlainIdeal.nD).tc : Thread Cert.ThirdPlainIdeal.nD Cert.ThirdPlainIdeal.τ).loc Cert.ThirdPlainIdeal.main_arg0) = m' (((0 : Dev Cert.ThirdPlainIdeal.nD).tc : Thread Cert.ThirdPlainIdeal.nD Cert.ThirdPlainIdeal.τ).loc Cert.ThirdPlainIdeal.main_arg0)
          ∧ r.2.mem (((0 : Dev Cert.ThirdPlainIdeal.nD).tc : Thread Cert.ThirdPlainIdeal.nD Cert.ThirdPlainIdeal.τ).loc Cert.ThirdPlainIdeal.main_arg1) = m' (((0 : Dev Cert.ThirdPlainIdeal.nD).tc : Thread Cert.ThirdPlainIdeal.nD Cert.ThirdPlainIdeal.τ).loc Cert.ThirdPlainIdeal.main_arg1)
          ∧ r.2.mem (((0 : Dev Cert.ThirdPlainIdeal.nD).tc : Thread Cert.ThirdPlainIdeal.nD Cert.ThirdPlainIdeal.τ).loc Cert.ThirdPlainIdeal.main_arg2) = m' (((0 : Dev Cert.ThirdPlainIdeal.nD).tc : Thread Cert.ThirdPlainIdeal.nD Cert.ThirdPlainIdeal.τ).loc Cert.ThirdPlainIdeal.main_arg2))

def preserves_Fourth_FourthIdeal : Prop :=
  True

def algebraic_FourthIdeal_FourthPlainIdeal [hFourthIdeal : Cert.FourthIdeal.Facts] [hFourthPlainIdeal : Cert.FourthPlainIdeal.Facts] : Prop :=
  ∀ (m : (ℓ : Loc Cert.FourthIdeal.nD Cert.FourthIdeal.τ Cert.FourthIdeal.sig) → Buf (Elt Ideal) ℓ) (g : Dev Cert.FourthIdeal.nD → PrngReg)
    (m' : (ℓ : Loc Cert.FourthPlainIdeal.nD Cert.FourthPlainIdeal.τ Cert.FourthPlainIdeal.sig) → Buf (Elt Ideal) ℓ) (g' : Dev Cert.FourthPlainIdeal.nD → PrngReg), Pre_FourthIdeal m →
    (∀ c : Dev Cert.FourthIdeal.nD,
      m ((c.tc : Thread Cert.FourthIdeal.nD Cert.FourthIdeal.τ).loc Cert.FourthIdeal.main_arg0) = Layout.block ⟨2, ![4096, 2048]⟩ ⟨2, ![65536, 2048]⟩ 0 16 c (m' (((0 : Dev Cert.FourthPlainIdeal.nD).tc : Thread Cert.FourthPlainIdeal.nD Cert.FourthPlainIdeal.τ).loc Cert.FourthPlainIdeal.main_arg0))
      ∧ m ((c.tc : Thread Cert.FourthIdeal.nD Cert.FourthIdeal.τ).loc Cert.FourthIdeal.main_arg1) = Layout.block ⟨2, ![512, 2048]⟩ ⟨2, ![8192, 2048]⟩ 0 16 c (m' (((0 : Dev Cert.FourthPlainIdeal.nD).tc : Thread Cert.FourthPlainIdeal.nD Cert.FourthPlainIdeal.τ).loc Cert.FourthPlainIdeal.main_arg1))
      ∧ m ((c.tc : Thread Cert.FourthIdeal.nD Cert.FourthIdeal.τ).loc Cert.FourthIdeal.main_arg2) = Layout.block ⟨2, ![512, 2048]⟩ ⟨2, ![8192, 2048]⟩ 0 16 c (m' (((0 : Dev Cert.FourthPlainIdeal.nD).tc : Thread Cert.FourthPlainIdeal.nD Cert.FourthPlainIdeal.τ).loc Cert.FourthPlainIdeal.main_arg2))) →
    ∃ (v0 : Buf (Elt Ideal) (((0 : Dev Cert.FourthPlainIdeal.nD).tc : Thread Cert.FourthPlainIdeal.nD Cert.FourthPlainIdeal.τ).loc Cert.FourthPlainIdeal.main_v34)),
      θ_run (Cert.FourthIdeal.defs (F := Ideal)) (onTc (τ := Cert.FourthIdeal.τ) (Cert.FourthIdeal.main (F := Ideal))) ⟨m, fun _ => 0, g⟩ (fun r => ∀ c : Dev Cert.FourthIdeal.nD,
          r.2.mem ((c.tc : Thread Cert.FourthIdeal.nD Cert.FourthIdeal.τ).loc Cert.FourthIdeal.main_v1) = Layout.block ⟨2, ![4096, 2048]⟩ ⟨2, ![65536, 2048]⟩ 0 16 c v0
          ∧ r.2.mem ((c.tc : Thread Cert.FourthIdeal.nD Cert.FourthIdeal.τ).loc Cert.FourthIdeal.main_arg0) = m ((c.tc : Thread Cert.FourthIdeal.nD Cert.FourthIdeal.τ).loc Cert.FourthIdeal.main_arg0)
          ∧ r.2.mem ((c.tc : Thread Cert.FourthIdeal.nD Cert.FourthIdeal.τ).loc Cert.FourthIdeal.main_arg1) = m ((c.tc : Thread Cert.FourthIdeal.nD Cert.FourthIdeal.τ).loc Cert.FourthIdeal.main_arg1)
          ∧ r.2.mem ((c.tc : Thread Cert.FourthIdeal.nD Cert.FourthIdeal.τ).loc Cert.FourthIdeal.main_arg2) = m ((c.tc : Thread Cert.FourthIdeal.nD Cert.FourthIdeal.τ).loc Cert.FourthIdeal.main_arg2))
      ∧ θ_run (Cert.FourthPlainIdeal.defs (F := Ideal)) (onTc (τ := Cert.FourthPlainIdeal.τ) (Cert.FourthPlainIdeal.main (F := Ideal))) ⟨m', fun _ => 0, g'⟩ (fun r =>
          r.2.mem (((0 : Dev Cert.FourthPlainIdeal.nD).tc : Thread Cert.FourthPlainIdeal.nD Cert.FourthPlainIdeal.τ).loc Cert.FourthPlainIdeal.main_v34) = v0
          ∧ r.2.mem (((0 : Dev Cert.FourthPlainIdeal.nD).tc : Thread Cert.FourthPlainIdeal.nD Cert.FourthPlainIdeal.τ).loc Cert.FourthPlainIdeal.main_arg0) = m' (((0 : Dev Cert.FourthPlainIdeal.nD).tc : Thread Cert.FourthPlainIdeal.nD Cert.FourthPlainIdeal.τ).loc Cert.FourthPlainIdeal.main_arg0)
          ∧ r.2.mem (((0 : Dev Cert.FourthPlainIdeal.nD).tc : Thread Cert.FourthPlainIdeal.nD Cert.FourthPlainIdeal.τ).loc Cert.FourthPlainIdeal.main_arg1) = m' (((0 : Dev Cert.FourthPlainIdeal.nD).tc : Thread Cert.FourthPlainIdeal.nD Cert.FourthPlainIdeal.τ).loc Cert.FourthPlainIdeal.main_arg1)
          ∧ r.2.mem (((0 : Dev Cert.FourthPlainIdeal.nD).tc : Thread Cert.FourthPlainIdeal.nD Cert.FourthPlainIdeal.τ).loc Cert.FourthPlainIdeal.main_arg2) = m' (((0 : Dev Cert.FourthPlainIdeal.nD).tc : Thread Cert.FourthPlainIdeal.nD Cert.FourthPlainIdeal.τ).loc Cert.FourthPlainIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hMixtureIdeal : Cert.MixtureIdeal.Facts) (hCombine : Cert.Combine.Facts) (hCombineIdeal : Cert.CombineIdeal.Facts) (hTotalsIdeal : Cert.TotalsIdeal.Facts) (hSecond : Cert.Second.Facts) (hSecondIdeal : Cert.SecondIdeal.Facts) (hSecondPlainIdeal : Cert.SecondPlainIdeal.Facts) (hThird : Cert.Third.Facts) (hThirdIdeal : Cert.ThirdIdeal.Facts) (hThirdPlainIdeal : Cert.ThirdPlainIdeal.Facts) (hFourth : Cert.Fourth.Facts) (hFourthIdeal : Cert.FourthIdeal.Facts) (hFourthPlainIdeal : Cert.FourthPlainIdeal.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts)
    ∧ quiescent_ExpertsIdeal (hExpertsIdeal := hExpertsIdeal)
    ∧ quiescent_MixtureIdeal (hMixtureIdeal := hMixtureIdeal)
    ∧ quiescent_Combine (hCombine := hCombine)
    ∧ quiescent_CombineIdeal (hCombineIdeal := hCombineIdeal)
    ∧ quiescent_TotalsIdeal (hTotalsIdeal := hTotalsIdeal)
    ∧ quiescent_Second (hSecond := hSecond)
    ∧ quiescent_SecondIdeal (hSecondIdeal := hSecondIdeal)
    ∧ quiescent_SecondPlainIdeal (hSecondPlainIdeal := hSecondPlainIdeal)
    ∧ quiescent_Third (hThird := hThird)
    ∧ quiescent_ThirdIdeal (hThirdIdeal := hThirdIdeal)
    ∧ quiescent_ThirdPlainIdeal (hThirdPlainIdeal := hThirdPlainIdeal)
    ∧ quiescent_Fourth (hFourth := hFourth)
    ∧ quiescent_FourthIdeal (hFourthIdeal := hFourthIdeal)
    ∧ quiescent_FourthPlainIdeal (hFourthPlainIdeal := hFourthPlainIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_MixtureIdeal (hExpertsIdeal := hExpertsIdeal) (hMixtureIdeal := hMixtureIdeal)
    ∧ preserves_Combine_CombineIdeal
    ∧ algebraic_CombineIdeal_TotalsIdeal (hCombineIdeal := hCombineIdeal) (hTotalsIdeal := hTotalsIdeal)
    ∧ preserves_Second_SecondIdeal
    ∧ algebraic_SecondIdeal_SecondPlainIdeal (hSecondIdeal := hSecondIdeal) (hSecondPlainIdeal := hSecondPlainIdeal)
    ∧ preserves_Third_ThirdIdeal
    ∧ algebraic_ThirdIdeal_ThirdPlainIdeal (hThirdIdeal := hThirdIdeal) (hThirdPlainIdeal := hThirdPlainIdeal)
    ∧ preserves_Fourth_FourthIdeal
    ∧ algebraic_FourthIdeal_FourthPlainIdeal (hFourthIdeal := hFourthIdeal) (hFourthPlainIdeal := hFourthPlainIdeal)
-- ==== Kernel.lean ====
abbrev S512x2048 : Shape := ⟨2, ![512, 2048]⟩
abbrev S512x1 : Shape := ⟨2, ![512, 1]⟩
abbrev S2x512x2048 : Shape := ⟨3, ![2, 512, 2048]⟩
abbrev S2x512x1 : Shape := ⟨3, ![2, 512, 1]⟩
abbrev S_ : Shape := ⟨0, ![]⟩
abbrev S1x512x2048 : Shape := ⟨3, ![1, 512, 2048]⟩
abbrev S1x512x1 : Shape := ⟨3, ![1, 512, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x2048, .bf16⟩
  | .hbm, ⟨1, _⟩ => ⟨S512x1, .i32⟩
  | .hbm, ⟨2, _⟩ => ⟨S2x512x2048, .bf16⟩
  | .hbm, ⟨3, _⟩ => ⟨S2x512x1, .i32⟩
  | .local _ .vmem, ⟨0, _⟩ => ⟨S512x2048, .bf16⟩
  | .local _ .vmem, ⟨1, _⟩ => ⟨S512x1, .i32⟩
  | .local _ .vmem, ⟨2, _⟩ => ⟨S2x512x2048, .bf16⟩
  | .local _ .vmem, ⟨3, _⟩ => ⟨S2x512x1, .i32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_5 : BitVec 32 := 4#32
  let v13 : BitVec 32 := Scalar.muli v6 c4_i32_5
  let v14 : BitVec 32 := Scalar.addi v12 v13
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_6 : BitVec 32 := 1#32
  let v15 : BitVec 32 := Scalar.muli v9 c1_i32_6
  let v16 : BitVec 32 := Scalar.addi v14 v15
  v16.toNat
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v27 : BitVec 32 := Scalar.muli v2 c8_i32_18
  let v28 : BitVec 32 := Scalar.addi c0_i32_19 v27
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_20 : BitVec 32 := 4#32
  let v29 : BitVec 32 := Scalar.muli v6 c4_i32_20
  let v30 : BitVec 32 := Scalar.addi v28 v29
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_21 : BitVec 32 := 1#32
  let v31 : BitVec 32 := Scalar.muli v9 c1_i32_21
  let v32 : BitVec 32 := Scalar.addi v30 v31
  v32.toNat
def k0_dev3 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v35 : BitVec 32 := Scalar.muli v2 c8_i32_25
  let v36 : BitVec 32 := Scalar.addi c0_i32_26 v35
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_27 : BitVec 32 := 4#32
  let v37 : BitVec 32 := Scalar.muli v6 c4_i32_27
  let v38 : BitVec 32 := Scalar.addi v36 v37
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_28 : BitVec 32 := 1#32
  let v39 : BitVec 32 := Scalar.muli v9 c1_i32_28
  let v40 : BitVec 32 := Scalar.addi v38 v39
  v40.toNat
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x2048 : Shape := ⟨2, ![8192, 2048]⟩
abbrev S8192x1 : Shape := ⟨2, ![8192, 1]⟩
abbrev S2x2x4x512x2048 : Shape := ⟨5, ![2, 2, 4, 512, 2048]⟩
abbrev S2x2x4x1x512x2048 : Shape := ⟨6, ![2, 2, 4, 1, 512, 2048]⟩
abbrev S2x2x4x2x512x2048 : Shape := ⟨6, ![2, 2, 4, 2, 512, 2048]⟩
abbrev S32x512x2048 : Shape := ⟨3, ![32, 512, 2048]⟩
abbrev S2x2x4x512x1 : Shape := ⟨5, ![2, 2, 4, 512, 1]⟩
abbrev S2x2x4x1x512x1 : Shape := ⟨6, ![2, 2, 4, 1, 512, 1]⟩
abbrev S2x2x4x2x512x1 : Shape := ⟨6, ![2, 2, 4, 2, 512, 1]⟩
abbrev S32x512x1 : Shape := ⟨3, ![32, 512, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1, .i32⟩
  | .hbm, ⟨2, _⟩ => ⟨S2x2x4x512x2048, .bf16⟩
  | .hbm, ⟨3, _⟩ => ⟨S2x2x4x512x2048, .bf16⟩
  | .hbm, ⟨4, _⟩ => ⟨S2x2x4x1x512x2048, .bf16⟩
  | .hbm, ⟨5, _⟩ => ⟨S2x2x4x1x512x2048, .bf16⟩
  | .hbm, ⟨6, _⟩ => ⟨S2x2x4x2x512x2048, .bf16⟩
  | .hbm, ⟨7, _⟩ => ⟨S32x512x2048, .bf16⟩
  | .hbm, ⟨8, _⟩ => ⟨S2x2x4x512x1, .i32⟩
  | .hbm, ⟨9, _⟩ => ⟨S2x2x4x512x1, .i32⟩
  | .hbm, ⟨10, _⟩ => ⟨S2x2x4x1x512x1, .i32⟩
  | .hbm, ⟨11, _⟩ => ⟨S2x2x4x1x512x1, .i32⟩
  | .hbm, ⟨12, _⟩ => ⟨S2x2x4x2x512x1, .i32⟩
  | .hbm, ⟨13, _⟩ => ⟨S32x512x1, .i32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Experts.lean ====
abbrev S2x512x2048 : Shape := ⟨3, ![2, 512, 2048]⟩
abbrev S2x512x1 : Shape := ⟨3, ![2, 512, 1]⟩
abbrev S4x2048x4096 : Shape := ⟨3, ![4, 2048, 4096]⟩
abbrev S4x4096x2048 : Shape := ⟨3, ![4, 4096, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S_ : Shape := ⟨0, ![]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2x512x2048, .bf16⟩
  | .hbm, ⟨1, _⟩ => ⟨S2x512x1, .i32⟩
  | .hbm, ⟨2, _⟩ => ⟨S4x2048x4096, .bf16⟩
  | .hbm, ⟨3, _⟩ => ⟨S4x4096x2048, .bf16⟩
  | .hbm, ⟨4, _⟩ => ⟨S1024x2048, .bf16⟩
  | .local _ .vmem, ⟨0, _⟩ => ⟨S2x512x2048, .bf16⟩
  | .local _ .vmem, ⟨1, _⟩ => ⟨S2x512x1, .i32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | .local _ .vmem, ⟨7, _⟩ => ⟨S1024x2048, .bf16⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 16
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixtureIdeal.lean ====
abbrev S32x512x2048 : Shape := ⟨3, ![32, 512, 2048]⟩
abbrev S32x512x1 : Shape := ⟨3, ![32, 512, 1]⟩
abbrev S8x2048x4096 : Shape := ⟨3, ![8, 2048, 4096]⟩
abbrev S8x4096x2048 : Shape := ⟨3, ![8, 4096, 2048]⟩
abbrev S2x2x4x1024x2048 : Shape := ⟨5, ![2, 2, 4, 1024, 2048]⟩
abbrev S2x8192x2048 : Shape := ⟨3, ![2, 8192, 2048]⟩
abbrev S2x4x2048x4096 : Shape := ⟨4, ![2, 4, 2048, 4096]⟩
abbrev S2x4x4096x8192 : Shape := ⟨4, ![2, 4, 4096, 8192]⟩
abbrev S2x4x8192x4096 : Shape := ⟨4, ![2, 4, 8192, 4096]⟩
abbrev S_ : Shape := ⟨0, ![]⟩
abbrev S2x4x4096x2048 : Shape := ⟨4, ![2, 4, 4096, 2048]⟩
abbrev S2x4x8192x2048 : Shape := ⟨4, ![2, 4, 8192, 2048]⟩
abbrev S2x2x4x1024x1 : Shape := ⟨5, ![2, 2, 4, 1024, 1]⟩
abbrev S2x8192x1 : Shape := ⟨3, ![2, 8192, 1]⟩
abbrev S2x1x8192x1 : Shape := ⟨4, ![2, 1, 8192, 1]⟩
abbrev S8 : Shape := ⟨1, ![8]⟩
abbrev S2x4x1x1 : Shape := ⟨4, ![2, 4, 1, 1]⟩
abbrev S2x4x8192x1 : Shape := ⟨4, ![2, 4, 8192, 1]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S32x512x2048, .bf16⟩
  | .hbm, ⟨1, _⟩ => ⟨S32x512x1, .i32⟩
  | .hbm, ⟨2, _⟩ => ⟨S8x2048x4096, .bf16⟩
  | .hbm, ⟨3, _⟩ => ⟨S8x4096x2048, .bf16⟩
  | .hbm, ⟨4, _⟩ => ⟨S2x2x4x1024x2048, .bf16⟩
  | .hbm, ⟨5, _⟩ => ⟨S2x2x4x1024x2048, .bf16⟩
  | .hbm, ⟨6, _⟩ => ⟨S2x8192x2048, .bf16⟩
  | .hbm, ⟨7, _⟩ => ⟨S2x4x2048x4096, .bf16⟩
  | .hbm, ⟨8, _⟩ => ⟨S2x4x4096x8192, .f32⟩
  | .hbm, ⟨9, _⟩ => ⟨S2x4x8192x4096, .f32⟩
  | .hbm, ⟨10, _⟩ => ⟨S_, .f32⟩
  | .hbm, ⟨11, _⟩ => ⟨S2x4x8192x4096, .f32⟩
  | .hbm, ⟨12, _⟩ => ⟨S2x4x8192x4096, .f32⟩
  | .hbm, ⟨13, _⟩ => ⟨S2x4x8192x4096, .bf16⟩
  | .hbm, ⟨14, _⟩ => ⟨S2x4x4096x2048, .bf16⟩
  | .hbm, ⟨15, _⟩ => ⟨S2x4x8192x2048, .f32⟩
  | .hbm, ⟨16, _⟩ => ⟨S2x2x4x1024x1, .i32⟩
  | .hbm, ⟨17, _⟩ => ⟨S2x2x4x1024x1, .i32⟩
  | .hbm, ⟨18, _⟩ => ⟨S2x8192x1, .i32⟩
  | .hbm, ⟨19, _⟩ => ⟨S2x1x8192x1, .i32⟩
  | .hbm, ⟨20, _⟩ => ⟨S8, .i32⟩
  | .hbm, ⟨21, _⟩ => ⟨S2x4x1x1, .i32⟩
  | .hbm, ⟨22, _⟩ => ⟨S2x4x8192x1, .i32⟩
  | .hbm, ⟨23, _⟩ => ⟨S2x4x8192x1, .i32⟩
  | .hbm, ⟨24, _⟩ => ⟨S2x4x8192x1, .i1⟩
  | .hbm, ⟨25, _⟩ => ⟨S_, .f32⟩
  | .hbm, ⟨26, _⟩ => ⟨S_, .f32⟩
  | .hbm, ⟨27, _⟩ => ⟨S2x4x8192x2048, .i1⟩
  | .hbm, ⟨28, _⟩ => ⟨S2x4x8192x2048, .f32⟩
  | .hbm, ⟨29, _⟩ => ⟨S2x4x8192x2048, .f32⟩
  | .hbm, ⟨30, _⟩ => ⟨S_, .f32⟩
  | .hbm, ⟨31, _⟩ => ⟨S2x8192x2048, .f32⟩
  | .hbm, ⟨32, _⟩ => ⟨S2x8192x2048, .bf16⟩
  | .hbm, ⟨33, _⟩ => ⟨S2x2x4x1024x2048, .bf16⟩
  | .hbm, ⟨34, _⟩ => ⟨S2x2x4x1024x2048, .bf16⟩
  | .hbm, ⟨35, _⟩ => ⟨S16384x2048, .bf16⟩
  | _, _ => ⟨S32x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Combine.lean ====
abbrev S1024x2048 : Shape := ⟨2, ![1024, 2048]⟩
abbrev S4096x2048 : Shape := ⟨2, ![4096, 2048]⟩
abbrev S512x2048 : Shape := ⟨2, ![512, 2048]⟩
abbrev S2x512x2048 : Shape := ⟨3, ![2, 512, 2048]⟩
abbrev S_ : Shape := ⟨0, ![]⟩
abbrev S2 : Shape := ⟨1, ![2]⟩
abbrev S1x512x2048 : Shape := ⟨3, ![1, 512, 2048]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S4096x2048, .bf16⟩
  | .local _ .vmem, ⟨0, _⟩ => ⟨S4096x2048, .bf16⟩
  | .local _ .vmem, ⟨1, _⟩ => ⟨S512x2048, .bf16⟩
  | .local _ .vmem, ⟨2, _⟩ => ⟨S512x2048, .bf16⟩
  | .local _ .vmem, ⟨3, _⟩ => ⟨S2x512x2048, .bf16⟩
  | .local _ .vmem, ⟨4, _⟩ => ⟨S2x512x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let v12 : BitVec 32 := Dev.word d0
  let c8_i32_3 : BitVec 32 := 8#32
  let v13 : BitVec 32 := Scalar.divsi v12 c8_i32_3
  let c2_i32_2 : BitVec 32 := 2#32
  let v14 : BitVec 32 := Scalar.remsi v13 c2_i32_2
  let c8_i32_34 : BitVec 32 := 8#32
  let v55 : BitVec 32 := Scalar.muli v14 c8_i32_34
  let v56 : BitVec 32 := Scalar.addi c0_i32_35 v55
  let c1_i32_6 : BitVec 32 := 1#32
  let v15 : BitVec 32 := Dev.word d0
  let c4_i32_5 : BitVec 32 := 4#32
  let v16 : BitVec 32 := Scalar.divsi v15 c4_i32_5
  let c2_i32_4 : BitVec 32 := 2#32
  let v17 : BitVec 32 := Scalar.remsi v16 c2_i32_4
  let v18 : BitVec 32 := Scalar.subi c1_i32_6 v17
  let c4_i32_36 : BitVec 32 := 4#32
  let v57 : BitVec 32 := Scalar.muli v18 c4_i32_36
  let v58 : BitVec 32 := Scalar.addi v56 v57
  let v19 : BitVec 32 := Dev.word d0
  let c1_i32_8 : BitVec 32 := 1#32
  let v20 : BitVec 32 := Scalar.divsi v19 c1_i32_8
  let c4_i32_7 : BitVec 32 := 4#32
  let v21 : BitVec 32 := Scalar.remsi v20 c4_i32_7
  let c1_i32_37 : BitVec 32 := 1#32
  let v59 : BitVec 32 := Scalar.muli v21 c1_i32_37
  let v60 : BitVec 32 := Scalar.addi v58 v59
  v60.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_39 : BitVec 32 := 8#32
  let v61 : BitVec 32 := Scalar.muli v34 c8_i32_39
  let v62 : BitVec 32 := Scalar.addi c0_i32_40 v61
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_41 : BitVec 32 := 4#32
  let v63 : BitVec 32 := Scalar.muli v11 c4_i32_41
  let v64 : BitVec 32 := Scalar.addi v62 v63
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_42 : BitVec 32 := 1#32
  let v65 : BitVec 32 := Scalar.muli v37 c1_i32_42
  let v66 : BitVec 32 := Scalar.addi v64 v65
  v66.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_44 : BitVec 32 := 8#32
  let v67 : BitVec 32 := Scalar.muli v50 c8_i32_44
  let v68 : BitVec 32 := Scalar.addi c0_i32_45 v67
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_46 : BitVec 32 := 4#32
  let v69 : BitVec 32 := Scalar.muli v11 c4_i32_46
  let v70 : BitVec 32 := Scalar.addi v68 v69
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_47 : BitVec 32 := 1#32
  let v71 : BitVec 32 := Scalar.muli v53 c1_i32_47
  let v72 : BitVec 32 := Scalar.addi v70 v71
  v72.toNat
def k0_dev4 (d0 : Dev nD) : Nat :=
  let c0_i32_51 : BitVec 32 := 0#32
  let v12 : BitVec 32 := Dev.word d0
  let c8_i32_3 : BitVec 32 := 8#32
  let v13 : BitVec 32 := Scalar.divsi v12 c8_i32_3
  let c2_i32_2 : BitVec 32 := 2#32
  let v14 : BitVec 32 := Scalar.remsi v13 c2_i32_2
  let c8_i32_50 : BitVec 32 := 8#32
  let v74 : BitVec 32 := Scalar.muli v14 c8_i32_50
  let v75 : BitVec 32 := Scalar.addi c0_i32_51 v74
  let c1_i32_6 : BitVec 32 := 1#32
  let v15 : BitVec 32 := Dev.word d0
  let c4_i32_5 : BitVec 32 := 4#32
  let v16 : BitVec 32 := Scalar.divsi v15 c4_i32_5
  let c2_i32_4 : BitVec 32 := 2#32
  let v17 : BitVec 32 := Scalar.remsi v16 c2_i32_4
  let v18 : BitVec 32 := Scalar.subi c1_i32_6 v17
  let c4_i32_52 : BitVec 32 := 4#32
  let v76 : BitVec 32 := Scalar.muli v18 c4_i32_52
  let v77 : BitVec 32 := Scalar.addi v75 v76
  let v19 : BitVec 32 := Dev.word d0
  let c1_i32_8 : BitVec 32 := 1#32
  let v20 : BitVec 32 := Scalar.divsi v19 c1_i32_8
  let c4_i32_7 : BitVec 32 := 4#32
  let v21 : BitVec 32 := Scalar.remsi v20 c4_i32_7
  let c1_i32_53 : BitVec 32 := 1#32
  let v78 : BitVec 32 := Scalar.muli v21 c1_i32_53
  let v79 : BitVec 32 := Scalar.addi v77 v78
  v79.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c512_i32_71 : BitVec 32 := 512#32
  let v95 : BitVec 32 := Scalar.muli v8 c512_i32_71
  let v96 : Index := Scalar.indexCast v95
  let c0_72 : Index := 0#32
  ![v96.toNat, 0]
def k0_dev5 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_83 : BitVec 32 := 8#32
  let v104 : BitVec 32 := Scalar.muli v34 c8_i32_83
  let v105 : BitVec 32 := Scalar.addi c0_i32_84 v104
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_85 : BitVec 32 := 4#32
  let v106 : BitVec 32 := Scalar.muli v11 c4_i32_85
  let v107 : BitVec 32 := Scalar.addi v105 v106
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_86 : BitVec 32 := 1#32
  let v108 : BitVec 32 := Scalar.muli v37 c1_i32_86
  let v109 : BitVec 32 := Scalar.addi v107 v108
  v109.toNat
def k0_dev6 (d0 : Dev nD) : Nat :=
  let c0_i32_96 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_95 : BitVec 32 := 8#32
  let v118 : BitVec 32 := Scalar.muli v50 c8_i32_95
  let v119 : BitVec 32 := Scalar.addi c0_i32_96 v118
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_97 : BitVec 32 := 4#32
  let v120 : BitVec 32 := Scalar.muli v11 c4_i32_97
  let v121 : BitVec 32 := Scalar.addi v119 v120
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_98 : BitVec 32 := 1#32
  let v122 : BitVec 32 := Scalar.muli v53 c1_i32_98
  let v123 : BitVec 32 := Scalar.addi v121 v122
  v123.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c0_i32_124 : BitVec 32 := 0#32
  let v150 : BitVec 32 := Scalar.subi v8 c0_i32_124
  let c1_i32_125 : BitVec 32 := 1#32
  let v151 : BitVec 32 := Scalar.subi v150 c1_i32_125
  let c8_i32_126 : BitVec 32 := 8#32
  let c0_i32_127 : BitVec 32 := 0#32
  let v152 : BitVec 1 := Scalar.cmpi .eq c8_i32_126 c0_i32_127
  let c1_i32_128 : BitVec 32 := 1#32
  let v153 : BitVec 32 := Scalar.select v152 c1_i32_128 c8_i32_126
  let v154 : BitVec 32 := Scalar.remsi v151 v153
  let c0_i32_130 : BitVec 32 := 0#32
  let v156 : BitVec 1 := Scalar.cmpi .slt v154 c0_i32_130
  let c0_i32_131 : BitVec 32 := 0#32
  let v157 : BitVec 1 := Scalar.cmpi .slt v153 c0_i32_131
  let v158 : BitVec 1 := Scalar.xori v156 v157
  let c0_i32_129 : BitVec 32 := 0#32
  let v155 : BitVec 1 := Scalar.cmpi .ne v154 c0_i32_129
  let v159 : BitVec 1 := Scalar.andi v158 v155
  let v160 : BitVec 32 := Scalar.addi v154 v153
  let v161 : BitVec 32 := Scalar.select v159 v160 v154
  let c512_i32_134 : BitVec 32 := 512#32
  let v164 : BitVec 32 := Scalar.muli v161 c512_i32_134
  let v165 : Index := Scalar.indexCast v164
  let c0_135 : Index := 0#32
  ![v165.toNat, 0]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c0_i32_157 : BitVec 32 := 0#32
  let v185 : BitVec 32 := Scalar.addi v8 c0_i32_157
  let c1_i32_158 : BitVec 32 := 1#32
  let v186 : BitVec 32 := Scalar.addi v185 c1_i32_158
  let c8_i32_159 : BitVec 32 := 8#32
  let c0_i32_160 : BitVec 32 := 0#32
  let v187 : BitVec 1 := Scalar.cmpi .eq c8_i32_159 c0_i32_160
  let c1_i32_161 : BitVec 32 := 1#32
  let v188 : BitVec 32 := Scalar.select v187 c1_i32_161 c8_i32_159
  let v189 : BitVec 32 := Scalar.remsi v186 v188
  let c0_i32_163 : BitVec 32 := 0#32
  let v191 : BitVec 1 := Scalar.cmpi .slt v189 c0_i32_163
  let c0_i32_164 : BitVec 32 := 0#32
  let v192 : BitVec 1 := Scalar.cmpi .slt v188 c0_i32_164
  let v193 : BitVec 1 := Scalar.xori v191 v192
  let c0_i32_162 : BitVec 32 := 0#32
  let v190 : BitVec 1 := Scalar.cmpi .ne v189 c0_i32_162
  let v194 : BitVec 1 := Scalar.andi v193 v190
  let v195 : BitVec 32 := Scalar.addi v189 v188
  let v196 : BitVec 32 := Scalar.select v194 v195 v189
  let c512_i32_168 : BitVec 32 := 512#32
  let v199 : BitVec 32 := Scalar.muli v196 c512_i32_168
  let v200 : Index := Scalar.indexCast v199
  let c0_169 : Index := 0#32
  ![v200.toNat, 0]
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== TotalsIdeal.lean ====
abbrev S16384x2048 : Shape := ⟨2, ![16384, 2048]⟩
abbrev S2x2x4x2x512x2048 : Shape := ⟨6, ![2, 2, 4, 2, 512, 2048]⟩
abbrev S2x2x4x1x512x2048 : Shape := ⟨6, ![2, 2, 4, 1, 512, 2048]⟩
abbrev S2x2x4x512x2048 : Shape := ⟨5, ![2, 2, 4, 512, 2048]⟩
abbrev S1x2x4x512x2048 : Shape := ⟨5, ![1, 2, 4, 512, 2048]⟩
abbrev S2x4x512x2048 : Shape := ⟨4, ![2, 4, 512, 2048]⟩
abbrev S2x8x512x2048 : Shape := ⟨4, ![2, 8, 512, 2048]⟩
abbrev S4 : Shape := ⟨1, ![4]⟩
abbrev S_ : Shape := ⟨0, ![]⟩
abbrev S1x4 : Shape := ⟨2, ![1, 4]⟩
abbrev S2x4 : Shape := ⟨2, ![2, 4]⟩
abbrev S2x4x1 : Shape := ⟨3, ![2, 4, 1]⟩
abbrev S8 : Shape := ⟨1, ![8]⟩
abbrev S1x1x8 : Shape := ⟨3, ![1, 1, 8]⟩
abbrev S2x4x8 : Shape := ⟨3, ![2, 4, 8]⟩
abbrev S2x1x4x8x1x1 : Shape := ⟨6, ![2, 1, 4, 8, 1, 1]⟩
abbrev S1x2x1x8x512x2048 : Shape := ⟨6, ![1, 2, 1, 8, 512, 2048]⟩
abbrev S2x2x4x8x512x2048 : Shape := ⟨6, ![2, 2, 4, 8, 512, 2048]⟩
abbrev S65536x2048 : Shape := ⟨2, ![65536, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2x4x2x512x2048, .bf16⟩
  | .hbm, ⟨2, _⟩ => ⟨S2x2x4x1x512x2048, .bf16⟩
  | .hbm, ⟨3, _⟩ => ⟨S2x2x4x512x2048, .bf16⟩
  | .hbm, ⟨4, _⟩ => ⟨S2x2x4x1x512x2048, .bf16⟩
  | .hbm, ⟨5, _⟩ => ⟨S2x2x4x1x512x2048, .bf16⟩
  | .hbm, ⟨6, _⟩ => ⟨S2x2x4x512x2048, .bf16⟩
  | .hbm, ⟨7, _⟩ => ⟨S2x2x4x512x2048, .bf16⟩
  | .hbm, ⟨8, _⟩ => ⟨S1x2x4x512x2048, .bf16⟩
  | .hbm, ⟨9, _⟩ => ⟨S2x4x512x2048, .bf16⟩
  | .hbm, ⟨10, _⟩ => ⟨S1x2x4x512x2048, .bf16⟩
  | .hbm, ⟨11, _⟩ => ⟨S2x4x512x2048, .bf16⟩
  | .hbm, ⟨12, _⟩ => ⟨S2x4x512x2048, .bf16⟩
  | .hbm, ⟨13, _⟩ => ⟨S2x8x512x2048, .bf16⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S1x4, .i32⟩
  | .hbm, ⟨19, _⟩ => ⟨S1x4, .i32⟩
  | .hbm, ⟨20, _⟩ => ⟨S2x4, .i32⟩
  | .hbm, ⟨21, _⟩ => ⟨S2x4x1, .i32⟩
  | .hbm, ⟨22, _⟩ => ⟨S8, .i32⟩
  | .hbm, ⟨23, _⟩ => ⟨S1x1x8, .i32⟩
  | .hbm, ⟨24, _⟩ => ⟨S2x4x8, .i32⟩
  | .hbm, ⟨25, _⟩ => ⟨S2x4x8, .i32⟩
  | .hbm, ⟨26, _⟩ => ⟨S2x4x8, .i32⟩
  | .hbm, ⟨27, _⟩ => ⟨S2x4x8, .i32⟩
  | .hbm, ⟨28, _⟩ => ⟨S_, .i32⟩
  | .hbm, ⟨29, _⟩ => ⟨S2x4x8, .i32⟩
  | .hbm, ⟨30, _⟩ => ⟨S2x4x8, .i1⟩
  | .hbm, ⟨31, _⟩ => ⟨S_, .i32⟩
  | .hbm, ⟨32, _⟩ => ⟨S2x4x8, .i32⟩
  | .hbm, ⟨33, _⟩ => ⟨S2x4x8, .i1⟩
  | .hbm, ⟨34, _⟩ => ⟨S2x4x8, .i1⟩
  | .hbm, ⟨35, _⟩ => ⟨S2x1x4x8x1x1, .i1⟩
  | .hbm, ⟨36, _⟩ => ⟨S1x2x1x8x512x2048, .bf16⟩
  | .hbm, ⟨37, _⟩ => ⟨S_, .bf16⟩
  | .hbm, ⟨38, _⟩ => ⟨S2x2x4x8x512x2048, .i1⟩
  | .hbm, ⟨39, _⟩ => ⟨S2x2x4x8x512x2048, .bf16⟩
  | .hbm, ⟨40, _⟩ => ⟨S2x2x4x8x512x2048, .bf16⟩
  | .hbm, ⟨41, _⟩ => ⟨S2x2x4x8x512x2048, .bf16⟩
  | .hbm, ⟨42, _⟩ => ⟨S65536x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_c_0 : Ref sig .tc := ⟨.hbm, 28, rfl⟩
abbrev main_v26 : Ref sig .tc := ⟨.hbm, 29, rfl⟩
abbrev main_v27 : Ref sig .tc := ⟨.hbm, 30, rfl⟩
abbrev main_c_1 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Second.lean ====
abbrev S4096x2048 : Shape := ⟨2, ![4096, 2048]⟩
abbrev S512x2048 : Shape := ⟨2, ![512, 2048]⟩
abbrev S2x512x2048 : Shape := ⟨3, ![2, 512, 2048]⟩
abbrev S_ : Shape := ⟨0, ![]⟩
abbrev S2 : Shape := ⟨1, ![2]⟩
abbrev S1x512x2048 : Shape := ⟨3, ![1, 512, 2048]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .local _ .vmem, ⟨0, _⟩ => ⟨S4096x2048, .bf16⟩
  | .local _ .vmem, ⟨1, _⟩ => ⟨S512x2048, .bf16⟩
  | .local _ .vmem, ⟨2, _⟩ => ⟨S512x2048, .bf16⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S2x512x2048, .bf16⟩
  | .local _ .vmem, ⟨7, _⟩ => ⟨S2x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let v12 : BitVec 32 := Dev.word d0
  let c8_i32_3 : BitVec 32 := 8#32
  let v13 : BitVec 32 := Scalar.divsi v12 c8_i32_3
  let c2_i32_2 : BitVec 32 := 2#32
  let v14 : BitVec 32 := Scalar.remsi v13 c2_i32_2
  let c8_i32_34 : BitVec 32 := 8#32
  let v55 : BitVec 32 := Scalar.muli v14 c8_i32_34
  let v56 : BitVec 32 := Scalar.addi c0_i32_35 v55
  let c1_i32_6 : BitVec 32 := 1#32
  let v15 : BitVec 32 := Dev.word d0
  let c4_i32_5 : BitVec 32 := 4#32
  let v16 : BitVec 32 := Scalar.divsi v15 c4_i32_5
  let c2_i32_4 : BitVec 32 := 2#32
  let v17 : BitVec 32 := Scalar.remsi v16 c2_i32_4
  let v18 : BitVec 32 := Scalar.subi c1_i32_6 v17
  let c4_i32_36 : BitVec 32 := 4#32
  let v57 : BitVec 32 := Scalar.muli v18 c4_i32_36
  let v58 : BitVec 32 := Scalar.addi v56 v57
  let v19 : BitVec 32 := Dev.word d0
  let c1_i32_8 : BitVec 32 := 1#32
  let v20 : BitVec 32 := Scalar.divsi v19 c1_i32_8
  let c4_i32_7 : BitVec 32 := 4#32
  let v21 : BitVec 32 := Scalar.remsi v20 c4_i32_7
  let c1_i32_37 : BitVec 32 := 1#32
  let v59 : BitVec 32 := Scalar.muli v21 c1_i32_37
  let v60 : BitVec 32 := Scalar.addi v58 v59
  v60.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_39 : BitVec 32 := 8#32
  let v61 : BitVec 32 := Scalar.muli v34 c8_i32_39
  let v62 : BitVec 32 := Scalar.addi c0_i32_40 v61
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_41 : BitVec 32 := 4#32
  let v63 : BitVec 32 := Scalar.muli v11 c4_i32_41
  let v64 : BitVec 32 := Scalar.addi v62 v63
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_42 : BitVec 32 := 1#32
  let v65 : BitVec 32 := Scalar.muli v37 c1_i32_42
  let v66 : BitVec 32 := Scalar.addi v64 v65
  v66.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_44 : BitVec 32 := 8#32
  let v67 : BitVec 32 := Scalar.muli v50 c8_i32_44
  let v68 : BitVec 32 := Scalar.addi c0_i32_45 v67
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_46 : BitVec 32 := 4#32
  let v69 : BitVec 32 := Scalar.muli v11 c4_i32_46
  let v70 : BitVec 32 := Scalar.addi v68 v69
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_47 : BitVec 32 := 1#32
  let v71 : BitVec 32 := Scalar.muli v53 c1_i32_47
  let v72 : BitVec 32 := Scalar.addi v70 v71
  v72.toNat
def k0_dev4 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_64 : BitVec 32 := 8#32
  let v86 : BitVec 32 := Scalar.muli v34 c8_i32_64
  let v87 : BitVec 32 := Scalar.addi c0_i32_65 v86
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_66 : BitVec 32 := 4#32
  let v88 : BitVec 32 := Scalar.muli v11 c4_i32_66
  let v89 : BitVec 32 := Scalar.addi v87 v88
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_67 : BitVec 32 := 1#32
  let v90 : BitVec 32 := Scalar.muli v37 c1_i32_67
  let v91 : BitVec 32 := Scalar.addi v89 v90
  v91.toNat
def k0_dev5 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_76 : BitVec 32 := 8#32
  let v100 : BitVec 32 := Scalar.muli v50 c8_i32_76
  let v101 : BitVec 32 := Scalar.addi c0_i32_77 v100
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_78 : BitVec 32 := 4#32
  let v102 : BitVec 32 := Scalar.muli v11 c4_i32_78
  let v103 : BitVec 32 := Scalar.addi v101 v102
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_79 : BitVec 32 := 1#32
  let v104 : BitVec 32 := Scalar.muli v53 c1_i32_79
  let v105 : BitVec 32 := Scalar.addi v103 v104
  v105.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_105 : BitVec 32 := 1#32
  let v132 : BitVec 32 := Scalar.subi v8 c1_i32_105
  let c1_i32_106 : BitVec 32 := 1#32
  let v133 : BitVec 32 := Scalar.subi v132 c1_i32_106
  let c8_i32_107 : BitVec 32 := 8#32
  let c0_i32_108 : BitVec 32 := 0#32
  let v134 : BitVec 1 := Scalar.cmpi .eq c8_i32_107 c0_i32_108
  let c1_i32_109 : BitVec 32 := 1#32
  let v135 : BitVec 32 := Scalar.select v134 c1_i32_109 c8_i32_107
  let v136 : BitVec 32 := Scalar.remsi v133 v135
  let c0_i32_111 : BitVec 32 := 0#32
  let v138 : BitVec 1 := Scalar.cmpi .slt v136 c0_i32_111
  let c0_i32_112 : BitVec 32 := 0#32
  let v139 : BitVec 1 := Scalar.cmpi .slt v135 c0_i32_112
  let v140 : BitVec 1 := Scalar.xori v138 v139
  let c0_i32_110 : BitVec 32 := 0#32
  let v137 : BitVec 1 := Scalar.cmpi .ne v136 c0_i32_110
  let v141 : BitVec 1 := Scalar.andi v140 v137
  let v142 : BitVec 32 := Scalar.addi v136 v135
  let v143 : BitVec 32 := Scalar.select v141 v142 v136
  let c512_i32 : BitVec 32 := 512#32
  let v146 : BitVec 32 := Scalar.muli v143 c512_i32
  let v147 : Index := Scalar.indexCast v146
  let c0_116 : Index := 0#32
  ![v147.toNat, 0]
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_138 : BitVec 32 := 1#32
  let v167 : BitVec 32 := Scalar.addi v8 c1_i32_138
  let c1_i32_139 : BitVec 32 := 1#32
  let v168 : BitVec 32 := Scalar.addi v167 c1_i32_139
  let c8_i32_140 : BitVec 32 := 8#32
  let c0_i32_141 : BitVec 32 := 0#32
  let v169 : BitVec 1 := Scalar.cmpi .eq c8_i32_140 c0_i32_141
  let c1_i32_142 : BitVec 32 := 1#32
  let v170 : BitVec 32 := Scalar.select v169 c1_i32_142 c8_i32_140
  let v171 : BitVec 32 := Scalar.remsi v168 v170
  let c0_i32_144 : BitVec 32 := 0#32
  let v173 : BitVec 1 := Scalar.cmpi .slt v171 c0_i32_144
  let c0_i32_145 : BitVec 32 := 0#32
  let v174 : BitVec 1 := Scalar.cmpi .slt v170 c0_i32_145
  let v175 : BitVec 1 := Scalar.xori v173 v174
  let c0_i32_143 : BitVec 32 := 0#32
  let v172 : BitVec 1 := Scalar.cmpi .ne v171 c0_i32_143
  let v176 : BitVec 1 := Scalar.andi v175 v172
  let v177 : BitVec 32 := Scalar.addi v171 v170
  let v178 : BitVec 32 := Scalar.select v176 v177 v171
  let c512_i32_149 : BitVec 32 := 512#32
  let v181 : BitVec 32 := Scalar.muli v178 c512_i32_149
  let v182 : Index := Scalar.indexCast v181
  let c0_150 : Index := 0#32
  ![v182.toNat, 0]
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SecondPlainIdeal.lean ====
abbrev S65536x2048 : Shape := ⟨2, ![65536, 2048]⟩
abbrev S8192x2048 : Shape := ⟨2, ![8192, 2048]⟩
abbrev S4 : Shape := ⟨1, ![4]⟩
abbrev S8 : Shape := ⟨1, ![8]⟩
abbrev S_ : Shape := ⟨0, ![]⟩
abbrev S1x4 : Shape := ⟨2, ![1, 4]⟩
abbrev S2x4 : Shape := ⟨2, ![2, 4]⟩
abbrev S2x4x1 : Shape := ⟨3, ![2, 4, 1]⟩
abbrev S1x1x8 : Shape := ⟨3, ![1, 1, 8]⟩
abbrev S2x4x8 : Shape := ⟨3, ![2, 4, 8]⟩
abbrev S2x1x4x8x1x1 : Shape := ⟨6, ![2, 1, 4, 8, 1, 1]⟩
abbrev S2x2x4x8x512x2048 : Shape := ⟨6, ![2, 2, 4, 8, 512, 2048]⟩
abbrev S2x2x4x512x2048 : Shape := ⟨5, ![2, 2, 4, 512, 2048]⟩
abbrev S1x2x4x512x2048 : Shape := ⟨5, ![1, 2, 4, 512, 2048]⟩
abbrev S2x4x512x2048 : Shape := ⟨4, ![2, 4, 512, 2048]⟩
abbrev S2x8x512x2048 : Shape := ⟨4, ![2, 8, 512, 2048]⟩
abbrev S2x1x512x2048 : Shape := ⟨4, ![2, 1, 512, 2048]⟩
abbrev S2x7x512x2048 : Shape := ⟨4, ![2, 7, 512, 2048]⟩
abbrev S2x2x4x1x512x2048 : Shape := ⟨6, ![2, 2, 4, 1, 512, 2048]⟩

abbrev nBuf : Space → Nat
  | .hbm => 68
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S8192x2048, .bf16⟩
  | .hbm, ⟨2, _⟩ => ⟨S8192x2048, .bf16⟩
  | .hbm, ⟨3, _⟩ => ⟨S4, .i32⟩
  | .hbm, ⟨4, _⟩ => ⟨S8, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S1x4, .i32⟩
  | .hbm, ⟨9, _⟩ => ⟨S1x4, .i32⟩
  | .hbm, ⟨10, _⟩ => ⟨S2x4, .i32⟩
  | .hbm, ⟨11, _⟩ => ⟨S2x4x1, .i32⟩
  | .hbm, ⟨12, _⟩ => ⟨S1x1x8, .i32⟩
  | .hbm, ⟨13, _⟩ => ⟨S2x4x8, .i32⟩
  | .hbm, ⟨14, _⟩ => ⟨S2x4x8, .i32⟩
  | .hbm, ⟨15, _⟩ => ⟨S2x4x8, .i32⟩
  | .hbm, ⟨16, _⟩ => ⟨S_, .i32⟩
  | .hbm, ⟨17, _⟩ => ⟨S2x4x8, .i32⟩
  | .hbm, ⟨18, _⟩ => ⟨S2x4x8, .i32⟩
  | .hbm, ⟨19, _⟩ => ⟨S2x1x4x8x1x1, .i32⟩
  | .hbm, ⟨20, _⟩ => ⟨S2x2x4x8x512x2048, .bf16⟩
  | .hbm, ⟨21, _⟩ => ⟨S_, .i32⟩
  | .hbm, ⟨22, _⟩ => ⟨S2x1x4x8x1x1, .i32⟩
  | .hbm, ⟨23, _⟩ => ⟨S2x1x4x8x1x1, .i1⟩
  | .hbm, ⟨24, _⟩ => ⟨S2x2x4x512x2048, .bf16⟩
  | .hbm, ⟨25, _⟩ => ⟨S1x2x4x512x2048, .bf16⟩
  | .hbm, ⟨26, _⟩ => ⟨S2x4x512x2048, .bf16⟩
  | .hbm, ⟨27, _⟩ => ⟨S1x2x4x512x2048, .bf16⟩
  | .hbm, ⟨28, _⟩ => ⟨S2x4x512x2048, .bf16⟩
  | .hbm, ⟨29, _⟩ => ⟨S2x4x512x2048, .bf16⟩
  | .hbm, ⟨30, _⟩ => ⟨S2x8x512x2048, .bf16⟩
  | .hbm, ⟨31, _⟩ => ⟨S2x1x512x2048, .bf16⟩
  | .hbm, ⟨32, _⟩ => ⟨S2x7x512x2048, .bf16⟩
  | .hbm, ⟨33, _⟩ => ⟨S2x8x512x2048, .bf16⟩
  | .hbm, ⟨34, _⟩ => ⟨S2x4x512x2048, .bf16⟩
  | .hbm, ⟨35, _⟩ => ⟨S2x4x512x2048, .bf16⟩
  | .hbm, ⟨36, _⟩ => ⟨S2x4x512x2048, .bf16⟩
  | .hbm, ⟨37, _⟩ => ⟨S1x2x4x512x2048, .bf16⟩
  | .hbm, ⟨38, _⟩ => ⟨S1x2x4x512x2048, .bf16⟩
  | .hbm, ⟨39, _⟩ => ⟨S2x2x4x512x2048, .bf16⟩
  | .hbm, ⟨40, _⟩ => ⟨S2x2x4x1x512x2048, .bf16⟩
  | .hbm, ⟨41, _⟩ => ⟨S2x2x4x8x512x2048, .i1⟩
  | .hbm, ⟨42, _⟩ => ⟨S2x2x4x8x512x2048, .bf16⟩
  | .hbm, ⟨43, _⟩ => ⟨S2x2x4x8x512x2048, .bf16⟩
  | .hbm, ⟨44, _⟩ => ⟨S_, .i32⟩
  | .hbm, ⟨45, _⟩ => ⟨S2x1x4x8x1x1, .i32⟩
  | .hbm, ⟨46, _⟩ => ⟨S2x1x4x8x1x1, .i1⟩
  | .hbm, ⟨47, _⟩ => ⟨S2x2x4x512x2048, .bf16⟩
  | .hbm, ⟨48, _⟩ => ⟨S1x2x4x512x2048, .bf16⟩
  | .hbm, ⟨49, _⟩ => ⟨S2x4x512x2048, .bf16⟩
  | .hbm, ⟨50, _⟩ => ⟨S1x2x4x512x2048, .bf16⟩
  | .hbm, ⟨51, _⟩ => ⟨S2x4x512x2048, .bf16⟩
  | .hbm, ⟨52, _⟩ => ⟨S2x4x512x2048, .bf16⟩
  | .hbm, ⟨53, _⟩ => ⟨S2x8x512x2048, .bf16⟩
  | .hbm, ⟨54, _⟩ => ⟨S2x7x512x2048, .bf16⟩
  | .hbm, ⟨55, _⟩ => ⟨S2x1x512x2048, .bf16⟩
  | .hbm, ⟨56, _⟩ => ⟨S2x8x512x2048, .bf16⟩
  | .hbm, ⟨57, _⟩ => ⟨S2x4x512x2048, .bf16⟩
  | .hbm, ⟨58, _⟩ => ⟨S2x4x512x2048, .bf16⟩
  | .hbm, ⟨59, _⟩ => ⟨S2x4x512x2048, .bf16⟩
  | .hbm, ⟨60, _⟩ => ⟨S1x2x4x512x2048, .bf16⟩
  | .hbm, ⟨61, _⟩ => ⟨S1x2x4x512x2048, .bf16⟩
  | .hbm, ⟨62, _⟩ => ⟨S2x2x4x512x2048, .bf16⟩
  | .hbm, ⟨63, _⟩ => ⟨S2x2x4x1x512x2048, .bf16⟩
  | .hbm, ⟨64, _⟩ => ⟨S2x2x4x8x512x2048, .i1⟩
  | .hbm, ⟨65, _⟩ => ⟨S2x2x4x8x512x2048, .bf16⟩
  | .hbm, ⟨66, _⟩ => ⟨S2x2x4x8x512x2048, .bf16⟩
  | .hbm, ⟨67, _⟩ => ⟨S65536x2048, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call1_v0 : Ref sig .tc := ⟨.hbm, 41, rfl⟩
abbrev main_call1_v1 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call2_v0 : Ref sig .tc := ⟨.hbm, 54, rfl⟩
abbrev main_call2_v1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call3_v0 : Ref sig .tc := ⟨.hbm, 64, rfl⟩
abbrev main_call3_v1 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Third.lean ====
abbrev S4096x2048 : Shape := ⟨2, ![4096, 2048]⟩
abbrev S512x2048 : Shape := ⟨2, ![512, 2048]⟩
abbrev S2x512x2048 : Shape := ⟨3, ![2, 512, 2048]⟩
abbrev S_ : Shape := ⟨0, ![]⟩
abbrev S2 : Shape := ⟨1, ![2]⟩
abbrev S1x512x2048 : Shape := ⟨3, ![1, 512, 2048]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .local _ .vmem, ⟨0, _⟩ => ⟨S4096x2048, .bf16⟩
  | .local _ .vmem, ⟨1, _⟩ => ⟨S512x2048, .bf16⟩
  | .local _ .vmem, ⟨2, _⟩ => ⟨S512x2048, .bf16⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S2x512x2048, .bf16⟩
  | .local _ .vmem, ⟨7, _⟩ => ⟨S2x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let v12 : BitVec 32 := Dev.word d0
  let c8_i32_3 : BitVec 32 := 8#32
  let v13 : BitVec 32 := Scalar.divsi v12 c8_i32_3
  let c2_i32_2 : BitVec 32 := 2#32
  let v14 : BitVec 32 := Scalar.remsi v13 c2_i32_2
  let c8_i32_34 : BitVec 32 := 8#32
  let v55 : BitVec 32 := Scalar.muli v14 c8_i32_34
  let v56 : BitVec 32 := Scalar.addi c0_i32_35 v55
  let c1_i32_6 : BitVec 32 := 1#32
  let v15 : BitVec 32 := Dev.word d0
  let c4_i32_5 : BitVec 32 := 4#32
  let v16 : BitVec 32 := Scalar.divsi v15 c4_i32_5
  let c2_i32_4 : BitVec 32 := 2#32
  let v17 : BitVec 32 := Scalar.remsi v16 c2_i32_4
  let v18 : BitVec 32 := Scalar.subi c1_i32_6 v17
  let c4_i32_36 : BitVec 32 := 4#32
  let v57 : BitVec 32 := Scalar.muli v18 c4_i32_36
  let v58 : BitVec 32 := Scalar.addi v56 v57
  let v19 : BitVec 32 := Dev.word d0
  let c1_i32_8 : BitVec 32 := 1#32
  let v20 : BitVec 32 := Scalar.divsi v19 c1_i32_8
  let c4_i32_7 : BitVec 32 := 4#32
  let v21 : BitVec 32 := Scalar.remsi v20 c4_i32_7
  let c1_i32_37 : BitVec 32 := 1#32
  let v59 : BitVec 32 := Scalar.muli v21 c1_i32_37
  let v60 : BitVec 32 := Scalar.addi v58 v59
  v60.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_39 : BitVec 32 := 8#32
  let v61 : BitVec 32 := Scalar.muli v34 c8_i32_39
  let v62 : BitVec 32 := Scalar.addi c0_i32_40 v61
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_41 : BitVec 32 := 4#32
  let v63 : BitVec 32 := Scalar.muli v11 c4_i32_41
  let v64 : BitVec 32 := Scalar.addi v62 v63
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_42 : BitVec 32 := 1#32
  let v65 : BitVec 32 := Scalar.muli v37 c1_i32_42
  let v66 : BitVec 32 := Scalar.addi v64 v65
  v66.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_44 : BitVec 32 := 8#32
  let v67 : BitVec 32 := Scalar.muli v50 c8_i32_44
  let v68 : BitVec 32 := Scalar.addi c0_i32_45 v67
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_46 : BitVec 32 := 4#32
  let v69 : BitVec 32 := Scalar.muli v11 c4_i32_46
  let v70 : BitVec 32 := Scalar.addi v68 v69
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_47 : BitVec 32 := 1#32
  let v71 : BitVec 32 := Scalar.muli v53 c1_i32_47
  let v72 : BitVec 32 := Scalar.addi v70 v71
  v72.toNat
def k0_dev4 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_65 : BitVec 32 := 8#32
  let v86 : BitVec 32 := Scalar.muli v34 c8_i32_65
  let v87 : BitVec 32 := Scalar.addi c0_i32_66 v86
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_67 : BitVec 32 := 4#32
  let v88 : BitVec 32 := Scalar.muli v11 c4_i32_67
  let v89 : BitVec 32 := Scalar.addi v87 v88
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_68 : BitVec 32 := 1#32
  let v90 : BitVec 32 := Scalar.muli v37 c1_i32_68
  let v91 : BitVec 32 := Scalar.addi v89 v90
  v91.toNat
def k0_dev5 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_77 : BitVec 32 := 8#32
  let v100 : BitVec 32 := Scalar.muli v50 c8_i32_77
  let v101 : BitVec 32 := Scalar.addi c0_i32_78 v100
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_79 : BitVec 32 := 4#32
  let v102 : BitVec 32 := Scalar.muli v11 c4_i32_79
  let v103 : BitVec 32 := Scalar.addi v101 v102
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_80 : BitVec 32 := 1#32
  let v104 : BitVec 32 := Scalar.muli v53 c1_i32_80
  let v105 : BitVec 32 := Scalar.addi v103 v104
  v105.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c2_i32_106 : BitVec 32 := 2#32
  let v132 : BitVec 32 := Scalar.subi v8 c2_i32_106
  let c1_i32_107 : BitVec 32 := 1#32
  let v133 : BitVec 32 := Scalar.subi v132 c1_i32_107
  let c8_i32_108 : BitVec 32 := 8#32
  let c0_i32_109 : BitVec 32 := 0#32
  let v134 : BitVec 1 := Scalar.cmpi .eq c8_i32_108 c0_i32_109
  let c1_i32_110 : BitVec 32 := 1#32
  let v135 : BitVec 32 := Scalar.select v134 c1_i32_110 c8_i32_108
  let v136 : BitVec 32 := Scalar.remsi v133 v135
  let c0_i32_112 : BitVec 32 := 0#32
  let v138 : BitVec 1 := Scalar.cmpi .slt v136 c0_i32_112
  let c0_i32_113 : BitVec 32 := 0#32
  let v139 : BitVec 1 := Scalar.cmpi .slt v135 c0_i32_113
  let v140 : BitVec 1 := Scalar.xori v138 v139
  let c0_i32_111 : BitVec 32 := 0#32
  let v137 : BitVec 1 := Scalar.cmpi .ne v136 c0_i32_111
  let v141 : BitVec 1 := Scalar.andi v140 v137
  let v142 : BitVec 32 := Scalar.addi v136 v135
  let v143 : BitVec 32 := Scalar.select v141 v142 v136
  let c512_i32 : BitVec 32 := 512#32
  let v146 : BitVec 32 := Scalar.muli v143 c512_i32
  let v147 : Index := Scalar.indexCast v146
  let c0_116 : Index := 0#32
  ![v147.toNat, 0]
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c2_i32_138 : BitVec 32 := 2#32
  let v167 : BitVec 32 := Scalar.addi v8 c2_i32_138
  let c1_i32_139 : BitVec 32 := 1#32
  let v168 : BitVec 32 := Scalar.addi v167 c1_i32_139
  let c8_i32_140 : BitVec 32 := 8#32
  let c0_i32_141 : BitVec 32 := 0#32
  let v169 : BitVec 1 := Scalar.cmpi .eq c8_i32_140 c0_i32_141
  let c1_i32_142 : BitVec 32 := 1#32
  let v170 : BitVec 32 := Scalar.select v169 c1_i32_142 c8_i32_140
  let v171 : BitVec 32 := Scalar.remsi v168 v170
  let c0_i32_144 : BitVec 32 := 0#32
  let v173 : BitVec 1 := Scalar.cmpi .slt v171 c0_i32_144
  let c0_i32_145 : BitVec 32 := 0#32
  let v174 : BitVec 1 := Scalar.cmpi .slt v170 c0_i32_145
  let v175 : BitVec 1 := Scalar.xori v173 v174
  let c0_i32_143 : BitVec 32 := 0#32
  let v172 : BitVec 1 := Scalar.cmpi .ne v171 c0_i32_143
  let v176 : BitVec 1 := Scalar.andi v175 v172
  let v177 : BitVec 32 := Scalar.addi v171 v170
  let v178 : BitVec 32 := Scalar.select v176 v177 v171
  let c512_i32_149 : BitVec 32 := 512#32
  let v181 : BitVec 32 := Scalar.muli v178 c512_i32_149
  let v182 : Index := Scalar.indexCast v181
  let c0_150 : Index := 0#32
  ![v182.toNat, 0]
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ThirdPlainIdeal.lean ====
abbrev S65536x2048 : Shape := ⟨2, ![65536, 2048]⟩
abbrev S8192x2048 : Shape := ⟨2, ![8192, 2048]⟩
abbrev S4 : Shape := ⟨1, ![4]⟩
abbrev S8 : Shape := ⟨1, ![8]⟩
abbrev S_ : Shape := ⟨0, ![]⟩
abbrev S1x4 : Shape := ⟨2, ![1, 4]⟩
abbrev S2x4 : Shape := ⟨2, ![2, 4]⟩
abbrev S2x4x1 : Shape := ⟨3, ![2, 4, 1]⟩
abbrev S1x1x8 : Shape := ⟨3, ![1, 1, 8]⟩
abbrev S2x4x8 : Shape := ⟨3, ![2, 4, 8]⟩
abbrev S2x1x4x8x1x1 : Shape := ⟨6, ![2, 1, 4, 8, 1, 1]⟩
abbrev S2x2x4x8x512x2048 : Shape := ⟨6, ![2, 2, 4, 8, 512, 2048]⟩
abbrev S2x2x4x512x2048 : Shape := ⟨5, ![2, 2, 4, 512, 2048]⟩
abbrev S1x2x4x512x2048 : Shape := ⟨5, ![1, 2, 4, 512, 2048]⟩
abbrev S2x4x512x2048 : Shape := ⟨4, ![2, 4, 512, 2048]⟩
abbrev S2x8x512x2048 : Shape := ⟨4, ![2, 8, 512, 2048]⟩
abbrev S2x1x512x2048 : Shape := ⟨4, ![2, 1, 512, 2048]⟩
abbrev S2x7x512x2048 : Shape := ⟨4, ![2, 7, 512, 2048]⟩
abbrev S2x2x4x1x512x2048 : Shape := ⟨6, ![2, 2, 4, 1, 512, 2048]⟩

abbrev nBuf : Space → Nat
  | .hbm => 68
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S8192x2048, .bf16⟩
  | .hbm, ⟨2, _⟩ => ⟨S8192x2048, .bf16⟩
  | .hbm, ⟨3, _⟩ => ⟨S4, .i32⟩
  | .hbm, ⟨4, _⟩ => ⟨S8, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S1x4, .i32⟩
  | .hbm, ⟨9, _⟩ => ⟨S1x4, .i32⟩
  | .hbm, ⟨10, _⟩ => ⟨S2x4, .i32⟩
  | .hbm, ⟨11, _⟩ => ⟨S2x4x1, .i32⟩
  | .hbm, ⟨12, _⟩ => ⟨S1x1x8, .i32⟩
  | .hbm, ⟨13, _⟩ => ⟨S2x4x8, .i32⟩
  | .hbm, ⟨14, _⟩ => ⟨S2x4x8, .i32⟩
  | .hbm, ⟨15, _⟩ => ⟨S2x4x8, .i32⟩
  | .hbm, ⟨16, _⟩ => ⟨S_, .i32⟩
  | .hbm, ⟨17, _⟩ => ⟨S2x4x8, .i32⟩
  | .hbm, ⟨18, _⟩ => ⟨S2x4x8, .i32⟩
  | .hbm, ⟨19, _⟩ => ⟨S2x1x4x8x1x1, .i32⟩
  | .hbm, ⟨20, _⟩ => ⟨S2x2x4x8x512x2048, .bf16⟩
  | .hbm, ⟨21, _⟩ => ⟨S_, .i32⟩
  | .hbm, ⟨22, _⟩ => ⟨S2x1x4x8x1x1, .i32⟩
  | .hbm, ⟨23, _⟩ => ⟨S2x1x4x8x1x1, .i1⟩
  | .hbm, ⟨24, _⟩ => ⟨S2x2x4x512x2048, .bf16⟩
  | .hbm, ⟨25, _⟩ => ⟨S1x2x4x512x2048, .bf16⟩
  | .hbm, ⟨26, _⟩ => ⟨S2x4x512x2048, .bf16⟩
  | .hbm, ⟨27, _⟩ => ⟨S1x2x4x512x2048, .bf16⟩
  | .hbm, ⟨28, _⟩ => ⟨S2x4x512x2048, .bf16⟩
  | .hbm, ⟨29, _⟩ => ⟨S2x4x512x2048, .bf16⟩
  | .hbm, ⟨30, _⟩ => ⟨S2x8x512x2048, .bf16⟩
  | .hbm, ⟨31, _⟩ => ⟨S2x1x512x2048, .bf16⟩
  | .hbm, ⟨32, _⟩ => ⟨S2x7x512x2048, .bf16⟩
  | .hbm, ⟨33, _⟩ => ⟨S2x8x512x2048, .bf16⟩
  | .hbm, ⟨34, _⟩ => ⟨S2x4x512x2048, .bf16⟩
  | .hbm, ⟨35, _⟩ => ⟨S2x4x512x2048, .bf16⟩
  | .hbm, ⟨36, _⟩ => ⟨S2x4x512x2048, .bf16⟩
  | .hbm, ⟨37, _⟩ => ⟨S1x2x4x512x2048, .bf16⟩
  | .hbm, ⟨38, _⟩ => ⟨S1x2x4x512x2048, .bf16⟩
  | .hbm, ⟨39, _⟩ => ⟨S2x2x4x512x2048, .bf16⟩
  | .hbm, ⟨40, _⟩ => ⟨S2x2x4x1x512x2048, .bf16⟩
  | .hbm, ⟨41, _⟩ => ⟨S2x2x4x8x512x2048, .i1⟩
  | .hbm, ⟨42, _⟩ => ⟨S2x2x4x8x512x2048, .bf16⟩
  | .hbm, ⟨43, _⟩ => ⟨S2x2x4x8x512x2048, .bf16⟩
  | .hbm, ⟨44, _⟩ => ⟨S_, .i32⟩
  | .hbm, ⟨45, _⟩ => ⟨S2x1x4x8x1x1, .i32⟩
  | .hbm, ⟨46, _⟩ => ⟨S2x1x4x8x1x1, .i1⟩
  | .hbm, ⟨47, _⟩ => ⟨S2x2x4x512x2048, .bf16⟩
  | .hbm, ⟨48, _⟩ => ⟨S1x2x4x512x2048, .bf16⟩
  | .hbm, ⟨49, _⟩ => ⟨S2x4x512x2048, .bf16⟩
  | .hbm, ⟨50, _⟩ => ⟨S1x2x4x512x2048, .bf16⟩
  | .hbm, ⟨51, _⟩ => ⟨S2x4x512x2048, .bf16⟩
  | .hbm, ⟨52, _⟩ => ⟨S2x4x512x2048, .bf16⟩
  | .hbm, ⟨53, _⟩ => ⟨S2x8x512x2048, .bf16⟩
  | .hbm, ⟨54, _⟩ => ⟨S2x7x512x2048, .bf16⟩
  | .hbm, ⟨55, _⟩ => ⟨S2x1x512x2048, .bf16⟩
  | .hbm, ⟨56, _⟩ => ⟨S2x8x512x2048, .bf16⟩
  | .hbm, ⟨57, _⟩ => ⟨S2x4x512x2048, .bf16⟩
  | .hbm, ⟨58, _⟩ => ⟨S2x4x512x2048, .bf16⟩
  | .hbm, ⟨59, _⟩ => ⟨S2x4x512x2048, .bf16⟩
  | .hbm, ⟨60, _⟩ => ⟨S1x2x4x512x2048, .bf16⟩
  | .hbm, ⟨61, _⟩ => ⟨S1x2x4x512x2048, .bf16⟩
  | .hbm, ⟨62, _⟩ => ⟨S2x2x4x512x2048, .bf16⟩
  | .hbm, ⟨63, _⟩ => ⟨S2x2x4x1x512x2048, .bf16⟩
  | .hbm, ⟨64, _⟩ => ⟨S2x2x4x8x512x2048, .i1⟩
  | .hbm, ⟨65, _⟩ => ⟨S2x2x4x8x512x2048, .bf16⟩
  | .hbm, ⟨66, _⟩ => ⟨S2x2x4x8x512x2048, .bf16⟩
  | .hbm, ⟨67, _⟩ => ⟨S65536x2048, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call1_v0 : Ref sig .tc := ⟨.hbm, 41, rfl⟩
abbrev main_call1_v1 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call2_v0 : Ref sig .tc := ⟨.hbm, 54, rfl⟩
abbrev main_call2_v1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call3_v0 : Ref sig .tc := ⟨.hbm, 64, rfl⟩
abbrev main_call3_v1 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Fourth.lean ====
abbrev S4096x2048 : Shape := ⟨2, ![4096, 2048]⟩
abbrev S512x2048 : Shape := ⟨2, ![512, 2048]⟩
abbrev S2x512x2048 : Shape := ⟨3, ![2, 512, 2048]⟩
abbrev S_ : Shape := ⟨0, ![]⟩
abbrev S2 : Shape := ⟨1, ![2]⟩
abbrev S1x512x2048 : Shape := ⟨3, ![1, 512, 2048]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .local _ .vmem, ⟨0, _⟩ => ⟨S4096x2048, .bf16⟩
  | .local _ .vmem, ⟨1, _⟩ => ⟨S512x2048, .bf16⟩
  | .local _ .vmem, ⟨2, _⟩ => ⟨S512x2048, .bf16⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S2x512x2048, .bf16⟩
  | .local _ .vmem, ⟨7, _⟩ => ⟨S2x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let v12 : BitVec 32 := Dev.word d0
  let c8_i32_3 : BitVec 32 := 8#32
  let v13 : BitVec 32 := Scalar.divsi v12 c8_i32_3
  let c2_i32_2 : BitVec 32 := 2#32
  let v14 : BitVec 32 := Scalar.remsi v13 c2_i32_2
  let c8_i32_34 : BitVec 32 := 8#32
  let v55 : BitVec 32 := Scalar.muli v14 c8_i32_34
  let v56 : BitVec 32 := Scalar.addi c0_i32_35 v55
  let c1_i32_6 : BitVec 32 := 1#32
  let v15 : BitVec 32 := Dev.word d0
  let c4_i32_5 : BitVec 32 := 4#32
  let v16 : BitVec 32 := Scalar.divsi v15 c4_i32_5
  let c2_i32_4 : BitVec 32 := 2#32
  let v17 : BitVec 32 := Scalar.remsi v16 c2_i32_4
  let v18 : BitVec 32 := Scalar.subi c1_i32_6 v17
  let c4_i32_36 : BitVec 32 := 4#32
  let v57 : BitVec 32 := Scalar.muli v18 c4_i32_36
  let v58 : BitVec 32 := Scalar.addi v56 v57
  let v19 : BitVec 32 := Dev.word d0
  let c1_i32_8 : BitVec 32 := 1#32
  let v20 : BitVec 32 := Scalar.divsi v19 c1_i32_8
  let c4_i32_7 : BitVec 32 := 4#32
  let v21 : BitVec 32 := Scalar.remsi v20 c4_i32_7
  let c1_i32_37 : BitVec 32 := 1#32
  let v59 : BitVec 32 := Scalar.muli v21 c1_i32_37
  let v60 : BitVec 32 := Scalar.addi v58 v59
  v60.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_39 : BitVec 32 := 8#32
  let v61 : BitVec 32 := Scalar.muli v34 c8_i32_39
  let v62 : BitVec 32 := Scalar.addi c0_i32_40 v61
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_41 : BitVec 32 := 4#32
  let v63 : BitVec 32 := Scalar.muli v11 c4_i32_41
  let v64 : BitVec 32 := Scalar.addi v62 v63
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_42 : BitVec 32 := 1#32
  let v65 : BitVec 32 := Scalar.muli v37 c1_i32_42
  let v66 : BitVec 32 := Scalar.addi v64 v65
  v66.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_21 : BitVec 32 := 1#32
  let v38 : BitVec 32 := Scalar.subi v8 c1_i32_21
  let c8_i32_22 : BitVec 32 := 8#32
  let c0_i32_23 : BitVec 32 := 0#32
  let v39 : BitVec 1 := Scalar.cmpi .eq c8_i32_22 c0_i32_23
  let c1_i32_24 : BitVec 32 := 1#32
  let v40 : BitVec 32 := Scalar.select v39 c1_i32_24 c8_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c4_i32_28 : BitVec 32 := 4#32
  let v49 : BitVec 1 := Scalar.cmpi .slt v48 c4_i32_28
  let c0_i32_29 : BitVec 32 := 0#32
  let c1_i32_30 : BitVec 32 := 1#32
  let v50 : BitVec 32 := Scalar.select v49 c0_i32_29 c1_i32_30
  let c8_i32_44 : BitVec 32 := 8#32
  let v67 : BitVec 32 := Scalar.muli v50 c8_i32_44
  let v68 : BitVec 32 := Scalar.addi c0_i32_45 v67
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_46 : BitVec 32 := 4#32
  let v69 : BitVec 32 := Scalar.muli v11 c4_i32_46
  let v70 : BitVec 32 := Scalar.addi v68 v69
  let c4_i32_31 : BitVec 32 := 4#32
  let v51 : BitVec 1 := Scalar.cmpi .slt v48 c4_i32_31
  let c7_i32_32 : BitVec 32 := 7#32
  let v52 : BitVec 32 := Scalar.subi c7_i32_32 v48
  let v53 : BitVec 32 := Scalar.select v51 v48 v52
  let c1_i32_47 : BitVec 32 := 1#32
  let v71 : BitVec 32 := Scalar.muli v53 c1_i32_47
  let v72 : BitVec 32 := Scalar.addi v70 v71
  v72.toNat
def k0_dev4 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c1_i32_9 : BitVec 32 := 1#32
  let v22 : BitVec 32 := Scalar.addi v8 c1_i32_9
  let c8_i32_10 : BitVec 32 := 8#32
  let c0_i32_11 : BitVec 32 := 0#32
  let v23 : BitVec 1 := Scalar.cmpi .eq c8_i32_10 c0_i32_11
  let c1_i32_12 : BitVec 32 := 1#32
  let v24 : BitVec 32 := Scalar.select v23 c1_i32_12 c8_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c4_i32_16 : BitVec 32 := 4#32
  let v33 : BitVec 1 := Scalar.cmpi .slt v32 c4_i32_16
  let c0_i32_17 : BitVec 32 := 0#32
  let c1_i32_18 : BitVec 32 := 1#32
  let v34 : BitVec 32 := Scalar.select v33 c0_i32_17 c1_i32_18
  let c8_i32_64 : BitVec 32 := 8#32
  let v86 : BitVec 32 := Scalar.muli v34 c8_i32_64
  let v87 : BitVec 32 := Scalar.addi c0_i32_65 v86
  let v9 : BitVec 32 := Dev.word d0
  let c4_i32_1 : BitVec 32 := 4#32
  let v10 : BitVec 32 := Scalar.divsi v9 c4_i32_1
  let c2_i32_0 : BitVec 32 := 2#32
  let v11 : BitVec 32 := Scalar.remsi v10 c2_i32_0
  let c4_i32_66 : BitVec 32 := 4#32
  let v88 : BitVec 32 := Scalar.muli v11 c4_i32_66
  let v89 : BitVec 32 := Scalar.addi v87 v88
  let c4_i32_19 : BitVec 32 := 4#32
  let v35 : BitVec 1 := Scalar.cmpi .slt v32 c4_i32_19
  let c7_i32_20 : BitVec 32 := 7#32
  let v36 : BitVec 32 := Scalar.subi c7_i32_20 v32
  let v37 : BitVec 32 := Scalar.select v35 v32 v36
  let c1_i32_67 : BitVec 32 := 1#32
  let v90 : BitVec 32 := Scalar.muli v37 c1_i32_67
  let v91 : BitVec 32 := Scalar.addi v89 v90
  v91.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v6 : BitVec 1 := Scalar.cmpi .eq v2 c0_i32
  let v3 : BitVec 32 := Dev.word d0
  let c1_i32 : BitVec 32 := 1#32
  let v4 : BitVec 32 := Scalar.divsi v3 c1_i32
  let c4_i32 : BitVec 32 := 4#32
  let v5 : BitVec 32 := Scalar.remsi v4 c4_i32
  let c7_i32 : BitVec 32 := 7#32
  let v7 : BitVec 32 := Scalar.subi c7_i32 v5
  let v8 : BitVec 32 := Scalar.select v6 v5 v7
  let c3_i32_93 : BitVec 32 := 3#32
  let v118 : BitVec 32 := Scalar.subi v8 c3_i32_93
  let c1_i32_94 : BitVec 32 := 1#32
  let v119 : BitVec 32 := Scalar.subi v118 c1_i32_94
  let c8_i32_95 : BitVec 32 := 8#32
  let c0_i32_96 : BitVec 32 := 0#32
  let v120 : BitVec 1 := Scalar.cmpi .eq c8_i32_95 c0_i32_96
  let c1_i32_97 : BitVec 32 := 1#32
  let v121 : BitVec 32 := Scalar.select v120 c1_i32_97 c8_i32_95
  let v122 : BitVec 32 := Scalar.remsi v119 v121
  let c0_i32_99 : BitVec 32 := 0#32
  let v124 : BitVec 1 := Scalar.cmpi .slt v122 c0_i32_99
  let c0_i32_100 : BitVec 32 := 0#32
  let v125 : BitVec 1 := Scalar.cmpi .slt v121 c0_i32_100
  let v126 : BitVec 1 := Scalar.xori v124 v125
  let c0_i32_98 : BitVec 32 := 0#32
  let v123 : BitVec 1 := Scalar.cmpi .ne v122 c0_i32_98
  let v127 : BitVec 1 := Scalar.andi v126 v123
  let v128 : BitVec 32 := Scalar.addi v122 v121
  let v129 : BitVec 32 := Scalar.select v127 v128 v122
  let c512_i32 : BitVec 32 := 512#32
  let v132 : BitVec 32 := Scalar.muli v129 c512_i32
  let v133 : Index := Scalar.indexCast v132
  let c0_104 : Index := 0#32
  ![v133.toNat, 0]
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FourthPlainIdeal.lean ====
abbrev S65536x2048 : Shape := ⟨2, ![65536, 2048]⟩
abbrev S8192x2048 : Shape := ⟨2, ![8192, 2048]⟩
abbrev S4 : Shape := ⟨1, ![4]⟩
abbrev S8 : Shape := ⟨1, ![8]⟩
abbrev S_ : Shape := ⟨0, ![]⟩
abbrev S1x4 : Shape := ⟨2, ![1, 4]⟩
abbrev S2x4 : Shape := ⟨2, ![2, 4]⟩
abbrev S2x4x1 : Shape := ⟨3, ![2, 4, 1]⟩
abbrev S1x1x8 : Shape := ⟨3, ![1, 1, 8]⟩
abbrev S2x4x8 : Shape := ⟨3, ![2, 4, 8]⟩
abbrev S2x1x4x8x1x1 : Shape := ⟨6, ![2, 1, 4, 8, 1, 1]⟩
abbrev S2x2x4x8x512x2048 : Shape := ⟨6, ![2, 2, 4, 8, 512, 2048]⟩
abbrev S2x2x4x512x2048 : Shape := ⟨5, ![2, 2, 4, 512, 2048]⟩
abbrev S1x2x4x512x2048 : Shape := ⟨5, ![1, 2, 4, 512, 2048]⟩
abbrev S2x4x512x2048 : Shape := ⟨4, ![2, 4, 512, 2048]⟩
abbrev S2x8x512x2048 : Shape := ⟨4, ![2, 8, 512, 2048]⟩
abbrev S2x1x512x2048 : Shape := ⟨4, ![2, 1, 512, 2048]⟩
abbrev S2x7x512x2048 : Shape := ⟨4, ![2, 7, 512, 2048]⟩
abbrev S2x2x4x1x512x2048 : Shape := ⟨6, ![2, 2, 4, 1, 512, 2048]⟩

abbrev nBuf : Space → Nat
  | .hbm => 45
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S8192x2048, .bf16⟩
  | .hbm, ⟨2, _⟩ => ⟨S8192x2048, .bf16⟩
  | .hbm, ⟨3, _⟩ => ⟨S4, .i32⟩
  | .hbm, ⟨4, _⟩ => ⟨S8, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S1x4, .i32⟩
  | .hbm, ⟨9, _⟩ => ⟨S1x4, .i32⟩
  | .hbm, ⟨10, _⟩ => ⟨S2x4, .i32⟩
  | .hbm, ⟨11, _⟩ => ⟨S2x4x1, .i32⟩
  | .hbm, ⟨12, _⟩ => ⟨S1x1x8, .i32⟩
  | .hbm, ⟨13, _⟩ => ⟨S2x4x8, .i32⟩
  | .hbm, ⟨14, _⟩ => ⟨S2x4x8, .i32⟩
  | .hbm, ⟨15, _⟩ => ⟨S2x4x8, .i32⟩
  | .hbm, ⟨16, _⟩ => ⟨S_, .i32⟩
  | .hbm, ⟨17, _⟩ => ⟨S2x4x8, .i32⟩
  | .hbm, ⟨18, _⟩ => ⟨S2x4x8, .i32⟩
  | .hbm, ⟨19, _⟩ => ⟨S2x1x4x8x1x1, .i32⟩
  | .hbm, ⟨20, _⟩ => ⟨S2x2x4x8x512x2048, .bf16⟩
  | .hbm, ⟨21, _⟩ => ⟨S_, .i32⟩
  | .hbm, ⟨22, _⟩ => ⟨S2x1x4x8x1x1, .i32⟩
  | .hbm, ⟨23, _⟩ => ⟨S2x1x4x8x1x1, .i1⟩
  | .hbm, ⟨24, _⟩ => ⟨S2x2x4x512x2048, .bf16⟩
  | .hbm, ⟨25, _⟩ => ⟨S1x2x4x512x2048, .bf16⟩
  | .hbm, ⟨26, _⟩ => ⟨S2x4x512x2048, .bf16⟩
  | .hbm, ⟨27, _⟩ => ⟨S1x2x4x512x2048, .bf16⟩
  | .hbm, ⟨28, _⟩ => ⟨S2x4x512x2048, .bf16⟩
  | .hbm, ⟨29, _⟩ => ⟨S2x4x512x2048, .bf16⟩
  | .hbm, ⟨30, _⟩ => ⟨S2x8x512x2048, .bf16⟩
  | .hbm, ⟨31, _⟩ => ⟨S2x1x512x2048, .bf16⟩
  | .hbm, ⟨32, _⟩ => ⟨S2x7x512x2048, .bf16⟩
  | .hbm, ⟨33, _⟩ => ⟨S2x8x512x2048, .bf16⟩
  | .hbm, ⟨34, _⟩ => ⟨S2x4x512x2048, .bf16⟩
  | .hbm, ⟨35, _⟩ => ⟨S2x4x512x2048, .bf16⟩
  | .hbm, ⟨36, _⟩ => ⟨S2x4x512x2048, .bf16⟩
  | .hbm, ⟨37, _⟩ => ⟨S1x2x4x512x2048, .bf16⟩
  | .hbm, ⟨38, _⟩ => ⟨S1x2x4x512x2048, .bf16⟩
  | .hbm, ⟨39, _⟩ => ⟨S2x2x4x512x2048, .bf16⟩
  | .hbm, ⟨40, _⟩ => ⟨S2x2x4x1x512x2048, .bf16⟩
  | .hbm, ⟨41, _⟩ => ⟨S2x2x4x8x512x2048, .i1⟩
  | .hbm, ⟨42, _⟩ => ⟨S2x2x4x8x512x2048, .bf16⟩
  | .hbm, ⟨43, _⟩ => ⟨S2x2x4x8x512x2048, .bf16⟩
  | .hbm, ⟨44, _⟩ => ⟨S65536x2048, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call1_v0 : Ref sig .tc := ⟨.hbm, 41, rfl⟩
abbrev main_call1_v1 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.Plan.lean ====
module

public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Tactic

/-! A one-trip conversation between devices, as a table.

    A `Plan` lists the payments of the whole conversation. Payment `j` is made by every device once: device `c` pays it on
    semaphore `sm j` of device `dst j c`, as part of that semaphore's round `rd j`, and it is worth `am j` units. From the
    table follow the schedule of every semaphore, what each device has to pay, and how the launch deals the permissions. -/

@[expose] public section

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Nested products of assertions change places. -/
theorem bigSep_turn {M : Type} [URA M] {I J : Type} [DecidableEq I] [DecidableEq J] (s : Finset I) (t : Finset J) (Φ : I → J → sProp M) :
    (bigSep s fun i => bigSep t fun j => Φ i j) = bigSep t fun j => bigSep s fun i => Φ i j := by
  induction s using Finset.induction_on with
  | empty =>
    rw [bigSep_empty, bigSep_congr (s := t) (Ψ := fun _ => (BI.emp : sProp M)) fun j _ => bigSep_empty]
    exact (BI.bigSep_emp_const t).symm
  | insert i s hi ih =>
    rw [bigSep_insert hi, ih, bigSep_congr (s := t) fun j _ => bigSep_insert (Φ := fun i => Φ i j) hi]
    exact (bigSep_sep t _ _).symm

/-- A product over pairs is a nested one. -/
theorem bigSep_pairs {M : Type} [URA M] {I J : Type} [DecidableEq I] [DecidableEq J] (s : Finset I) (t : Finset J) (Φ : I × J → sProp M) :
    bigSep (s ×ˢ t) Φ = bigSep s fun i => bigSep t fun j => Φ (i, j) := by
  induction s using Finset.induction_on with
  | empty => rw [Finset.empty_product, bigSep_empty, bigSep_empty]
  | insert i s hi ih =>
    have hd : Disjoint (({i} : Finset I) ×ˢ t) (s ×ˢ t) := Finset.disjoint_product.mpr (.inl (Finset.disjoint_singleton_left.mpr hi))
    rw [Finset.insert_eq, Finset.union_product, bigSep_union hd, Finset.singleton_product, bigSep_map, ← Finset.insert_eq, bigSep_insert hi, ih]
    rfl

variable {nD : ℕ} {τ : Topo} {sig : RefSig} {n : ℕ} {F : FTy → Type}

/-- The table of payments. -/
structure Plan (nD : ℕ) (sig : RefSig) (n : ℕ) where
  /-- the semaphore that payment `j` raises -/
  sm : Fin n → SemLoc sig
  /-- the round it belongs to -/
  rd : Fin n → ℕ
  /-- the device it goes to -/
  dst : Fin n → Equiv.Perm (Dev nD)
  /-- its worth -/
  am : Fin n → ℕ
  am_pos : ∀ j, 0 < am j

/-- The ghost state: the pipeline's, and the conversation's. -/
abbrev UU (nD : ℕ) (τ : Topo) (sig : RefSig) (n : ℕ) : Type := UR sig nD τ × URounds (GSem nD τ sig) (Fin n)

local notation "𝕄" => MT nD τ sig Unit (Elt F) ℕ (UU nD τ sig n) ℕ

abbrev EP : Emb (UR sig nD τ) (MT nD τ sig Unit (Elt F) ℕ (UU nD τ sig n) ℕ) := embL
abbrev ER : Emb (URounds (GSem nD τ sig) (Fin n)) (MT nD τ sig Unit (Elt F) ℕ (UU nD τ sig n) ℕ) := embR

variable (P : Plan nD sig n) (pay : Fin n → Dev nD → sProp (MT nD τ sig Unit (Elt F) ℕ (UU nD τ sig n) ℕ))

/-- The cell of semaphore `s` on device `c`. -/
abbrev cell (τ : Topo) (c : Dev nD) (s : SemLoc sig) : GSem nD τ sig := ((c : Thread nD τ), s)

/-- The payments expected at semaphore `s` in round `r`. -/
def duesAt (s : SemLoc sig) (r : ℕ) : Finset (Fin n) := Finset.univ.filter fun j => P.sm j = s ∧ P.rd j = r

/-- The schedule of all cells. -/
def sched : Rounds.Schedule (GSem nD τ sig) (Fin n) 𝕄 where
  duties g r := if g.1.2 = .tc then duesAt P g.2 r else ∅
  unitless _ := False
  amount _ _ j := P.am j
  payload g _ j := pay j g.1.1
  amount_pos _ _ j _ := P.am_pos j

theorem payload_storable (hs : ∀ j c, BI.Storable (upEmb : UEmb _ 𝕄) (pay j c)) (g : GSem nD τ sig) (r : ℕ) (d : Fin n) :
    BI.Storable (upEmb : UEmb _ 𝕄) ((sched P pay).payload g r d) := hs d g.1.1

theorem duties_at (c : Dev nD) (s : SemLoc sig) (r : ℕ) : (sched P pay).duties (cell τ c s) r = duesAt P s r := by
  dsimp only [sched]; exact if_pos rfl

/-- Payment `j` is among the dues of its own cell and round. -/
theorem due_mem (j : Fin n) (c : Dev nD) : j ∈ (sched P pay).duties (cell τ c (P.sm j)) (P.rd j) := by
  rw [duties_at]; exact Finset.mem_filter.mpr ⟨Finset.mem_univ _, rfl, rfl⟩

theorem expect_at (c : Dev nD) (s : SemLoc sig) (r : ℕ) : (sched P pay).expect (cell τ c s) r = ∑ j ∈ duesAt P s r, P.am j := by
  unfold Schedule.expect Schedule.amountOf; rw [duties_at]; rfl

theorem rest_at (c : Dev nD) (s : SemLoc sig) (r : ℕ) :
    bigSep ((sched P pay).duties (cell τ c s) r \ ∅) (fun j => (sched P pay).payload (cell τ c s) r j)
      = bigSep (duesAt P s r) fun j => pay j c := by
  rw [Finset.sdiff_empty, duties_at]; rfl

/-- A cell whose payments all lie below round `R` gives its counter back at zero. -/
theorem close_at (c : Dev nD) (s : SemLoc sig) (κ : ℕ) (R : ℕ) (h : ∀ j, P.sm j = s → P.rd j < R) :
    iprop(cellInv ER (sched P pay) κ (cell τ c s) ∗ atPos ER (cell τ c s) R ∅ 0) ⊢ (|={Set.univ}=> semVal (cell τ c s) 0 : sProp 𝕄) :=
  Rounds.cell_close ER (sched P pay) (Set.mem_univ κ) id fun r hr => by
    rw [duties_at]
    exact Finset.filter_eq_empty_iff.mpr fun j _ hj => absurd (h j hj.1) (by have := hj.2; omega)

/-! ## What a device has to pay -/

/-- The payments of the set `J`, as device `c` makes them. -/
def dues (J : Finset (Fin n)) (c : Dev nD) : CellTallies nD τ sig Unit := ∑ j ∈ J, tallyAt (cell τ (P.dst j c) (P.sm j)) () (P.am j)

theorem dues_empty (c : Dev nD) : (dues P ∅ c : CellTallies nD τ sig Unit) = 0 := Finset.sum_empty

theorem dues_take {J : Finset (Fin n)} {j : Fin n} (h : j ∈ J) (c : Dev nD) :
    (dues P J c : CellTallies nD τ sig Unit) = dues P (J.erase j) c + tallyAt (cell τ (P.dst j c) (P.sm j)) () (P.am j) :=
  (Finset.sum_erase_add J _ h).symm

theorem dues_pos {J : Finset (Fin n)} {c : Dev nD} {g : GSem nD τ sig} {u : Unit} (h : 0 < dues P J c g u) :
    ∃ j ∈ J, g = cell τ (P.dst j c) (P.sm j) := by
  unfold dues at h
  rw [Finset.sum_apply, Finsupp.finset_sum_apply] at h
  obtain ⟨j, hj, hp⟩ := Finset.exists_ne_zero_of_sum_ne_zero (Nat.pos_iff_ne_zero.mp h)
  refine ⟨j, hj, ?_⟩
  rw [tallyAt_apply] at hp
  by_contra hne
  rw [if_neg fun hh => hne hh.1] at hp
  exact hp rfl

/-- Every TensorCore cell may be waited on. -/
def L (g : GSem nD τ sig) : Finset Unit := if g.1.2 = .tc then {()} else ∅
theorem L_of_ne (g : GSem nD τ sig) (h : g.1.2 ≠ .tc) : L g = ∅ := if_neg h
theorem L_cell (c : Dev nD) (s : SemLoc sig) : L (cell τ c s) = {()} := if_pos rfl

/-- The order in which cells may be waited on, by their semaphore alone. -/
def lv (rk : SemLoc sig → ℕ) (g : GSem nD τ sig) (_ : Unit) : ℕ := rk g.2

/-- A wait at rank below everything that is still owed. -/
theorem mayWait (rk : SemLoc sig → ℕ) (c : Dev nD) (s : SemLoc sig) (J : Finset (Fin n)) (hJ : ∀ j ∈ J, rk s < rk (P.sm j)) :
    (levAts L (lv rk) : sProp 𝕄) ⊢ MayWait (c : Thread nD τ) s () (dues P J c) :=
  MayOwe.of_cut (L := L) (lev := lv rk) (rk s) (fun p hp => by rw [Finset.mem_singleton.mp hp, L_cell]; exact Finset.mem_singleton_self _)
    (fun g u hg => by obtain ⟨j, -, rfl⟩ := dues_pos P hg; rw [L_cell]; exact Finset.mem_singleton_self _)
    (fun p hp => by rw [Finset.mem_singleton.mp hp]; exact le_refl (rk s))
    (fun g u hg => by obtain ⟨j, hj, rfl⟩ := dues_pos P hg; exact hJ j hj)

/-- What a device waits for is what the others owe it. -/
theorem launchCred_dues (J : Finset (Fin n)) (c : Dev nD) :
    (Pipeline.launchCred (fun d => dues P J d) c : sProp 𝕄) ⊢ bigSep J fun j => cred (tallyAt (cell τ c (P.sm j)) () (P.am j)) := by
  induction J using Finset.induction_on with
  | empty =>
    rw [bigSep_empty, show (fun d => dues P ∅ d) = fun _ : Dev nD => (0 : CellTallies nD τ sig Unit) from funext fun d => dues_empty P d,
      Pipeline.launchCred_zero]
    exact BI.Entails.refl _
  | insert j J hj ih =>
    rw [bigSep_insert hj, show (fun d => dues P (insert j J) d)
        = fun d : Dev nD => (tallyAt (cell τ (P.dst j d) (P.sm j)) () (P.am j) + dues P J d : CellTallies nD τ sig Unit) from
        funext fun d => Finset.sum_insert hj, Pipeline.launchCred_add]
    exact BI.sep_mono (Pipeline.launchCred_tallyAt (P.sm j) (P.dst j) (P.dst j).symm (P.dst j).apply_symm_apply (P.dst j).symm_apply_apply () (P.am j) c) ih

/-! ## The launch -/

/-- All devices' cells of a set of semaphores. -/
def cellsOf (τ : Topo) (nD : ℕ) (S : Finset (SemLoc sig)) : Finset (GSem nD τ sig) :=
  (Finset.univ ×ˢ S).map ⟨fun cs : Dev nD × SemLoc sig => cell τ cs.1 cs.2, fun _ _ h =>
    Prod.ext (congrArg (fun g : GSem nD τ sig => g.1.1) h) (congrArg (fun g : GSem nD τ sig => g.2) h)⟩

theorem mem_cellsOf {S : Finset (SemLoc sig)} {s : SemLoc sig} (h : s ∈ S) (c : Dev nD) : cell τ c s ∈ cellsOf τ nD S :=
  Finset.mem_map.mpr ⟨(c, s), Finset.mem_product.mpr ⟨Finset.mem_univ _, h⟩, rfl⟩

theorem bigSep_cellsOf (S : Finset (SemLoc sig)) (Φ : GSem nD τ sig → sProp 𝕄) :
    bigSep (cellsOf τ nD S) Φ = bigSep Finset.univ fun c : Dev nD => bigSep S fun s => Φ (cell τ c s) := by
  unfold cellsOf
  rw [bigSep_map, bigSep_pairs]
  rfl

theorem cellsOf_disjoint {S S' : Finset (SemLoc sig)} (h : Disjoint S S') : Disjoint (cellsOf τ nD S) (cellsOf τ nD S') := by
  rw [Finset.disjoint_left]
  rintro g h₁ h₂
  obtain ⟨⟨c, s⟩, hs, rfl⟩ := Finset.mem_map.mp h₁
  obtain ⟨⟨c', s'⟩, hs', e⟩ := Finset.mem_map.mp h₂
  have e' : s' = s := congrArg Prod.snd e
  subst e'
  exact Finset.disjoint_left.mp h (Finset.mem_product.mp hs).2 (Finset.mem_product.mp hs').2

/-- The permission to make payment `j` at device `c`'s cell, for all of both. -/
def toks (τ : Topo) : Finset (GSem nD τ sig × ℕ × Fin n) :=
  Finset.univ.map ⟨fun cj : Dev nD × Fin n => (cell τ cj.1 (P.sm cj.2), P.rd cj.2, cj.2), fun _ _ h =>
    Prod.ext (congrArg (fun t : GSem nD τ sig × ℕ × Fin n => t.1.1.1) h) (congrArg (fun t : GSem nD τ sig × ℕ × Fin n => t.2.2) h)⟩

/-- The permissions, each given to the device that pays. -/
theorem toks_deal :
    bigSep (toks P τ) (fun x => (dutyTok ER x.1 x.2.1 x.2.2 : sProp 𝕄))
      = bigSep Finset.univ fun c : Dev nD => bigSep Finset.univ fun j : Fin n => dutyTok ER (cell τ (P.dst j c) (P.sm j)) (P.rd j) j := by
  unfold toks
  rw [bigSep_map, bigSep_univ_prod, bigSep_turn, bigSep_turn (Finset.univ : Finset (Dev nD))]
  exact bigSep_congr fun j _ => bigSep_univ_equiv (P.dst j) (fun c : Dev nD => (dutyTok ER (cell τ c (P.sm j)) (P.rd j) j : sProp 𝕄))

variable (S Sd : Finset (SemLoc sig))

/-- What every device may consult: the record of each cell, and that the cells of `S` are open. -/
def recs (κ : GSem nD τ sig → ℕ) : sProp 𝕄 :=
  iprop((bigSep (cellsOf τ nD S ∪ cellsOf τ nD Sd) fun g => cellInv ER (sched P pay) (κ g) g) ∗ bigSep (cellsOf τ nD S) fun g => reached ER g 0)

instance recs_persistent (κ : GSem nD τ sig → ℕ) : BI.Persistent (recs P pay S Sd κ) := by unfold recs; infer_instance

theorem recs_inv (κ : GSem nD τ sig → ℕ) {s : SemLoc sig} (h : s ∈ S ∪ Sd) (c : Dev nD) :
    recs P pay S Sd κ ⊢ (cellInv ER (sched P pay) (κ (cell τ c s)) (cell τ c s) : sProp 𝕄) := by
  unfold recs
  refine sep_elim_left.trans (bigSep_elim ?_)
  rcases Finset.mem_union.mp h with h | h
  · exact Finset.mem_union_left _ (mem_cellsOf h c)
  · exact Finset.mem_union_right _ (mem_cellsOf h c)

theorem recs_reached (κ : GSem nD τ sig → ℕ) {s : SemLoc sig} (h : s ∈ S) (c : Dev nD) :
    recs P pay S Sd κ ⊢ (reached ER (cell τ c s) 0 : sProp 𝕄) := by
  unfold recs
  exact sep_elim_right.trans (bigSep_elim (mem_cellsOf h c))

/-- What device `c` alone holds: its places at the open cells, its rights to open the others, its permissions to pay. -/
def mine (c : Dev nD) : sProp 𝕄 :=
  iprop((bigSep S fun s => atPos ER (cell τ c s) 0 ∅ 0) ∗ (bigSep Sd fun s => openTok ER (cell τ c s))
    ∗ bigSep Finset.univ fun j : Fin n => dutyTok ER (cell τ (P.dst j c) (P.sm j)) (P.rd j) j)

/-- The launch element of the conversation. -/
abbrev elt (τ : Topo) : URounds (GSem nD τ sig) (Fin n) := launchOf (cellsOf τ nD S) (cellsOf τ nD Sd) (toks P τ)

/-- From the open cells' counters and the launch element: the records, and every device's own part. -/
theorem deal (hs : ∀ j c, BI.Storable (upEmb : UEmb _ 𝕄) (pay j c)) (hd : Disjoint S Sd) :
    iprop((bigSep Finset.univ fun c : Dev nD => bigSep S fun s => (semVal (cell τ c s) 0 : sProp 𝕄)) ∗ BI.own (ER (elt P S Sd τ)))
      ⊢ (|={Set.univ}=> ∃ κ, □ recs P pay S Sd κ ∗ bigSep Finset.univ fun c : Dev nD => mine P S Sd c : sProp 𝕄) := by
  haveI := payload_storable P pay hs
  rw [← bigSep_cellsOf S fun g => (semVal g 0 : sProp 𝕄)]
  iintro H
  imod (Rounds.fund_launch ER (sched P pay) (cellsOf_disjoint hd) (fun g _ h => h) (toks P τ)) $$ H with ⟨%κ, -, #Hinv, #Hr, Hat, Hopen, Htok⟩
  imodintro
  iexists κ
  isplitr
  · imodintro
    unfold recs
    isplitr; · iexact Hinv
    iexact Hr
  unfold mine
  rw [bigSep_sep', bigSep_sep', ← bigSep_cellsOf S fun g => (atPos ER g 0 ∅ 0 : sProp 𝕄), ← bigSep_cellsOf Sd fun g => (openTok ER g : sProp 𝕄), ← toks_deal]
  isplitl [Hat]; · iexact Hat
  isplitl [Hopen]; · iexact Hopen
  iexact Htok

end Talk

end
-- ==== Proof.Slots.lean ====
module

public import Idealize.ShloMosaic.Lib.Pipeline.Value
public import Idealize.ShloMosaic.Lib.Pipeline.ValueKit
public import Idealize.ShloMosaic.Lib.Exec
public import Idealize.ShloMosaic.Lib.Memref

/-! A buffer of two slots: the first kept by its device, the second filled by another one. -/

@[expose] public section

noncomputable section

namespace Talk

open Idealize.ShloMosaic

variable {sig : RefSig} {κ : Kind} {sp : Space} {e : EltTy} {Val : EltTy → Type} {R C : ℕ} {α : Type}

abbrev Two (R C : ℕ) : Shape := ⟨3, ![2, R, C]⟩
abbrev One (R C : ℕ) : Shape := ⟨3, ![1, R, C]⟩
abbrev Flat (R C : ℕ) : Shape := ⟨2, ![R, C]⟩

/-- The row and column of an index of the two slots. -/
def low {n : ℕ} (i : (⟨3, ![n, R, C]⟩ : Shape).Idx) : (Flat R C).Idx := fun a => i a.succ

/-- The index of slot `k` at a row and column. -/
def high (k : Fin 2) (j : (Flat R C).Idx) : (Two R C).Idx := Fin.cons k j

theorem low_high (k : Fin 2) (j : (Flat R C).Idx) : low (high k j) = j := funext fun _ => rfl

/-- Two slots side by side. -/
def both (x y : (Flat R C).Idx → α) : (Two R C).Idx → α := fun i => if (i 0).val = 0 then x (low i) else y (low i)

theorem both_fst (x y : (Flat R C).Idx → α) (j : (Flat R C).Idx) : both x y (high 0 j) = x j := by
  unfold both; rw [low_high]; exact if_pos rfl
theorem both_snd (x y : (Flat R C).Idx → α) (j : (Flat R C).Idx) : both x y (high 1 j) = y j := by
  unfold both; rw [low_high]; exact if_neg Nat.one_ne_zero

/-- The rectangle of slot `k`. -/
abbrev slotRect (k : ℕ) (inb : ∀ a, (![k, 0, 0] : Fin 3 → ℕ) a + (One R C).size a ≤ (Two R C).size a) : Rect (Two R C) :=
  Rect.unit (s := Two R C) ![k, 0, 0] (One R C).size inb

theorem slot_idx (k : Fin 2) (inb : ∀ a, (![k.val, 0, 0] : Fin 3 → ℕ) a + (One R C).size a ≤ (Two R C).size a) (x : (One R C).Idx) :
    (slotRect k.val inb).toLoadRect.idx x = high k (low x) := by
  have h0 : (x 0).val = 0 := by have h : (x 0).val < 1 := (x 0).isLt; omega
  refine funext fun a => Fin.ext ?_
  refine Fin.cases ?_ (fun a => ?_) a
  · show k.val + 1 * (x 0).val = k.val
    rw [h0, Nat.mul_zero, Nat.add_zero]
  · refine Fin.cases ?_ (fun a => ?_) a
    · show 0 + 1 * (x 1).val = (x 1).val; omega
    · obtain rfl : a = 0 := Subsingleton.elim _ _
      show 0 + 1 * (x 2).val = (x 2).val; omega

/-- What a load of slot `k` reads. -/
theorem readAt_slot (M : Memref sig κ sp (Two R C) e) (k : Fin 2) (inb) (g : M.view.ty.Contents Val) :
    M.view.readAt Val (slotRect k.val inb).toLoadRect g = fun x => M.view.read Val g (high k (low x)) := by
  funext x; rw [View.readAt_apply, slot_idx]

/-- What is read through the slot's own memref. -/
theorem read_slot (M : Memref sig κ sp (Two R C) e) (k : Fin 2) (inb) (hr : ∀ a, (slotRect (R := R) (C := C) k.val inb).stride a = 1)
    (hq : (One R C).Squeezes (Flat R C)) (hc : (One R C).ShapeCasts (Flat R C)) (g : M.view.ty.Contents Val) :
    ((M.slice (slotRect k.val inb) hr).squeeze (Flat R C) hq).view.read Val g = fun j => M.view.read Val g (high k j) := by
  rw [Memref.read_squeeze_slice M (slotRect k.val inb) hr hq hc g, readAt_slot]
  funext j
  rw [shapeCast_dropUnit_apply ![R, C]]
  rfl

/-- The elements of slot `k`. -/
theorem mem_slot (k : ℕ) (inb) (i : (Two R C).Idx) : i ∈ (slotRect (R := R) (C := C) k inb).set ↔ (i 0).val = k := by
  rw [Rect.mem_set_unit]
  constructor
  · intro h
    have h1 : k ≤ (i 0).val ∧ (i 0).val < k + 1 := h 0
    omega
  · intro h a
    refine Fin.cases ?_ (fun a => ?_) a
    · show k ≤ (i 0).val ∧ (i 0).val < k + 1; omega
    · refine Fin.cases ?_ (fun a => ?_) a
      · have h1 : (i 1).val < R := (i 1).isLt
        show 0 ≤ (i 1).val ∧ (i 1).val < 0 + R; omega
      · obtain rfl : a = 0 := Subsingleton.elim _ _
        have h1 : (i 2).val < C := (i 2).isLt
        show 0 ≤ (i 2).val ∧ (i 2).val < 0 + C; omega

theorem both_of_fst (x y : (Flat R C).Idx → α) (i : (Two R C).Idx) (h : (i 0).val = 0) : both x y i = x (low i) := if_pos h
theorem both_of_snd (x y : (Flat R C).Idx → α) (i : (Two R C).Idx) (h : (i 0).val = 1) : both x y i = y (low i) :=
  if_neg (by omega)

theorem high_low (k : Fin 2) (i : (Two R C).Idx) (h : (i 0).val = k.val) : high k (low i) = i := by
  refine funext fun a => ?_
  refine Fin.cases ?_ (fun a => rfl) a
  exact (Fin.ext h).symm

/-! ## Writing what another array already holds -/

theorem write_in {sig : RefSig} {Val : EltTy → Type} {κ : Kind} {sp : Space} {S : Shape} {e : EltTy} (v : View sig κ sp S e)
    (f g : v.ty.Contents Val) (y : S.Idx → Val e) (h : v.read Val g = y) (i) (hi : i ∈ v.set) : v.write Val f y Finset.univ i = g i := by
  rw [← h, View.write_read_eq_piecewise]
  refine Finset.piecewise_eq_of_mem _ _ _ ?_
  rw [View.setOn_univ]; exact hi
theorem write_out {sig : RefSig} {Val : EltTy → Type} {κ : Kind} {sp : Space} {S : Shape} {e : EltTy} (v : View sig κ sp S e)
    (f g : v.ty.Contents Val) (y : S.Idx → Val e) (h : v.read Val g = y) (i) (hi : i ∉ v.set) : v.write Val f y Finset.univ i = f i := by
  rw [← h, View.write_read_eq_piecewise]
  refine Finset.piecewise_eq_of_notMem _ _ _ ?_
  rw [View.setOn_univ]; exact hi

end Talk

end
-- ==== Proof.Exchange.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Plan
public import proofs.«01_k».proof.Proof.Slots

/-! The exchange between the two owners of one slice of tokens: the protocol, and the body of the kernel run under it. -/

@[expose] public section

noncomputable section

namespace Cert.KernelIdeal.Exch

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk

variable {F : FTy → Type} [FloatOps F]

local notation "𝕄" => MT nD τ sig Unit (Elt F) ℕ (UU nD τ sig 5) ℕ

/-! ## Who talks to whom -/

/-- The other owner of `c`'s slice: the device at the other coordinate of the expert axis. -/
def pr (c : Dev nD) : Dev nD := ⟨(8 * (c.val / 8) + (c.val % 4) + 4) - 4 * ((c.val / 4) % 2), by
  have h : c.val < 16 := c.isLt
  show _ < 16
  omega⟩

theorem pr_pr : ∀ c : Dev nD, pr (pr c) = c := by decide
theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)

/-- Going to the other owner, and back. -/
def peer : Equiv.Perm (Dev nD) := ⟨pr, pr, pr_pr, pr_pr⟩

/-! ## The buffers and the semaphores -/

abbrev barS : Sem sig := (SemArray.scalar (sig.barrier 0 rfl) : Sems sig S_).sem
abbrev sBar : SemLoc sig := .reg barS
abbrev sXs : SemLoc sig := .dma cc0_scratch0.sem
abbrev sXr : SemLoc sig := .dma cc0_scratch1.sem
abbrev sAs : SemLoc sig := .dma cc0_scratch2.sem
abbrev sAr : SemLoc sig := .dma cc0_scratch3.sem

abbrev xM : Memref sig .tc .vmem S512x2048 .bf16 := Memref.whole cc0_stg0_0
abbrev aM : Memref sig .tc .vmem S512x1 .i32 := Memref.whole cc0_stg1_0
abbrev oM : Memref sig .tc .vmem S2x512x2048 .bf16 := Memref.whole cc0_stg2_0
abbrev bM : Memref sig .tc .vmem S2x512x1 .i32 := Memref.whole cc0_stg3_0

abbrev oR0 : Rect S2x512x2048 := Rect.unit (s := S2x512x2048) ![0, 0, 0] S1x512x2048.size inb_S2x512x2048_S1x512x2048_0_0_0
abbrev oR1 : Rect S2x512x2048 := Rect.unit (s := S2x512x2048) ![1, 0, 0] S1x512x2048.size inb_S2x512x2048_S1x512x2048_1_0_0
abbrev bR0 : Rect S2x512x1 := Rect.unit (s := S2x512x1) ![0, 0, 0] S1x512x1.size inb_S2x512x1_S1x512x1_0_0_0
abbrev bR1 : Rect S2x512x1 := Rect.unit (s := S2x512x1) ![1, 0, 0] S1x512x1.size inb_S2x512x1_S1x512x1_1_0_0
abbrev oV : Memref sig .tc .vmem S512x2048 .bf16 := (oM.slice oR1 (fun _ => rfl)).squeeze S512x2048 squeezes_S1x512x2048_S512x2048
abbrev bV : Memref sig .tc .vmem S512x1 .i32 := (bM.slice bR1 (fun _ => rfl)).squeeze S512x1 squeezes_S1x512x1_S512x1

/-- The second slot of a device's two outputs. -/
def oSet : Finset (S2x512x2048.Idx) := oR1.set
def bSet : Finset (S2x512x1.Idx) := bR1.set

theorem oV_set : oV.view.set = oSet := by
  unfold oSet
  show ((oM.slice oR1 (fun _ => rfl)).view.reshape S512x2048 _).set = _
  rw [View.set_reshape]; exact View.set_slice_whole _ _
theorem bV_set : bV.view.set = bSet := by
  unfold bSet
  show ((bM.slice bR1 (fun _ => rfl)).view.reshape S512x1 _).set = _
  rw [View.set_reshape]; exact View.set_slice_whole _ _
theorem mem_oSet (i : S2x512x2048.Idx) : i ∈ oSet ↔ (i 0).val = 1 := Talk.mem_slot (R := 512) (C := 2048) 1 _ i
theorem mem_bSet (i : S2x512x1.Idx) : i ∈ bSet ↔ (i 0).val = 1 := Talk.mem_slot (R := 512) (C := 1) 1 _ i

theorem o0_set : (oM.access oR0).setOn Finset.univ ⊆ Finset.univ \ oSet := by
  intro i hi
  rw [View.setOn_univ] at hi
  have h : i ∈ oR0.set := by rw [← View.set_slice_whole cc0_stg2_0 oR0]; exact hi
  have h0 : (i 0).val = 0 := (Talk.mem_slot (R := 512) (C := 2048) 0 _ i).mp h
  refine Finset.mem_sdiff.mpr ⟨Finset.mem_univ _, fun h1 => ?_⟩
  have := (mem_oSet i).mp h1
  omega
theorem b0_set : (bM.access bR0).setOn Finset.univ ⊆ Finset.univ \ bSet := by
  intro i hi
  rw [View.setOn_univ] at hi
  have h : i ∈ bR0.set := by rw [← View.set_slice_whole cc0_stg3_0 bR0]; exact hi
  have h0 : (i 0).val = 0 := (Talk.mem_slot (R := 512) (C := 1) 0 _ i).mp h
  refine Finset.mem_sdiff.mpr ⟨Finset.mem_univ _, fun h1 => ?_⟩
  have := (mem_bSet i).mp h1
  omega

abbrev XT (F : FTy → Type) : Type := (cc0_stg0_0 : Ref sig .tc).ty.Contents (Elt F)
abbrev AT (F : FTy → Type) : Type := (cc0_stg1_0 : Ref sig .tc).ty.Contents (Elt F)

/-- What two devices' slices make side by side. -/
def outO (x y : XT F) : (cc0_stg2_0 : Ref sig .tc).ty.Contents (Elt F) := Talk.both (R := 512) (C := 2048) x y
def outB (x y : AT F) : (cc0_stg3_0 : Ref sig .tc).ty.Contents (Elt F) := Talk.both (R := 512) (C := 1) x y

/-! ### What the two stores and the two landings leave -/

theorem pay1_eq (x : XT F) : k0_pay1 x = shapeCast S1x512x2048 x shapeCasts_S512x2048_S1x512x2048 := by
  unfold k0_pay1; rw [shapeCast_self]
theorem pay2_eq (x : AT F) : k0_pay2 x = shapeCast S1x512x1 x shapeCasts_S512x1_S1x512x1 := by
  unfold k0_pay2; rw [shapeCast_self]

theorem read_o0 (x y : XT F) : (oM.access oR0 : View sig .tc _ _ _).read (Elt F) (outO x y) = k0_pay1 x := by
  rw [pay1_eq]
  funext j
  rw [shapeCast_addUnit_apply ![512, 2048]]
  show outO x y (oR0.toLoadRect.idx j) = _
  rw [show oR0.toLoadRect.idx j = Talk.high 0 (Talk.low j) from Talk.slot_idx (R := 512) (C := 2048) 0 _ j]
  exact Talk.both_fst _ _ _
theorem read_b0 (x y : AT F) : (bM.access bR0 : View sig .tc _ _ _).read (Elt F) (outB x y) = k0_pay2 x := by
  rw [pay2_eq]
  funext j
  rw [shapeCast_addUnit_apply ![512, 1]]
  show outB x y (bR0.toLoadRect.idx j) = _
  rw [show bR0.toLoadRect.idx j = Talk.high 0 (Talk.low j) from Talk.slot_idx (R := 512) (C := 1) 0 _ j]
  exact Talk.both_fst _ _ _

theorem read_o1 (x y : XT F) : oV.view.read (Elt F) (outO x y) = y := by
  have h := Talk.read_slot (Val := Elt F) (R := 512) (C := 2048) oM 1 inb_S2x512x2048_S1x512x2048_1_0_0 (fun _ => rfl)
    squeezes_S1x512x2048_S512x2048 rfl (outO x y)
  exact h.trans (funext fun j => Talk.both_snd x y j)
theorem read_b1 (x y : AT F) : bV.view.read (Elt F) (outB x y) = y := by
  have h := Talk.read_slot (Val := Elt F) (R := 512) (C := 1) bM 1 inb_S2x512x1_S1x512x1_1_0_0 (fun _ => rfl)
    squeezes_S1x512x1_S512x1 rfl (outB x y)
  exact h.trans (funext fun j => Talk.both_snd x y j)

/-- The store of the own rows, seen on the first slot. -/
theorem stored_o (x y : XT F) (f : (cc0_stg2_0 : Ref sig .tc).ty.Contents (Elt F)) (i : S2x512x2048.Idx) (hi : i ∈ Finset.univ \ oSet) :
    (oM.access oR0 : View sig .tc _ _ _).write (Elt F) f (k0_pay1 x) Finset.univ i = outO x y i := by
  rw [← read_o0 x y, View.write_read_eq_piecewise]
  refine Finset.piecewise_eq_of_mem _ _ _ ?_
  rw [View.setOn_univ]
  show i ∈ ((View.whole cc0_stg2_0).slice oR0).set
  rw [View.set_slice_whole]
  refine (Talk.mem_slot (R := 512) (C := 2048) 0 _ i).mpr ?_
  have h1 : ¬ (i 0).val = 1 := fun h => (Finset.mem_sdiff.mp hi).2 ((mem_oSet i).mpr h)
  have h2 : (i 0).val < 2 := (i 0).isLt
  omega
theorem stored_b (x y : AT F) (f : (cc0_stg3_0 : Ref sig .tc).ty.Contents (Elt F)) (i : S2x512x1.Idx) (hi : i ∈ Finset.univ \ bSet) :
    (bM.access bR0 : View sig .tc _ _ _).write (Elt F) f (k0_pay2 x) Finset.univ i = outB x y i := by
  rw [← read_b0 x y, View.write_read_eq_piecewise]
  refine Finset.piecewise_eq_of_mem _ _ _ ?_
  rw [View.setOn_univ]
  show i ∈ ((View.whole cc0_stg3_0).slice bR0).set
  rw [View.set_slice_whole]
  refine (Talk.mem_slot (R := 512) (C := 1) 0 _ i).mpr ?_
  have h1 : ¬ (i 0).val = 1 := fun h => (Finset.mem_sdiff.mp hi).2 ((mem_bSet i).mpr h)
  have h2 : (i 0).val < 2 := (i 0).isLt
  omega

/-- The landing of the other owner's rows, seen on the second slot. -/
theorem landed_o (x y : XT F) (f : (cc0_stg2_0 : Ref sig .tc).ty.Contents (Elt F)) (i : S2x512x2048.Idx) (hi : i ∈ oV.view.set) :
    oV.view.write (Elt F) f y Finset.univ i = outO x y i := by
  conv_lhs => rw [← read_o1 x y]
  rw [View.write_read_eq_piecewise]
  refine Finset.piecewise_eq_of_mem _ _ _ ?_
  rw [View.setOn_univ]; exact hi
theorem landed_b (x y : AT F) (f : (cc0_stg3_0 : Ref sig .tc).ty.Contents (Elt F)) (i : S2x512x1.Idx) (hi : i ∈ bV.view.set) :
    bV.view.write (Elt F) f y Finset.univ i = outB x y i := by
  conv_lhs => rw [← read_b1 x y]
  rw [View.write_read_eq_piecewise]
  refine Finset.piecewise_eq_of_mem _ _ _ ?_
  rw [View.setOn_univ]; exact hi

end Cert.KernelIdeal.Exch

end
-- ==== Proof.Talking.lean ====
module

public import proofs.«01_k».proof.Proof.Exchange

/-! The protocol of the exchange, and the body of the kernel run under it. -/

@[expose] public section

noncomputable section

namespace Cert.KernelIdeal.Exch

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk

variable {F : FTy → Type} [FloatOps F]

local notation "𝕄" => MT nD τ sig Unit (Elt F) ℕ (UU nD τ sig 5) ℕ

abbrev Nx : ℕ := oV.view.dmaCredit
abbrev Na : ℕ := bV.view.dmaCredit
theorem Nx_pos : 0 < Nx := View.dmaCredit_pos _ (by decide)
theorem Na_pos : 0 < Na := View.dmaCredit_pos _ (by decide)

/-- The table: the barrier's unit, then for the rows and for the assignments the two ends of one copy. -/
def P : Plan nD sig 5 where
  sm := ![sBar, sXs, sXr, sAs, sAr]
  rd := fun _ => 0
  dst := ![peer, Equiv.refl _, peer, Equiv.refl _, peer]
  am := ![1, Nx, Nx, Na, Na]
  am_pos := fun j => by fin_cases j; exacts [Nat.one_pos, Nx_pos, Nx_pos, Na_pos, Na_pos]

/-- The semaphores whose cells are open from the launch on, and those a device opens when it enters the kernel. -/
def So : Finset (SemLoc sig) := {sBar}
def Sd : Finset (SemLoc sig) := {sXs, sXr, sAs, sAr}
/-- What a device still owes when it enters: the barrier's unit and the two landings. -/
def J₀ : Finset (Fin 5) := {0, 2, 4}

def J₂ : Finset (Fin 5) := {2, 4}
def J₄ : Finset (Fin 5) := {4}

/-- Waiting order: the barrier before the landings. -/
def rk (s : SemLoc sig) : ℕ := if s = sBar then 1 else if s = sXr ∨ s = sAr then 2 else 0

variable (X : Dev nD → XT F) (A : Dev nD → AT F)

/-- Parts of a device's buffers, at given contents. -/
abbrev xPts (c : Dev nD) : sProp 𝕄 := xM.view.loc (c : Thread nD τ) ↦[xM.view.set]{fullShare} X c
abbrev aPts (c : Dev nD) : sProp 𝕄 := aM.view.loc (c : Thread nD τ) ↦[aM.view.set]{fullShare} A c
abbrev oPts (S : Finset S2x512x2048.Idx) (c : Dev nD) (f : (cc0_stg2_0 : Ref sig .tc).ty.Contents (Elt F)) : sProp 𝕄 :=
  oM.view.loc (c : Thread nD τ) ↦[S]{fullShare} f
abbrev bPts (S : Finset S2x512x1.Idx) (c : Dev nD) (f : (cc0_stg3_0 : Ref sig .tc).ty.Contents (Elt F)) : sProp 𝕄 :=
  bM.view.loc (c : Thread nD τ) ↦[S]{fullShare} f

abbrev fullO (c : Dev nD) : (cc0_stg2_0 : Ref sig .tc).ty.Contents (Elt F) := outO (X c) (X (pr c))
abbrev fullB (c : Dev nD) : (cc0_stg3_0 : Ref sig .tc).ty.Contents (Elt F) := outB (A c) (A (pr c))

/-- What the barrier's unit hands over: the sender's two landing slots, and that its two arrival cells are open. -/
abbrev payBar (c : Dev nD) : sProp 𝕄 :=
  iprop((∃ f, oPts oV.view.set (pr c) f) ∗ (∃ f, bPts bV.view.set (pr c) f)
      ∗ reached ER (cell τ (pr c) sXr) 0 ∗ reached ER (cell τ (pr c) sAr) 0)

/-- What each payment hands to the owner of its cell. -/
def pay : Fin 5 → Dev nD → sProp 𝕄 :=
  ![payBar, xPts X, fun c => oPts oV.view.set c (fullO X c), aPts A, fun c => bPts bV.view.set c (fullB A c)]

theorem pay_storable (j : Fin 5) (c : Dev nD) : BI.Storable (upEmb : UEmb _ 𝕄) (pay X A j c) := by
  match j with
  | 0 => exact (inferInstance : BI.Storable (upEmb : UEmb _ 𝕄) (payBar c))
  | 1 => exact (inferInstance : BI.Storable (upEmb : UEmb _ 𝕄) (xPts X c))
  | 2 => exact (inferInstance : BI.Storable (upEmb : UEmb _ 𝕄) (oPts oV.view.set c (fullO X c)))
  | 3 => exact (inferInstance : BI.Storable (upEmb : UEmb _ 𝕄) (aPts A c))
  | 4 => exact (inferInstance : BI.Storable (upEmb : UEmb _ 𝕄) (bPts bV.view.set c (fullB A c)))

instance pay_storable' (g : GSem nD τ sig) (r : ℕ) (d : Fin 5) : BI.Storable (upEmb : UEmb _ 𝕄) ((sched P (pay X A)).payload g r d) :=
  payload_storable P _ (pay_storable X A) g r d

abbrev Rd : Schedule (GSem nD τ sig) (Fin 5) 𝕄 := sched P (pay X A)

theorem at_bar : duesAt P sBar 0 = {0} := by decide
theorem at_xs : duesAt P sXs 0 = {1} := by decide
theorem at_xr : duesAt P sXr 0 = {2} := by decide
theorem at_as : duesAt P sAs 0 = {3} := by decide
theorem at_ar : duesAt P sAr 0 = {4} := by decide

theorem xs_amount : xM.view.dmaCredit = Nx := rfl
theorem as_amount : aM.view.dmaCredit = Na := rfl

/-- What a device holds when its cells are open. -/
def opened (κ : GSem nD τ sig → ℕ) (c : Dev nD) : sProp 𝕄 :=
  iprop(□ recs P (pay X A) So Sd κ
    ∗ atPos ER (cell τ c sBar) 0 ∅ 0
    ∗ (atPos ER (cell τ c sXs) 0 ∅ 0 ∗ reached ER (cell τ c sXs) 0)
    ∗ (atPos ER (cell τ c sXr) 0 ∅ 0 ∗ reached ER (cell τ c sXr) 0)
    ∗ (atPos ER (cell τ c sAs) 0 ∅ 0 ∗ reached ER (cell τ c sAs) 0)
    ∗ (atPos ER (cell τ c sAr) 0 ∅ 0 ∗ reached ER (cell τ c sAr) 0)
    ∗ dutyTok ER (cell τ (pr c) sBar) 0 0
    ∗ dutyTok ER (cell τ c sXs) 0 1 ∗ dutyTok ER (cell τ (pr c) sXr) 0 2
    ∗ dutyTok ER (cell τ c sAs) 0 3 ∗ dutyTok ER (cell τ (pr c) sAr) 0 4)

def creds (c : Dev nD) : sProp 𝕄 :=
  iprop(cred (tallyAt (cell τ c sBar) () 1) ∗ cred (tallyAt (cell τ c sXr) () Nx) ∗ cred (tallyAt (cell τ c sAr) () Na))

def runPre (κ : GSem nD τ sig → ℕ) (c : Dev nD) (W : Waits sig Unit) : sProp 𝕄 :=
  iprop(opened X A κ c ∗ creds c ∗ levAts L (lv rk) ∗ owes (c : Thread nD τ) (dues P J₀ c) W
    ∗ xPts X c ∗ aPts A c ∗ (∃ f, oPts Finset.univ c f) ∗ (∃ f, bPts Finset.univ c f))

def runPost (c : Dev nD) : sProp 𝕄 :=
  iprop((semVal (cell τ c sBar) 0 ∗ semVal (cell τ c sXs) 0 ∗ semVal (cell τ c sXr) 0 ∗ semVal (cell τ c sAs) 0 ∗ semVal (cell τ c sAr) 0)
    ∗ (∃ W, owes (c : Thread nD τ) 0 W)
    ∗ xPts X c ∗ aPts A c ∗ oPts Finset.univ c (fullO X c) ∗ bPts Finset.univ c (fullB A c))

abbrev 𝒱₀ : Variants := Variants.none

theorem hz2 : (![0, 0] : Fin 2 → Nat) = fun _ => 0 := funext fun a => by fin_cases a <;> rfl
theorem read_x (f : XT F) : xM.view.readAt (Elt F) (Rect.unit (s := S512x2048) ![0, 0] S512x2048.size inb_S512x2048_S512x2048_0_0).toLoadRect f = f :=
  Memref.readAt_unit_zero (Elt F) cc0_stg0_0 hz2 _ f
theorem read_a (f : AT F) : aM.view.readAt (Elt F) (Rect.unit (s := S512x1) ![0, 0] S512x1.size inb_S512x1_S512x1_0_0).toLoadRect f = f :=
  Memref.readAt_unit_zero (Elt F) cc0_stg1_0 hz2 _ f

theorem dues_0 (c : Dev nD) : dues P J₀ c = dues P J₂ c + tallyAt (cell τ (pr c) sBar) () 1 := dues_take P (j := 0) (by decide) c
theorem dues_2 (c : Dev nD) : dues P J₂ c = dues P J₄ c + tallyAt (cell τ (pr c) sXr) () Nx := dues_take P (j := 2) (by decide) c
theorem dues_4 (c : Dev nD) : dues P J₄ c = 0 + tallyAt (cell τ (pr c) sAr) () Na :=
  (dues_take P (j := 4) (by decide) c).trans (congrArg (· + _) (dues_empty P c))

/-- The copy of the rows to the other owner. -/
theorem send_x (κ : GSem nD τ sig → ℕ) (c n : Dev nD) (hn : n = pr c) {hsc : oV.view.ref.isScScratch = false}
    {hsrc : xM.view.WordExact} {hdst : oV.view.WordExact}
    {hsem : DmaTarget.Typed .vmem sXr (.remote (Dev.tc n : Thread nD τ) oV sXs hsc)}
    {α : Type} {Q : α → sProp 𝕄} {k : PUnit → Prog (TpuEff nD τ sig (Elt F) Λ₀ .tc) α} (W : Waits sig Unit) :
    iprop(recs P (pay X A) So Sd κ ∗ xPts X c ∗ (∃ f, oPts oV.view.set (pr c) f)
        ∗ owes (c : Thread nD τ) (dues P J₂ c) W
        ∗ dutyTok ER (cell τ c sXs) 0 1 ∗ reached ER (cell τ c sXs) 0
        ∗ dutyTok ER (cell τ (pr c) sXr) 0 2 ∗ reached ER (cell τ (pr c) sXr) 0)
      ⊢ iprop(((cred (tallyAt (cell τ c sXs) () Nx) ∗ owes (c : Thread nD τ) (dues P J₄ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oV sXs hsc) sXr hsrc hdst hsem) k) Q) := by
  subst hn
  iintro ⟨#Hr, Hx, ⟨%fn, Ho⟩, HO, Ht1, Hr1, Ht2, Hr2⟩ Hk
  iapply (Rounds.wp_send_pointsTo 𝒱₀ ER (Rd X A) (c : Thread nD τ) none (c' := (pr c : Thread nD τ)) (src := xM) (dst := oV)
      (sS := sXs) (sem := sXr) (q := fullShare) (fs := X c) (κ₁ := κ (cell τ c sXs)) (κ₂ := κ (cell τ (pr c) sXr))
      (r₁ := 0) (r₂ := 0) (d₁ := 1) (d₂ := 2) (fd := fn)
      (due_mem P (pay X A) 1 c) (due_mem P (pay X A) 2 (pr c)) () () Nx rfl rfl rfl (dues P J₄ c) (dues_2 c) (W := W)
      (BI.Entails.refl _)
      (Entails.of_eq (pointsTo_congr fun i hi => by
        show oV.view.write (Elt F) fn (X c) Finset.univ i = fullO X (pr c) i
        unfold fullO; rw [pr_pr]; exact landed_o _ _ _ i hi))) $$ [Hx Ho HO Ht1 Hr1 Ht2 Hr2]
  · isplitr; · iapply (recs_inv P (pay X A) So Sd κ (s := sXs) (by decide) c); iexact Hr
    isplitr; · iapply (recs_inv P (pay X A) So Sd κ (s := sXr) (by decide) (pr c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy of the assignments to the other owner. -/
theorem send_a (κ : GSem nD τ sig → ℕ) (c n : Dev nD) (hn : n = pr c) {hsc : bV.view.ref.isScScratch = false}
    {hsrc : aM.view.WordExact} {hdst : bV.view.WordExact}
    {hsem : DmaTarget.Typed .vmem sAr (.remote (Dev.tc n : Thread nD τ) bV sAs hsc)}
    {α : Type} {Q : α → sProp 𝕄} {k : PUnit → Prog (TpuEff nD τ sig (Elt F) Λ₀ .tc) α} (W : Waits sig Unit) :
    iprop(recs P (pay X A) So Sd κ ∗ aPts A c ∗ (∃ f, bPts bV.view.set (pr c) f)
        ∗ owes (c : Thread nD τ) (dues P J₄ c) W
        ∗ dutyTok ER (cell τ c sAs) 0 3 ∗ reached ER (cell τ c sAs) 0
        ∗ dutyTok ER (cell τ (pr c) sAr) 0 4 ∗ reached ER (cell τ (pr c) sAr) 0)
      ⊢ iprop(((cred (tallyAt (cell τ c sAs) () Na) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) bV sAs hsc) sAr hsrc hdst hsem) k) Q) := by
  subst hn
  iintro ⟨#Hr, Hx, ⟨%fn, Ho⟩, HO, Ht1, Hr1, Ht2, Hr2⟩ Hk
  iapply (Rounds.wp_send_pointsTo 𝒱₀ ER (Rd X A) (c : Thread nD τ) none (c' := (pr c : Thread nD τ)) (src := aM) (dst := bV)
      (sS := sAs) (sem := sAr) (q := fullShare) (fs := A c) (κ₁ := κ (cell τ c sAs)) (κ₂ := κ (cell τ (pr c) sAr))
      (r₁ := 0) (r₂ := 0) (d₁ := 3) (d₂ := 4) (fd := fn)
      (due_mem P (pay X A) 3 c) (due_mem P (pay X A) 4 (pr c)) () () Na rfl rfl rfl 0 (dues_4 c) (W := W)
      (BI.Entails.refl _)
      (Entails.of_eq (pointsTo_congr fun i hi => by
        show bV.view.write (Elt F) fn (A c) Finset.univ i = fullB A (pr c) i
        unfold fullB; rw [pr_pr]; exact landed_b _ _ _ i hi))) $$ [Hx Ho HO Ht1 Hr1 Ht2 Hr2]
  · isplitr; · iapply (recs_inv P (pay X A) So Sd κ (s := sAs) (by decide) c); iexact Hr
    isplitr; · iapply (recs_inv P (pay X A) So Sd κ (s := sAr) (by decide) (pr c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

theorem joined_o (c : Dev nD) (f : (cc0_stg2_0 : Ref sig .tc).ty.Contents (Elt F)) :
    iprop(oPts oV.view.set c f ∗ oPts (Finset.univ \ oV.view.set) c f) ⊢ (oPts Finset.univ c f : sProp 𝕄) :=
  (pointsTo_join_subset (Finset.subset_univ _)).trans (Entails.of_eq (by rw [Finset.piecewise_same]))
theorem joined_b (c : Dev nD) (f : (cc0_stg3_0 : Ref sig .tc).ty.Contents (Elt F)) :
    iprop(bPts bV.view.set c f ∗ bPts (Finset.univ \ bV.view.set) c f) ⊢ (bPts Finset.univ c f : sProp 𝕄) :=
  (pointsTo_join_subset (Finset.subset_univ _)).trans (Entails.of_eq (by rw [Finset.piecewise_same]))

set_option maxHeartbeats 1600000 in
/-- The body of the kernel, run under the protocol. -/
theorem run (κ : GSem nD τ sig → ℕ) (c : Dev nD) (W : Waits sig Unit) (Kt : PUnit → sProp 𝕄) :
    iprop(runPre X A κ c W ∗ (runPost X A c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            cc0_scratch0 cc0_scratch1 cc0_scratch2 cc0_scratch3) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold runPre opened creds
  iintro ⟨⟨⟨#HR, HatB, ⟨HatXs, #HrXs⟩, ⟨HatXr, #HrXr⟩, ⟨HatAs, #HrAs⟩, ⟨HatAr, #HrAr⟩, HtB, HtXs, HtXr, HtAs, HtAr⟩,
    ⟨HcB, HcXr, HcAr⟩, #Hlev, HO, Hx, Ha, ⟨%fo, Ho⟩, ⟨%fb, Hb⟩⟩, Hk⟩
  ihave Ho2 := (pointsTo_split_subset (Finset.subset_univ oV.view.set)).1 $$ Ho
  icases Ho2 with ⟨Ho1, Ho0⟩
  ihave Hb2 := (pointsTo_split_subset (Finset.subset_univ bV.view.set)).1 $$ Hb
  icases Hb2 with ⟨Hb1, Hb0⟩
  simp only [dev1_eq c]
  rw [dues_0 c]
  -- the signal hands the other owner this device's landing slots
  iapply (Rounds.wp_signal 𝒱₀ ER (Rd X A) (c : Thread nD τ) none (dst := (pr c : Thread nD τ)) (sem := barS) (r := 0) (d := 0) (κ := κ (cell τ (pr c) sBar))
      (due_mem P (pay X A) 0 (pr c)) rfl () (dues P J₂ c) rfl) $$ [HO HtB Ho1 Hb1]
  · isplitr; · iapply (recs_inv P (pay X A) So Sd κ (s := sBar) (by decide) (pr c)); iexact HR
    isplitl [HO]; · iexact HO
    isplitl [HtB]; · iexact HtB
    isplitl [Ho1 Hb1]
    · rw [show (Rd X A).payload (cell τ (pr c) sBar) 0 0 = payBar (pr c) from rfl]
      unfold payBar
      rw [pr_pr]
      isplitl [Ho1]; · iexists fo; iexact Ho1
      isplitl [Hb1]; · iexists fb; iexact Hb1
      isplitr; · iexact HrXr
      iexact HrAr
    iapply (recs_reached P (pay X A) So Sd κ (s := sBar) (by decide) (pr c)); iexact HR
  iintro HO
  -- the wait for the other owner's signal brings its landing slots
  iapply (Rounds.wp_wait_rest_token 𝒱₀ ER (Rd X A) (c : Thread nD τ) none (κ := κ (cell τ c sBar))
      (wpE_semWait_eq 𝒱₀ (c : Thread nD τ) none Set.univ) (Set.mem_univ _) () (O := dues P J₂ c) (W := W) (R := 0) (m := 0) (T := ∅)
      ((Nat.zero_add 1).trans (by rw [expect_at, at_bar]; rfl))) $$ [HcB HO HatB]
  · isplitr; · iapply (recs_inv P (pay X A) So Sd κ (s := sBar) (by decide) c); iexact HR
    isplitl [HcB]; · iexact HcB
    isplitl [HO]; · iexact HO
    isplitr; · iapply (mayWait P rk c sBar J₂ (by decide)); iexact Hlev
    iexact HatB
  iintro ⟨HO, HatB, -, Hpay⟩
  ihave Hp := (Entails.of_eq ((rest_at P (pay X A) c sBar 0).trans (by rw [at_bar, bigSep_singleton]; rfl : _ = payBar c))) $$ Hpay
  unfold payBar
  icases Hp with ⟨Hon, Hbn, #HrXn, #HrAn⟩
  -- the own rows go to the first slot
  iapply (wp_load 𝒱₀ (c : Thread nD τ) none Set.univ (m := xM) (S := xM.view.set) (fun i _ => by rw [View.set_whole]; exact Finset.mem_univ i)) $$ Hx
  iintro Hx
  rw [read_x]
  iapply (wp_load_rect 𝒱₀ (c : Thread nD τ) none Set.univ (m := oM) (r := oR0) (by rw [← View.setOn_univ]; have h := o0_set; rw [← oV_set] at h; exact h)) $$ Ho0
  iintro Ho0
  iapply (wp_store 𝒱₀ (c : Thread nD τ) none Set.univ (m := oM) (r := oR0) (Mk := Finset.univ) (by have h := o0_set; rw [← oV_set] at h; exact h)) $$ Ho0
  iintro Ho0
  iapply (wp_load 𝒱₀ (c : Thread nD τ) none Set.univ (m := aM) (S := aM.view.set) (fun i _ => by rw [View.set_whole]; exact Finset.mem_univ i)) $$ Ha
  iintro Ha
  rw [read_a]
  iapply (wp_load_rect 𝒱₀ (c : Thread nD τ) none Set.univ (m := bM) (r := bR0) (by rw [← View.setOn_univ]; have h := b0_set; rw [← bV_set] at h; exact h)) $$ Hb0
  iintro Hb0
  iapply (wp_store 𝒱₀ (c : Thread nD τ) none Set.univ (m := bM) (r := bR0) (Mk := Finset.univ) (by have h := b0_set; rw [← bV_set] at h; exact h)) $$ Hb0
  iintro Hb0
  -- the two copies to the other owner
  iapply (send_x X A κ c _ (dev2_eq c) _) $$ [Hx Hon HO HtXs HtXr]
  · isplitr; · iexact HR
    isplitl [Hx]; · iexact Hx
    isplitl [Hon]; · iexact Hon
    isplitl [HO]; · iexact HO
    isplitl [HtXs]; · iexact HtXs
    isplitr; · iexact HrXs
    isplitl [HtXr]; · iexact HtXr
    iexact HrXn
  iintro ⟨HcXs, HO⟩
  iapply (send_a X A κ c _ (dev3_eq c) _) $$ [Ha Hbn HO HtAs HtAr]
  · isplitr; · iexact HR
    isplitl [Ha]; · iexact Ha
    isplitl [Hbn]; · iexact Hbn
    isplitl [HO]; · iexact HO
    isplitl [HtAs]; · iexact HtAs
    isplitr; · iexact HrAs
    isplitl [HtAr]; · iexact HtAr
    iexact HrAn
  iintro ⟨HcAs, HO⟩
  -- the four waits
  iapply (Rounds.wp_wait_rest_token 𝒱₀ ER (Rd X A) (c : Thread nD τ) none (κ := κ (cell τ c sXs))
      (wpE_waitDma2_eq 𝒱₀ (c : Thread nD τ) none Set.univ) (Set.mem_univ _) () (O := 0) (R := 0) (m := 0) (T := ∅)
      ((Nat.zero_add _).trans (by rw [expect_at, at_xs]; rfl))) $$ [HcXs HO HatXs]
  · isplitr; · iapply (recs_inv P (pay X A) So Sd κ (s := sXs) (by decide) c); iexact HR
    isplitl [HcXs]; · iexact HcXs
    isplitl [HO]; · iexact HO
    isplitr; · rw [MayWait_zero]; iempintro
    iexact HatXs
  iintro ⟨HO, HatXs, -, Hpay⟩
  ihave Hx := (Entails.of_eq ((rest_at P (pay X A) c sXs 0).trans (by rw [at_xs, bigSep_singleton]; rfl : _ = xPts X c))) $$ Hpay
  iapply (Rounds.wp_wait_rest_token 𝒱₀ ER (Rd X A) (c : Thread nD τ) none (κ := κ (cell τ c sXr))
      (wpE_waitDma2_eq 𝒱₀ (c : Thread nD τ) none Set.univ) (Set.mem_univ _) () (O := 0) (R := 0) (m := 0) (T := ∅)
      ((Nat.zero_add _).trans (by rw [expect_at, at_xr]; rfl))) $$ [HcXr HO HatXr]
  · isplitr; · iapply (recs_inv P (pay X A) So Sd κ (s := sXr) (by decide) c); iexact HR
    isplitl [HcXr]; · iexact HcXr
    isplitl [HO]; · iexact HO
    isplitr; · rw [MayWait_zero]; iempintro
    iexact HatXr
  iintro ⟨HO, HatXr, -, Hpay⟩
  ihave Ho1 := (Entails.of_eq ((rest_at P (pay X A) c sXr 0).trans (by rw [at_xr, bigSep_singleton]; rfl : _ = oPts oV.view.set c (fullO X c)))) $$ Hpay
  iapply (Rounds.wp_wait_rest_token 𝒱₀ ER (Rd X A) (c : Thread nD τ) none (κ := κ (cell τ c sAs))
      (wpE_waitDma2_eq 𝒱₀ (c : Thread nD τ) none Set.univ) (Set.mem_univ _) () (O := 0) (R := 0) (m := 0) (T := ∅)
      ((Nat.zero_add _).trans (by rw [expect_at, at_as]; rfl))) $$ [HcAs HO HatAs]
  · isplitr; · iapply (recs_inv P (pay X A) So Sd κ (s := sAs) (by decide) c); iexact HR
    isplitl [HcAs]; · iexact HcAs
    isplitl [HO]; · iexact HO
    isplitr; · rw [MayWait_zero]; iempintro
    iexact HatAs
  iintro ⟨HO, HatAs, -, Hpay⟩
  ihave Ha := (Entails.of_eq ((rest_at P (pay X A) c sAs 0).trans (by rw [at_as, bigSep_singleton]; rfl : _ = aPts A c))) $$ Hpay
  iapply (Rounds.wp_wait_rest_token 𝒱₀ ER (Rd X A) (c : Thread nD τ) none (κ := κ (cell τ c sAr))
      (wpE_waitDma2_eq 𝒱₀ (c : Thread nD τ) none Set.univ) (Set.mem_univ _) () (O := 0) (R := 0) (m := 0) (T := ∅)
      ((Nat.zero_add _).trans (by rw [expect_at, at_ar]; rfl))) $$ [HcAr HO HatAr]
  · isplitr; · iapply (recs_inv P (pay X A) So Sd κ (s := sAr) (by decide) c); iexact HR
    isplitl [HcAr]; · iexact HcAr
    isplitl [HO]; · iexact HO
    isplitr; · rw [MayWait_zero]; iempintro
    iexact HatAr
  iintro ⟨HO, HatAr, -, Hpay⟩
  ihave Hb1 := (Entails.of_eq ((rest_at P (pay X A) c sAr 0).trans (by rw [at_ar, bigSep_singleton]; rfl : _ = bPts bV.view.set c (fullB A c)))) $$ Hpay
  -- every counter comes back at zero
  rw [wp_ret]
  imod (close_at P (pay X A) c sBar (κ (cell τ c sBar)) 1 (fun _ _ => Nat.one_pos)) $$ [HatB] with Hv0
  · isplitr; · iapply (recs_inv P (pay X A) So Sd κ (s := sBar) (by decide) c); iexact HR
    iexact HatB
  imod (close_at P (pay X A) c sXs (κ (cell τ c sXs)) 1 (fun _ _ => Nat.one_pos)) $$ [HatXs] with Hv1
  · isplitr; · iapply (recs_inv P (pay X A) So Sd κ (s := sXs) (by decide) c); iexact HR
    iexact HatXs
  imod (close_at P (pay X A) c sXr (κ (cell τ c sXr)) 1 (fun _ _ => Nat.one_pos)) $$ [HatXr] with Hv2
  · isplitr; · iapply (recs_inv P (pay X A) So Sd κ (s := sXr) (by decide) c); iexact HR
    iexact HatXr
  imod (close_at P (pay X A) c sAs (κ (cell τ c sAs)) 1 (fun _ _ => Nat.one_pos)) $$ [HatAs] with Hv3
  · isplitr; · iapply (recs_inv P (pay X A) So Sd κ (s := sAs) (by decide) c); iexact HR
    iexact HatAs
  imod (close_at P (pay X A) c sAr (κ (cell τ c sAr)) 1 (fun _ _ => Nat.one_pos)) $$ [HatAr] with Hv4
  · isplitr; · iapply (recs_inv P (pay X A) So Sd κ (s := sAr) (by decide) c); iexact HR
    iexact HatAr
  imodintro
  iapply Hk
  unfold runPost
  isplitl [Hv0 Hv1 Hv2 Hv3 Hv4]
  · isplitl [Hv0]; · iexact Hv0
    isplitl [Hv1]; · iexact Hv1
    isplitl [Hv2]; · iexact Hv2
    isplitl [Hv3]; · iexact Hv3
    iexact Hv4
  isplitl [HO]; · iexists _; iexact HO
  isplitl [Hx]; · iexact Hx
  isplitl [Ha]; · iexact Ha
  isplitl [Ho0 Ho1]
  · iapply (joined_o c (fullO X c))
    isplitl [Ho1]; · iexact Ho1
    iapply (Entails.of_eq (pointsTo_congr fun i hi => stored_o (X c) (X (pr c)) fo i (by rw [← oV_set]; exact hi))) $$ Ho0
  iapply (joined_b c (fullB A c))
  isplitl [Hb1]; · iexact Hb1
  iapply (Entails.of_eq (pointsTo_congr fun i hi => stored_b (A c) (A (pr c)) fb i (by rw [← bV_set]; exact hi))) $$ Hb0

end Cert.KernelIdeal.Exch

end
-- ==== Proof.Region.lean ====
module

public import proofs.«01_k».proof.Proof.Talking
public import Idealize.ShloMosaic.Lib.Pipeline.Frame
public import Idealize.ShloMosaic.Lib.Pipeline.ValueKit

/-! The exchange as a program: its body in the pipeline, its launch, and what every run of it leaves. -/

@[expose] public section

noncomputable section

namespace Cert.KernelIdeal.Exch

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk

variable {F : FTy → Type} [FloatOps F]

local notation "𝕄" => MT nD τ sig Unit (Elt F) ℕ (UU nD τ sig 5) ℕ

variable (m : (ℓ : Loc nD τ sig) → Buf (Elt F) ℓ) (ρ : Dev nD → PrngReg)

/-! ## What is staged -/

/-- A device's rows and their assignments, as the pipeline stages them. -/
def Xs (c : Dev nD) : XT F := ((cfg0.win 0).blk t0_0).view.read (Elt F) (m ((c : Thread nD τ).loc main_arg0))
def As (c : Dev nD) : AT F := ((cfg0.win 1).blk t0_0).view.read (Elt F) (m ((c : Thread nD τ).loc main_arg1))

abbrev osem : Fin 4 → SemLoc sig := ![sXs, sXr, sAs, sAr]

/-- What enters the kernel with its buffers, and what leaves it. -/
def Xk (c : Dev nD) : sProp 𝕄 := iprop((∃ κ, opened (Xs m) (As m) κ c) ∗ creds c ∗ levAts L (lv rk))
def Yk (c : Dev nD) : sProp 𝕄 := semVal (cell τ c sBar) 0
def dmaZero (c : Dev nD) : sProp 𝕄 :=
  iprop(semVal (cell τ c sXs) 0 ∗ semVal (cell τ c sXr) 0 ∗ semVal (cell τ c sAs) 0 ∗ semVal (cell τ c sAr) 0)

def dat (c : Dev nD) : Dat τ (Elt F) Unit ℕ (UU nD τ sig 5) ℕ cfg0 c where
  A w := m ((cfg0.win w).arr.view.loc (c : Thread nD τ))
  after w _ := match w with
    | ⟨0, _⟩ => Xs m c
    | ⟨1, _⟩ => As m c
    | ⟨2, _⟩ => fullO (Xs m) c
    | ⟨3, _⟩ => fullB (As m) c
  Φ t := match t with
    | ⟨0, _⟩ => iprop(Xk m c ∗ ∃ r, prngReg c r)
    | ⟨_ + 1, _⟩ => iprop(Yk c ∗ dmaZero c ∗ ∃ r, prngReg c r)
  q _ := fullShare
  owed t := if t.val = 0 then dues P J₀ c else 0

abbrev adm : (p : Fin 1) → (pcfgs (F := F) p).Adm := fun p => (cfgs p).toPCfg_adm
def pdats (p : Fin 1) (c : Dev nD) : Dat τ (Elt F) Unit ℕ (UU nD τ sig 5) ℕ (Pipeline.pin (pcfgs (F := F)) adm p) c :=
  match p with
  | 0 => dat m c

/-! ## The body -/

theorem owed_first (c : Dev nD) : (dat m c).owed t0_0.castSucc = dues P J₀ c := by
  show (if t0_0.castSucc.val = 0 then dues P J₀ c else 0) = _; exact if_pos rfl
theorem owed_last (c : Dev nD) : (dat m c).owed t0_0.succ = 0 := by
  show (if t0_0.succ.val = 0 then dues P J₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Z : b.ty.Contents (Elt F)) :
    (owns (Ix := Unit) (Name := ℕ) (U := UU nD τ sig 5) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop((Xk m c ∗ ∃ r, prngReg c r) ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((Yk c ∗ dmaZero c ∗ ∃ r, prngReg c r) ∗ (dat m c).owesAt () t0_0.succ
    ∗ stg c cc0_stg0_0 (Xs m c) ∗ stg c cc0_stg1_0 (As m c)
    ∗ stg c cc0_stg2_0 (fullO (Xs m) c) ∗ stg c cc0_stg3_0 (fullB (As m) c))

theorem whole_pts (c : Dev nD) (b : Ref sig .tc) (f : Buf (Elt F) (((c : Dev nD) : Thread nD τ).loc b)) :
    (((c : Thread nD τ).loc b) ↦{fullShare} f : sProp 𝕄) = ((Memref.whole b).view.loc (c : Thread nD τ) ↦[(Memref.whole b).view.set]{fullShare} f) := by
  show _ = (((c : Thread nD τ).loc b) ↦[(View.whole b).set]{fullShare} f)
  rw [View.set_whole]

theorem sound_body (c : Dev nD) :
    bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            cc0_scratch0 cc0_scratch1 cc0_scratch2 cc0_scratch3) (fun _ => bodyPost m c) := by
  unfold bodyPre Xk
  iintro ⟨⟨⟨⟨%κ, Hop⟩, Hcr, #Hlev⟩, Hp⟩, HO, ⟨%d0, %g0, %hg0, Hx⟩, ⟨%d1, %g1, %hg1, Ha⟩, ⟨%d2, %g2, -, Ho⟩, ⟨%d3, %g3, -, Hb⟩⟩
  have hx : g0 = Xs m c := by rw [hg0]; unfold Dat.before; rw [if_pos (fetch0_0 t0_0)]; rfl
  have ha : g1 = As m c := by rw [hg1]; unfold Dat.before; rw [if_pos (fetch0_1 t0_0)]; rfl
  subst hx ha
  ihave HO' := (owesAt_elim m c _ _ (owed_first m c)) $$ HO
  icases HO' with ⟨%W, HO⟩
  iapply (run (Xs m) (As m) κ c W (fun _ => bodyPost m c))
  isplitl [Hop Hcr HO Hx Ha Ho Hb]
  · unfold runPre
    isplitl [Hop]; · iexact Hop
    isplitl [Hcr]; · iexact Hcr
    isplitr; · iexact Hlev
    isplitl [HO]; · iexact HO
    isplitl [Hx]; · iapply (Entails.of_eq (whole_pts c cc0_stg0_0 (Xs m c))) $$ Hx
    isplitl [Ha]; · iapply (Entails.of_eq (whole_pts c cc0_stg1_0 (As m c))) $$ Ha
    isplitl [Ho]; · iexists g2; iexact Ho
    iexists g3; iexact Hb
  unfold runPost bodyPost
  iintro ⟨⟨Hv0, Hv1, Hv2, Hv3, Hv4⟩, ⟨%W', HO⟩, Hx, Ha, Ho, Hb⟩
  isplitl [Hv0 Hv1 Hv2 Hv3 Hv4 Hp]
  · isplitl [Hv0]; · unfold Yk; iexact Hv0
    isplitr [Hp]
    · unfold dmaZero
      isplitl [Hv1]; · iexact Hv1
      isplitl [Hv2]; · iexact Hv2
      isplitl [Hv3]; · iexact Hv3
      iexact Hv4
    iexact Hp
  isplitl [HO]; · iapply (owesAt_intro m c t0_0.succ 0 (owed_last m c) W'); iexact HO
  isplitl [Hx]
  · iexists (Xs m c); isplitr; · ipureintro; rfl
    iapply (Entails.of_eq (whole_pts c cc0_stg0_0 (Xs m c)).symm) $$ Hx
  isplitl [Ha]
  · iexists (As m c); isplitr; · ipureintro; rfl
    iapply (Entails.of_eq (whole_pts c cc0_stg1_0 (As m c)).symm) $$ Ha
  isplitl [Ho]
  · iexists (fullO (Xs m) c); isplitr; · ipureintro; rfl
    iexact Ho
  iexists (fullB (As m) c); isplitr; · ipureintro; rfl
  iexact Hb

theorem body_obligation (c : Dev nD) : BodyObligation (dat (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            cc0_scratch0 cc0_scratch1 cc0_scratch2 cc0_scratch3) (fun _ => bodyPost m c)
  exact sound_body m c

/-! ## The region -/

abbrev V₀ (c : Dev nD) : Valuation τ sig (Elt F) := fun b => m ((c : Dev nD), b)
/-- The buffers after the exchange. -/
def V₁ (c : Dev nD) : Valuation τ sig (Elt F) :=
  Function.update (Function.update (V₀ m c) (Proc.devRef .tc main_v1_0) ((dat m c).arrAt 2 cfg0.N))
    (Proc.devRef .tc main_v1_1) ((dat m c).arrAt 3 cfg0.N)

theorem V₁_arg0 (c : Dev nD) : V₁ m c (Proc.devRef .tc main_arg0) = m ((c : Thread nD τ).loc main_arg0) := by
  unfold V₁; rw [Function.update_of_ne (by decide), Function.update_of_ne (by decide)]
theorem V₁_arg1 (c : Dev nD) : V₁ m c (Proc.devRef .tc main_arg1) = m ((c : Thread nD τ).loc main_arg1) := by
  unfold V₁; rw [Function.update_of_ne (by decide), Function.update_of_ne (by decide)]
theorem V₁_out0 (c : Dev nD) : V₁ m c (Proc.devRef .tc main_v1_0) = (dat m c).arrAt 2 cfg0.N := by
  unfold V₁; rw [Function.update_of_ne (by decide), Function.update_self]
theorem V₁_out1 (c : Dev nD) : V₁ m c (Proc.devRef .tc main_v1_1) = (dat m c).arrAt 3 cfg0.N := by
  unfold V₁; rw [Function.update_self]

theorem bigSep_fin4 (Φ : Fin 4 → sProp 𝕄) : bigSep Finset.univ Φ = iprop(Φ 0 ∗ Φ 1 ∗ Φ 2 ∗ Φ 3) := bigSep_W0 Φ
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ownSems_eq (c : Dev nD) : (Pipeline.ownSems0 osem c : sProp 𝕄) = dmaZero c :=
  bigSep_fin4 (fun k : Fin 4 => (semVal ((c : Thread nD τ), osem k) 0 : sProp 𝕄))

theorem overSd (Φ : SemLoc sig → sProp 𝕄) : bigSep Sd Φ = iprop(Φ sXs ∗ Φ sXr ∗ Φ sAs ∗ Φ sAr) := by
  unfold Sd
  rw [bigSep_insert (by decide), bigSep_insert (by decide), bigSep_insert (by decide), bigSep_singleton]; rfl
theorem overSo (Φ : SemLoc sig → sProp 𝕄) : bigSep So Φ = Φ sBar := by unfold So; rw [bigSep_singleton]
theorem overJ (Φ : Fin 5 → sProp 𝕄) : bigSep J₀ Φ = iprop(Φ 0 ∗ Φ 2 ∗ Φ 4) := by
  unfold J₀
  rw [bigSep_insert (by decide), bigSep_insert (by decide), bigSep_singleton]; rfl

/-- What a device carries from the launch to the kernel. -/
def Tk (c : Dev nD) : sProp 𝕄 := iprop((∃ κ, □ recs P (pay (Xs m) (As m)) So Sd κ ∗ mine P So Sd c) ∗ creds c)

theorem hopen (c : Dev nD) : iprop(Tk m c ∗ Pipeline.ownSems0 osem c ∗ levAts L (lv rk)) ⊢ (|={Set.univ}=> Xk m c : sProp 𝕄) := by
  rw [ownSems_eq]
  unfold Tk Xk mine dmaZero
  rw [overSd, overSo, bigSep_fin5]
  iintro ⟨⟨⟨%κ, #HR, HatB, ⟨Ho1, Ho2, Ho3, Ho4⟩, Ht0, Ht1, Ht2, Ht3, Ht4⟩, Hcr⟩, ⟨Hv1, Hv2, Hv3, Hv4⟩, #Hlev⟩
  imod (Rounds.cell_open ER (Rd (Xs m) (As m)) (g := cell τ c sXs) (Set.mem_univ (κ (cell τ c sXs)))) $$ [Ho1 Hv1] with ⟨Hat1, #Hr1⟩
  · isplitr; · iapply (recs_inv P (pay (Xs m) (As m)) So Sd κ (s := sXs) (by decide) c); iexact HR
    isplitl [Ho1] <;> iassumption
  imod (Rounds.cell_open ER (Rd (Xs m) (As m)) (g := cell τ c sXr) (Set.mem_univ (κ (cell τ c sXr)))) $$ [Ho2 Hv2] with ⟨Hat2, #Hr2⟩
  · isplitr; · iapply (recs_inv P (pay (Xs m) (As m)) So Sd κ (s := sXr) (by decide) c); iexact HR
    isplitl [Ho2] <;> iassumption
  imod (Rounds.cell_open ER (Rd (Xs m) (As m)) (g := cell τ c sAs) (Set.mem_univ (κ (cell τ c sAs)))) $$ [Ho3 Hv3] with ⟨Hat3, #Hr3⟩
  · isplitr; · iapply (recs_inv P (pay (Xs m) (As m)) So Sd κ (s := sAs) (by decide) c); iexact HR
    isplitl [Ho3] <;> iassumption
  imod (Rounds.cell_open ER (Rd (Xs m) (As m)) (g := cell τ c sAr) (Set.mem_univ (κ (cell τ c sAr)))) $$ [Ho4 Hv4] with ⟨Hat4, #Hr4⟩
  · isplitr; · iapply (recs_inv P (pay (Xs m) (As m)) So Sd κ (s := sAr) (by decide) c); iexact HR
    isplitl [Ho4] <;> iassumption
  imodintro
  isplitr [Hcr]
  · iexists κ
    unfold opened
    isplitr; · iexact HR
    isplitl [HatB]; · iexact HatB
    isplitl [Hat1]; · isplitl [Hat1]; · iexact Hat1
                      iexact Hr1
    isplitl [Hat2]; · isplitl [Hat2]; · iexact Hat2
                      iexact Hr2
    isplitl [Hat3]; · isplitl [Hat3]; · iexact Hat3
                      iexact Hr3
    isplitl [Hat4]; · isplitl [Hat4]; · iexact Hat4
                      iexact Hr4
    isplitl [Ht0]; · iexact Ht0
    isplitl [Ht1]; · iexact Ht1
    isplitl [Ht2]; · iexact Ht2
    isplitl [Ht3]; · iexact Ht3
    iexact Ht4
  isplitl [Hcr]; · iexact Hcr
  iexact Hlev

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = iprop(Xk m c ∗ ∃ r, prngReg c r) from rfl]
  iintro ⟨-, Hp, -, HX⟩
  isplitl [HX]; · iexact HX
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last (Pipeline.pin (pcfgs (F := F)) adm 0).N) = iprop(Yk c ∗ dmaZero c ∗ ∃ r, prngReg c r) from rfl, ownSems_eq,
    show (Pipeline.scopedRest (Pipeline.pin (pcfgs (F := F)) adm 0).spec c : sProp 𝕄) = BI.emp from scopedRest0_eq c, held_none]
  iintro ⟨HY, Hs, Hp⟩
  isplitr; · iempintro
  isplitl [Hp]; · iexact Hp
  isplitr; · iempintro
  isplitl [Hs]; · iexact Hs
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rk_pos (j : Fin 5) (h : j ∈ J₀) : 0 < rk (P.sm j) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv rk g i := by
  have e : (pdats (F := F) m 0 c).owed t = if t.val = 0 then dues P J₀ c else 0 := rfl
  rw [e] at h
  split at h
  · obtain ⟨j, hj, rfl⟩ := dues_pos P h
    exact ⟨by rw [L_cell]; exact Finset.mem_singleton_self _, rk_pos j hj⟩
  · exact absurd h (Nat.lt_irrefl 0)

theorem cut_in (c : Dev nD) (w : Fin 4) (s : Fin (spec0 w).nbuf) : rk (SemLoc.dma ((spec0 w).sem s)) ≤ 0 := by
  revert s; revert w; decide

theorem share_full (c : Dev nD) (w : Fin 4) : (dat m c).share w = fullShare := by
  unfold Dat.share; split <;> rfl

theorem arr_first (c : Dev nD) (w : Fin 4) : (dat m c).arrAt w 0 = V₀ m c (Proc.devRef .tc (Pipeline.arrRef spec0 w)) := by
  fin_cases w <;> rfl
theorem arr_last (c : Dev nD) (w : Fin 4) : (dat m c).arrAt w cfg0.N = V₁ m c (Proc.devRef .tc (Pipeline.arrRef spec0 w)) := by
  match w with
  | 0 => exact ((dat m c).arrAt_in 0 rfl _).trans (V₁_arg0 m c).symm
  | 1 => exact ((dat m c).arrAt_in 1 rfl _).trans (V₁_arg1 m c).symm
  | 2 => exact (V₁_out0 m c).symm
  | 3 => exact (V₁_out1 m c).symm

set_option backward.isDefEq.respectTransparency.types false in
def reg : Pipeline.RegionSeg (pcfgs (F := F)) adm (pdats m) () defs₀ 𝒱₀ L (lv rk) 0 :=
  Pipeline.RegionSeg.ofTalk (pcfgs (F := F)) adm (pdats m) () defs₀ 𝒱₀ L (lv rk) 0 osem (by decide : Pipeline.OwnSemFacts spec0 osem)
    ∅ ∅ (Finset.Subset.refl _) kitP rfl (fun c => (body_obligation m c).loose)
    (fun _ => 0) (fun c => dues P J₀ c) (fun c => (owed_first m c).trans (zero_add _).symm) (owed_last m) (fun _ => rfl) (share_full m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_cell]; exact Finset.mem_singleton_self _, fun c w s => cut_in c w s, fun c t g i h => cutD m c t g i h⟩
    (fun _ => iprop(emp))
    (fun c w => arr_first m c w) (fun c w => arr_last m c w)

end Cert.KernelIdeal.Exch

end
-- ==== Proof.Run.lean ====
module

public import proofs.«01_k».proof.Proof.Region
public import Idealize.ShloMosaic.Lib.Quiescent
public import Idealize.ShloMosaic.Adequacy
public import Idealize.ShloMosaic.Harness.Basic
public import Idealize.ShloMosaic.Init

/-! The launch of the exchange on all sixteen devices, and what every run of it leaves. -/

@[expose] public section

noncomputable section

namespace Cert.KernelIdeal.Exch

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Idealize.ShloMosaic.Smoke (bigSep_pair bigSep_unpair)

variable {F : FTy → Type} [FloatOps F]

local notation "𝕄" => MT nD τ sig Unit (Elt F) ℕ (UU nD τ sig 5) ℕ

variable (m : (ℓ : Loc nD τ sig) → Buf (Elt F) ℓ) (ρ : Dev nD → PrngReg)

abbrev arrs : Finset (DevRef τ sig) := Pipeline.arrRefs (τ := τ) spec0

theorem arrs_uc : Pipeline.ucRefs τ sig = arrs := by decide

theorem held_arrs (c : Dev nD) (W : Valuation τ sig (Elt F)) :
    (StableHlo.held (c.tc : Thread nD τ) arrs W : sProp 𝕄)
      = iprop((((c : Thread nD τ).loc main_arg0) ↦{fullShare} W (Proc.devRef .tc main_arg0))
        ∗ (((c : Thread nD τ).loc main_arg1) ↦{fullShare} W (Proc.devRef .tc main_arg1))
        ∗ (((c : Thread nD τ).loc main_v1_0) ↦{fullShare} W (Proc.devRef .tc main_v1_0))
        ∗ (((c : Thread nD τ).loc main_v1_1) ↦{fullShare} W (Proc.devRef .tc main_v1_1))) := by
  unfold StableHlo.held arrs Pipeline.arrRefs
  rw [bigSep_map, show (Finset.univ.image (Pipeline.arrRef spec0) : Finset (Ref sig .tc))
      = Finset.univ.map ⟨Pipeline.arrRef spec0, winFacts0.arr_inj⟩ from (Finset.map_eq_image ⟨Pipeline.arrRef spec0, winFacts0.arr_inj⟩ Finset.univ).symm,
    bigSep_map, bigSep_W0]
  rfl

theorem unscopedSems_eq (c : Dev nD) : (unscopedSems0 c : sProp 𝕄) = semVal (cell τ c sBar) 0 := by
  unfold unscopedSems0
  rw [show (Finset.univ.filter fun sm : SemLoc sig => ¬ sm.isScoped .tc) = {sBar} from by decide, BI.bigSep_singleton]

/-- Ghost state of the whole machine, dealt at the first device. -/
def G (c : Dev nD) : sProp 𝕄 := if c = 0 then BI.own (ER (elt P So Sd τ)) else iprop(emp)

theorem G_all : bigSep Finset.univ (G (F := F)) = BI.own (ER (elt P So Sd τ)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def u₀ : UU nD τ sig 5 :=
  (initOf (Pipeline.cells (Pipeline.pin (pcfgs (F := F)) adm) cellOf_inj) (Pipeline.launchToks (Pipeline.pin (pcfgs (F := F)) adm) cellOf_inj), elt P So Sd τ)

/-- What a device holds when the program starts, and when it ends. -/
def T₀ (c : Dev nD) : sProp 𝕄 :=
  iprop(StableHlo.held (c.tc : Thread nD τ) arrs (V₀ m c) ∗ (∃ r, prngReg c r)
    ∗ (StableHlo.held (c.tc : Thread nD τ) ∅ (V₀ m c) ∗ emp) ∗ Tk m c ∗ ∃ Wd, owes (c : Thread nD τ) (0 + dues P J₀ c) Wd)
def Tₙ (c : Dev nD) : sProp 𝕄 := iprop(StableHlo.held (c.tc : Thread nD τ) arrs (V₁ m c) ∗ semVal (cell τ c sBar) 0)

def bundle (c : Dev nD) : sProp 𝕄 :=
  iprop(StableHlo.held (c.tc : Thread nD τ) arrs (V₀ m c) ∗ (∃ r, prngReg c r) ∗ creds c ∗ owes (c : Thread nD τ) (dues P J₀ c) ∅)

theorem T₀_intro (κ : GSem nD τ sig → ℕ) (c : Dev nD) :
    iprop((□ recs P (pay (Xs m) (As m)) So Sd κ) ∗ (mine P So Sd c ∗ bundle m c)) ⊢ T₀ m c := by
  unfold bundle T₀ Tk
  rw [held_none, zero_add]
  iintro ⟨#HR, Hl, Hh, Hp, Hc, HO⟩
  isplitl [Hh]; · iexact Hh
  isplitl [Hp]; · iexact Hp
  isplitr; · isplitr <;> iempintro
  isplitr [HO]
  · isplitl [Hl]
    · iexists κ
      isplitr; · iexact HR
      iexact Hl
    iexact Hc
  iexists ∅; iexact HO

theorem init :
    iprop((bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c)) ∗ levAts L (lv rk))
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dues P J₀ c) ∅ ∗ Pipeline.launchCred (fun c => dues P J₀ c) c ∗ prngReg c (ρ c) ∗ G c)
      ⊢ (iprop(bundle m c ∗ ((bigSep So fun s => semVal (cell τ c s) 0) ∗ G c)) : sProp 𝕄) := by
    rw [show (unscopedBufs c (fun b => m ((c : Thread nD τ).loc b)) : sProp 𝕄) = StableHlo.held (c.tc : Thread nD τ) arrs (V₀ m c) from
        (Pipeline.unscopedBufs_held c (V₀ m c)).trans (by rw [arrs_uc]),
      unscopedSems_eq, overSo]
    unfold bundle
    iintro ⟨Hh, Hus, HO, Hcr, Hp, HG⟩
    ihave Hc := (launchCred_dues P J₀ c) $$ Hcr
    isplitl [Hh HO Hp Hc]
    · isplitl [Hh]; · iexact Hh
      isplitl [Hp]; · iexists (ρ c); iexact Hp
      isplitl [Hc]
      · ihave Hd := (Entails.of_eq (overJ (F := F) fun j => cred (tallyAt (cell τ c (P.sm j)) () (P.am j)))) $$ Hc
        unfold creds
        iexact Hd
      iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c))
      ⊢ (bigSep Finset.univ fun c : Dev nD => iprop(bundle m c ∗ ((bigSep So fun s => semVal (cell τ c s) 0) ∗ G c)) : sProp 𝕄)
      from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Talk.deal P (pay (Xs m) (As m)) So Sd (fun j c => pay_storable (Xs m) (As m) j c) (by decide)) $$ [Hv Hu] with ⟨%κ, #HR, Hm⟩
  · isplitl [Hv] <;> iassumption
  imodintro
  iapply (bigSep_with_persistent (R := iprop(□ recs P (pay (Xs m) (As m)) So Sd κ)) (Φ := fun c => iprop(mine P So Sd c ∗ bundle m c))
    fun c _ => T₀_intro m κ c)
  isplitr; · iexact HR
  iapply bigSep_pair
  isplitl [Hm] <;> iassumption

theorem unscoped_bar : ∀ sm : SemLoc sig, sm.isScoped .tc = false → sm = sBar := by decide

set_option backward.isDefEq.respectTransparency.types false in
/-- Every run of the exchange ends; each device keeps its rows, its two results hold its own rows and its
    peer's, and every counter is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1_0) = (dat m c).arrAt 2 cfg0.N
        ∧ r.2.mem ((c : Thread nD τ).loc main_v1_1) = (dat m c).arrAt 3 cfg0.N) ∧ r.2.sem = fun _ => 0) :=
  Pipeline.θ_run_regions_kit_sems (pcfgs (F := F)) adm (pdats m) () cellOf_inj EP defs₀ 𝒱₀ L (lv rk) m ρ main [.region (reg m)]
    (fun c Q => by rw [main_segs adm (pdats m) () 𝒱₀ L (lv rk) (reg m) c])
    (by simp only [Pipeline.Seg.pipes_region, Pipeline.Seg.pipes_nil]; decide)
    (O₀ := fun c => dues P J₀ c) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => ?_⟩
      show iprop(StableHlo.held (c.tc : Thread nD τ) arrs (V₁ m c) ∗ (∃ r, prngReg c r)
          ∗ (StableHlo.held (c.tc : Thread nD τ) ∅ (V₁ m c) ∗ emp) ∗ Yk c ∗ ∃ Wd, owes (c : Thread nD τ) (0 : CellTallies nD τ sig Unit) Wd)
        ⊢ iprop(Tₙ m c ∗ ∃ W, owes (c : Thread nD τ) (0 : CellTallies nD τ sig Unit) W)
      unfold Yk Tₙ
      iintro ⟨Hh, -, -, Hb, HO⟩
      isplitr [HO]
      · isplitl [Hh] <;> iassumption
      · iexact HO)
    (hinit := init m ρ)
    (QY := fun c s => (s.mem ((c : Thread nD τ).loc main_arg0) = V₁ m c (Proc.devRef .tc main_arg0)
        ∧ s.mem ((c : Thread nD τ).loc main_arg1) = V₁ m c (Proc.devRef .tc main_arg1)
        ∧ s.mem ((c : Thread nD τ).loc main_v1_0) = V₁ m c (Proc.devRef .tc main_v1_0)
        ∧ s.mem ((c : Thread nD τ).loc main_v1_1) = V₁ m c (Proc.devRef .tc main_v1_1))
      ∧ s.sem (cell τ c sBar) = 0)
    (hfin := fun c s' => by
      dsimp only [Tₙ]; rw [held_arrs]
      iintro ⟨⟨⟨Hx, Ha, Ho, Hq⟩, Hb0⟩, HSI⟩
      icombine HSI Hx gives %hx
      icombine HSI Ha gives %ha
      icombine HSI Ho gives %ho
      icombine HSI Hq gives %hq
      icombine HSI Hb0 gives %hb
      imodintro
      isplitr
      · ipureintro
        exact ⟨⟨Buf.eq_of_forall_mem_univ hx, Buf.eq_of_forall_mem_univ ha, Buf.eq_of_forall_mem_univ ho, Buf.eq_of_forall_mem_univ hq⟩,
          by simpa using hb⟩
      iexact HSI)
    (hQ := fun s h hs => ⟨fun c => by
        obtain ⟨⟨hx, ha, ho, hq⟩, -⟩ := h c
        exact ⟨hx.trans (V₁_arg0 m c), ha.trans (V₁_arg1 m c), ho.trans (V₁_out0 m c), hq.trans (V₁_out1 m c)⟩,
      sem_eq_zero hs fun c sm hsm => by
        obtain rfl := unscoped_bar sm hsm
        exact (h c).2⟩)

/-! ## The results as arrays -/

theorem Xs_eq (c : Dev nD) : Xs m c = m ((c : Thread nD τ).loc main_arg0) := by
  funext i
  unfold Xs
  blk_simp
  exact congrArg (m ((c : Thread nD τ).loc main_arg0)) (funext fun a => Fin.ext (Pipeline.Window.rect_emb_val_of_index_zero (cfg0.win 0) t0_0 a (by revert a; decide) i))

theorem As_eq (c : Dev nD) : As m c = m ((c : Thread nD τ).loc main_arg1) := by
  funext i
  unfold As
  blk_simp
  exact congrArg (m ((c : Thread nD τ).loc main_arg1)) (funext fun a => Fin.ext (Pipeline.Window.rect_emb_val_of_index_zero (cfg0.win 1) t0_0 a (by revert a; decide) i))

theorem out0_eq (c : Dev nD) : (dat m c).arrAt 2 cfg0.N
    = both (R := 512) (C := 2048) (m ((c : Thread nD τ).loc main_arg0)) (m ((pr c : Thread nD τ).loc main_arg0)) := by
  rw [← Xs_eq m c, ← Xs_eq m (pr c)]
  funext i
  refine ((dat m c).arrAt_emb_eq_after_last 2 t0_0 (by decide +kernel) i).trans ?_
  blk_simp
  rfl

theorem out1_eq (c : Dev nD) : (dat m c).arrAt 3 cfg0.N
    = both (R := 512) (C := 1) (m ((c : Thread nD τ).loc main_arg1)) (m ((pr c : Thread nD τ).loc main_arg1)) := by
  rw [← As_eq m c, ← As_eq m (pr c)]
  funext i
  refine ((dat m c).arrAt_emb_eq_after_last 3 t0_0 (by decide +kernel) i).trans ?_
  blk_simp
  rfl

end Cert.KernelIdeal.Exch

end
-- ==== Proof.Pairs.lean ====
module

public import proofs.«01_k».proof.Proof.Run
public import proofs.«01_k».proof.Proof.Gen.ReferenceIdeal.Run
public import Idealize.ShloMosaic.Lib.Layout
public import Idealize.ShloMosaic.Lib.ValueIdxRank6
public import Idealize.ShloMosaic.Lib.Pipeline.Value
public import Idealize.ShloMosaic.Lib.Pointwise.Reshape

/-! The plain pairing of blocks, read at a device: its own block, then its peer's. -/

@[expose] public section

noncomputable section

namespace Cert.KernelIdeal.Exch

open Idealize.ShloMosaic Idealize.ShloMosaic.TcCoe Talk

abbrev Grid5 (C : ℕ) : Shape := ⟨5, ![2, 2, 4, 512, C]⟩
abbrev Grid61 (C : ℕ) : Shape := ⟨6, ![2, 2, 4, 1, 512, C]⟩
abbrev Grid62 (C : ℕ) : Shape := ⟨6, ![2, 2, 4, 2, 512, C]⟩
abbrev All (C : ℕ) : Shape := ⟨2, ![8192, C]⟩
abbrev AllTwo (C : ℕ) : Shape := ⟨3, ![32, 512, C]⟩

variable {α : Type} {C : ℕ}

theorem x_lt (c : Dev nD) : c.val / 8 < 2 := by have : c.val < 16 := c.isLt; omega
theorem y_lt (c : Dev nD) : c.val / 4 % 2 < 2 := Nat.mod_lt _ (by decide)
theorem z_lt (c : Dev nD) : c.val % 4 < 4 := Nat.mod_lt _ (by decide)

/-- A row and column of a device, with the device's three coordinates before them. -/
def at5 (c : Dev nD) (j : (Flat 512 C).Idx) : (Grid5 C).Idx :=
  Fin.cons ⟨c.val / 8, x_lt c⟩ (Fin.cons ⟨c.val / 4 % 2, y_lt c⟩ (Fin.cons ⟨c.val % 4, z_lt c⟩ j))
/-- The same with a slot among `n` between the device and the row. -/
def at6 {n : ℕ} (c : Dev nD) (i : (⟨3, ![n, 512, C]⟩ : Shape).Idx) : (⟨6, ![2, 2, 4, n, 512, C]⟩ : Shape).Idx :=
  Fin.cons ⟨c.val / 8, x_lt c⟩ (Fin.cons ⟨c.val / 4 % 2, y_lt c⟩ (Fin.cons ⟨c.val % 4, z_lt c⟩ i))

/-- The row of the whole array where a device's row is. -/
def rowOf (c : Dev nD) (j : (Flat 512 C).Idx) : (All C).Idx :=
  Fin.cons ⟨c.val * 512 + (j 0).val, by
    have h : (j 0).val < 512 := (j 0).isLt
    have : c.val < 16 := c.isLt
    show _ < 8192; omega⟩ (fun a : Fin 1 => ⟨(j 1).val, by match a with | 0 => exact (j 1).isLt⟩)

theorem at5_flat (h : (All C).ShapeCasts (Grid5 C)) (x : (All C).Idx → α) (c : Dev nD) (j : (Flat 512 C).Idx) :
    shapeCast (Grid5 C) x h (at5 c j) = x (rowOf c j) := by
  refine shapeCast_apply x h _ _ ?_
  rw [rowMajor_val2 _ C rfl, rowMajor_val5 _ (2 * (4 * (512 * C))) (4 * (512 * C)) (512 * C) C rfl rfl rfl rfl]
  show (c.val * 512 + (j 0).val) * C + (j 1).val
    = c.val / 8 * (2 * (4 * (512 * C))) + c.val / 4 % 2 * (4 * (512 * C)) + c.val % 4 * (512 * C) + (j 0).val * C + (j 1).val
  have e : c.val = c.val / 8 * 8 + c.val / 4 % 2 * 4 + c.val % 4 := by omega
  generalize c.val / 8 = p at e ⊢
  generalize c.val / 4 % 2 = q at e ⊢
  generalize c.val % 4 = r at e ⊢
  rw [e]; ring

theorem reverse_at5 (v : (Grid5 C).Idx → α) (c : Dev nD) (j : (Flat 512 C).Idx) :
    Host.reverse [1] v (at5 c j) = v (at5 (pr c) j) := by
  unfold Host.reverse
  refine congrArg v (funext fun a => Fin.ext ?_)
  have hp : (pr c).val / 8 = c.val / 8 ∧ (pr c).val / 4 % 2 = 1 - c.val / 4 % 2 ∧ (pr c).val % 4 = c.val % 4 := by
    revert c; decide
  match a with
  | 0 => exact hp.1.symm
  | 1 =>
    show 2 - (c.val / 4 % 2 + 1) = (pr c).val / 4 % 2
    rw [hp.2.1]; omega
  | 2 => exact hp.2.2.symm
  | 3 => rfl
  | 4 => rfl

theorem spread_at6 (hC : C ≠ 0) (h : (Grid5 C).BroadcastsInDim (Grid61 C) ![0, 1, 2, 4, 5]) (v : (Grid5 C).Idx → α) (c : Dev nD) (i : (One 512 C).Idx) :
    broadcastInDim (Grid61 C) ![0, 1, 2, 4, 5] h v (at6 c i) = v (at5 c (low i)) := by
  unfold broadcastInDim
  refine congrArg v (funext fun a => Fin.ext ?_)
  match a with
  | 0 => rfl
  | 1 => rfl
  | 2 => rfl
  | 3 => rfl
  | 4 =>
    by_cases h1 : C = 1
    · subst h1
      have e : (i 2).val < 1 := (i 2).isLt
      show 0 = (i 2).val
      omega
    · rw [dif_neg (show ¬ (Grid5 C).size 4 = 1 from h1)]; rfl

/-- The pairs stacked and laid flat, at a device: its own rows, then its peer's. -/
theorem pairs_block (hC : C ≠ 0) (x : (All C).Idx → α) (h₁ : (All C).ShapeCasts (Grid5 C))
    (h₂ : (Grid5 C).BroadcastsInDim (Grid61 C) ![0, 1, 2, 4, 5]) (h₃ : Shape.Concatenates [Grid61 C, Grid61 C] (Grid62 C) 3)
    (h₄ : (Grid62 C).ShapeCasts (AllTwo C)) (hx : Layout.Tiles (Flat 512 C) (All C) 0 16) (hy : Layout.Tiles (Two 512 C) (AllTwo C) 0 16) (c : Dev nD) :
    Layout.block (Two 512 C) (AllTwo C) 0 16 c
      (shapeCast (AllTwo C) (concatenate (Grid62 C) 3 [⟨Grid61 C, broadcastInDim (Grid61 C) ![0, 1, 2, 4, 5] h₂ (shapeCast (Grid5 C) x h₁)⟩,
        ⟨Grid61 C, broadcastInDim (Grid61 C) ![0, 1, 2, 4, 5] h₂ (Host.reverse [1] (shapeCast (Grid5 C) x h₁))⟩] h₃) h₄) hy
      = both (Layout.block (Flat 512 C) (All C) 0 16 c x hx) (Layout.block (Flat 512 C) (All C) 0 16 (pr c) x hx) := by
  funext i
  have hrow : ∀ d : Dev nD, ∀ j : (Flat 512 C).Idx, hx.idx d j = rowOf d j := fun d j =>
    funext fun a => Fin.ext (by match a with | 0 => rfl | 1 => rfl)
  rw [Layout.block_apply, shapeCast_apply _ h₄ _ (at6 c i) (by
    rw [Shape.rowMajor_val_six, rowMajor_val3 _ (512 * C) C rfl rfl]
    show ((((c.val / 8 * 2 + c.val / 4 % 2) * 4 + c.val % 4) * 2 + (i 0).val) * 512 + (i 1).val) * C + (i 2).val
      = (c.val * 2 + (i 0).val) * (512 * C) + (i 1).val * C + (i 2).val
    have e : (c.val / 8 * 2 + c.val / 4 % 2) * 4 + c.val % 4 = c.val := by omega
    rw [e]; ring)]
  by_cases h0 : (i 0).val = 0
  · let k : (One 512 C).Idx := Fin.cons ⟨0, Nat.one_pos⟩ (low i)
    rw [concatenate_pair_apply_left 3 _ _ h₃ (at6 c i) rfl (at6 c k) (fun b => by
      match b with
      | 0 => rfl | 1 => rfl | 2 => rfl | 3 => exact h0.symm | 4 => rfl | 5 => rfl), spread_at6 hC, at5_flat]
    unfold both
    rw [if_pos h0, Layout.block_apply, hrow]; rfl
  · have h1 : (i 0).val = 1 := by have h : (i 0).val < 2 := (i 0).isLt; omega
    let k : (One 512 C).Idx := Fin.cons ⟨0, Nat.one_pos⟩ (low i)
    rw [concatenate_pair_apply_right 3 _ _ h₃ (at6 c i) rfl rfl (at6 c k) (fun b hb => by
      match b with
      | 0 => rfl | 1 => rfl | 2 => rfl | 3 => exact absurd rfl hb | 4 => rfl | 5 => rfl) h1.symm, spread_at6 hC, reverse_at5, at5_flat]
    unfold both
    rw [if_neg h0, Layout.block_apply, hrow]; rfl

end Cert.KernelIdeal.Exch

end
-- ==== Proof.Points.lean ====
module

public import proofs.«01_k».proof.Proof.Gen.ExpertsIdeal.Frame
public import Idealize.ShloMosaic.Lib.Pipeline.ValueKit
public import Idealize.ShloMosaic.Lib.VecWindow

/-! What the body of the expert call leaves at one grid point: the masked rows and the running sum of the partial
    products, and at the last point the rounded sum in the result. -/

@[expose] public section

set_option maxRecDepth 16384

noncomputable section

open Idealize.ShloMosaic Idealize.ShloMosaic.TcCoe Idealize.SL.Sem
open Idealize.ShloMosaic.Pipeline (Dat)

namespace Cert.ExpertsIdeal.Moe

open Cert.ExpertsIdeal Cert.ExpertsIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S2x512x2048 .bf16) (harg2 : arg2.IsWhole)
  (arg3 : Memref sig .tc .vmem S2x512x1 .i32) (harg3 : arg3.IsWhole) (arg4 : Memref sig .tc .vmem S1x2048x1024 .bf16)
  (harg4 : arg4.IsWhole) (arg5 : Memref sig .tc .vmem S1x1024x2048 .bf16) (harg5 : arg5.IsWhole)
  (arg7 : Memref sig .tc .vmem S1024x2048 .f32) (harg7 : arg7.IsWhole) (arg8 : Memref sig .tc .vmem S1024x2048 .bf16)
  (harg8 : arg8.IsWhole)
  (x0 : Vec F S2x512x2048 .bf16) (x1 : Vec F S2x512x1 .i32) (x2 : Vec F S1x2048x1024 .bf16) (x3 : Vec F S1x1024x2048 .bf16)
  (xs0 : Vec F S1024x2048 .f32) (xs1 : Vec F S1024x2048 .bf16) (fw0 : HbBuf0 (F := F) c hbM0_0)

/-- The first point masks the rows. -/
theorem sA1 (hc0 : cond0_0 i) (hc1 : cond0_1 i) (hc2 : ¬cond0_2 i) (hc3 : ¬cond0_3 i) :
    sout0_A_1 c i arg2 harg2 arg3 harg3 arg4 harg4 arg5 harg5 arg7 harg7 arg8 harg8 hc0 hc1 hc2 hc3 x0 x1 x2 x3 fw0 = k0_pay2 i c x1 x0 := by
  unfold sout0_A_1
  rw [View.read_writes_eq_canon _ _ _ (scover0_A_1 c i arg2 harg2 arg3 harg3 arg4 harg4 arg5 harg5 arg7 harg7 arg8 harg8 hc0 hc1 hc2 hc3 x0 x1 x2 x3 fw0)]
  unfold kernelRun0_A
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- It starts the sum. -/
theorem sA0 (hc0 : cond0_0 i) (hc1 : cond0_1 i) (hc2 : ¬cond0_2 i) (hc3 : ¬cond0_3 i) :
    sout0_A_0 c i arg2 harg2 arg3 harg3 arg4 harg4 arg5 harg5 arg7 harg7 arg8 harg8 hc0 hc1 hc2 hc3 x0 x1 x2 x3 fw0 = k0_pay4 x2 x3 (k0_pay2 i c x1 x0) := by
  unfold sout0_A_0
  rw [View.read_writes_eq_canon _ _ _ (scover0_A_0 c i arg2 harg2 arg3 harg3 arg4 harg4 arg5 harg5 arg7 harg7 arg8 harg8 hc0 hc1 hc2 hc3 x0 x1 x2 x3 fw0)]
  unfold kernelRun0_A
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- The first point of a later expert masks the rows again. -/
theorem sC1 (hc0 : cond0_0 i) (hc1 : ¬cond0_1 i) (hc2 : cond0_2 i) (hc3 : ¬cond0_3 i) :
    sout0_C_1 c i arg2 harg2 arg3 harg3 arg4 harg4 arg5 harg5 arg7 harg7 arg8 harg8 hc0 hc1 hc2 hc3 x0 x1 x2 x3 xs0 fw0 = k0_pay2 i c x1 x0 := by
  unfold sout0_C_1
  rw [View.read_writes_eq_canon _ _ _ (scover0_C_1 c i arg2 harg2 arg3 harg3 arg4 harg4 arg5 harg5 arg7 harg7 arg8 harg8 hc0 hc1 hc2 hc3 x0 x1 x2 x3 xs0 fw0)]
  unfold kernelRun0_C
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- It adds to the sum. -/
theorem sC0 (hc0 : cond0_0 i) (hc1 : ¬cond0_1 i) (hc2 : cond0_2 i) (hc3 : ¬cond0_3 i) :
    sout0_C_0 c i arg2 harg2 arg3 harg3 arg4 harg4 arg5 harg5 arg7 harg7 arg8 harg8 hc0 hc1 hc2 hc3 x0 x1 x2 x3 xs0 fw0 = k0_pay5 x2 x3 (k0_pay2 i c x1 x0) xs0 := by
  unfold sout0_C_0
  rw [View.read_writes_eq_canon _ _ _ (scover0_C_0 c i arg2 harg2 arg3 harg3 arg4 harg4 arg5 harg5 arg7 harg7 arg8 harg8 hc0 hc1 hc2 hc3 x0 x1 x2 x3 xs0 fw0)]
  unfold kernelRun0_C
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- So does the last. -/
theorem sD0 (hc0 : ¬cond0_0 i) (hc1 : ¬cond0_1 i) (hc2 : cond0_2 i) (hc3 : cond0_3 i) :
    sout0_D_0 c i arg2 harg2 arg3 harg3 arg4 harg4 arg5 harg5 arg7 harg7 arg8 harg8 hc0 hc1 hc2 hc3 x0 x1 x2 x3 xs0 xs1 fw0 = k0_pay5 x2 x3 xs1 xs0 := by
  unfold sout0_D_0
  rw [View.read_writes_eq_canon _ _ _ (scover0_D_0 c i arg2 harg2 arg3 harg3 arg4 harg4 arg5 harg5 arg7 harg7 arg8 harg8 hc0 hc1 hc2 hc3 x0 x1 x2 x3 xs0 xs1 fw0)]
  unfold kernelRun0_D
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- The other points add to the sum with the rows masked before. -/
theorem sB0 (hc0 : ¬cond0_0 i) (hc1 : ¬cond0_1 i) (hc2 : cond0_2 i) (hc3 : ¬cond0_3 i) :
    sout0_B_0 c i arg2 harg2 arg3 harg3 arg4 harg4 arg5 harg5 arg7 harg7 arg8 harg8 hc0 hc1 hc2 hc3 x0 x1 x2 x3 xs0 xs1 fw0 = k0_pay5 x2 x3 xs1 xs0 := by
  unfold sout0_B_0
  rw [View.read_writes_eq_canon _ _ _ (scover0_B_0 c i arg2 harg2 arg3 harg3 arg4 harg4 arg5 harg5 arg7 harg7 arg8 harg8 hc0 hc1 hc2 hc3 x0 x1 x2 x3 xs0 xs1 fw0)]
  unfold kernelRun0_B
  dsimp only
  sl_unfold_words
  rw [View.canon_unit_zero (S := S1024x2048) hz2]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

/-- They keep the masked rows. -/
theorem sB1 (hc0 : ¬cond0_0 i) (hc1 : ¬cond0_1 i) (hc2 : cond0_2 i) (hc3 : ¬cond0_3 i) :
    sout0_B_1 c i arg2 harg2 arg3 harg3 arg4 harg4 arg5 harg5 arg7 harg7 arg8 harg8 hc0 hc1 hc2 hc3 x0 x1 x2 x3 xs0 xs1 fw0 = xs1 := rfl

/-- The last point leaves the rounded sum in the result. -/
theorem hD (hc0 : ¬cond0_0 i) (hc1 : ¬cond0_1 i) (hc2 : cond0_2 i) (hc3 : cond0_3 i) (j : S1024x2048.Idx) :
    hbw0_D_0 c i arg2 harg2 arg3 harg3 arg4 harg4 arg5 harg5 arg7 harg7 arg8 harg8 hc0 hc1 hc2 hc3 x0 x1 x2 x3 xs0 xs1 fw0 j = k0_pay1 (k0_pay5 x2 x3 xs1 xs0) j := by
  unfold hbw0_D_0
  unfold kernelRun0_D
  dsimp only
  sl_unfold_words
  refine (congrFun (View.write_whole_univ main_v1 fw0 _) j).trans ?_
  show arg8.view.read (Elt F) (arg8.view.writes (Elt F) _ _) j = _
  rw [View.read_writes_full]
  simp only [View.readAt_eq_ld, harg2.read_unread, harg3.read_unread, harg4.read_unread, harg5.read_unread, harg7.read_unread,
    harg8.read_unread, View.ld_unit_zero (S := S1024x2048) hz2, View.ld_unit_zero (S := S2x512x2048) hz3,
    View.ld_unit_zero (S := S2x512x1) hz3, View.ld_unit_zero (S := S1x2048x1024) hz3, View.ld_unit_zero (S := S1x1024x2048) hz3,
    View.readCov_unit_zero (S := S1024x2048) _ hz2]

end Cert.ExpertsIdeal.Moe
-- ==== Proof.Layers.lean ====
module

public import proofs.«01_k».proof.Proof.Gen.ExpertsIdeal.Skeleton
public import Idealize.ShloMosaic.Lib.Pointwise

/-! The vector operations of the expert call at one grid point, read at one row and column. -/

@[expose] public section

set_option maxRecDepth 16384

noncomputable section

open Idealize.ShloMosaic Idealize.ShloMosaic.TcCoe Idealize.SL.Sem

namespace Cert.ExpertsIdeal.Moe

open Cert.ExpertsIdeal Cert.ExpertsIdeal.Gen

/-- One point's product: the rows through a block of the first layer, and that through a block of the second. -/
theorem part_at (w : FVec Ideal S1x2048x1024 .bf16) (u : FVec Ideal S1x1024x2048 .bf16) (x : FVec Ideal S1024x2048 .bf16)
    (r : Fin 1024) (d : Fin 2048) : k0_pay3 (F := Ideal) w u x (ix2 r d)
      = ∑ k : Fin 1024, max (∑ q : Fin 2048, x (ix2 r q) * w (ix3 0 q k)) 0 * u (ix3 0 k d) := by
  pointwise [k0_pay3]

theorem start_at (w : FVec Ideal S1x2048x1024 .bf16) (u : FVec Ideal S1x1024x2048 .bf16) (x : FVec Ideal S1024x2048 .bf16)
    (j : S1024x2048.Idx) : k0_pay4 (F := Ideal) w u x j = 0 + k0_pay3 (F := Ideal) w u x j := by
  rw [zero_add]; pointwise [k0_pay4]

theorem add_at (w : FVec Ideal S1x2048x1024 .bf16) (u : FVec Ideal S1x1024x2048 .bf16) (x : FVec Ideal S1024x2048 .bf16)
    (a : FVec Ideal S1024x2048 .f32) (j : S1024x2048.Idx) : k0_pay5 (F := Ideal) w u x a j = a j + k0_pay3 (F := Ideal) w u x j := by
  pointwise [k0_pay5]

theorem round_at (a : FVec Ideal S1024x2048 .f32) (j : S1024x2048.Idx) : k0_pay1 (F := Ideal) a j = a j := by
  pointwise [k0_pay1]

/-- The expert that a device works on. -/
theorem expert_word : ∀ (c : Dev nD) (e : Fin 4),
    Scalar.addi (Scalar.muli (Scalar.remsi (Scalar.divsi (Dev.word c) 4#32) 2#32) 4#32) (BitVec.ofNat 32 e.val)
      = BitVec.ofNat 32 (c.val / 4 % 2 * 4 + e.val) := by decide

/-- A device's rows for its expert `e`: a row of another expert is zero. -/
def masked (c : Dev nD) (e : ℕ) (A : IVec S2x512x1 32) (X : FVec Ideal S2x512x2048 .bf16) (r : Fin 1024) (d : Fin 2048) : EReal :=
  Scalar.select (IntOp.cmpi CmpIPredicate.eq (A (ix3 (⟨r.val / 512, by omega⟩ : Fin 2) (⟨r.val % 512, by omega⟩ : Fin 512) (0 : Fin 1)))
    (BitVec.ofNat 32 (c.val / 4 % 2 * 4 + e)))
    (X (ix3 (⟨r.val / 512, by omega⟩ : Fin 2) (⟨r.val % 512, by omega⟩ : Fin 512) d)) 0

theorem mask_at (c : Dev nD) (i : grid0.Coords) (A : IVec S2x512x1 32) (X : FVec Ideal S2x512x2048 .bf16) (r : Fin 1024) (d : Fin 2048) :
    k0_pay2 (F := Ideal) i c A X (ix2 r d) = masked c (i 0).val A X r d := by
  pointwise [k0_pay2, masked]
  rw [show (i 0).val = (⟨(i 0).val, (i 0).isLt⟩ : Fin 4).val from rfl, expert_word c ⟨(i 0).val, (i 0).isLt⟩]

end Cert.ExpertsIdeal.Moe
-- ==== Proof.Fold.lean ====
module

public import proofs.«01_k».proof.Proof.Points
public import proofs.«01_k».proof.Proof.Layers

/-! The sixteen points of the expert call together: a device's result at one row and column. -/

@[expose] public section

set_option maxRecDepth 16384

noncomputable section

open Idealize.ShloMosaic Idealize.ShloMosaic.TcCoe Idealize.SL.Sem
open Idealize.ShloMosaic.Pipeline (Dat)

namespace Cert.ExpertsIdeal.Moe

open Cert.ExpertsIdeal Cert.ExpertsIdeal.Gen

variable (m : (ℓ : Loc nD τ sig) → Buf (Elt Ideal) ℓ) (c : Dev nD)

theorem idx : ∀ t : Fin cfg0.N, win0_0.index t = ![0, 0, 0] ∧ win0_1.index t = ![0, 0, 0]
    ∧ win0_2.index t = ![t.val / 4, 0, t.val % 4] ∧ win0_3.index t = ![t.val / 4, t.val % 4, 0] :=
  (by decide +kernel : ∀ t : Fin grid0.N, _)

theorem crd : ∀ t : Fin cfg0.N, (grid0.coords t 0).val = t.val / 4 := (by decide +kernel : ∀ t : Fin grid0.N, _)

/-- The device's rows, their experts, and its experts' weights. -/
def X : FVec Ideal S2x512x2048 .bf16 := m ((c : Thread nD τ).loc main_arg0)
def A : IVec S2x512x1 32 := m ((c : Thread nD τ).loc main_arg1)
def W : FVec Ideal S4x2048x4096 .bf16 := m ((c : Thread nD τ).loc main_arg2)
def U : FVec Ideal S4x4096x2048 .bf16 := m ((c : Thread nD τ).loc main_arg3)

theorem blk_x (t : Fin cfg0.N) : (iblk m c 0 t : FVec Ideal S2x512x2048 .bf16) = X m c := by
  unfold X; blk_ext! [iblk, V, idx t]
theorem blk_a (t : Fin cfg0.N) : (iblk m c 1 t : IVec S2x512x1 32) = A m c := by
  unfold A; blk_ext! [iblk, V, idx t]

/-- The masked rows of expert `e`. -/
def rows (e : ℕ) : FVec Ideal S1024x2048 .bf16 := fun j => masked c e (A m c) (X m c) (j 0) (j 1)

theorem rows_eq (t : Fin cfg0.N) : k0_pay2 (F := Ideal) (grid0.coords t) c (iblk m c 1 t) (iblk m c 0 t) = rows m c (t.val / 4) := by
  funext j
  obtain ⟨r, d, rfl⟩ : ∃ (r : Fin 1024) (d : Fin 2048), j = ix2 r d := ⟨j 0, j 1, eq_ix2 j⟩
  rw [blk_x, blk_a, mask_at, crd]; rfl

/-- One point's addend. -/
def addend (t : Fin cfg0.N) : FVec Ideal S1024x2048 .f32 := k0_pay3 (F := Ideal) (iblk m c 2 t) (iblk m c 3 t) (rows m c (t.val / 4))

/-- Between the points the rows stay masked for the expert at work. -/
theorem rows_after : ∀ (n : ℕ) (h : n < cfg0.N), n < 15 → (outsAt0 m c n h).2.1 = rows m c (n / 4)
  | 0, h, _ => by
    rw [outsAt0_A m c ⟨0, h⟩ rfl rfl (by dsimp only; omega) (by dsimp only; omega)]
    dsimp only
    rw [sA1, rows_eq]
  | n + 1, h, hl => by
    by_cases h4 : (n + 1) % 4 = 0
    · rw [outsAt0_C m c ⟨n + 1, h⟩ h4 (by dsimp only; omega) (by dsimp only; omega) (by dsimp only; omega)]
      dsimp only
      rw [sC1, rows_eq]
    · rw [outsAt0_B m c ⟨n + 1, h⟩ h4 (by dsimp only; omega) (by dsimp only; omega) (by dsimp only; omega)]
      dsimp only
      rw [sB1, show (n + 1) / 4 = n / 4 by omega]
      exact rows_after n (Nat.lt_of_succ_lt h) (by omega)

theorem sum_start (t : Fin cfg0.N) (h : t.val % 16 = 0) (j : S1024x2048.Idx) :
    (outsAt0 m c t.val t.isLt).1 j = 0 + addend m c t j := by
  have hN : t.val < 16 := lt_of_lt_of_eq t.isLt (show cfg0.N = 16 from N_0)
  rw [outsAt0_A m c t (by omega) h (by omega) (by omega)]
  dsimp only
  rw [sA0, rows_eq, start_at]; rfl

theorem sum_step (t : Fin cfg0.N) (h : ¬t.val % 16 = 0) (j : S1024x2048.Idx) :
    (outsAt0 m c t.val t.isLt).1 j
      = (outsAt0 m c (t.val - 1) (Nat.lt_of_le_of_lt (Nat.sub_le _ _) t.isLt)).1 j + addend m c t j := by
  have hN : t.val < 16 := lt_of_lt_of_eq t.isLt (show cfg0.N = 16 from N_0)
  by_cases h4 : t.val % 4 = 0
  · rw [outsAt0_C m c t h4 h (by omega) (by omega)]
    dsimp only
    rw [sC0, rows_eq, add_at]; rfl
  · have hr := rows_after m c (t.val - 1) (Nat.lt_of_le_of_lt (Nat.sub_le _ _) t.isLt) (by omega)
    rw [show (t.val - 1) / 4 = t.val / 4 by omega] at hr
    by_cases hl : t.val % 16 = 15
    · rw [outsAt0_D m c t h4 h (by omega) hl]
      dsimp only
      rw [sD0, add_at, hr]; rfl
    · rw [outsAt0_B m c t h4 h (by omega) hl]
      dsimp only
      rw [sB0, add_at, hr]; rfl

/-- The result holds the sum of the points' addends. -/
theorem result_sum (j : S1024x2048.Idx) :
    (hbG0 m c main_v1 : FVec Ideal S1024x2048 .bf16) j = ∑ p : Fin cfg0.N, addend m c p j := by
  have hN : cfg0.N = 16 := N_0
  have hs := Pipeline.eq_sum_fin_of_reset_step_apply_last (fun n h => (outsAt0 m c n h).1) 16 (fun _ => 0) (addend m c)
    (sum_start m c) (sum_step m c) (le_of_eq N_0) t0_15 rfl j
  rw [zero_add] at hs
  rw [← hs, hbG0_0]
  have hr := rows_after m c 14 (by omega) (by decide)
  have h15 := outsAt0_D m c t0_15 (by decide) (by decide) (by decide) (by decide)
  show (outsAt0 m c t0_15.val t0_15.isLt).2.2 j = (outsAt0 m c t0_15.val t0_15.isLt).1 j
  rw [h15]
  dsimp only
  rw [hD, sD0, round_at]

/-- A device's result at a row and column, over its four experts and the whole middle layer. -/
theorem result_at (r : Fin 1024) (d : Fin 2048) :
    (hbG0 m c main_v1 : FVec Ideal S1024x2048 .bf16) (ix2 r d)
      = ∑ e : Fin 4, ∑ l : Fin 4096, max (∑ q : Fin 2048, masked c e.val (A m c) (X m c) r q * W m c (ix3 e q l)) 0 * U m c (ix3 e l d) := by
  rw [result_sum]
  unfold addend
  simp only [part_at]
  refine Fin.sum_points_lanes_congr 4 fun t k ha hl => ?_
  refine Ideal.mul_congr ?_ ?_
  · refine congrArg (max · 0) (Finset.sum_congr rfl fun q _ => ?_)
    refine Ideal.mul_congr rfl ?_
    unfold W; blk_ext [iblk, V, idx t]
  · unfold U; blk_ext [iblk, V, idx t]

end Cert.ExpertsIdeal.Moe
-- ==== Proof.Mixture.lean ====
module

public import proofs.«01_k».proof.Proof.Gen.MixtureIdeal.Run
public import Idealize.ShloMosaic.Lib.Pointwise

/-! The reference of the expert call, read at one row and column. -/

@[expose] public section

set_option maxRecDepth 16384

noncomputable section

open Idealize.ShloMosaic Idealize.ShloMosaic.TcCoe Idealize.SL.Sem

namespace Cert.MixtureIdeal.Mix

open Cert.MixtureIdeal Cert.MixtureIdeal.Gen

/-- The result of the reference, as a term of its four arguments. -/
def mix (X : FVec Ideal S32x512x2048 .bf16) (A : IVec S32x512x1 32) (W : FVec Ideal S8x2048x4096 .bf16) (U : FVec Ideal S8x4096x2048 .bf16) :
    FVec Ideal S16384x2048 .bf16 :=
  shapeCast _ (transpose S2x2x4x1024x2048 [1, 0, 2, 3, 4] (shapeCast _ (truncf .bf16 (Host.reduceAdd (select (broadcastInDim S2x4x8192x2048 ![0, 1, 2, 3] bcast_S2x4x8192x1_S2x4x8192x2048_0_1_2_3 (cmpi .eq (broadcastInDim S2x4x8192x1 ![0, 1, 2, 3] bcast_S2x1x8192x1_S2x4x8192x1_0_1_2_3 (broadcastInDim S2x1x8192x1 ![0, 2, 3] bcast_S2x8192x1_S2x1x8192x1_0_2_3 (shapeCast _ (transpose S2x2x4x1024x1 [1, 0, 2, 3, 4] (shapeCast _ A shapeCasts_S32x512x1_S2x2x4x1024x1) transposes_S2x2x4x1024x1_S2x2x4x1024x1_1_0_2_3_4) shapeCasts_S2x2x4x1024x1_S2x8192x1))) (broadcastInDim S2x4x8192x1 ![0, 1, 2, 3] bcast_S2x4x1x1_S2x4x8192x1_0_1_2_3 (shapeCast _ (iotaInDim S8 32 0) shapeCasts_S8_S2x4x1x1)))) (Host.dotGeneral dot_S2x4x8192x4096_S2x4x4096x2048_S2x4x8192x2048_3_2_2_3_01_01 none (truncf .bf16 (maximumf (transpose S2x4x8192x4096 [0, 1, 3, 2] (Host.dotGeneral dot_S2x4x2048x4096_S2x8192x2048_S2x4x4096x8192_2_2_13_1_0_0 none (shapeCast _ W shapeCasts_S8x2048x4096_S2x4x2048x4096) (shapeCast _ (transpose S2x2x4x1024x2048 [1, 0, 2, 3, 4] (shapeCast _ X shapeCasts_S32x512x2048_S2x2x4x1024x2048) transposes_S2x2x4x1024x2048_S2x2x4x1024x2048_1_0_2_3_4) shapeCasts_S2x2x4x1024x2048_S2x8192x2048)) transposes_S2x4x4096x8192_S2x4x8192x4096_0_1_3_2) (broadcastInDim S2x4x8192x4096 ![] bcast_S_S2x4x8192x4096 (constant S_ .f32 0x00000000#32))) bitsLt_bf16_f32) (shapeCast _ U shapeCasts_S8x4096x2048_S2x4x4096x2048)) (broadcastInDim S2x4x8192x2048 ![] bcast_S_S2x4x8192x2048 (id (constant S_ .f32 0x00000000#32)))) (constant S_ .f32 0x00000000#32) reducesTo_S2x4x8192x2048_S2x8192x2048_d1 h_S_) bitsLt_bf16_f32) shapeCasts_S2x8192x2048_S2x2x4x1024x2048) transposes_S2x2x4x1024x2048_S2x2x4x1024x2048_1_0_2_3_4) shapeCasts_S2x2x4x1024x2048_S16384x2048

/-- One row and column of the result: over the experts of the row's half, the one that the row is assigned to. -/
theorem mix_at (X : FVec Ideal S32x512x2048 .bf16) (A : IVec S32x512x1 32) (W : FVec Ideal S8x2048x4096 .bf16) (U : FVec Ideal S8x4096x2048 .bf16)
    (r : Fin 16384) (d : Fin 2048) (b : Fin 32) (s : Fin 512) (hr : r.val = b.val * 512 + s.val) (y : ℕ) (hy : y = b.val / 8 % 2) :
    mix X A W U (ix2 r d) = ∑ e : Fin 4, Scalar.select (IntOp.cmpi CmpIPredicate.eq (A (ix3 b s (0 : Fin 1))) (BitVec.ofNat 32 (y * 4 + e.val)))
      (∑ l : Fin 4096, max (∑ q : Fin 2048, W (ix3 (⟨y * 4 + e.val, by omega⟩ : Fin 8) q l) * X (ix3 b s q)) 0
        * U (ix3 (⟨y * 4 + e.val, by omega⟩ : Fin 8) l d)) 0 := by
  pointwise [mix]
  have hb := b.isLt
  have hs := s.isLt
  have h3 : r.val / 4096 % 2 = y := by omega
  have h1 : (r.val / 8192 * 4096 + r.val / 1024 % 4 * 1024 + r.val % 1024) / 4096 * 16 + y * 8 +
      (r.val / 8192 * 4096 + r.val / 1024 % 4 * 1024 + r.val % 1024) / 1024 % 4 * 2 +
      (r.val / 8192 * 4096 + r.val / 1024 % 4 * 1024 + r.val % 1024) % 1024 / 512 = b.val := by omega
  have h2 : (r.val / 8192 * 4096 + r.val / 1024 % 4 * 1024 + r.val % 1024) % 1024 % 512 = s.val := by omega
  have hz : (id (constant (F := Ideal) S_ .f32 0x00000000#32) ix0 : EReal) = 0 := by show constant (F := Ideal) S_ .f32 0x00000000#32 ix0 = 0; pointwise
  simp only [h3, h1, h2, hz, Fin.eta]

end Cert.MixtureIdeal.Mix
-- ==== Proof.Whole.lean ====
module

public import proofs.«01_k».proof.Proof.Fold
public import proofs.«01_k».proof.Proof.Mixture

/-! A device's result is its block of the reference. -/

@[expose] public section

set_option maxRecDepth 16384

noncomputable section

open Idealize.ShloMosaic Idealize.ShloMosaic.TcCoe Idealize.SL.Sem

namespace Cert.ExpertsIdeal.Moe

open Cert.ExpertsIdeal Cert.ExpertsIdeal.Gen

/-- A row masked before the layers gives what masking their result gives: a zero row goes to zero. -/
theorem mask_out (g : BitVec 1) {a b : ℕ} (x : Fin a → EReal) (w : Fin a → Fin b → EReal) (u : Fin b → EReal) :
    ∑ l : Fin b, max (∑ q : Fin a, Scalar.select g (x q) 0 * w q l) 0 * u l
      = Scalar.select g (∑ l : Fin b, max (∑ q : Fin a, w q l * x q) 0 * u l) 0 := by
  unfold Scalar.select
  by_cases h : g = 1
  · simp only [if_pos h]
    exact Finset.sum_congr rfl fun l _ => by simp only [mul_comm]
  · simp only [if_neg h, zero_mul, Finset.sum_const_zero, max_self]

/-- The expert of the whole list that is expert `e` of a device. -/
theorem expert_lt (c : Dev nD) (e : Fin 4) : c.val / 4 % 2 * 4 + e.val < 8 := by omega

theorem half_val : ∀ c : Dev nD, (Layout.meshBlock [2, 2, 4] ![[1], [], []] c (by decide) 0).val = c.val / 4 % 2 := by decide

variable (m : (ℓ : Loc nD τ sig) → Buf (Elt Ideal) ℓ) (c : Dev nD)
  (X' : FVec Ideal ⟨3, ![32, 512, 2048]⟩ .bf16) (A' : IVec ⟨3, ![32, 512, 1]⟩ 32)
  (W' : FVec Ideal ⟨3, ![8, 2048, 4096]⟩ .bf16) (U' : FVec Ideal ⟨3, ![8, 4096, 2048]⟩ .bf16)

theorem result_block
    (hX : X m c = Layout.block ⟨3, ![2, 512, 2048]⟩ ⟨3, ![32, 512, 2048]⟩ 0 16 c X')
    (hA : A m c = Layout.block ⟨3, ![2, 512, 1]⟩ ⟨3, ![32, 512, 1]⟩ 0 16 c A')
    (hW : W m c = Layout.blockN ⟨3, ![4, 2048, 4096]⟩ ⟨3, ![8, 2048, 4096]⟩ (Layout.meshBlock [2, 2, 4] ![[1], [], []] c) W')
    (hU : U m c = Layout.blockN ⟨3, ![4, 4096, 2048]⟩ ⟨3, ![8, 4096, 2048]⟩ (Layout.meshBlock [2, 2, 4] ![[1], [], []] c) U') :
    (hbG0 m c main_v1 : FVec Ideal S1024x2048 .bf16)
      = Layout.block ⟨2, ![1024, 2048]⟩ ⟨2, ![16384, 2048]⟩ 0 16 c (Cert.MixtureIdeal.Mix.mix X' A' W' U') := by
  funext j
  obtain ⟨r, d, rfl⟩ : ∃ (r : Fin 1024) (d : Fin 2048), j = ix2 r d := ⟨j 0, j 1, eq_ix2 j⟩
  have hc : c.val < 16 := c.isLt
  have hr := r.isLt
  refine (result_at m c r d).trans ?_
  rw [Layout.block_apply]
  have hj : ∀ h : Layout.Tiles ⟨2, ![1024, 2048]⟩ ⟨2, ![16384, 2048]⟩ 0 16,
      h.idx c (ix2 r d) = ix2 (⟨c.val * 1024 + r.val, by omega⟩ : Fin 16384) d := fun h =>
    funext fun a => Fin.ext (by match a with | 0 => rfl | 1 => rfl)
  rw [hj, Cert.MixtureIdeal.Mix.mix_at X' A' W' U' _ d (⟨c.val * 2 + r.val / 512, by omega⟩ : Fin 32) (⟨r.val % 512, by omega⟩ : Fin 512)
    (by dsimp only; omega) (c.val / 4 % 2) (by dsimp only; omega)]
  refine (@Finset.sum_congr (Fin 4) EReal Finset.univ Finset.univ _ _ _ rfl fun e _ => ?_ : @Eq EReal _ _)
  unfold masked
  rw [mask_out]
  have hA0 : A m c (ix3 (⟨r.val / 512, by omega⟩ : Fin 2) (⟨r.val % 512, by omega⟩ : Fin 512) (0 : Fin 1))
      = A' (ix3 (⟨c.val * 2 + r.val / 512, by omega⟩ : Fin 32) (⟨r.val % 512, by omega⟩ : Fin 512) (0 : Fin 1)) := by
    rw [hA, Layout.block_apply]
    exact congrArg A' (funext fun a => Fin.ext (by match a with | 0 => rfl | 1 => rfl | 2 => rfl))
  have hX0 : ∀ q : Fin 2048, X m c (ix3 (⟨r.val / 512, by omega⟩ : Fin 2) (⟨r.val % 512, by omega⟩ : Fin 512) q)
      = X' (ix3 (⟨c.val * 2 + r.val / 512, by omega⟩ : Fin 32) (⟨r.val % 512, by omega⟩ : Fin 512) q) := fun q => by
    rw [hX, Layout.block_apply]
    exact congrArg X' (funext fun a => Fin.ext (by match a with | 0 => rfl | 1 => rfl | 2 => rfl))
  have hh := half_val c
  have hW0 : ∀ (q : Fin 2048) (l : Fin 4096), W m c (ix3 e q l) = W' (ix3 (⟨c.val / 4 % 2 * 4 + e.val, expert_lt c e⟩ : Fin 8) q l) := fun q l => by
    rw [hW, Layout.blockN_apply]
    refine congrArg W' (funext fun a => Fin.ext ?_)
    match a with
    | 0 => show (Layout.meshBlock [2, 2, 4] ![[1], [], []] c (by decide) 0).val * 4 + e.val = _; rw [hh]; rfl
    | 1 => show 0 * 2048 + q.val = _; rw [Nat.zero_mul, Nat.zero_add]; rfl
    | 2 => show 0 * 4096 + l.val = _; rw [Nat.zero_mul, Nat.zero_add]; rfl
  have hU0 : ∀ (l : Fin 4096), U m c (ix3 e l d) = U' (ix3 (⟨c.val / 4 % 2 * 4 + e.val, expert_lt c e⟩ : Fin 8) l d) := fun l => by
    rw [hU, Layout.blockN_apply]
    refine congrArg U' (funext fun a => Fin.ext ?_)
    match a with
    | 0 => show (Layout.meshBlock [2, 2, 4] ![[1], [], []] c (by decide) 0).val * 4 + e.val = _; rw [hh]; rfl
    | 1 => show 0 * 4096 + l.val = _; rw [Nat.zero_mul, Nat.zero_add]; rfl
    | 2 => show 0 * 2048 + d.val = _; rw [Nat.zero_mul, Nat.zero_add]; rfl
  simp only [hA0, hX0, hW0, hU0]

end Cert.ExpertsIdeal.Moe
-- ==== Proof.Ring.lean ====
module

public import proofs.«01_k».proof.Proof.Gen.CombineIdeal.Launch
public import proofs.«01_k».proof.Proof.Gen.CombineIdeal.Points
public import proofs.«01_k».proof.Proof.Gen.CombineIdeal.Skeleton
public import proofs.«01_k».proof.Proof.Plan
public import proofs.«01_k».proof.Proof.Slots

/-! The addition of the two owners' contributions and the first hop of its result round the ring: who talks to whom, the
    buffers, and what every copy and store leaves. -/

@[expose] public section

noncomputable section

namespace Cert.CombineIdeal.Comb

open Cert.CombineIdeal.Gen
open Idealize.ShloMosaic
open Idealize.ShloMosaic.TcCoe
open Talk

variable {F : FTy → Type} [FloatOps F]

/-! ## Who talks to whom -/

/-- The other owner of `c`'s slice. -/
def pr (c : Dev nD) : Dev nD := ⟨(8 * (c.val / 8) + (c.val % 4) + 4) - 4 * ((c.val / 4) % 2), by
  have h : c.val < 16 := c.isLt
  show _ < 16
  omega⟩

/-- The place of a device on its ring of eight. -/
def posn (c : ℕ) : ℕ := if c / 8 = 0 then c % 4 else 7 - c % 4
/-- The number of the device at place `t` of ring `y`. -/
def devn (y t : ℕ) : ℕ := if t < 4 then 4 * y + t else 8 + 4 * y + (7 - t)

theorem devn_lt (c : Dev nD) (t : ℕ) : devn (c.val / 4 % 2) t < 16 := by
  have h : c.val / 4 % 2 < 2 := Nat.mod_lt _ (by decide)
  unfold devn
  split <;> omega

/-- The device at place `t` of `c`'s ring. -/
def at8 (c : Dev nD) (t : ℕ) : Dev nD := ⟨devn (c.val / 4 % 2) t, devn_lt c t⟩
/-- The ring neighbours. -/
def rt (c : Dev nD) : Dev nD := at8 c ((posn c.val + 1) % 8)
def lf (c : Dev nD) : Dev nD := at8 c ((posn c.val + 7) % 8)

theorem pr_pr : ∀ c : Dev nD, pr (pr c) = c := by decide
theorem rt_lf : ∀ c : Dev nD, rt (lf c) = c := by decide
theorem lf_rt : ∀ c : Dev nD, lf (rt c) = c := by decide
theorem dev1_eq : ∀ c : Dev nD, (⟨k0_dev1 c, k0_dev1_lt c⟩ : Dev nD) = pr c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = lf c := by decide +kernel
theorem dev4_eq : ∀ c : Dev nD, (⟨k0_dev4 c, k0_dev4_lt c⟩ : Dev nD) = pr c := by decide +kernel
theorem dev5_eq : ∀ c : Dev nD, (⟨k0_dev5 c, k0_dev5_lt c⟩ : Dev nD) = rt c := by decide +kernel
theorem dev6_eq : ∀ c : Dev nD, (⟨k0_dev6 c, k0_dev6_lt c⟩ : Dev nD) = lf c := by decide +kernel
theorem off1_eq : ∀ c : Dev nD, k0_off1 c = ![512 * posn c.val, 0] := by decide +kernel
theorem off2_eq : ∀ c : Dev nD, k0_off2 c = ![512 * ((posn c.val + 7) % 8), 0] := by decide +kernel
theorem off3_eq : ∀ c : Dev nD, k0_off3 c = ![512 * ((posn c.val + 1) % 8), 0] := by decide +kernel
theorem at8_self : ∀ c : Dev nD, at8 c (posn c.val) = c := by decide
theorem posn_lt : ∀ c : Dev nD, posn c.val < 8 := by decide

def peer : Equiv.Perm (Dev nD) := ⟨pr, pr, pr_pr, pr_pr⟩
def right : Equiv.Perm (Dev nD) := ⟨rt, lf, lf_rt, rt_lf⟩
def left : Equiv.Perm (Dev nD) := ⟨lf, rt, rt_lf, lf_rt⟩

/-! ## The buffers and the semaphores -/

abbrev barS : Sem sig := (SemArray.scalar (sig.barrier 1 rfl) : Sems sig S_).sem
abbrev sBar : SemLoc sig := .reg barS
abbrev sLoc : SemLoc sig := .dma cc0_scratch4.sem
abbrev sCs : SemLoc sig := .dma cc0_scratch5.sem
abbrev sCr : SemLoc sig := .dma cc0_scratch6.sem
abbrev semAt0 (s : DmaSems sig S2) : DmaSem sig := ((s.slice (Rect.unit (s := S2) ![0] S1.size inb_S2_S1_0)).squeeze S_ squeezes_S1_S_).sem
abbrev semAt1 (s : DmaSems sig S2) : DmaSem sig := ((s.slice (Rect.unit (s := S2) ![1] S1.size inb_S2_S1_1)).squeeze S_ squeezes_S1_S_).sem
abbrev sUs : SemLoc sig := .dma (semAt0 cc0_scratch7)
abbrev sUr : SemLoc sig := .dma (semAt1 cc0_scratch8)
abbrev sDs : SemLoc sig := .dma (semAt0 cc0_scratch9)
abbrev sDr : SemLoc sig := .dma (semAt1 cc0_scratch10)
/-- The four that the first hop leaves alone. -/
abbrev z0 : SemLoc sig := .dma (semAt1 cc0_scratch7)
abbrev z1 : SemLoc sig := .dma (semAt0 cc0_scratch8)
abbrev z2 : SemLoc sig := .dma (semAt1 cc0_scratch9)
abbrev z3 : SemLoc sig := .dma (semAt0 cc0_scratch10)

abbrev hM : Memref sig .tc .hbm S1024x2048 .bf16 := Memref.whole main_arg0
abbrev oM : Memref sig .tc .vmem S4096x2048 .bf16 := Memref.whole cc0_stg0_0
abbrev wM : Memref sig .tc .vmem S512x2048 .bf16 := Memref.whole cc0_scratch0
abbrev rM : Memref sig .tc .vmem S512x2048 .bf16 := Memref.whole cc0_scratch1
abbrev uM : Memref sig .tc .vmem S2x512x2048 .bf16 := Memref.whole cc0_scratch2
abbrev dM : Memref sig .tc .vmem S2x512x2048 .bf16 := Memref.whole cc0_scratch3

abbrev hR0 : Rect S1024x2048 := Rect.unit (s := S1024x2048) ![0, 0] S512x2048.size inb_S1024x2048_S512x2048_0_0
abbrev hR1 : Rect S1024x2048 := Rect.unit (s := S1024x2048) ![512, 0] S512x2048.size inb_S1024x2048_S512x2048_512_0
abbrev hV0 : Memref sig .tc .hbm S512x2048 .bf16 := hM.slice hR0 (fun _ => rfl)
abbrev hV1 : Memref sig .tc .hbm S512x2048 .bf16 := hM.slice hR1 (fun _ => rfl)
abbrev R0 : Rect S2x512x2048 := Rect.unit (s := S2x512x2048) ![0, 0, 0] S1x512x2048.size inb_S2x512x2048_S1x512x2048_0_0_0
abbrev R1 : Rect S2x512x2048 := Rect.unit (s := S2x512x2048) ![1, 0, 0] S1x512x2048.size inb_S2x512x2048_S1x512x2048_1_0_0
abbrev slot0 (M : Memref sig .tc .vmem S2x512x2048 .bf16) : Memref sig .tc .vmem S512x2048 .bf16 :=
  (M.slice R0 (fun _ => rfl)).squeeze S512x2048 squeezes_S1x512x2048_S512x2048
abbrev slot1 (M : Memref sig .tc .vmem S2x512x2048 .bf16) : Memref sig .tc .vmem S512x2048 .bf16 :=
  (M.slice R1 (fun _ => rfl)).squeeze S512x2048 squeezes_S1x512x2048_S512x2048
abbrev uV0 := slot0 uM
abbrev uV1 := slot1 uM
abbrev dV0 := slot0 dM
abbrev dV1 := slot1 dM
abbrev oZ : Rect S4096x2048 := Rect.unit (s := S4096x2048) ![0, 0] S4096x2048.size inb_S4096x2048_S4096x2048_0_0
abbrev oR1 (c : Dev nD) : Rect S4096x2048 := Rect.unit (s := S4096x2048) (k0_off1 c) S512x2048.size (k0_off1_inb c)
abbrev oR2 (c : Dev nD) : Rect S4096x2048 := Rect.unit (s := S4096x2048) (k0_off2 c) S512x2048.size (k0_off2_inb c)
abbrev oR3 (c : Dev nD) : Rect S4096x2048 := Rect.unit (s := S4096x2048) (k0_off3 c) S512x2048.size (k0_off3_inb c)

theorem set_uV0 : uV0.view.set = R0.set := by
  show ((uM.slice R0 (fun _ => rfl)).view.reshape S512x2048 _).set = _
  rw [View.set_reshape]; exact View.set_slice_whole _ _
theorem set_uV1 : uV1.view.set = R1.set := by
  show ((uM.slice R1 (fun _ => rfl)).view.reshape S512x2048 _).set = _
  rw [View.set_reshape]; exact View.set_slice_whole _ _
theorem set_dV0 : dV0.view.set = R0.set := by
  show ((dM.slice R0 (fun _ => rfl)).view.reshape S512x2048 _).set = _
  rw [View.set_reshape]; exact View.set_slice_whole _ _
theorem set_dV1 : dV1.view.set = R1.set := by
  show ((dM.slice R1 (fun _ => rfl)).view.reshape S512x2048 _).set = _
  rw [View.set_reshape]; exact View.set_slice_whole _ _
theorem set_hV0 : hV0.view.set = hR0.set := View.set_slice_whole _ _
theorem set_hV1 : hV1.view.set = hR1.set := View.set_slice_whole _ _
theorem mem_R0 (i : S2x512x2048.Idx) : i ∈ R0.set ↔ (i 0).val = 0 := Talk.mem_slot (R := 512) (C := 2048) 0 _ i
theorem mem_R1 (i : S2x512x2048.Idx) : i ∈ R1.set ↔ (i 0).val = 1 := Talk.mem_slot (R := 512) (C := 2048) 1 _ i

theorem R0_eq : R0.set = Finset.univ \ R1.set := by
  ext i
  rw [Finset.mem_sdiff, mem_R0, mem_R1]
  have h2 : (i 0).val < 2 := (i 0).isLt
  constructor
  · intro h; exact ⟨Finset.mem_univ _, by omega⟩
  · intro h; have := h.2; omega

theorem mem_hR0 (i : S1024x2048.Idx) : i ∈ hR0.set ↔ (i 0).val < 512 := by
  rw [Rect.mem_set_unit]
  constructor
  · intro h; have h1 : 0 ≤ (i 0).val ∧ (i 0).val < 0 + 512 := h 0; omega
  · intro h a
    refine Fin.cases ?_ (fun a => ?_) a
    · show 0 ≤ (i 0).val ∧ (i 0).val < 0 + 512; omega
    · obtain rfl : a = 0 := Subsingleton.elim _ _
      have h1 : (i 1).val < 2048 := (i 1).isLt
      show 0 ≤ (i 1).val ∧ (i 1).val < 0 + 2048; omega
theorem mem_hR1 (i : S1024x2048.Idx) : i ∈ hR1.set ↔ 512 ≤ (i 0).val := by
  have h0 : (i 0).val < 1024 := (i 0).isLt
  rw [Rect.mem_set_unit]
  constructor
  · intro h; have h1 : 512 ≤ (i 0).val ∧ (i 0).val < 512 + 512 := h 0; omega
  · intro h a
    refine Fin.cases ?_ (fun a => ?_) a
    · show 512 ≤ (i 0).val ∧ (i 0).val < 512 + 512; omega
    · obtain rfl : a = 0 := Subsingleton.elim _ _
      have h1 : (i 1).val < 2048 := (i 1).isLt
      show 0 ≤ (i 1).val ∧ (i 1).val < 0 + 2048; omega
theorem hR1_eq : hR1.set = Finset.univ \ hR0.set := by
  ext i
  rw [Finset.mem_sdiff, mem_hR0, mem_hR1]
  constructor
  · intro h; exact ⟨Finset.mem_univ _, by omega⟩
  · intro h; have := h.2; omega

/-- A block of 512 rows of the result. -/
theorem mem_block (b : ℕ) (inb) (i : S4096x2048.Idx) :
    i ∈ (Rect.unit (s := S4096x2048) ![512 * b, 0] S512x2048.size inb).set ↔ (i 0).val / 512 = b := by
  rw [Rect.mem_set_unit]
  constructor
  · intro h; have h1 : 512 * b ≤ (i 0).val ∧ (i 0).val < 512 * b + 512 := h 0; omega
  · intro h a
    refine Fin.cases ?_ (fun a => ?_) a
    · show 512 * b ≤ (i 0).val ∧ (i 0).val < 512 * b + 512; omega
    · obtain rfl : a = 0 := Subsingleton.elim _ _
      have h1 : (i 1).val < 2048 := (i 1).isLt
      show 0 ≤ (i 1).val ∧ (i 1).val < 0 + 2048; omega

/-! ## What the buffers hold -/

abbrev HT (F : FTy → Type) : Type := (main_arg0 : Ref sig .tc).ty.Contents (Elt F)
abbrev BT (F : FTy → Type) : Type := S512x2048.Idx → Elt F .bf16
abbrev OT (F : FTy → Type) : Type := (cc0_stg0_0 : Ref sig .tc).ty.Contents (Elt F)

variable (H : Dev nD → HT F)

/-- The rows a device keeps, and those it sends. -/
def keep (c : Dev nD) : BT F := hV0.view.read (Elt F) (H c)
def give (c : Dev nD) : BT F := hV1.view.read (Elt F) (H c)
/-- The finished rows of a device: its own and its peer's, added. -/
def own (c : Dev nD) : BT F := k0_pay2 (keep H c) (give H (pr c))
/-- The two slots of either direction when the first hop is over. -/
def fullU (c : Dev nD) : S2x512x2048.Idx → Elt F .bf16 := Talk.both (R := 512) (C := 2048) (own H c) (own H (lf c))
def fullD (c : Dev nD) : S2x512x2048.Idx → Elt F .bf16 := Talk.both (R := 512) (C := 2048) (own H c) (own H (rt c))

/-- The row of its block, and the column, of an index of the result. -/
def inner (i : S4096x2048.Idx) : S512x2048.Idx :=
  Fin.cases (motive := fun a => Fin (S512x2048.size a)) (⟨(i 0).val % 512, Nat.mod_lt _ (by decide)⟩ : Fin 512)
    (fun a => ⟨(i 1).val, by obtain rfl : a = 0 := Subsingleton.elim _ _; exact (i 1).isLt⟩)

/-- Blocks `b` and `r` are the same or neighbours on the ring. -/
def near (r b : ℕ) : Prop := b = r ∨ b = (r + 7) % 8 ∨ b = (r + 1) % 8
instance (r b : ℕ) : Decidable (near r b) := by unfold near; infer_instance

/-- A device's result: its finished rows and its neighbours', each in its block, and zero in the other blocks. -/
def result (c : Dev nD) : OT F := fun i =>
  if near (posn c.val) ((i 0).val / 512) then own H (at8 c ((i 0).val / 512)) (inner i) else Scalar.ofBits .bf16 0x0000#16

/-! ### The slots -/

theorem read_slot0 (M : Memref sig .tc .vmem S2x512x2048 .bf16) (g : M.view.ty.Contents (Elt F)) :
    (slot0 M).view.read (Elt F) g = fun j => M.view.read (Elt F) g (Talk.high 0 j) :=
  Talk.read_slot (Val := Elt F) (R := 512) (C := 2048) M 0 inb_S2x512x2048_S1x512x2048_0_0_0 (fun _ => rfl) squeezes_S1x512x2048_S512x2048 rfl g
theorem read_slot1 (M : Memref sig .tc .vmem S2x512x2048 .bf16) (g : M.view.ty.Contents (Elt F)) :
    (slot1 M).view.read (Elt F) g = fun j => M.view.read (Elt F) g (Talk.high 1 j) :=
  Talk.read_slot (Val := Elt F) (R := 512) (C := 2048) M 1 inb_S2x512x2048_S1x512x2048_1_0_0 (fun _ => rfl) squeezes_S1x512x2048_S512x2048 rfl g

theorem read_uV0 (c : Dev nD) : uV0.view.read (Elt F) (fullU H c) = own H c :=
  (read_slot0 uM (fullU H c)).trans (funext fun j => Talk.both_fst (own H c) (own H (lf c)) j)
theorem read_uV1 (c : Dev nD) : uV1.view.read (Elt F) (fullU H c) = own H (lf c) :=
  (read_slot1 uM (fullU H c)).trans (funext fun j => Talk.both_snd (own H c) (own H (lf c)) j)
theorem read_dV0 (c : Dev nD) : dV0.view.read (Elt F) (fullD H c) = own H c :=
  (read_slot0 dM (fullD H c)).trans (funext fun j => Talk.both_fst (own H c) (own H (rt c)) j)
theorem read_dV1 (c : Dev nD) : dV1.view.read (Elt F) (fullD H c) = own H (rt c) :=
  (read_slot1 dM (fullD H c)).trans (funext fun j => Talk.both_snd (own H c) (own H (rt c)) j)

/-- The stores of the finished rows into the first slots. -/
theorem read_first (b : Ref sig .tc) (x y : BT F) :
    (fun j => Talk.both (R := 512) (C := 2048) x y (R0.toLoadRect.idx j)) = shapeCast S1x512x2048 x shapeCasts_S512x2048_S1x512x2048 := by
  funext j
  rw [shapeCast_addUnit_apply ![512, 2048], show R0.toLoadRect.idx j = Talk.high 0 (Talk.low j) from Talk.slot_idx (R := 512) (C := 2048) 0 _ j]
  exact Talk.both_fst _ _ _
theorem stored_u (c : Dev nD) (f : (cc0_scratch2 : Ref sig .tc).ty.Contents (Elt F)) (i : S2x512x2048.Idx) (hi : i ∈ R0.set) :
    (uM.access R0 : View sig .tc _ _ _).write (Elt F) f (k0_pay4 (keep H c) (give H (pr c))) Finset.univ i = fullU H c i :=
  write_in (uM.access R0 : View sig .tc _ _ _) f (fullU H c) _ (read_first cc0_scratch2 (own H c) (own H (lf c))) i
    (by show i ∈ ((View.whole cc0_scratch2).slice R0).set; rw [View.set_slice_whole]; exact hi)
theorem stored_d (c : Dev nD) (f : (cc0_scratch3 : Ref sig .tc).ty.Contents (Elt F)) (i : S2x512x2048.Idx) (hi : i ∈ R0.set) :
    (dM.access R0 : View sig .tc _ _ _).write (Elt F) f (k0_pay5 (keep H c) (give H (pr c))) Finset.univ i = fullD H c i :=
  write_in (dM.access R0 : View sig .tc _ _ _) f (fullD H c) _ (read_first cc0_scratch3 (own H c) (own H (rt c))) i
    (by show i ∈ ((View.whole cc0_scratch3).slice R0).set; rw [View.set_slice_whole]; exact hi)

/-- What a load of the second slot gives the store into the result. -/
theorem second_pay (x y : BT F) :
    shapeCast S512x2048 (fun j => Talk.both (R := 512) (C := 2048) x y (R1.toLoadRect.idx j)) shapeCasts_S1x512x2048_S512x2048 = y := by
  funext j
  rw [shapeCast_dropUnit_apply ![512, 2048]]
  show Talk.both x y (R1.toLoadRect.idx _) = _
  rw [show R1.toLoadRect.idx _ = Talk.high 1 (Talk.low _) from Talk.slot_idx (R := 512) (C := 2048) 1 _ _]
  exact Talk.both_snd _ _ _
theorem pay6_eq (c : Dev nD) : k0_pay6 (uM.view.readAt (Elt F) R1.toLoadRect (fullU H c)) = own H (lf c) := second_pay _ _
theorem pay1_eq (c : Dev nD) : k0_pay1 (dM.view.readAt (Elt F) R1.toLoadRect (fullD H c)) = own H (rt c) := second_pay _ _

/-! ### The result -/

/-- Reading the result at a block near the device's own. -/
theorem read_block (c : Dev nD) (b : ℕ) (hb : near (posn c.val) b) (off : Fin 2 → ℕ) (ho : off = ![512 * b, 0])
    (inb : ∀ a, off a + S512x2048.size a ≤ S4096x2048.size a) :
    (oM.access (Rect.unit (s := S4096x2048) off S512x2048.size inb) : View sig .tc _ _ _).read (Elt F) (result H c) = own H (at8 c b) := by
  subst ho
  funext j
  have h0 : (j 0).val < 512 := (j 0).isLt
  show result H c ((Rect.unit (s := S4096x2048) ![512 * b, 0] S512x2048.size inb).toLoadRect.idx j) = _
  have e0 : (((Rect.unit (s := S4096x2048) ![512 * b, 0] S512x2048.size inb).toLoadRect.idx j) 0).val = 512 * b + (j 0).val := by
    show 512 * b + 1 * (j 0).val = _; omega
  have eb : (((Rect.unit (s := S4096x2048) ![512 * b, 0] S512x2048.size inb).toLoadRect.idx j) 0).val / 512 = b := by omega
  have ej : inner ((Rect.unit (s := S4096x2048) ![512 * b, 0] S512x2048.size inb).toLoadRect.idx j) = j := by
    refine funext fun a => Fin.ext ?_
    refine Fin.cases ?_ (fun a => ?_) a
    · show (((Rect.unit (s := S4096x2048) ![512 * b, 0] S512x2048.size inb).toLoadRect.idx j) 0).val % 512 = (j 0).val
      omega
    · obtain rfl : a = 0 := Subsingleton.elim _ _
      show 0 + 1 * (j 1).val = (j 1).val; omega
  unfold result
  rw [eb, ej, if_pos hb]

theorem mem_access (r : Rect S4096x2048) (i : S4096x2048.Idx) : i ∈ (oM.access r : View sig .tc _ _ _).set ↔ i ∈ r.set := by
  show i ∈ ((View.whole cc0_stg0_0).slice r).set ↔ _
  rw [View.set_slice_whole]

/-- The four stores into the result, in their order. -/
def stored (c : Dev nD) (f : OT F) : OT F :=
  (oM.access (oR3 c) : View sig .tc _ _ _).write (Elt F)
    ((oM.access (oR2 c) : View sig .tc _ _ _).write (Elt F)
      ((oM.access (oR1 c) : View sig .tc _ _ _).write (Elt F)
        ((oM.access oZ : View sig .tc _ _ _).write (Elt F) f k0_pay3 Finset.univ)
        (own H c) Finset.univ)
      (own H (lf c)) Finset.univ)
    (own H (rt c)) Finset.univ

theorem stored_eq (c : Dev nD) (f : OT F) : stored H c f = result H c := by
  have r1 : (oM.access (oR1 c) : View sig .tc _ _ _).read (Elt F) (result H c) = own H c :=
    (read_block H c (posn c.val) (Or.inl rfl) _ (off1_eq c) (k0_off1_inb c)).trans (by rw [at8_self c])
  have r2 : (oM.access (oR2 c) : View sig .tc _ _ _).read (Elt F) (result H c) = own H (lf c) :=
    read_block H c ((posn c.val + 7) % 8) (Or.inr (Or.inl rfl)) _ (off2_eq c) (k0_off2_inb c)
  have r3 : (oM.access (oR3 c) : View sig .tc _ _ _).read (Elt F) (result H c) = own H (rt c) :=
    read_block H c ((posn c.val + 1) % 8) (Or.inr (Or.inr rfl)) _ (off3_eq c) (k0_off3_inb c)
  funext i
  have m1 : i ∈ (oM.access (oR1 c) : View sig .tc _ _ _).set ↔ (i 0).val / 512 = posn c.val := by
    rw [mem_access]; unfold oR1; simp only [off1_eq c]; exact mem_block _ _ i
  have m2 : i ∈ (oM.access (oR2 c) : View sig .tc _ _ _).set ↔ (i 0).val / 512 = (posn c.val + 7) % 8 := by
    rw [mem_access]; unfold oR2; simp only [off2_eq c]; exact mem_block _ _ i
  have m3 : i ∈ (oM.access (oR3 c) : View sig .tc _ _ _).set ↔ (i 0).val / 512 = (posn c.val + 1) % 8 := by
    rw [mem_access]; unfold oR3; simp only [off3_eq c]; exact mem_block _ _ i
  unfold stored
  by_cases h3 : (i 0).val / 512 = (posn c.val + 1) % 8
  · exact write_in (oM.access (oR3 c) : View sig .tc _ _ _) _ (result H c) (own H (rt c)) r3 i (m3.mpr h3)
  refine (write_out (oM.access (oR3 c) : View sig .tc _ _ _) _ (result H c) (own H (rt c)) r3 i (fun h => h3 (m3.mp h))).trans ?_
  by_cases h2 : (i 0).val / 512 = (posn c.val + 7) % 8
  · exact write_in (oM.access (oR2 c) : View sig .tc _ _ _) _ (result H c) (own H (lf c)) r2 i (m2.mpr h2)
  refine (write_out (oM.access (oR2 c) : View sig .tc _ _ _) _ (result H c) (own H (lf c)) r2 i (fun h => h2 (m2.mp h))).trans ?_
  by_cases h1 : (i 0).val / 512 = posn c.val
  · exact write_in (oM.access (oR1 c) : View sig .tc _ _ _) _ (result H c) (own H c) r1 i (m1.mpr h1)
  refine (write_out (oM.access (oR1 c) : View sig .tc _ _ _) _ (result H c) (own H c) r1 i (fun h => h1 (m1.mp h))).trans ?_
  have hn : ¬ near (posn c.val) ((i 0).val / 512) := by
    unfold near; rintro (h | h | h)
    · exact h1 h
    · exact h2 h
    · exact h3 h
  refine (write_in (oM.access oZ : View sig .tc _ _ _) f (fun _ => Scalar.ofBits .bf16 0x0000#16) _ ?_ i ?_).trans ?_
  · rfl
  · rw [mem_access]; exact View.mem_set_unit_zero (S := S4096x2048) (funext fun a => by fin_cases a <;> rfl) _ i
  · unfold result; rw [if_neg hn]

end Cert.CombineIdeal.Comb

end
-- ==== Proof.RingTalk.lean ====
module

public import proofs.«01_k».proof.Proof.Ring

/-! The protocol of the addition and the ring's first hop, and the body of the kernel run under it. -/

@[expose] public section

noncomputable section

namespace Cert.CombineIdeal.Comb

open Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk

variable {F : FTy → Type} [FloatOps F]

local notation "𝕄" => MT nD τ sig Unit (Elt F) ℕ (UU nD τ sig 10) ℕ

/-- The worth of a copy of 512 rows into on-chip memory. -/
abbrev N : ℕ := wM.view.dmaCredit
theorem N_pos : 0 < N := View.dmaCredit_pos _ (by decide)

/-- The table: three units on the barriers of the peer and the neighbours; the copy a device makes to itself; and the two
    ends of the copies to the peer, to the right and to the left. -/
def P : Plan nD sig 10 where
  sm := ![sBar, sBar, sBar, sLoc, sCs, sCr, sUs, sUr, sDs, sDr]
  rd := fun _ => 0
  dst := ![peer, right, left, Equiv.refl _, Equiv.refl _, peer, Equiv.refl _, right, Equiv.refl _, left]
  am := ![1, 1, 1, N, N, N, N, N, N, N]
  am_pos := fun j => by
    fin_cases j
    exacts [Nat.one_pos, Nat.one_pos, Nat.one_pos, N_pos, N_pos, N_pos, N_pos, N_pos, N_pos, N_pos]

/-- The semaphores whose cells are open from the launch on, and those a device opens when it enters the kernel. -/
def So : Finset (SemLoc sig) := {sBar}
def Sd : Finset (SemLoc sig) := {sLoc, sCs, sCr, sUs, sUr, sDs, sDr}
/-- What a device still owes, when it enters and later. -/
def J₀ : Finset (Fin 10) := {0, 1, 2, 5, 7, 9}
def J₁ : Finset (Fin 10) := {1, 2, 5, 7, 9}
def J₂ : Finset (Fin 10) := {2, 5, 7, 9}
def J₃ : Finset (Fin 10) := {5, 7, 9}
def J₄ : Finset (Fin 10) := {7, 9}
def J₅ : Finset (Fin 10) := {9}

/-- Waiting order: the barrier, the peer's rows, the neighbours' rows. -/
def rk (s : SemLoc sig) : ℕ := if s = sBar then 1 else if s = sCr then 2 else if s = sUr ∨ s = sDr then 3 else 0

variable (H : Dev nD → HT F)

/-- Parts of a device's buffers, at given contents. -/
abbrev hPts (S : Finset S1024x2048.Idx) (c : Dev nD) : sProp 𝕄 := hM.view.loc (c : Thread nD τ) ↦[S]{fullShare} H c
abbrev wPts (c : Dev nD) (f : BT F) : sProp 𝕄 := wM.view.loc (c : Thread nD τ) ↦[wM.view.set]{fullShare} f
abbrev rPts (c : Dev nD) (f : BT F) : sProp 𝕄 := rM.view.loc (c : Thread nD τ) ↦[rM.view.set]{fullShare} f
abbrev uPts (S : Finset S2x512x2048.Idx) (c : Dev nD) (f : (cc0_scratch2 : Ref sig .tc).ty.Contents (Elt F)) : sProp 𝕄 :=
  uM.view.loc (c : Thread nD τ) ↦[S]{fullShare} f
abbrev dPts (S : Finset S2x512x2048.Idx) (c : Dev nD) (f : (cc0_scratch3 : Ref sig .tc).ty.Contents (Elt F)) : sProp 𝕄 :=
  dM.view.loc (c : Thread nD τ) ↦[S]{fullShare} f
abbrev oPts (c : Dev nD) (f : OT F) : sProp 𝕄 := oM.view.loc (c : Thread nD τ) ↦[Finset.univ]{fullShare} f

/-- What the three units on a barrier hand over: where the sender of each may be written, and that it is ready there. -/
abbrev payPeer (c : Dev nD) : sProp 𝕄 := iprop((∃ f, rPts (pr c) f) ∗ reached ER (cell τ (pr c) sCr) 0)
abbrev payLeft (c : Dev nD) : sProp 𝕄 := iprop((∃ f, dPts dV1.view.set (lf c) f) ∗ reached ER (cell τ (lf c) sDr) 0)
abbrev payRight (c : Dev nD) : sProp 𝕄 := iprop((∃ f, uPts uV1.view.set (rt c) f) ∗ reached ER (cell τ (rt c) sUr) 0)
abbrev payLoc (c : Dev nD) : sProp 𝕄 := iprop(wPts c (keep H c) ∗ hPts H hV0.view.set c)

/-- What each payment hands to the owner of its cell. -/
def pay : Fin 10 → Dev nD → sProp 𝕄 :=
  ![payPeer, payLeft, payRight, payLoc H, hPts H hV1.view.set, fun c => rPts c (give H (pr c)),
    fun c => uPts uV0.view.set c (fullU H c), fun c => uPts uV1.view.set c (fullU H c),
    fun c => dPts dV0.view.set c (fullD H c), fun c => dPts dV1.view.set c (fullD H c)]

theorem pay_storable (j : Fin 10) (c : Dev nD) : BI.Storable (upEmb : UEmb _ 𝕄) (pay H j c) := by
  match j with
  | 0 => exact (inferInstance : BI.Storable (upEmb : UEmb _ 𝕄) (payPeer c))
  | 1 => exact (inferInstance : BI.Storable (upEmb : UEmb _ 𝕄) (payLeft c))
  | 2 => exact (inferInstance : BI.Storable (upEmb : UEmb _ 𝕄) (payRight c))
  | 3 => exact (inferInstance : BI.Storable (upEmb : UEmb _ 𝕄) (payLoc H c))
  | 4 => exact (inferInstance : BI.Storable (upEmb : UEmb _ 𝕄) (hPts H hV1.view.set c))
  | 5 => exact (inferInstance : BI.Storable (upEmb : UEmb _ 𝕄) (rPts c (give H (pr c))))
  | 6 => exact (inferInstance : BI.Storable (upEmb : UEmb _ 𝕄) (uPts uV0.view.set c (fullU H c)))
  | 7 => exact (inferInstance : BI.Storable (upEmb : UEmb _ 𝕄) (uPts uV1.view.set c (fullU H c)))
  | 8 => exact (inferInstance : BI.Storable (upEmb : UEmb _ 𝕄) (dPts dV0.view.set c (fullD H c)))
  | 9 => exact (inferInstance : BI.Storable (upEmb : UEmb _ 𝕄) (dPts dV1.view.set c (fullD H c)))

instance pay_storable' (g : GSem nD τ sig) (r : ℕ) (d : Fin 10) : BI.Storable (upEmb : UEmb _ 𝕄) ((sched P (pay H)).payload g r d) :=
  payload_storable P _ (pay_storable H) g r d

abbrev Rd : Schedule (GSem nD τ sig) (Fin 10) 𝕄 := sched P (pay H)

theorem at_bar : duesAt P sBar 0 = {0, 1, 2} := by decide
theorem at_loc : duesAt P sLoc 0 = {3} := by decide
theorem at_cs : duesAt P sCs 0 = {4} := by decide
theorem at_cr : duesAt P sCr 0 = {5} := by decide
theorem at_us : duesAt P sUs 0 = {6} := by decide
theorem at_ur : duesAt P sUr 0 = {7} := by decide
theorem at_ds : duesAt P sDs 0 = {8} := by decide
theorem at_dr : duesAt P sDr 0 = {9} := by decide

theorem over_bar (Φ : Fin 10 → sProp 𝕄) : bigSep ({0, 1, 2} : Finset (Fin 10)) Φ = iprop(Φ 0 ∗ Φ 1 ∗ Φ 2) := by
  rw [bigSep_insert (by decide), bigSep_insert (by decide), bigSep_singleton]; rfl

/-- What a device holds when its cells are open. -/
def opened (κ : GSem nD τ sig → ℕ) (c : Dev nD) : sProp 𝕄 :=
  iprop(□ recs P (pay H) So Sd κ
    ∗ atPos ER (cell τ c sBar) 0 ∅ 0
    ∗ (atPos ER (cell τ c sLoc) 0 ∅ 0 ∗ reached ER (cell τ c sLoc) 0)
    ∗ (atPos ER (cell τ c sCs) 0 ∅ 0 ∗ reached ER (cell τ c sCs) 0)
    ∗ (atPos ER (cell τ c sCr) 0 ∅ 0 ∗ reached ER (cell τ c sCr) 0)
    ∗ (atPos ER (cell τ c sUs) 0 ∅ 0 ∗ reached ER (cell τ c sUs) 0)
    ∗ (atPos ER (cell τ c sUr) 0 ∅ 0 ∗ reached ER (cell τ c sUr) 0)
    ∗ (atPos ER (cell τ c sDs) 0 ∅ 0 ∗ reached ER (cell τ c sDs) 0)
    ∗ (atPos ER (cell τ c sDr) 0 ∅ 0 ∗ reached ER (cell τ c sDr) 0)
    ∗ dutyTok ER (cell τ (pr c) sBar) 0 0 ∗ dutyTok ER (cell τ (rt c) sBar) 0 1 ∗ dutyTok ER (cell τ (lf c) sBar) 0 2
    ∗ dutyTok ER (cell τ c sLoc) 0 3
    ∗ dutyTok ER (cell τ c sCs) 0 4 ∗ dutyTok ER (cell τ (pr c) sCr) 0 5
    ∗ dutyTok ER (cell τ c sUs) 0 6 ∗ dutyTok ER (cell τ (rt c) sUr) 0 7
    ∗ dutyTok ER (cell τ c sDs) 0 8 ∗ dutyTok ER (cell τ (lf c) sDr) 0 9)

def creds (c : Dev nD) : sProp 𝕄 :=
  iprop(cred (tallyAt (cell τ c sBar) () 3) ∗ cred (tallyAt (cell τ c sCr) () N) ∗ cred (tallyAt (cell τ c sUr) () N)
    ∗ cred (tallyAt (cell τ c sDr) () N))

def runPre (κ : GSem nD τ sig → ℕ) (c : Dev nD) (W : Waits sig Unit) : sProp 𝕄 :=
  iprop(opened H κ c ∗ creds c ∗ levAts L (lv rk) ∗ owes (c : Thread nD τ) (dues P J₀ c) W
    ∗ hPts H Finset.univ c ∗ (∃ f, wPts c f) ∗ (∃ f, rPts c f) ∗ (∃ f, uPts Finset.univ c f) ∗ (∃ f, dPts Finset.univ c f) ∗ (∃ f, oPts c f))

def runPost (c : Dev nD) : sProp 𝕄 :=
  iprop((semVal (cell τ c sBar) 0 ∗ semVal (cell τ c sLoc) 0 ∗ semVal (cell τ c sCs) 0 ∗ semVal (cell τ c sCr) 0
      ∗ semVal (cell τ c sUs) 0 ∗ semVal (cell τ c sUr) 0 ∗ semVal (cell τ c sDs) 0 ∗ semVal (cell τ c sDr) 0)
    ∗ (∃ W, owes (c : Thread nD τ) 0 W)
    ∗ hPts H Finset.univ c ∗ (∃ f, wPts c f) ∗ (∃ f, rPts c f) ∗ (∃ f, uPts Finset.univ c f) ∗ (∃ f, dPts Finset.univ c f)
    ∗ oPts c (result H c))

abbrev 𝒱₀ : Variants := Variants.none

theorem hz2 : (![0, 0] : Fin 2 → Nat) = fun _ => 0 := funext fun a => by fin_cases a <;> rfl
theorem read_w (f : BT F) : wM.view.readAt (Elt F) (Rect.unit (s := S512x2048) ![0, 0] S512x2048.size inb_S512x2048_S512x2048_0_0).toLoadRect f = f :=
  Memref.readAt_unit_zero (Elt F) cc0_scratch0 hz2 _ f
theorem read_r (f : BT F) : rM.view.readAt (Elt F) (Rect.unit (s := S512x2048) ![0, 0] S512x2048.size inb_S512x2048_S512x2048_0_0).toLoadRect f = f :=
  Memref.readAt_unit_zero (Elt F) cc0_scratch1 hz2 _ f

theorem dues_0 (c : Dev nD) : dues P J₀ c = dues P J₁ c + tallyAt (cell τ (pr c) sBar) () 1 := dues_take P (j := 0) (by decide) c
theorem dues_1 (c : Dev nD) : dues P J₁ c = dues P J₂ c + tallyAt (cell τ (rt c) sBar) () 1 := dues_take P (j := 1) (by decide) c
theorem dues_2 (c : Dev nD) : dues P J₂ c = dues P J₃ c + tallyAt (cell τ (lf c) sBar) () 1 := dues_take P (j := 2) (by decide) c
theorem dues_3 (c : Dev nD) : dues P J₃ c = dues P J₄ c + tallyAt (cell τ (pr c) sCr) () N := dues_take P (j := 5) (by decide) c
theorem dues_4 (c : Dev nD) : dues P J₄ c = dues P J₅ c + tallyAt (cell τ (rt c) sUr) () N := dues_take P (j := 7) (by decide) c
theorem dues_5 (c : Dev nD) : dues P J₅ c = 0 + tallyAt (cell τ (lf c) sDr) () N :=
  (dues_take P (j := 9) (by decide) c).trans (congrArg (· + _) (dues_empty P c))

/-- The copy of a device's own rows to its on-chip buffer. -/
theorem copy_own (κ : GSem nD τ sig → ℕ) (c : Dev nD)
    {hsrc : hV0.view.WordExact} {hdst : wM.view.WordExact}
    {hsem : DmaTarget.Typed (nD := nD) .hbm sLoc (DmaTarget.here (τ := τ) (p := Proc.tc) wM)}
    {α : Type} {Q : α → sProp 𝕄} {k : PUnit → Prog (TpuEff nD τ sig (Elt F) Λ₀ .tc) α} :
    iprop(recs P (pay H) So Sd κ ∗ hPts H hV0.view.set c ∗ (∃ f, wPts c f) ∗ dutyTok ER (cell τ c sLoc) 0 3 ∗ reached ER (cell τ c sLoc) 0)
      ⊢ iprop((cred (tallyAt (cell τ c sLoc) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hV0 (.here wM) sLoc hsrc hdst hsem) k) Q) := by
  iintro ⟨#Hr, Hx, ⟨%fn, Hw⟩, Ht1, Hr1⟩ Hk
  iapply (Rounds.wp_copy_pointsTo 𝒱₀ ER (Rd H) (c : Thread nD τ) none (src := hV0) (dst := wM)
      (sem := sLoc) (q := fullShare) (fs := H c) (κ := κ (cell τ c sLoc)) (r := 0) (d := 3) (fd := fn)
      (due_mem P (pay H) 3 c) () N rfl rfl
      (sep_mono_left (Entails.of_eq (pointsTo_congr fun i hi =>
        write_in wM.view fn (keep H c) (keep H c) rfl i hi)))) $$ [Hx Hw Ht1 Hr1]
  · isplitr; · iapply (recs_inv P (pay H) So Sd κ (s := sLoc) (by decide) c); iexact Hr
    isplitl [Hx]; · iexact Hx
    isplitl [Hw]; · iexact Hw
    isplitl [Ht1]; · iexact Ht1
    iexact Hr1
  iexact Hk

/-- The copy of the peer's rows to the peer. -/
theorem send_c (κ : GSem nD τ sig → ℕ) (c n : Dev nD) (hn : n = pr c) {hsc : rM.view.ref.isScScratch = false}
    {hsrc : hV1.view.WordExact} {hdst : rM.view.WordExact}
    {hsem : DmaTarget.Typed .hbm sCr (.remote (Dev.tc n : Thread nD τ) rM sCs hsc)}
    {α : Type} {Q : α → sProp 𝕄} {k : PUnit → Prog (TpuEff nD τ sig (Elt F) Λ₀ .tc) α} (W : Waits sig Unit) :
    iprop(recs P (pay H) So Sd κ ∗ hPts H hV1.view.set c ∗ (∃ f, rPts (pr c) f)
        ∗ owes (c : Thread nD τ) (dues P J₃ c) W
        ∗ dutyTok ER (cell τ c sCs) 0 4 ∗ reached ER (cell τ c sCs) 0
        ∗ dutyTok ER (cell τ (pr c) sCr) 0 5 ∗ reached ER (cell τ (pr c) sCr) 0)
      ⊢ iprop(((cred (tallyAt (cell τ c sCs) () N) ∗ owes (c : Thread nD τ) (dues P J₄ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hV1 (.remote (Dev.tc n : Thread nD τ) rM sCs hsc) sCr hsrc hdst hsem) k) Q) := by
  subst hn
  iintro ⟨#Hr, Hx, ⟨%fn, Ho⟩, HO, Ht1, Hr1, Ht2, Hr2⟩ Hk
  iapply (Rounds.wp_send_pointsTo 𝒱₀ ER (Rd H) (c : Thread nD τ) none (c' := (pr c : Thread nD τ)) (src := hV1) (dst := rM)
      (sS := sCs) (sem := sCr) (q := fullShare) (fs := H c) (κ₁ := κ (cell τ c sCs)) (κ₂ := κ (cell τ (pr c) sCr))
      (r₁ := 0) (r₂ := 0) (d₁ := 4) (d₂ := 5) (fd := fn)
      (due_mem P (pay H) 4 c) (due_mem P (pay H) 5 (pr c)) () () N rfl rfl rfl (dues P J₄ c) (dues_3 c) (W := W)
      (BI.Entails.refl _)
      (Entails.of_eq (pointsTo_congr fun i hi =>
        write_in rM.view fn (give H (pr (pr c))) (give H c) (by rw [pr_pr]; rfl) i hi))) $$ [Hx Ho HO Ht1 Hr1 Ht2 Hr2]
  · isplitr; · iapply (recs_inv P (pay H) So Sd κ (s := sCs) (by decide) c); iexact Hr
    isplitr; · iapply (recs_inv P (pay H) So Sd κ (s := sCr) (by decide) (pr c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy of the finished rows to the right. -/
theorem send_u (κ : GSem nD τ sig → ℕ) (c n : Dev nD) (hn : n = rt c) {hsc : uV1.view.ref.isScScratch = false}
    {hsrc : uV0.view.WordExact} {hdst : uV1.view.WordExact}
    {hsem : DmaTarget.Typed .vmem sUr (.remote (Dev.tc n : Thread nD τ) uV1 sUs hsc)}
    {α : Type} {Q : α → sProp 𝕄} {k : PUnit → Prog (TpuEff nD τ sig (Elt F) Λ₀ .tc) α} (W : Waits sig Unit) :
    iprop(recs P (pay H) So Sd κ ∗ uPts uV0.view.set c (fullU H c) ∗ (∃ f, uPts uV1.view.set (rt c) f)
        ∗ owes (c : Thread nD τ) (dues P J₄ c) W
        ∗ dutyTok ER (cell τ c sUs) 0 6 ∗ reached ER (cell τ c sUs) 0
        ∗ dutyTok ER (cell τ (rt c) sUr) 0 7 ∗ reached ER (cell τ (rt c) sUr) 0)
      ⊢ iprop(((cred (tallyAt (cell τ c sUs) () N) ∗ owes (c : Thread nD τ) (dues P J₅ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma uV0 (.remote (Dev.tc n : Thread nD τ) uV1 sUs hsc) sUr hsrc hdst hsem) k) Q) := by
  subst hn
  iintro ⟨#Hr, Hx, ⟨%fn, Ho⟩, HO, Ht1, Hr1, Ht2, Hr2⟩ Hk
  iapply (Rounds.wp_send_pointsTo 𝒱₀ ER (Rd H) (c : Thread nD τ) none (c' := (rt c : Thread nD τ)) (src := uV0) (dst := uV1)
      (sS := sUs) (sem := sUr) (q := fullShare) (fs := fullU H c) (κ₁ := κ (cell τ c sUs)) (κ₂ := κ (cell τ (rt c) sUr))
      (r₁ := 0) (r₂ := 0) (d₁ := 6) (d₂ := 7) (fd := fn)
      (due_mem P (pay H) 6 c) (due_mem P (pay H) 7 (rt c)) () () N rfl rfl rfl (dues P J₅ c) (dues_4 c) (W := W)
      (BI.Entails.refl _)
      (Entails.of_eq (pointsTo_congr fun i hi =>
        write_in uV1.view fn (fullU H (rt c)) _ (by rw [read_uV1 H, read_uV0 H, lf_rt]) i hi))) $$ [Hx Ho HO Ht1 Hr1 Ht2 Hr2]
  · isplitr; · iapply (recs_inv P (pay H) So Sd κ (s := sUs) (by decide) c); iexact Hr
    isplitr; · iapply (recs_inv P (pay H) So Sd κ (s := sUr) (by decide) (rt c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy of the finished rows to the left. -/
theorem send_d (κ : GSem nD τ sig → ℕ) (c n : Dev nD) (hn : n = lf c) {hsc : dV1.view.ref.isScScratch = false}
    {hsrc : dV0.view.WordExact} {hdst : dV1.view.WordExact}
    {hsem : DmaTarget.Typed .vmem sDr (.remote (Dev.tc n : Thread nD τ) dV1 sDs hsc)}
    {α : Type} {Q : α → sProp 𝕄} {k : PUnit → Prog (TpuEff nD τ sig (Elt F) Λ₀ .tc) α} (W : Waits sig Unit) :
    iprop(recs P (pay H) So Sd κ ∗ dPts dV0.view.set c (fullD H c) ∗ (∃ f, dPts dV1.view.set (lf c) f)
        ∗ owes (c : Thread nD τ) (dues P J₅ c) W
        ∗ dutyTok ER (cell τ c sDs) 0 8 ∗ reached ER (cell τ c sDs) 0
        ∗ dutyTok ER (cell τ (lf c) sDr) 0 9 ∗ reached ER (cell τ (lf c) sDr) 0)
      ⊢ iprop(((cred (tallyAt (cell τ c sDs) () N) ∗ owes (c : Thread nD τ) (0) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dV0 (.remote (Dev.tc n : Thread nD τ) dV1 sDs hsc) sDr hsrc hdst hsem) k) Q) := by
  subst hn
  iintro ⟨#Hr, Hx, ⟨%fn, Ho⟩, HO, Ht1, Hr1, Ht2, Hr2⟩ Hk
  iapply (Rounds.wp_send_pointsTo 𝒱₀ ER (Rd H) (c : Thread nD τ) none (c' := (lf c : Thread nD τ)) (src := dV0) (dst := dV1)
      (sS := sDs) (sem := sDr) (q := fullShare) (fs := fullD H c) (κ₁ := κ (cell τ c sDs)) (κ₂ := κ (cell τ (lf c) sDr))
      (r₁ := 0) (r₂ := 0) (d₁ := 8) (d₂ := 9) (fd := fn)
      (due_mem P (pay H) 8 c) (due_mem P (pay H) 9 (lf c)) () () N rfl rfl rfl (0) (dues_5 c) (W := W)
      (BI.Entails.refl _)
      (Entails.of_eq (pointsTo_congr fun i hi =>
        write_in dV1.view fn (fullD H (lf c)) _ (by rw [read_dV1 H, read_dV0 H, rt_lf]) i hi))) $$ [Hx Ho HO Ht1 Hr1 Ht2 Hr2]
  · isplitr; · iapply (recs_inv P (pay H) So Sd κ (s := sDs) (by decide) c); iexact Hr
    isplitr; · iapply (recs_inv P (pay H) So Sd κ (s := sDr) (by decide) (lf c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

theorem joined_u (c : Dev nD) (f : (cc0_scratch2 : Ref sig .tc).ty.Contents (Elt F)) :
    iprop(uPts uV1.view.set c f ∗ uPts (Finset.univ \ uV1.view.set) c f) ⊢ (uPts Finset.univ c f : sProp 𝕄) :=
  (pointsTo_join_subset (Finset.subset_univ _)).trans (Entails.of_eq (by rw [Finset.piecewise_same]))
theorem joined_d (c : Dev nD) (f : (cc0_scratch3 : Ref sig .tc).ty.Contents (Elt F)) :
    iprop(dPts dV1.view.set c f ∗ dPts (Finset.univ \ dV1.view.set) c f) ⊢ (dPts Finset.univ c f : sProp 𝕄) :=
  (pointsTo_join_subset (Finset.subset_univ _)).trans (Entails.of_eq (by rw [Finset.piecewise_same]))
theorem joined_h (c : Dev nD) :
    iprop(hPts H hV0.view.set c ∗ hPts H (Finset.univ \ hV0.view.set) c) ⊢ (hPts H Finset.univ c : sProp 𝕄) :=
  (pointsTo_join_subset (Finset.subset_univ _)).trans (Entails.of_eq (by rw [Finset.piecewise_same]))
theorem rest_u : Finset.univ \ uV1.view.set = uV0.view.set := by rw [set_uV1, set_uV0]; exact R0_eq.symm
theorem rest_d : Finset.univ \ dV1.view.set = dV0.view.set := by rw [set_dV1, set_dV0]; exact R0_eq.symm
theorem rest_h : Finset.univ \ hV0.view.set = hV1.view.set := by rw [set_hV0, set_hV1]; exact hR1_eq.symm

theorem access_u0 : (uM.access R0).setOn Finset.univ ⊆ uV0.view.set := by
  intro i hi
  rw [View.setOn_univ] at hi
  rw [set_uV0, ← View.set_slice_whole cc0_scratch2 R0]; exact hi
theorem access_d0 : (dM.access R0).setOn Finset.univ ⊆ dV0.view.set := by
  intro i hi
  rw [View.setOn_univ] at hi
  rw [set_dV0, ← View.set_slice_whole cc0_scratch3 R0]; exact hi
theorem access_u1 : (uM.access R1).setOn Finset.univ ⊆ uV1.view.set := by
  intro i hi
  rw [View.setOn_univ] at hi
  rw [set_uV1, ← View.set_slice_whole cc0_scratch2 R1]; exact hi
theorem access_d1 : (dM.access R1).setOn Finset.univ ⊆ dV1.view.set := by
  intro i hi
  rw [View.setOn_univ] at hi
  rw [set_dV1, ← View.set_slice_whole cc0_scratch3 R1]; exact hi

theorem stored_runs (c : Dev nD) (f : OT F) :
    (oM.access (oR3 c) : View sig .tc _ _ _).write (Elt F)
      ((oM.access (oR2 c) : View sig .tc _ _ _).write (Elt F)
        ((oM.access (oR1 c) : View sig .tc _ _ _).write (Elt F)
          ((oM.access oZ : View sig .tc _ _ _).write (Elt F) f k0_pay3 Finset.univ)
          (k0_pay2 (keep H c) (give H (pr c))) Finset.univ)
        (k0_pay6 ((uM.access R1 : View sig .tc _ _ _).read (Elt F) (fullU H c))) Finset.univ)
      (k0_pay1 ((dM.access R1 : View sig .tc _ _ _).read (Elt F) (fullD H c))) Finset.univ = result H c := by
  rw [show k0_pay6 ((uM.access R1 : View sig .tc _ _ _).read (Elt F) (fullU H c)) = own H (lf c) from pay6_eq H c,
    show k0_pay1 ((dM.access R1 : View sig .tc _ _ _).read (Elt F) (fullD H c)) = own H (rt c) from pay1_eq H c]
  exact stored_eq H c f

set_option maxHeartbeats 1600000 in
/-- The sum is stored, in the result and in the first slots, and goes to the right. -/
theorem run4 (κ : GSem nD τ sig → ℕ) (c : Dev nD) (W : Waits sig Unit) (v8 v11 v34 v37 : BitVec 32) (fo : OT F)
    (fu : (cc0_scratch2 : Ref sig .tc).ty.Contents (Elt F)) (fd : (cc0_scratch3 : Ref sig .tc).ty.Contents (Elt F)) (Kt : BitVec 32 → sProp 𝕄) :
    iprop((recs P (pay H) So Sd κ ∗ rPts c (give H (pr c)) ∗ oPts c fo ∗ uPts uV0.view.set c fu ∗ dPts dV0.view.set c fd
        ∗ (∃ f, uPts uV1.view.set (rt c) f) ∗ owes (c : Thread nD τ) (dues P J₄ c) W
        ∗ dutyTok ER (cell τ c sUs) 0 6 ∗ reached ER (cell τ c sUs) 0
        ∗ dutyTok ER (cell τ (rt c) sUr) 0 7 ∗ reached ER (cell τ (rt c) sUr) 0)
      ∗ (∀ x, (rPts c (give H (pr c)) ∗ oPts c ((oM.access (oR1 c) : View sig .tc _ _ _).write (Elt F)
          ((oM.access oZ : View sig .tc _ _ _).write (Elt F) fo k0_pay3 Finset.univ)
          (k0_pay2 (keep H c) (give H (pr c))) Finset.univ)
          ∗ dPts dV0.view.set c (fullD H c) ∗ cred (tallyAt (cell τ c sUs) () N) ∗ owes (c : Thread nD τ) (dues P J₅ c) W) -∗ Kt x))
      ⊢ wp frame (wpE (defs₀ (F := F)) 𝒱₀ c none) Set.univ
          (k0_part4 (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v8 v11 v34 v37 (keep H c)) Kt := by
  simp only [k0_part4_eq_skeleton]
  unfold k0_part4_skel
  simp only [Prog.lift, Prog.bind_op, Prog.bind_ret, Prog.pure_eq_ret]
  iintro ⟨⟨#HR, Hx, Ho, Hu0, Hd0, Hun, HO, HtUs, #HrUs, HtUr, #HnUr⟩, Hk⟩
  iapply (wp_load 𝒱₀ (c : Thread nD τ) none Set.univ (m := rM) (S := rM.view.set) (fun i _ => by rw [View.set_whole]; exact Finset.mem_univ i)) $$ Hx
  iintro Hx
  rw [read_r]
  iapply (wp_load 𝒱₀ (c : Thread nD τ) none Set.univ (m := oM) (S := Finset.univ) (Finset.subset_univ _)) $$ Ho
  iintro Ho
  iapply (wp_store 𝒱₀ (c : Thread nD τ) none Set.univ (m := oM) (r := oZ) (Mk := Finset.univ) (Finset.subset_univ _)) $$ Ho
  iintro Ho
  iapply (wp_load_rect 𝒱₀ (c : Thread nD τ) none Set.univ (m := oM) (r := oR1 c) (Finset.subset_univ _)) $$ Ho
  iintro Ho
  iapply (wp_store 𝒱₀ (c : Thread nD τ) none Set.univ (m := oM) (r := oR1 c) (Mk := Finset.univ) (Finset.subset_univ _)) $$ Ho
  iintro Ho
  iapply (wp_load_rect 𝒱₀ (c : Thread nD τ) none Set.univ (m := uM) (r := R0) (by rw [← View.setOn_univ]; exact access_u0)) $$ Hu0
  iintro Hu0
  iapply (wp_store 𝒱₀ (c : Thread nD τ) none Set.univ (m := uM) (r := R0) (Mk := Finset.univ) access_u0) $$ Hu0
  iintro Hu0
  iapply (wp_load_rect 𝒱₀ (c : Thread nD τ) none Set.univ (m := dM) (r := R0) (by rw [← View.setOn_univ]; exact access_d0)) $$ Hd0
  iintro Hd0
  iapply (wp_store 𝒱₀ (c : Thread nD τ) none Set.univ (m := dM) (r := R0) (Mk := Finset.univ) access_d0) $$ Hd0
  iintro Hd0
  ihave Hu0 := (Entails.of_eq (pointsTo_congr fun i hi => stored_u H c fu i (by rw [← set_uV0]; exact hi))) $$ Hu0
  ihave Hd0 := (Entails.of_eq (pointsTo_congr fun i hi => stored_d H c fd i (by rw [← set_dV0]; exact hi))) $$ Hd0
  -- the first hop, both ways round
  iapply (send_u H κ c _ (dev5_eq c) _) $$ [Hu0 Hun HO HtUs HtUr]
  · isplitr; · iexact HR
    isplitl [Hu0]; · iexact Hu0
    isplitl [Hun]; · iexact Hun
    isplitl [HO]; · iexact HO
    isplitl [HtUs]; · iexact HtUs
    isplitr; · iexact HrUs
    isplitl [HtUr]; · iexact HtUr
    iexact HnUr
  iintro ⟨HcUs, HO⟩
  rw [wp_ret]
  imodintro
  iapply Hk
  isplitl [Hx]; · iexact Hx
  isplitl [Ho]; · iexact Ho
  isplitl [Hd0]; · iexact Hd0
  isplitl [HcUs]; · iexact HcUs
  iexact HO

/-- The sum goes to the left; the copy to the right has been read out. -/
theorem run5 (κ : GSem nD τ sig → ℕ) (c : Dev nD) (W : Waits sig Unit) (v11 v34 v37 v50 v53 e : BitVec 32) (Kt : PUnit → sProp 𝕄) :
    iprop((recs P (pay H) So Sd κ ∗ dPts dV0.view.set c (fullD H c) ∗ (∃ f, dPts dV1.view.set (lf c) f)
        ∗ owes (c : Thread nD τ) (dues P J₅ c) W
        ∗ dutyTok ER (cell τ c sDs) 0 8 ∗ reached ER (cell τ c sDs) 0
        ∗ dutyTok ER (cell τ (lf c) sDr) 0 9 ∗ reached ER (cell τ (lf c) sDr) 0
        ∗ cred (tallyAt (cell τ c sUs) () N) ∗ atPos ER (cell τ c sUs) 0 ∅ 0)
      ∗ (∀ x, (cred (tallyAt (cell τ c sDs) () N) ∗ atPos ER (cell τ c sUs) 1 ∅ 0 ∗ uPts uV0.view.set c (fullU H c)
          ∗ ∃ W, owes (c : Thread nD τ) 0 W) -∗ Kt x))
      ⊢ wp frame (wpE (defs₀ (F := F)) 𝒱₀ c none) Set.univ
          (k0_part5 (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v11 v34 v37 v50 v53 e) Kt := by
  simp only [k0_part5_eq_skeleton]
  unfold k0_part5_skel
  simp only [Prog.lift, Prog.bind_op, Prog.bind_ret, Prog.pure_eq_ret]
  iintro ⟨⟨#HR, Hd0, Hdn, HO, HtDs, #HrDs, HtDr, #HnDr, HcUs, HatUs⟩, Hk⟩
  iapply (send_d H κ c _ (dev6_eq c) _) $$ [Hd0 Hdn HO HtDs HtDr]
  · isplitr; · iexact HR
    isplitl [Hd0]; · iexact Hd0
    isplitl [Hdn]; · iexact Hdn
    isplitl [HO]; · iexact HO
    isplitl [HtDs]; · iexact HtDs
    isplitr; · iexact HrDs
    isplitl [HtDr]; · iexact HtDr
    iexact HnDr
  iintro ⟨HcDs, HO⟩
  iapply (Rounds.wp_wait_rest_token 𝒱₀ ER (Rd H) (c : Thread nD τ) none (κ := κ (cell τ c sUs))
      (wpE_waitDma2_eq 𝒱₀ (c : Thread nD τ) none Set.univ) (Set.mem_univ _) () (O := 0) (R := 0) (m := 0) (T := ∅)
      ((Nat.zero_add _).trans (by rw [expect_at, at_us]; rfl))) $$ [HcUs HO HatUs]
  · isplitr; · iapply (recs_inv P (pay H) So Sd κ (s := sUs) (by decide) c); iexact HR
    isplitl [HcUs]; · iexact HcUs
    isplitl [HO]; · iexact HO
    isplitr; · rw [MayWait_zero]; iempintro
    iexact HatUs
  iintro ⟨HO, HatUs, -, Hpay⟩
  ihave Hu0 := (Entails.of_eq ((rest_at P (pay H) c sUs 0).trans (by rw [at_us, bigSep_singleton]; rfl : _ = uPts uV0.view.set c (fullU H c)))) $$ Hpay
  rw [wp_ret]
  imodintro
  iapply Hk
  isplitl [HcDs]; · iexact HcDs
  isplitl [HatUs]; · iexact HatUs
  isplitl [Hu0]; · iexact Hu0
  iexists _; iexact HO

set_option maxHeartbeats 1600000 in
/-- The left neighbour's sum arrives and is stored; the copy to the left has been read out. -/
theorem run6 (κ : GSem nD τ sig → ℕ) (c : Dev nD) (W : Waits sig Unit) (v8 v11 v50 : BitVec 32) (fo : OT F)
    (Kt : (Σ' (_ : BitVec 32), BitVec 32) → sProp 𝕄) :
    iprop((recs P (pay H) So Sd κ ∗ oPts c fo ∗ owes (c : Thread nD τ) 0 W
        ∗ cred (tallyAt (cell τ c sUr) () N) ∗ atPos ER (cell τ c sUr) 0 ∅ 0
        ∗ cred (tallyAt (cell τ c sDs) () N) ∗ atPos ER (cell τ c sDs) 0 ∅ 0)
      ∗ (∀ x, (atPos ER (cell τ c sUr) 1 ∅ 0 ∗ uPts uV1.view.set c (fullU H c) ∗ oPts c ((oM.access (oR2 c) : View sig .tc _ _ _).write (Elt F) fo
          (k0_pay6 ((uM.access R1 : View sig .tc _ _ _).read (Elt F) (fullU H c))) Finset.univ)
          ∗ atPos ER (cell τ c sDs) 1 ∅ 0 ∗ dPts dV0.view.set c (fullD H c) ∗ ∃ W, owes (c : Thread nD τ) 0 W) -∗ Kt x))
      ⊢ wp frame (wpE (defs₀ (F := F)) 𝒱₀ c none) Set.univ
          (k0_part6 (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v8 v11 v50) Kt := by
  simp only [k0_part6_eq_skeleton]
  unfold k0_part6_skel
  simp only [Prog.lift, Prog.bind_op, Prog.bind_ret, Prog.pure_eq_ret]
  iintro ⟨⟨#HR, Ho, HO, HcUr, HatUr, HcDs, HatDs⟩, Hk⟩
  iapply (Rounds.wp_wait_rest_token 𝒱₀ ER (Rd H) (c : Thread nD τ) none (κ := κ (cell τ c sUr))
      (wpE_waitDma2_eq 𝒱₀ (c : Thread nD τ) none Set.univ) (Set.mem_univ _) () (O := 0) (R := 0) (m := 0) (T := ∅)
      ((Nat.zero_add _).trans (by rw [expect_at, at_ur]; rfl))) $$ [HcUr HO HatUr]
  · isplitr; · iapply (recs_inv P (pay H) So Sd κ (s := sUr) (by decide) c); iexact HR
    isplitl [HcUr]; · iexact HcUr
    isplitl [HO]; · iexact HO
    isplitr; · rw [MayWait_zero]; iempintro
    iexact HatUr
  iintro ⟨HO, HatUr, -, Hpay⟩
  ihave Hu1 := (Entails.of_eq ((rest_at P (pay H) c sUr 0).trans (by rw [at_ur, bigSep_singleton]; rfl : _ = uPts uV1.view.set c (fullU H c)))) $$ Hpay
  iapply (wp_load_rect 𝒱₀ (c : Thread nD τ) none Set.univ (m := uM) (r := R1) (by rw [← View.setOn_univ]; exact access_u1)) $$ Hu1
  iintro Hu1
  iapply (wp_load_rect 𝒱₀ (c : Thread nD τ) none Set.univ (m := oM) (r := oR2 c) (Finset.subset_univ _)) $$ Ho
  iintro Ho
  iapply (wp_store 𝒱₀ (c : Thread nD τ) none Set.univ (m := oM) (r := oR2 c) (Mk := Finset.univ) (Finset.subset_univ _)) $$ Ho
  iintro Ho
  iapply (Rounds.wp_wait_rest_token 𝒱₀ ER (Rd H) (c : Thread nD τ) none (κ := κ (cell τ c sDs))
      (wpE_waitDma2_eq 𝒱₀ (c : Thread nD τ) none Set.univ) (Set.mem_univ _) () (O := 0) (R := 0) (m := 0) (T := ∅)
      ((Nat.zero_add _).trans (by rw [expect_at, at_ds]; rfl))) $$ [HcDs HO HatDs]
  · isplitr; · iapply (recs_inv P (pay H) So Sd κ (s := sDs) (by decide) c); iexact HR
    isplitl [HcDs]; · iexact HcDs
    isplitl [HO]; · iexact HO
    isplitr; · rw [MayWait_zero]; iempintro
    iexact HatDs
  iintro ⟨HO, HatDs, -, Hpay⟩
  ihave Hd0 := (Entails.of_eq ((rest_at P (pay H) c sDs 0).trans (by rw [at_ds, bigSep_singleton]; rfl : _ = dPts dV0.view.set c (fullD H c)))) $$ Hpay
  rw [wp_ret]
  imodintro
  iapply Hk
  isplitl [HatUr]; · iexact HatUr
  isplitl [Hu1]; · iexact Hu1
  isplitl [Ho]; · iexact Ho
  isplitl [HatDs]; · iexact HatDs
  isplitl [Hd0]; · iexact Hd0
  iexists _; iexact HO

/-- When every round is over, every counter is zero. -/
theorem closing (κ : GSem nD τ sig → ℕ) (c : Dev nD) :
    iprop(recs P (pay H) So Sd κ ∗ atPos ER (cell τ c sBar) 1 ∅ 0 ∗ atPos ER (cell τ c sLoc) 1 ∅ 0 ∗ atPos ER (cell τ c sCs) 1 ∅ 0 ∗ atPos ER (cell τ c sCr) 1 ∅ 0 ∗ atPos ER (cell τ c sUs) 1 ∅ 0 ∗ atPos ER (cell τ c sUr) 1 ∅ 0 ∗ atPos ER (cell τ c sDs) 1 ∅ 0 ∗ atPos ER (cell τ c sDr) 1 ∅ 0)
      ⊢ (|={Set.univ}=> (semVal (cell τ c sBar) 0 ∗ semVal (cell τ c sLoc) 0 ∗ semVal (cell τ c sCs) 0 ∗ semVal (cell τ c sCr) 0
      ∗ semVal (cell τ c sUs) 0 ∗ semVal (cell τ c sUr) 0 ∗ semVal (cell τ c sDs) 0 ∗ semVal (cell τ c sDr) 0) : sProp 𝕄) := by
  iintro ⟨#HR, HatB, HatL, HatCs, HatCr, HatUs, HatUr, HatDs, HatDr⟩
  imod (close_at P (pay H) c sBar (κ (cell τ c sBar)) 1 (fun _ _ => Nat.one_pos)) $$ [HatB] with Hv0
  · isplitr; · iapply (recs_inv P (pay H) So Sd κ (s := sBar) (by decide) c); iexact HR
    iexact HatB
  imod (close_at P (pay H) c sLoc (κ (cell τ c sLoc)) 1 (fun _ _ => Nat.one_pos)) $$ [HatL] with Hv1
  · isplitr; · iapply (recs_inv P (pay H) So Sd κ (s := sLoc) (by decide) c); iexact HR
    iexact HatL
  imod (close_at P (pay H) c sCs (κ (cell τ c sCs)) 1 (fun _ _ => Nat.one_pos)) $$ [HatCs] with Hv2
  · isplitr; · iapply (recs_inv P (pay H) So Sd κ (s := sCs) (by decide) c); iexact HR
    iexact HatCs
  imod (close_at P (pay H) c sCr (κ (cell τ c sCr)) 1 (fun _ _ => Nat.one_pos)) $$ [HatCr] with Hv3
  · isplitr; · iapply (recs_inv P (pay H) So Sd κ (s := sCr) (by decide) c); iexact HR
    iexact HatCr
  imod (close_at P (pay H) c sUs (κ (cell τ c sUs)) 1 (fun _ _ => Nat.one_pos)) $$ [HatUs] with Hv4
  · isplitr; · iapply (recs_inv P (pay H) So Sd κ (s := sUs) (by decide) c); iexact HR
    iexact HatUs
  imod (close_at P (pay H) c sUr (κ (cell τ c sUr)) 1 (fun _ _ => Nat.one_pos)) $$ [HatUr] with Hv5
  · isplitr; · iapply (recs_inv P (pay H) So Sd κ (s := sUr) (by decide) c); iexact HR
    iexact HatUr
  imod (close_at P (pay H) c sDs (κ (cell τ c sDs)) 1 (fun _ _ => Nat.one_pos)) $$ [HatDs] with Hv6
  · isplitr; · iapply (recs_inv P (pay H) So Sd κ (s := sDs) (by decide) c); iexact HR
    iexact HatDs
  imod (close_at P (pay H) c sDr (κ (cell τ c sDr)) 1 (fun _ _ => Nat.one_pos)) $$ [HatDr] with Hv7
  · isplitr; · iapply (recs_inv P (pay H) So Sd κ (s := sDr) (by decide) c); iexact HR
    iexact HatDr
  imodintro
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact Hv7

set_option maxHeartbeats 3200000 in
/-- The body of the kernel, run under the protocol. -/
theorem run (κ : GSem nD τ sig → ℕ) (c : Dev nD) (W : Waits sig Unit) (Kt : PUnit → sProp 𝕄) :
    iprop(runPre H κ c W ∗ (runPost H c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold runPre opened creds
  iintro ⟨⟨⟨#HR, HatB, ⟨HatL, #HrL⟩, ⟨HatCs, #HrCs⟩, ⟨HatCr, #HrCr⟩, ⟨HatUs, #HrUs⟩, ⟨HatUr, #HrUr⟩, ⟨HatDs, #HrDs⟩, ⟨HatDr, #HrDr⟩,
      HtB0, HtB1, HtB2, HtL, HtCs, HtCr, HtUs, HtUr, HtDs, HtDr⟩,
    ⟨HcB, HcCr, HcUr, HcDr⟩, #Hlev, HO, Hh, Hw, ⟨%fr, Hx⟩, ⟨%fu, Hu⟩, ⟨%fd, Hd⟩, ⟨%fo, Ho⟩⟩, Hk⟩
  ihave Hh2 := (pointsTo_split_subset (Finset.subset_univ hV0.view.set)).1 $$ Hh
  icases Hh2 with ⟨Hh0, Hh1⟩
  ihave Hu2 := (pointsTo_split_subset (Finset.subset_univ uV1.view.set)).1 $$ Hu
  icases Hu2 with ⟨Hu1, Hu0⟩
  ihave Hd2 := (pointsTo_split_subset (Finset.subset_univ dV1.view.set)).1 $$ Hd
  icases Hd2 with ⟨Hd1, Hd0⟩
  rw [rest_h, rest_u, rest_d]
  simp only [dev1_eq c, dev2_eq c, dev3_eq c]
  -- the three signals hand the others the places they may write
  rw [dues_0 c]
  iapply (Rounds.wp_signal 𝒱₀ ER (Rd H) (c : Thread nD τ) none (dst := (pr c : Thread nD τ)) (sem := barS) (r := 0) (d := 0) (κ := κ (cell τ (pr c) sBar))
      (due_mem P (pay H) 0 (pr c)) rfl () (dues P J₁ c) rfl) $$ [HO HtB0 Hx]
  · isplitr; · iapply (recs_inv P (pay H) So Sd κ (s := sBar) (by decide) (pr c)); iexact HR
    isplitl [HO]; · iexact HO
    isplitl [HtB0]; · iexact HtB0
    isplitl [Hx]
    · rw [show (Rd H).payload (cell τ (pr c) sBar) 0 0 = payPeer (pr c) from rfl]
      unfold payPeer
      rw [pr_pr]
      isplitl [Hx]; · iexists fr; iexact Hx
      iexact HrCr
    iapply (recs_reached P (pay H) So Sd κ (s := sBar) (by decide) (pr c)); iexact HR
  iintro HO
  rw [dues_1 c]
  iapply (Rounds.wp_signal 𝒱₀ ER (Rd H) (c : Thread nD τ) none (dst := (rt c : Thread nD τ)) (sem := barS) (r := 0) (d := 1) (κ := κ (cell τ (rt c) sBar))
      (due_mem P (pay H) 1 (rt c)) rfl () (dues P J₂ c) rfl) $$ [HO HtB1 Hd1]
  · isplitr; · iapply (recs_inv P (pay H) So Sd κ (s := sBar) (by decide) (rt c)); iexact HR
    isplitl [HO]; · iexact HO
    isplitl [HtB1]; · iexact HtB1
    isplitl [Hd1]
    · rw [show (Rd H).payload (cell τ (rt c) sBar) 0 1 = payLeft (rt c) from rfl]
      unfold payLeft
      rw [lf_rt]
      isplitl [Hd1]; · iexists fd; iexact Hd1
      iexact HrDr
    iapply (recs_reached P (pay H) So Sd κ (s := sBar) (by decide) (rt c)); iexact HR
  iintro HO
  rw [dues_2 c]
  iapply (Rounds.wp_signal 𝒱₀ ER (Rd H) (c : Thread nD τ) none (dst := (lf c : Thread nD τ)) (sem := barS) (r := 0) (d := 2) (κ := κ (cell τ (lf c) sBar))
      (due_mem P (pay H) 2 (lf c)) rfl () (dues P J₃ c) rfl) $$ [HO HtB2 Hu1]
  · isplitr; · iapply (recs_inv P (pay H) So Sd κ (s := sBar) (by decide) (lf c)); iexact HR
    isplitl [HO]; · iexact HO
    isplitl [HtB2]; · iexact HtB2
    isplitl [Hu1]
    · rw [show (Rd H).payload (cell τ (lf c) sBar) 0 2 = payRight (lf c) from rfl]
      unfold payRight
      rw [rt_lf]
      isplitl [Hu1]; · iexists fu; iexact Hu1
      iexact HrUr
    iapply (recs_reached P (pay H) So Sd κ (s := sBar) (by decide) (lf c)); iexact HR
  iintro HO
  -- the wait for theirs
  iapply (Rounds.wp_wait_rest_token 𝒱₀ ER (Rd H) (c : Thread nD τ) none (κ := κ (cell τ c sBar))
      (wpE_semWait_eq 𝒱₀ (c : Thread nD τ) none Set.univ) (Set.mem_univ _) () (O := dues P J₃ c) (R := 0) (m := 0) (T := ∅)
      ((Nat.zero_add _).trans (by rw [expect_at, at_bar]; rfl))) $$ [HcB HO HatB]
  · isplitr; · iapply (recs_inv P (pay H) So Sd κ (s := sBar) (by decide) c); iexact HR
    isplitl [HcB]; · iexact HcB
    isplitl [HO]; · iexact HO
    isplitr; · iapply (mayWait P rk c sBar J₃ (by decide)); iexact Hlev
    iexact HatB
  iintro ⟨HO, HatB, -, Hpay⟩
  ihave Hp := (Entails.of_eq ((rest_at P (pay H) c sBar 0).trans (by rw [at_bar, over_bar]; rfl : _ = iprop(payPeer c ∗ payLeft c ∗ payRight c)))) $$ Hpay
  unfold payPeer payLeft payRight
  icases Hp with ⟨⟨Hxn, #HnCr⟩, ⟨Hdn, #HnDr⟩, ⟨Hun, #HnUr⟩⟩
  -- the own rows come on chip, the peer's rows go to the peer
  iapply (copy_own H κ c) $$ [Hh0 Hw HtL]
  · isplitr; · iexact HR
    isplitl [Hh0]; · iexact Hh0
    isplitl [Hw]; · iexact Hw
    isplitl [HtL]; · iexact HtL
    iexact HrL
  iintro HcL
  iapply (send_c H κ c _ (dev4_eq c) _) $$ [Hh1 Hxn HO HtCs HtCr]
  · isplitr; · iexact HR
    isplitl [Hh1]; · iexact Hh1
    isplitl [Hxn]; · iexact Hxn
    isplitl [HO]; · iexact HO
    isplitl [HtCs]; · iexact HtCs
    isplitr; · iexact HrCs
    isplitl [HtCr]; · iexact HtCr
    iexact HnCr
  iintro ⟨HcCs, HO⟩
  iapply (Rounds.wp_wait_rest_token 𝒱₀ ER (Rd H) (c : Thread nD τ) none (κ := κ (cell τ c sLoc))
      (wpE_waitDma2_eq 𝒱₀ (c : Thread nD τ) none Set.univ) (Set.mem_univ _) () (O := dues P J₄ c) (R := 0) (m := 0) (T := ∅)
      ((Nat.zero_add _).trans (by rw [expect_at, at_loc]; rfl))) $$ [HcL HO HatL]
  · isplitr; · iapply (recs_inv P (pay H) So Sd κ (s := sLoc) (by decide) c); iexact HR
    isplitl [HcL]; · iexact HcL
    isplitl [HO]; · iexact HO
    isplitr; · iapply (mayWait P rk c sLoc J₄ (by decide)); iexact Hlev
    iexact HatL
  iintro ⟨HO, HatL, -, Hpay⟩
  ihave Hl := (Entails.of_eq ((rest_at P (pay H) c sLoc 0).trans (by rw [at_loc, bigSep_singleton]; rfl : _ = payLoc H c))) $$ Hpay
  unfold payLoc
  icases Hl with ⟨Hw, Hh0⟩
  iapply (Rounds.wp_wait_rest_token 𝒱₀ ER (Rd H) (c : Thread nD τ) none (κ := κ (cell τ c sCs))
      (wpE_waitDma2_eq 𝒱₀ (c : Thread nD τ) none Set.univ) (Set.mem_univ _) () (O := dues P J₄ c) (R := 0) (m := 0) (T := ∅)
      ((Nat.zero_add _).trans (by rw [expect_at, at_cs]; rfl))) $$ [HcCs HO HatCs]
  · isplitr; · iapply (recs_inv P (pay H) So Sd κ (s := sCs) (by decide) c); iexact HR
    isplitl [HcCs]; · iexact HcCs
    isplitl [HO]; · iexact HO
    isplitr; · iapply (mayWait P rk c sCs J₄ (by decide)); iexact Hlev
    iexact HatCs
  iintro ⟨HO, HatCs, -, Hpay⟩
  ihave Hh1 := (Entails.of_eq ((rest_at P (pay H) c sCs 0).trans (by rw [at_cs, bigSep_singleton]; rfl : _ = hPts H hV1.view.set c))) $$ Hpay
  iapply (Rounds.wp_wait_rest_token 𝒱₀ ER (Rd H) (c : Thread nD τ) none (κ := κ (cell τ c sCr))
      (wpE_waitDma2_eq 𝒱₀ (c : Thread nD τ) none Set.univ) (Set.mem_univ _) () (O := dues P J₄ c) (R := 0) (m := 0) (T := ∅)
      ((Nat.zero_add _).trans (by rw [expect_at, at_cr]; rfl))) $$ [HcCr HO HatCr]
  · isplitr; · iapply (recs_inv P (pay H) So Sd κ (s := sCr) (by decide) c); iexact HR
    isplitl [HcCr]; · iexact HcCr
    isplitl [HO]; · iexact HO
    isplitr; · iapply (mayWait P rk c sCr J₄ (by decide)); iexact Hlev
    iexact HatCr
  iintro ⟨HO, HatCr, -, Hpay⟩
  ihave Hx := (Entails.of_eq ((rest_at P (pay H) c sCr 0).trans (by rw [at_cr, bigSep_singleton]; rfl : _ = rPts c (give H (pr c))))) $$ Hpay
  -- the sum, and where it is stored
  iapply (wp_load 𝒱₀ (c : Thread nD τ) none Set.univ (m := wM) (S := wM.view.set) (fun i _ => by rw [View.set_whole]; exact Finset.mem_univ i)) $$ Hw
  iintro Hw
  rw [read_w]
  rw [wp_bind]
  iapply (run4 H κ c _ _ _ _ _ fo fu fd) $$ [-]
  isplitl [Hx Ho Hu0 Hd0 Hun HO HtUs HtUr]
  · isplitr; · iexact HR
    isplitl [Hx]; · iexact Hx
    isplitl [Ho]; · iexact Ho
    isplitl [Hu0]; · iexact Hu0
    isplitl [Hd0]; · iexact Hd0
    isplitl [Hun]; · iexact Hun
    isplitl [HO]; · iexact HO
    isplitl [HtUs]; · iexact HtUs
    isplitr; · iexact HrUs
    isplitl [HtUr]; · iexact HtUr
    iexact HnUr
  iintro %x4 ⟨Hx, Ho, Hd0, HcUs, HO⟩
  rw [wp_bind]
  iapply (run5 H κ c _ _ _ _ _ _ _) $$ [-]
  isplitl [Hd0 Hdn HO HtDs HtDr HcUs HatUs]
  · isplitr; · iexact HR
    isplitl [Hd0]; · iexact Hd0
    isplitl [Hdn]; · iexact Hdn
    isplitl [HO]; · iexact HO
    isplitl [HtDs]; · iexact HtDs
    isplitr; · iexact HrDs
    isplitl [HtDr]; · iexact HtDr
    isplitr; · iexact HnDr
    isplitl [HcUs] <;> iassumption
  iintro %x5 ⟨HcDs, HatUs, Hu0, %W5, HO⟩
  rw [wp_bind]
  iapply (run6 H κ c W5 _ _ _ _) $$ [-]
  isplitl [Ho HO HcUr HatUr HcDs HatDs]
  · isplitr; · iexact HR
    isplitl [Ho]; · iexact Ho
    isplitl [HO]; · iexact HO
    isplitl [HcUr]; · iexact HcUr
    isplitl [HatUr]; · iexact HatUr
    isplitl [HcDs] <;> iassumption
  iintro %x6 ⟨HatUr, Hu1, Ho, HatDs, Hd0, %W6, HO⟩
  obtain ⟨x60, x61⟩ := x6
  simp only [Prog.lift, Prog.bind_op, Prog.bind_ret, Prog.pure_eq_ret]
  iapply (Rounds.wp_wait_rest_token 𝒱₀ ER (Rd H) (c : Thread nD τ) none (κ := κ (cell τ c sDr))
      (wpE_waitDma2_eq 𝒱₀ (c : Thread nD τ) none Set.univ) (Set.mem_univ _) () (O := 0) (R := 0) (m := 0) (T := ∅)
      ((Nat.zero_add _).trans (by rw [expect_at, at_dr]; rfl))) $$ [HcDr HO HatDr]
  · isplitr; · iapply (recs_inv P (pay H) So Sd κ (s := sDr) (by decide) c); iexact HR
    isplitl [HcDr]; · iexact HcDr
    isplitl [HO]; · iexact HO
    isplitr; · rw [MayWait_zero]; iempintro
    iexact HatDr
  iintro ⟨HO, HatDr, -, Hpay⟩
  ihave Hd1 := (Entails.of_eq ((rest_at P (pay H) c sDr 0).trans (by rw [at_dr, bigSep_singleton]; rfl : _ = dPts dV1.view.set c (fullD H c)))) $$ Hpay
  iapply (wp_load_rect 𝒱₀ (c : Thread nD τ) none Set.univ (m := dM) (r := R1) (by rw [← View.setOn_univ]; exact access_d1)) $$ Hd1
  iintro Hd1
  iapply (wp_load_rect 𝒱₀ (c : Thread nD τ) none Set.univ (m := oM) (r := oR3 c) (Finset.subset_univ _)) $$ Ho
  iintro Ho
  iapply (wp_store 𝒱₀ (c : Thread nD τ) none Set.univ (m := oM) (r := oR3 c) (Mk := Finset.univ) (Finset.subset_univ _)) $$ Ho
  iintro Ho
  rw [stored_runs H c fo]
  -- every counter comes back at zero
  rw [wp_ret]
  imod (closing H κ c) $$ [HatB HatL HatCs HatCr HatUs HatUr HatDs HatDr] with ⟨Hv0, Hv1, Hv2, Hv3, Hv4, Hv5, Hv6, Hv7⟩
  · isplitr; · iexact HR
    isplitl [HatB]; · iexact HatB
    isplitl [HatL]; · iexact HatL
    isplitl [HatCs]; · iexact HatCs
    isplitl [HatCr]; · iexact HatCr
    isplitl [HatUs]; · iexact HatUs
    isplitl [HatUr]; · iexact HatUr
    isplitl [HatDs]; · iexact HatDs
    iexact HatDr
  imodintro
  iapply Hk
  unfold runPost
  isplitl [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  isplitl [HO]; · iexists _; iexact HO
  isplitl [Hh0 Hh1]
  · iapply (joined_h H c)
    rw [rest_h]
    isplitl [Hh0] <;> iassumption
  isplitl [Hw]; · iexists _; iexact Hw
  isplitl [Hx]; · iexists _; iexact Hx
  isplitl [Hu0 Hu1]
  · iexists (fullU H c)
    iapply (joined_u c (fullU H c))
    rw [rest_u]
    isplitl [Hu1] <;> iassumption
  isplitl [Hd0 Hd1]
  · iexists (fullD H c)
    iapply (joined_d c (fullD H c))
    rw [rest_d]
    isplitl [Hd1] <;> iassumption
  iexact Ho

end Cert.CombineIdeal.Comb

end
-- ==== Proof.RingRegion.lean ====
module

public import proofs.«01_k».proof.Proof.RingTalk
public import Idealize.ShloMosaic.Lib.Pipeline.Frame
public import Idealize.ShloMosaic.Lib.Pipeline.ValueKit

/-! The addition and the ring's first hop as a program: the body in the pipeline, and the region. -/

@[expose] public section

noncomputable section

namespace Cert.CombineIdeal.Comb

open Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk

variable {F : FTy → Type} [FloatOps F]

local notation "𝕄" => MT nD τ sig Unit (Elt F) ℕ (UU nD τ sig 10) ℕ

variable (m : (ℓ : Loc nD τ sig) → Buf (Elt F) ℓ) (ρ : Dev nD → PrngReg)

/-! ## What the region carries -/

/-- A device's contribution. -/
abbrev Hs (c : Dev nD) : HT F := m ((c : Thread nD τ).loc main_arg0)

abbrev osem : Fin 11 → SemLoc sig := ![sLoc, sCs, sCr, sUs, sUr, sDs, sDr, z0, z1, z2, z3]

def idleZero (c : Dev nD) : sProp 𝕄 :=
  iprop(semVal (cell τ c z0) 0 ∗ semVal (cell τ c z1) 0 ∗ semVal (cell τ c z2) 0 ∗ semVal (cell τ c z3) 0)
/-- What enters the kernel with its buffers, and what leaves it. -/
def Xk (c : Dev nD) : sProp 𝕄 := iprop((∃ κ, opened (Hs m) κ c) ∗ creds c ∗ levAts L (lv rk) ∗ idleZero c)
def Yk (c : Dev nD) : sProp 𝕄 := semVal (cell τ c sBar) 0
def dmaZero (c : Dev nD) : sProp 𝕄 :=
  iprop(semVal (cell τ c sLoc) 0 ∗ semVal (cell τ c sCs) 0 ∗ semVal (cell τ c sCr) 0 ∗ semVal (cell τ c sUs) 0
    ∗ semVal (cell τ c sUr) 0 ∗ semVal (cell τ c sDs) 0 ∗ semVal (cell τ c sDr) 0)

/-- A buffer whole at some contents. -/
abbrev any (c : Dev nD) (b : Ref sig .tc) : sProp 𝕄 :=
  iprop(∃ f : Buf (Elt F) ((c : Thread nD τ).loc b), ((c : Thread nD τ).loc b) ↦{fullShare} f)
def bufs (c : Dev nD) : sProp 𝕄 := iprop(any c cc0_scratch0 ∗ any c cc0_scratch1 ∗ any c cc0_scratch2 ∗ any c cc0_scratch3)
def argPts (c : Dev nD) : sProp 𝕄 := (((c : Thread nD τ).loc main_arg0) ↦{fullShare} Hs m c)

def dat (c : Dev nD) : Dat τ (Elt F) Unit ℕ (UU nD τ sig 10) ℕ cfg0 c where
  A w := m ((cfg0.win w).arr.view.loc (c : Thread nD τ))
  after w _ := match w with
    | ⟨0, _⟩ => result (Hs m) c
  Φ t := match t with
    | ⟨0, _⟩ => iprop(Xk m c ∗ (∃ r, prngReg c r) ∗ argPts m c ∗ bufs c)
    | ⟨_ + 1, _⟩ => iprop(Yk c ∗ (dmaZero c ∗ idleZero c) ∗ (∃ r, prngReg c r) ∗ argPts m c ∗ bufs c)
  q _ := fullShare
  owed t := if t.val = 0 then dues P J₀ c else 0

abbrev adm : (p : Fin 1) → (pcfgs (F := F) p).Adm := fun p => (cfgs p).toPCfg_adm
def pdats (p : Fin 1) (c : Dev nD) : Dat τ (Elt F) Unit ℕ (UU nD τ sig 10) ℕ (Pipeline.pin (pcfgs (F := F)) adm p) c :=
  match p with
  | 0 => dat m c

/-! ## The body -/

theorem owed_first (c : Dev nD) : (dat m c).owed t0_0.castSucc = dues P J₀ c := by
  show (if t0_0.castSucc.val = 0 then dues P J₀ c else 0) = _; exact if_pos rfl
theorem owed_last (c : Dev nD) : (dat m c).owed t0_0.succ = 0 := by
  show (if t0_0.succ.val = 0 then dues P J₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Z : b.ty.Contents (Elt F)) :
    (owns (Ix := Unit) (Name := ℕ) (U := UU nD τ sig 10) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop((Xk m c ∗ (∃ r, prngReg c r) ∗ argPts m c ∗ bufs c) ∗ (dat m c).owesAt () t0_0.castSucc
    ∗ (∃ d, stg c cc0_stg0_0 ((dat m c).before (0 : Fin 1) t0_0 d)))

def bodyPost (c : Dev nD) : sProp 𝕄 :=
  iprop((Yk c ∗ (dmaZero c ∗ idleZero c) ∗ (∃ r, prngReg c r) ∗ argPts m c ∗ bufs c) ∗ (dat m c).owesAt () t0_0.succ
    ∗ stg c cc0_stg0_0 (result (Hs m) c))

theorem whole_pts (c : Dev nD) (b : Ref sig .tc) (f : Buf (Elt F) (((c : Dev nD) : Thread nD τ).loc b)) :
    (((c : Thread nD τ).loc b) ↦{fullShare} f : sProp 𝕄) = ((Memref.whole b).view.loc (c : Thread nD τ) ↦[(Memref.whole b).view.set]{fullShare} f) := by
  show _ = (((c : Thread nD τ).loc b) ↦[(View.whole b).set]{fullShare} f)
  rw [View.set_whole]

theorem sound_body (c : Dev nD) :
    bodyPre m c ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c) := by
  unfold bodyPre Xk bufs argPts
  iintro ⟨⟨⟨⟨%κ, Hop⟩, Hcr, #Hlev, Hz⟩, Hp, Hh, ⟨%w, Hw⟩, ⟨%x, Hx⟩, ⟨%u, Hu⟩, ⟨%d, Hd⟩⟩, HO, ⟨%d0, %g0, -, Ho⟩⟩
  ihave HO' := (owesAt_elim m c _ _ (owed_first m c)) $$ HO
  icases HO' with ⟨%W, HO⟩
  iapply (run (Hs m) κ c W (fun _ => bodyPost m c))
  isplitl [Hop Hcr HO Hh Hw Hx Hu Hd Ho]
  · unfold runPre
    isplitl [Hop]; · iexact Hop
    isplitl [Hcr]; · iexact Hcr
    isplitr; · iexact Hlev
    isplitl [HO]; · iexact HO
    isplitl [Hh]; · iexact Hh
    isplitl [Hw]; · iexists w; iapply (Entails.of_eq (whole_pts c cc0_scratch0 w)) $$ Hw
    isplitl [Hx]; · iexists x; iapply (Entails.of_eq (whole_pts c cc0_scratch1 x)) $$ Hx
    isplitl [Hu]; · iexists u; iexact Hu
    isplitl [Hd]; · iexists d; iexact Hd
    iexists g0; iexact Ho
  unfold runPost bodyPost
  iintro ⟨⟨Hv0, Hv1, Hv2, Hv3, Hv4, Hv5, Hv6, Hv7⟩, ⟨%W', HO⟩, Hh, ⟨%w1, Hw⟩, ⟨%x1, Hx⟩, ⟨%u1, Hu⟩, ⟨%d1, Hd⟩, Ho⟩
  isplitr [HO Ho]
  · isplitl [Hv0]; · unfold Yk; iexact Hv0
    isplitl [Hv1 Hv2 Hv3 Hv4 Hv5 Hv6 Hv7 Hz]
    · isplitr [Hz]
      · unfold dmaZero
        isplitl [Hv1]; · iexact Hv1
        isplitl [Hv2]; · iexact Hv2
        isplitl [Hv3]; · iexact Hv3
        isplitl [Hv4]; · iexact Hv4
        isplitl [Hv5]; · iexact Hv5
        isplitl [Hv6]; · iexact Hv6
        iexact Hv7
      iexact Hz
    isplitl [Hp]; · iexact Hp
    unfold argPts bufs
    isplitl [Hh]; · iexact Hh
    isplitl [Hw]; · iexists w1; iapply (Entails.of_eq (whole_pts c cc0_scratch0 w1).symm) $$ Hw
    isplitl [Hx]; · iexists x1; iapply (Entails.of_eq (whole_pts c cc0_scratch1 x1).symm) $$ Hx
    isplitl [Hu]; · iexists u1; iexact Hu
    iexists d1; iexact Hd
  isplitl [HO]; · iapply (owesAt_intro m c t0_0.succ 0 (owed_last m c) W'); iexact HO
  iexists (result (Hs m) c); isplitr; · ipureintro; rfl
  iexact Ho

theorem body_obligation (c : Dev nD) : BodyObligation (dat (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c)
  exact sound_body m c

/-! ## The region -/

abbrev V₀ (c : Dev nD) : Valuation τ sig (Elt F) := fun b => m ((c : Dev nD), b)
/-- The buffers after the call. -/
def V₁ (c : Dev nD) : Valuation τ sig (Elt F) :=
  Function.update (V₀ m c) (Proc.devRef .tc main_v1) ((dat m c).arrAt 0 cfg0.N)

theorem V₁_arg0 (c : Dev nD) : V₁ m c (Proc.devRef .tc main_arg0) = m ((c : Thread nD τ).loc main_arg0) := by
  unfold V₁; rw [Function.update_of_ne (by decide)]
theorem V₁_out (c : Dev nD) : V₁ m c (Proc.devRef .tc main_v1) = (dat m c).arrAt 0 cfg0.N := by
  unfold V₁; rw [Function.update_self]

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem ownSems_eq (c : Dev nD) : (Pipeline.ownSems0 osem c : sProp 𝕄) ⊣⊢ iprop(dmaZero c ∗ idleZero c) := by
  rw [show (Pipeline.ownSems0 osem c : sProp 𝕄) = _ from bigSep_fin11 (fun k : Fin 11 => (semVal ((c : Thread nD τ), osem k) 0 : sProp 𝕄))]
  unfold dmaZero idleZero
  constructor
  · iintro ⟨H0, H1, H2, H3, H4, H5, H6, H7, H8, H9, H10⟩
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    iexact H10
  · iintro ⟨⟨H0, H1, H2, H3, H4, H5, H6⟩, H7, H8, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem overSd (Φ : SemLoc sig → sProp 𝕄) :
    bigSep Sd Φ = iprop(Φ sLoc ∗ Φ sCs ∗ Φ sCr ∗ Φ sUs ∗ Φ sUr ∗ Φ sDs ∗ Φ sDr) := by
  unfold Sd
  rw [bigSep_insert (by decide), bigSep_insert (by decide), bigSep_insert (by decide), bigSep_insert (by decide),
    bigSep_insert (by decide), bigSep_insert (by decide), bigSep_singleton]; rfl
theorem overSo (Φ : SemLoc sig → sProp 𝕄) : bigSep So Φ = Φ sBar := by unfold So; rw [bigSep_singleton]
theorem overJ (Φ : Fin 10 → sProp 𝕄) : bigSep J₀ Φ = iprop(Φ 0 ∗ Φ 1 ∗ Φ 2 ∗ Φ 5 ∗ Φ 7 ∗ Φ 9) := by
  unfold J₀
  rw [bigSep_insert (by decide), bigSep_insert (by decide), bigSep_insert (by decide), bigSep_insert (by decide),
    bigSep_insert (by decide), bigSep_singleton]; rfl

/-- What a device carries from the launch to the kernel. -/
def Tk (c : Dev nD) : sProp 𝕄 := iprop((∃ κ, □ recs P (pay (Hs m)) So Sd κ ∗ mine P So Sd c) ∗ creds c)

theorem hopen (c : Dev nD) : iprop(Tk m c ∗ Pipeline.ownSems0 osem c ∗ levAts L (lv rk)) ⊢ (|={Set.univ}=> Xk m c : sProp 𝕄) := by
  refine (sep_mono .rfl (sep_mono (ownSems_eq c).1 .rfl)).trans ?_
  unfold Tk Xk mine dmaZero
  rw [overSd, overSo, bigSep_fin10]
  iintro ⟨⟨⟨%κ, #HR, HatB, ⟨Ho1, Ho2, Ho3, Ho4, Ho5, Ho6, Ho7⟩, Ht0, Ht1, Ht2, Ht3, Ht4, Ht5, Ht6, Ht7, Ht8, Ht9⟩, Hcr⟩,
    ⟨⟨Hv1, Hv2, Hv3, Hv4, Hv5, Hv6, Hv7⟩, Hz⟩, #Hlev⟩
  imod (Rounds.cell_open ER (Rd (Hs m)) (g := cell τ c sLoc) (Set.mem_univ (κ (cell τ c sLoc)))) $$ [Ho1 Hv1] with ⟨Hat1, #Hr1⟩
  · isplitr; · iapply (recs_inv P (pay (Hs m)) So Sd κ (s := sLoc) (by decide) c); iexact HR
    isplitl [Ho1] <;> iassumption
  imod (Rounds.cell_open ER (Rd (Hs m)) (g := cell τ c sCs) (Set.mem_univ (κ (cell τ c sCs)))) $$ [Ho2 Hv2] with ⟨Hat2, #Hr2⟩
  · isplitr; · iapply (recs_inv P (pay (Hs m)) So Sd κ (s := sCs) (by decide) c); iexact HR
    isplitl [Ho2] <;> iassumption
  imod (Rounds.cell_open ER (Rd (Hs m)) (g := cell τ c sCr) (Set.mem_univ (κ (cell τ c sCr)))) $$ [Ho3 Hv3] with ⟨Hat3, #Hr3⟩
  · isplitr; · iapply (recs_inv P (pay (Hs m)) So Sd κ (s := sCr) (by decide) c); iexact HR
    isplitl [Ho3] <;> iassumption
  imod (Rounds.cell_open ER (Rd (Hs m)) (g := cell τ c sUs) (Set.mem_univ (κ (cell τ c sUs)))) $$ [Ho4 Hv4] with ⟨Hat4, #Hr4⟩
  · isplitr; · iapply (recs_inv P (pay (Hs m)) So Sd κ (s := sUs) (by decide) c); iexact HR
    isplitl [Ho4] <;> iassumption
  imod (Rounds.cell_open ER (Rd (Hs m)) (g := cell τ c sUr) (Set.mem_univ (κ (cell τ c sUr)))) $$ [Ho5 Hv5] with ⟨Hat5, #Hr5⟩
  · isplitr; · iapply (recs_inv P (pay (Hs m)) So Sd κ (s := sUr) (by decide) c); iexact HR
    isplitl [Ho5] <;> iassumption
  imod (Rounds.cell_open ER (Rd (Hs m)) (g := cell τ c sDs) (Set.mem_univ (κ (cell τ c sDs)))) $$ [Ho6 Hv6] with ⟨Hat6, #Hr6⟩
  · isplitr; · iapply (recs_inv P (pay (Hs m)) So Sd κ (s := sDs) (by decide) c); iexact HR
    isplitl [Ho6] <;> iassumption
  imod (Rounds.cell_open ER (Rd (Hs m)) (g := cell τ c sDr) (Set.mem_univ (κ (cell τ c sDr)))) $$ [Ho7 Hv7] with ⟨Hat7, #Hr7⟩
  · isplitr; · iapply (recs_inv P (pay (Hs m)) So Sd κ (s := sDr) (by decide) c); iexact HR
    isplitl [Ho7] <;> iassumption
  imodintro
  isplitr [Hcr Hz]
  · iexists κ
    unfold opened
    isplitr; · iexact HR
    isplitl [HatB]; · iexact HatB
    isplitl [Hat1]; · isplitl [Hat1]; · iexact Hat1
                      iexact Hr1
    isplitl [Hat2]; · isplitl [Hat2]; · iexact Hat2
                      iexact Hr2
    isplitl [Hat3]; · isplitl [Hat3]; · iexact Hat3
                      iexact Hr3
    isplitl [Hat4]; · isplitl [Hat4]; · iexact Hat4
                      iexact Hr4
    isplitl [Hat5]; · isplitl [Hat5]; · iexact Hat5
                      iexact Hr5
    isplitl [Hat6]; · isplitl [Hat6]; · iexact Hat6
                      iexact Hr6
    isplitl [Hat7]; · isplitl [Hat7]; · iexact Hat7
                      iexact Hr7
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    iexact Ht9
  isplitl [Hcr]; · iexact Hcr
  isplitr; · iexact Hlev
  iexact Hz

abbrev argSet : Finset (DevRef τ sig) := {Proc.devRef .tc main_arg0}
theorem held_arg (c : Dev nD) (W : Valuation τ sig (Elt F)) :
    (StableHlo.held (c.tc : Thread nD τ) argSet W : sProp 𝕄) = (((c : Thread nD τ).loc main_arg0) ↦{fullShare} W (Proc.devRef .tc main_arg0)) := by
  unfold StableHlo.held; exact BI.bigSep_singleton

theorem rest_eq (c : Dev nD) : (Pipeline.scopedRest (Pipeline.pin (pcfgs (F := F)) adm 0).spec c : sProp 𝕄) = bufs c := scopedRest0_eq c

theorem hin (c : Dev nD) : iprop(Pipeline.scopedRest (Pipeline.pin (pcfgs (F := F)) adm 0).spec c ∗ (∃ r, prngReg c r)
      ∗ StableHlo.held (c.tc : Thread nD τ) argSet (V₀ m c) ∗ Xk m c) ⊢ (pdats m 0 c).Φ 0 := by
  rw [show (pdats m 0 c).Φ 0 = iprop(Xk m c ∗ (∃ r, prngReg c r) ∗ argPts m c ∗ bufs c) from rfl, rest_eq, held_arg]
  unfold argPts
  iintro ⟨Hb, Hp, Hh, HX⟩
  isplitl [HX]; · iexact HX
  isplitl [Hp]; · iexact Hp
  isplitl [Hh]; · iexact Hh
  iexact Hb

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) argSet (V₁ m c) ∗ Pipeline.ownSems0 osem c ∗ Yk c) := by
  rw [show (pdats m 0 c).Φ (Fin.last (Pipeline.pin (pcfgs (F := F)) adm 0).N)
      = iprop(Yk c ∗ (dmaZero c ∗ idleZero c) ∗ (∃ r, prngReg c r) ∗ argPts m c ∗ bufs c) from rfl, rest_eq, held_arg, V₁_arg0]
  unfold argPts
  iintro ⟨HY, Hs, Hp, Hh, Hb⟩
  isplitl [Hb]; · iexact Hb
  isplitl [Hp]; · iexact Hp
  isplitl [Hh]; · iexact Hh
  isplitl [Hs]; · iapply (ownSems_eq c).2; iexact Hs
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rk_pos (j : Fin 10) (h : j ∈ J₀) : 0 < rk (P.sm j) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv rk g i := by
  have e : (pdats (F := F) m 0 c).owed t = if t.val = 0 then dues P J₀ c else 0 := rfl
  rw [e] at h
  split at h
  · obtain ⟨j, hj, rfl⟩ := dues_pos P h
    exact ⟨by rw [L_cell]; exact Finset.mem_singleton_self _, rk_pos j hj⟩
  · exact absurd h (Nat.lt_irrefl 0)

theorem cut_in (c : Dev nD) (w : Fin 1) (s : Fin (spec0 w).nbuf) : rk (SemLoc.dma ((spec0 w).sem s)) ≤ 0 := by
  revert s; revert w; decide

theorem share_full (c : Dev nD) (w : Fin 1) : (dat m c).share w = fullShare := by
  unfold Dat.share; split <;> rfl

theorem arr_first (c : Dev nD) (w : Fin 1) : (dat m c).arrAt w 0 = V₀ m c (Proc.devRef .tc (Pipeline.arrRef spec0 w)) := by
  fin_cases w; rfl
theorem arr_last (c : Dev nD) (w : Fin 1) : (dat m c).arrAt w cfg0.N = V₁ m c (Proc.devRef .tc (Pipeline.arrRef spec0 w)) := by
  match w with
  | 0 => exact (V₁_out m c).symm

set_option backward.isDefEq.respectTransparency.types false in
def reg : Pipeline.RegionSeg (pcfgs (F := F)) adm (pdats m) () defs₀ 𝒱₀ L (lv rk) 0 :=
  Pipeline.RegionSeg.ofTalk (pcfgs (F := F)) adm (pdats m) () defs₀ 𝒱₀ L (lv rk) 0 osem (by decide : Pipeline.OwnSemFacts spec0 osem)
    argSet argSet (Finset.Subset.refl _) kitP rfl (fun c => (body_obligation m c).loose)
    (fun _ => 0) (fun c => dues P J₀ c) (fun c => (owed_first m c).trans (zero_add _).symm) (owed_last m) (fun _ => rfl) (share_full m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_cell]; exact Finset.mem_singleton_self _, fun c w s => cut_in c w s, fun c t g i h => cutD m c t g i h⟩
    (fun _ => iprop(emp))
    (fun c w => arr_first m c w) (fun c w => arr_last m c w)

end Cert.CombineIdeal.Comb

end
-- ==== Proof.RingRun.lean ====
module

public import proofs.«01_k».proof.Proof.RingRegion
public import Idealize.ShloMosaic.Lib.Quiescent
public import Idealize.ShloMosaic.Adequacy
public import Idealize.ShloMosaic.Harness.Basic
public import Idealize.ShloMosaic.Init

/-! The launch of the addition and the ring's first hop on all sixteen devices, and what every run of it leaves. -/

@[expose] public section

noncomputable section

namespace Cert.CombineIdeal.Comb

open Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Idealize.ShloMosaic.Smoke (bigSep_pair bigSep_unpair)

variable {F : FTy → Type} [FloatOps F]

local notation "𝕄" => MT nD τ sig Unit (Elt F) ℕ (UU nD τ sig 10) ℕ

variable (m : (ℓ : Loc nD τ sig) → Buf (Elt F) ℓ) (ρ : Dev nD → PrngReg)

abbrev arrs : Finset (DevRef τ sig) := Pipeline.arrRefs (τ := τ) spec0

theorem arg_sub : argSet ⊆ Pipeline.ucRefs τ sig := by decide
theorem arrs_uc : Pipeline.ucRefs τ sig \ argSet = arrs := by decide

theorem held_arrs (c : Dev nD) (W : Valuation τ sig (Elt F)) :
    (StableHlo.held (c.tc : Thread nD τ) arrs W : sProp 𝕄) = (((c : Thread nD τ).loc main_v1) ↦{fullShare} W (Proc.devRef .tc main_v1)) := by
  unfold StableHlo.held arrs Pipeline.arrRefs
  rw [bigSep_map, show (Finset.univ.image (Pipeline.arrRef spec0) : Finset (Ref sig .tc))
      = Finset.univ.map ⟨Pipeline.arrRef spec0, winFacts0.arr_inj⟩ from (Finset.map_eq_image ⟨Pipeline.arrRef spec0, winFacts0.arr_inj⟩ Finset.univ).symm,
    bigSep_map, bigSep_W0]
  rfl

theorem bufs_split (c : Dev nD) (W : Valuation τ sig (Elt F)) :
    (unscopedBufs c (fun b => W b) : sProp 𝕄)
      ⊢ iprop(StableHlo.held (c.tc : Thread nD τ) argSet W ∗ StableHlo.held (c.tc : Thread nD τ) arrs W) := by
  rw [Pipeline.unscopedBufs_held, StableHlo.held_sub_split (c.tc : Thread nD τ) arg_sub W, arrs_uc]

theorem unscopedSems_eq (c : Dev nD) : (unscopedSems0 c : sProp 𝕄) = semVal (cell τ c sBar) 0 := by
  unfold unscopedSems0
  rw [show (Finset.univ.filter fun sm : SemLoc sig => ¬ sm.isScoped .tc) = {sBar} from by decide, BI.bigSep_singleton]

/-- Ghost state of the whole machine, dealt at the first device. -/
def G (c : Dev nD) : sProp 𝕄 := if c = 0 then BI.own (ER (elt P So Sd τ)) else iprop(emp)

theorem G_all : bigSep Finset.univ (G (F := F)) = BI.own (ER (elt P So Sd τ)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def u₀ : UU nD τ sig 10 :=
  (initOf (Pipeline.cells (Pipeline.pin (pcfgs (F := F)) adm) cellOf_inj) (Pipeline.launchToks (Pipeline.pin (pcfgs (F := F)) adm) cellOf_inj), elt P So Sd τ)

/-- What a device holds when the program starts, and when it ends. -/
def T₀ (c : Dev nD) : sProp 𝕄 :=
  iprop(StableHlo.held (c.tc : Thread nD τ) arrs (V₀ m c) ∗ (∃ r, prngReg c r)
    ∗ (StableHlo.held (c.tc : Thread nD τ) argSet (V₀ m c) ∗ emp) ∗ Tk m c ∗ ∃ Wd, owes (c : Thread nD τ) (0 + dues P J₀ c) Wd)
def Tₙ (c : Dev nD) : sProp 𝕄 := iprop(StableHlo.held (c.tc : Thread nD τ) arrs (V₁ m c) ∗ StableHlo.held (c.tc : Thread nD τ) argSet (V₁ m c) ∗ semVal (cell τ c sBar) 0)

def bundle (c : Dev nD) : sProp 𝕄 :=
  iprop((StableHlo.held (c.tc : Thread nD τ) argSet (V₀ m c) ∗ StableHlo.held (c.tc : Thread nD τ) arrs (V₀ m c)) ∗ (∃ r, prngReg c r) ∗ creds c ∗ owes (c : Thread nD τ) (dues P J₀ c) ∅)

theorem T₀_intro (κ : GSem nD τ sig → ℕ) (c : Dev nD) :
    iprop((□ recs P (pay (Hs m)) So Sd κ) ∗ (mine P So Sd c ∗ bundle m c)) ⊢ T₀ m c := by
  unfold bundle T₀ Tk
  rw [zero_add]
  iintro ⟨#HR, Hl, ⟨Ha, Hh⟩, Hp, Hc, HO⟩
  isplitl [Hh]; · iexact Hh
  isplitl [Hp]; · iexact Hp
  isplitl [Ha]
  · isplitl [Ha]; · iexact Ha
    iempintro
  isplitr [HO]
  · isplitl [Hl]
    · iexists κ
      isplitr; · iexact HR
      iexact Hl
    iexact Hc
  iexists ∅; iexact HO

/-- Three units of the barrier's credit. -/
theorem cred_three (c : Dev nD) :
    iprop(cred (tallyAt (cell τ c sBar) () 1) ∗ cred (tallyAt (cell τ c sBar) () 1) ∗ cred (tallyAt (cell τ c sBar) () 1))
      ⊢ (cred (tallyAt (cell τ c sBar) () 3) : sProp 𝕄) := by
  refine (sep_mono .rfl (cred_add _ _).2).trans ((cred_add _ _).2.trans ?_)
  rw [tallyAt_add, tallyAt_add]

theorem init :
    iprop((bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c)) ∗ levAts L (lv rk))
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dues P J₀ c) ∅ ∗ Pipeline.launchCred (fun c => dues P J₀ c) c ∗ prngReg c (ρ c) ∗ G c)
      ⊢ (iprop(bundle m c ∗ ((bigSep So fun s => semVal (cell τ c s) 0) ∗ G c)) : sProp 𝕄) := by
    rw [unscopedSems_eq, overSo]
    unfold bundle
    iintro ⟨Hh, Hus, HO, Hcr, Hp, HG⟩
    ihave Hc := (launchCred_dues P J₀ c) $$ Hcr
    isplitl [Hh HO Hp Hc]
    · isplitl [Hh]; · iapply (bufs_split c (V₀ m c)); iexact Hh
      isplitl [Hp]; · iexists (ρ c); iexact Hp
      isplitl [Hc]
      · ihave Hd := (Entails.of_eq (overJ (F := F) fun j => cred (tallyAt (cell τ c (P.sm j)) () (P.am j)))) $$ Hc
        icases Hd with ⟨H0, H1, H2, H3, H4, H5⟩
        unfold creds
        isplitl [H0 H1 H2]
        · iapply (cred_three (F := F) c)
          isplitl [H0]; · iexact H0
          isplitl [H1]; · iexact H1
          iexact H2
        isplitl [H3]; · iexact H3
        isplitl [H4]; · iexact H4
        iexact H5
      iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c))
      ⊢ (bigSep Finset.univ fun c : Dev nD => iprop(bundle m c ∗ ((bigSep So fun s => semVal (cell τ c s) 0) ∗ G c)) : sProp 𝕄)
      from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Talk.deal P (pay (Hs m)) So Sd (fun j c => pay_storable (Hs m) j c) (by decide)) $$ [Hv Hu] with ⟨%κ, #HR, Hm⟩
  · isplitl [Hv] <;> iassumption
  imodintro
  iapply (bigSep_with_persistent (R := iprop(□ recs P (pay (Hs m)) So Sd κ)) (Φ := fun c => iprop(mine P So Sd c ∗ bundle m c))
    fun c _ => T₀_intro m κ c)
  isplitr; · iexact HR
  iapply bigSep_pair
  isplitl [Hm] <;> iassumption

theorem unscoped_bar : ∀ sm : SemLoc sig, sm.isScoped .tc = false → sm = sBar := by decide

set_option backward.isDefEq.respectTransparency.types false in
/-- Every run ends; each device keeps its contribution, its result holds its own finished rows and those of its
    two neighbours on the ring, and every counter is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = (dat m c).arrAt 0 cfg0.N) ∧ r.2.sem = fun _ => 0) :=
  Pipeline.θ_run_regions_kit_sems (pcfgs (F := F)) adm (pdats m) () cellOf_inj EP defs₀ 𝒱₀ L (lv rk) m ρ main [.region (reg m)]
    (fun c Q => by rw [main_segs adm (pdats m) () 𝒱₀ L (lv rk) (reg m) c])
    (by simp only [Pipeline.Seg.pipes_region, Pipeline.Seg.pipes_nil]; decide)
    (O₀ := fun c => dues P J₀ c) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => ?_⟩
      show iprop(StableHlo.held (c.tc : Thread nD τ) arrs (V₁ m c) ∗ (∃ r, prngReg c r)
          ∗ (StableHlo.held (c.tc : Thread nD τ) argSet (V₁ m c) ∗ emp) ∗ Yk c ∗ ∃ Wd, owes (c : Thread nD τ) (0 : CellTallies nD τ sig Unit) Wd)
        ⊢ iprop(Tₙ m c ∗ ∃ W, owes (c : Thread nD τ) (0 : CellTallies nD τ sig Unit) W)
      unfold Yk Tₙ
      iintro ⟨Hh, -, ⟨Ha, -⟩, Hb, HO⟩
      isplitr [HO]
      · isplitl [Hh]; · iexact Hh
        isplitl [Ha] <;> iassumption
      · iexact HO)
    (hinit := init m ρ)
    (QY := fun c s => (s.mem ((c : Thread nD τ).loc main_arg0) = V₁ m c (Proc.devRef .tc main_arg0)
        ∧ s.mem ((c : Thread nD τ).loc main_v1) = V₁ m c (Proc.devRef .tc main_v1))
      ∧ s.sem (cell τ c sBar) = 0)
    (hfin := fun c s' => by
      dsimp only [Tₙ]; rw [held_arrs, held_arg]
      iintro ⟨⟨Ho, Ha, Hb0⟩, HSI⟩
      icombine HSI Ha gives %ha
      icombine HSI Ho gives %ho
      icombine HSI Hb0 gives %hb
      imodintro
      isplitr
      · ipureintro
        exact ⟨⟨Buf.eq_of_forall_mem_univ ha, Buf.eq_of_forall_mem_univ ho⟩, by simpa using hb⟩
      iexact HSI)
    (hQ := fun s h hs => ⟨fun c => by
        obtain ⟨⟨ha, ho⟩, -⟩ := h c
        exact ⟨ha.trans (V₁_arg0 m c), ho.trans (V₁_out m c)⟩,
      sem_eq_zero hs fun c sm hsm => by
        obtain rfl := unscoped_bar sm hsm
        exact (h c).2⟩)

/-! ## The result as an array -/

theorem out_eq (c : Dev nD) : (dat m c).arrAt 0 cfg0.N = result (Hs m) c := by
  funext i
  refine ((dat m c).arrAt_emb_eq_after_last 0 t0_0 (by decide +kernel) i).trans ?_
  blk_simp
  rfl

end Cert.CombineIdeal.Comb

end
-- ==== Proof.Totals.lean ====
module

public import proofs.«01_k».proof.Proof.RingRun
public import proofs.«01_k».proof.Proof.Gen.TotalsIdeal.Run
public import Idealize.ShloMosaic.Lib.Layout
public import Idealize.ShloMosaic.Lib.Pointwise
public import Idealize.ShloMosaic.Lib.Pipeline.Value
public import Idealize.ShloMosaic.Lib.ValueIdxRank6

/-! The plain sums laid on the rings, read at a device: its own rows' sum and its two neighbours'. -/

@[expose] public section

set_option maxRecDepth 16384

noncomputable section

open Idealize.ShloMosaic Idealize.ShloMosaic.TcCoe Idealize.SL.Sem

namespace Cert.TotalsIdeal.Tot

open Cert.TotalsIdeal Cert.TotalsIdeal.Gen

/-- Every device's half of its contribution and of its peer's, added. -/
def total (x : FVec Ideal S16384x2048 .bf16) : FVec Ideal S2x2x4x512x2048 .bf16 :=
  addf (shapeCast _ (extractStridedSlice S2x2x4x1x512x2048 ![0, 0, 0, 0, 0, 0] (shapeCast _ x shapeCasts_S16384x2048_S2x2x4x2x512x2048) slices_S2x2x4x2x512x2048_S2x2x4x1x512x2048_0_0_0_0_0_0) shapeCasts_S2x2x4x1x512x2048_S2x2x4x512x2048)
    (shapeCast _ (Host.reverse [1] (extractStridedSlice S2x2x4x1x512x2048 ![0, 0, 0, 1, 0, 0] (shapeCast _ x shapeCasts_S16384x2048_S2x2x4x2x512x2048) slices_S2x2x4x2x512x2048_S2x2x4x1x512x2048_0_0_0_1_0_0)) shapeCasts_S2x2x4x1x512x2048_S2x2x4x512x2048)

/-- The sums in the order of the ring. -/
def ring (x : FVec Ideal S16384x2048 .bf16) : FVec Ideal S2x8x512x2048 .bf16 :=
  concatenate S2x8x512x2048 1 [⟨S2x4x512x2048, (shapeCast _ (extractStridedSlice S1x2x4x512x2048 ![0, 0, 0, 0, 0] (total x) slices_S2x2x4x512x2048_S1x2x4x512x2048_0_0_0_0_0) shapeCasts_S1x2x4x512x2048_S2x4x512x2048)⟩,
    ⟨S2x4x512x2048, (Host.reverse [1] (shapeCast _ (extractStridedSlice S1x2x4x512x2048 ![1, 0, 0, 0, 0] (total x) slices_S2x2x4x512x2048_S1x2x4x512x2048_1_0_0_0_0) shapeCasts_S1x2x4x512x2048_S2x4x512x2048))⟩] concatenates_S2x4x512x2048_S2x4x512x2048_S2x8x512x2048_d1

/-- The place of each device on its ring, its distance from each place, and which places are near it. -/
def places : IVec S2x4 32 := concatenate S2x4 0 [⟨S1x4, (broadcastInDim S1x4 ![1] bcast_S4_S1x4_1 (iotaInDim S4 32 0))⟩, ⟨S1x4, (broadcastInDim S1x4 ![1] bcast_S4_S1x4_1 (subi (broadcastInDim S4 ![] bcast_S_S4 (constantI S_ 32 7#32)) (iotaInDim S4 32 0)))⟩] concatenates_S1x4_S1x4_S2x4_d0
def gap : IVec S2x4x8 32 := absi (subi (broadcastInDim S2x4x8 ![0, 1, 2] bcast_S2x4x1_S2x4x8_0_1_2 (broadcastInDim S2x4x1 ![0, 1] bcast_S2x4_S2x4x1_0_1 places)) (broadcastInDim S2x4x8 ![0, 1, 2] bcast_S1x1x8_S2x4x8_0_1_2 (broadcastInDim S1x1x8 ![2] bcast_S8_S1x1x8_2 (iotaInDim S8 32 0))))
def nearby : IVec S2x4x8 1 := ori (cmpi .sle gap (broadcastInDim S2x4x8 ![] bcast_S_S2x4x8 (constantI S_ 32 1#32))) (cmpi .eq gap (broadcastInDim S2x4x8 ![] bcast_S_S2x4x8 (constantI S_ 32 7#32)))

/-- The result of the reference. -/
def seen (x : FVec Ideal S16384x2048 .bf16) : FVec Ideal S65536x2048 .bf16 :=
  shapeCast _ (select (broadcastInDim S2x2x4x8x512x2048 ![0, 1, 2, 3, 4, 5] bcast_S2x1x4x8x1x1_S2x2x4x8x512x2048_0_1_2_3_4_5 (broadcastInDim S2x1x4x8x1x1 ![0, 2, 3] bcast_S2x4x8_S2x1x4x8x1x1_0_2_3 nearby))
    (broadcastInDim S2x2x4x8x512x2048 ![0, 1, 2, 3, 4, 5] bcast_S1x2x1x8x512x2048_S2x2x4x8x512x2048_0_1_2_3_4_5 (broadcastInDim S1x2x1x8x512x2048 ![1, 3, 4, 5] bcast_S2x8x512x2048_S1x2x1x8x512x2048_1_3_4_5 (ring x)))
    (broadcastInDim S2x2x4x8x512x2048 ![] bcast_S_S2x2x4x8x512x2048 (constant S_ .bf16 0x0000#16))) shapeCasts_S2x2x4x8x512x2048_S65536x2048

theorem nearby_at : ∀ (p : Fin 2) (q : Fin 4) (b : Fin 8), nearby (ix3 p q b) = 1 ↔ Cert.CombineIdeal.Comb.near (if p.val = 0 then q.val else 7 - q.val) b.val := by
  decide +kernel

/-- One sum, of rows of two devices. -/
theorem total_at (x : FVec Ideal S16384x2048 .bf16) (p q : Fin 2) (z : Fin 4) (r : Fin 512) (k : Fin 2048) :
    total x (ix5 p q z r k) = FloatOps.addf (F := Ideal) (φ := .bf16) (x (ix2 (⟨(p.val * 8 + q.val * 4 + z.val) * 1024 + r.val, by omega⟩ : Fin 16384) k))
      (x (ix2 (⟨(p.val * 8 + (1 - q.val) * 4 + z.val) * 1024 + (512 + r.val), by omega⟩ : Fin 16384) k)) := by
  show FloatOps.addf (F := Ideal) (φ := .bf16) (shapeCast _ _ _ (ix5 p q z r k)) (shapeCast _ _ _ (ix5 p q z r k)) = _
  have e5 : ∀ u : Fin 512 , (S2x2x4x1x512x2048.rowMajor (ix6 p q z (0 : Fin 1) u k)).val = (S2x2x4x512x2048.rowMajor (ix5 p q z u k)).val := fun u => by
    rw [Shape.rowMajor_val_six, rowMajor_val5 _ (2 * (4 * (512 * 2048))) (4 * (512 * 2048)) (512 * 2048) 2048 rfl rfl rfl rfl]
    show ((((p.val * 2 + q.val) * 4 + z.val) * 1 + 0) * 512 + u.val) * 2048 + k.val
      = p.val * (2 * (4 * (512 * 2048))) + q.val * (4 * (512 * 2048)) + z.val * (512 * 2048) + u.val * 2048 + k.val
    omega
  have e6 : ∀ (s : Fin 2) (q' : Fin 2) (row : Fin 16384), row.val = (p.val * 8 + q'.val * 4 + z.val) * 1024 + (s.val * 512 + r.val) →
      (S16384x2048.rowMajor (ix2 row k)).val = (S2x2x4x2x512x2048.rowMajor (ix6 p q' z s r k)).val := fun s q' row h => by
    rw [Shape.rowMajor_val_six, rowMajor_val2 _ 2048 rfl]
    show row.val * 2048 + k.val = ((((p.val * 2 + q'.val) * 4 + z.val) * 2 + s.val) * 512 + r.val) * 2048 + k.val
    omega
  rw [shapeCast_apply _ _ (ix5 p q z r k) (ix6 p q z (0 : Fin 1) r k) (e5 r), shapeCast_apply _ _ (ix5 p q z r k) (ix6 p q z (0 : Fin 1) r k) (e5 r)]
  congr 1
  · rw [extractStridedSlice_apply _ _ _ _ (ix6 p q z (0 : Fin 2) r k) (fun a => by
      match a with
      | 0 => exact (Nat.zero_add _).symm | 1 => exact (Nat.zero_add _).symm | 2 => exact (Nat.zero_add _).symm
      | 3 => rfl | 4 => exact (Nat.zero_add _).symm | 5 => exact (Nat.zero_add _).symm)]
    exact shapeCast_apply _ _ _ _ (e6 0 q _ (by show _ = _ + (0 * 512 + _); rw [Nat.zero_mul, Nat.zero_add]))
  · show extractStridedSlice _ _ _ _ _ = _
    rw [extractStridedSlice_apply _ _ _ _ (ix6 p (⟨1 - q.val, by omega⟩ : Fin 2) z (1 : Fin 2) r k) (fun a => by
      match a with
      | 0 => exact (Nat.zero_add _).symm
      | 1 => show 1 - q.val = 0 + (2 - (q.val + 1)); omega
      | 2 => exact (Nat.zero_add _).symm
      | 3 => rfl | 4 => exact (Nat.zero_add _).symm | 5 => exact (Nat.zero_add _).symm)]
    exact shapeCast_apply _ _ _ _ (e6 1 (⟨1 - q.val, by omega⟩ : Fin 2) _ (by show _ = _ + (1 * 512 + _); rw [Nat.one_mul]))

/-- The sums in ring order: the first four places are of the devices of the first half, the last four of the others', backwards. -/
theorem ring_at (x : FVec Ideal S16384x2048 .bf16) (q : Fin 2) (b : Fin 8) (r : Fin 512) (k : Fin 2048) :
    ring x (ix4 q b r k) = if h : b.val < 4 then total x (ix5 (0 : Fin 2) q (⟨b.val, h⟩ : Fin 4) r k)
      else total x (ix5 (1 : Fin 2) q (⟨7 - b.val, by omega⟩ : Fin 4) r k) := by
  have e : ∀ z : Fin 4, (S1x2x4x512x2048.rowMajor (ix5 (0 : Fin 1) q z r k)).val = (S2x4x512x2048.rowMajor (ix4 q z r k)).val := fun z => by
    rw [rowMajor_val5 _ (2 * (4 * (512 * 2048))) (4 * (512 * 2048)) (512 * 2048) 2048 rfl rfl rfl rfl, rowMajor_val4 _ (4 * (512 * 2048)) (512 * 2048) 2048 rfl rfl rfl]
    show 0 * (2 * (4 * (512 * 2048))) + q.val * (4 * (512 * 2048)) + z.val * (512 * 2048) + r.val * 2048 + k.val
      = q.val * (4 * (512 * 2048)) + z.val * (512 * 2048) + r.val * 2048 + k.val
    omega
  unfold ring
  by_cases h : b.val < 4
  · rw [dif_pos h, concatenate_pair_apply_left (s₁ := S2x4x512x2048) (s₂ := S2x4x512x2048) 1 _ _ _ (ix4 q b r k) rfl (ix4 q (⟨b.val, h⟩ : Fin 4) r k : S2x4x512x2048.Idx) (fun a => by
      match a with
      | 0 => rfl | 1 => rfl | 2 => rfl | 3 => rfl), shapeCast_apply _ _ _ _ (e _)]
    exact extractStridedSlice_apply _ _ _ _ _ (fun a => by
      match a with
      | 0 => rfl | 1 => exact (Nat.zero_add _).symm | 2 => exact (Nat.zero_add _).symm
      | 3 => exact (Nat.zero_add _).symm | 4 => exact (Nat.zero_add _).symm)
  · rw [dif_neg h, concatenate_pair_apply_right (s₁ := S2x4x512x2048) (s₂ := S2x4x512x2048) 1 _ _ _ (ix4 q b r k) rfl rfl (ix4 q (⟨b.val - 4, by omega⟩ : Fin 4) r k : S2x4x512x2048.Idx) (fun a ha => by
      match a with
      | 0 => rfl | 1 => exact absurd rfl ha | 2 => rfl | 3 => rfl) (by show b.val - 4 + 4 = b.val; omega)]
    have hrev : ∀ v : S2x4x512x2048.Idx → Ideal .bf16, Host.reverse [1] v (ix4 q (⟨b.val - 4, by omega⟩ : Fin 4) r k)
        = v (ix4 q (⟨7 - b.val, by omega⟩ : Fin 4) r k) := fun v => by
      unfold Host.reverse
      refine congrArg v (funext fun a => Fin.ext ?_)
      match a with
      | 0 => rfl
      | 1 => show 4 - (b.val - 4 + 1) = 7 - b.val; omega
      | 2 => rfl
      | 3 => rfl
    rw [hrev, shapeCast_apply _ _ _ _ (e _)]
    exact extractStridedSlice_apply _ _ _ _ _ (fun a => by
      match a with
      | 0 => rfl | 1 => exact (Nat.zero_add _).symm | 2 => exact (Nat.zero_add _).symm
      | 3 => exact (Nat.zero_add _).symm | 4 => exact (Nat.zero_add _).symm)

/-- One element of the result. -/
theorem seen_at (x : FVec Ideal S16384x2048 .bf16) (p q : Fin 2) (z : Fin 4) (b : Fin 8) (r : Fin 512) (k : Fin 2048) (row : Fin 65536)
    (h : row.val = (p.val * 8 + q.val * 4 + z.val) * 4096 + (b.val * 512 + r.val)) :
    seen x (ix2 row k) = if nearby (ix3 p z b) = 1 then ring x (ix4 q b r k) else Scalar.ofBits (F := Ideal) .bf16 0x0000#16 := by
  unfold seen
  rw [shapeCast_apply _ _ (ix2 row k) (ix6 p q z b r k) (by
    rw [Shape.rowMajor_val_six, rowMajor_val2 _ 2048 rfl]
    show ((((p.val * 2 + q.val) * 4 + z.val) * 8 + b.val) * 512 + r.val) * 2048 + k.val = row.val * 2048 + k.val
    omega)]
  have e1 : broadcastInDim S2x2x4x8x512x2048 ![0, 1, 2, 3, 4, 5] bcast_S2x1x4x8x1x1_S2x2x4x8x512x2048_0_1_2_3_4_5 (broadcastInDim S2x1x4x8x1x1 ![0, 2, 3] bcast_S2x4x8_S2x1x4x8x1x1_0_2_3 nearby) (ix6 p q z b r k)
      = nearby (ix3 p z b) := by
    unfold broadcastInDim
    refine congrArg nearby (funext fun a => Fin.ext ?_)
    match a with
    | 0 => rfl
    | 1 => rfl
    | 2 => rfl
  have e2 : broadcastInDim S2x2x4x8x512x2048 ![0, 1, 2, 3, 4, 5] bcast_S1x2x1x8x512x2048_S2x2x4x8x512x2048_0_1_2_3_4_5 (broadcastInDim S1x2x1x8x512x2048 ![1, 3, 4, 5] bcast_S2x8x512x2048_S1x2x1x8x512x2048_1_3_4_5 (ring x)) (ix6 p q z b r k)
      = ring x (ix4 q b r k) := by
    unfold broadcastInDim
    refine congrArg (ring x) (funext fun a => Fin.ext ?_)
    match a with
    | 0 => rfl
    | 1 => rfl
    | 2 => rfl
    | 3 => rfl
  show Scalar.select _ _ _ = _
  rw [e1, e2]
  rfl

end Cert.TotalsIdeal.Tot

namespace Cert.CombineIdeal.Comb

open Cert.TotalsIdeal.Tot

variable (x : FVec Ideal Cert.TotalsIdeal.S16384x2048 .bf16) (H : Dev nD → HT Ideal)
  (hx : Layout.Tiles ⟨2, ![1024, 2048]⟩ ⟨2, ![16384, 2048]⟩ 0 16)
  (hH : ∀ c, H c = Layout.block ⟨2, ![1024, 2048]⟩ ⟨2, ![16384, 2048]⟩ 0 16 c x hx)

include hH in
/-- A device's finished rows are its sum. -/
theorem own_at (d : Dev nD) (r : Fin 512) (k : Fin 2048) :
    own H d (ix2 r k) = total x (ix5 (⟨d.val / 8, by have : d.val < 16 := d.isLt; omega⟩ : Fin 2) (⟨d.val / 4 % 2, by omega⟩ : Fin 2) (⟨d.val % 4, by omega⟩ : Fin 4) r k) := by
  have hd : d.val < 16 := d.isLt
  have hp : (pr d).val = d.val / 8 * 8 + (1 - d.val / 4 % 2) * 4 + d.val % 4 := by
    show (8 * (d.val / 8) + (d.val % 4) + 4) - 4 * ((d.val / 4) % 2) = _
    omega
  rw [total_at]
  show FloatOps.addf (F := Ideal) (φ := .bf16) (keep H d (ix2 r k)) (give H (pr d) (ix2 r k)) = _
  congr 1
  · show H d _ = _
    rw [hH, Layout.block_apply]
    refine congrArg x (funext fun a => Fin.ext ?_)
    match a with
    | 0 => show d.val * 1024 + (0 + 1 * r.val) = (d.val / 8 * 8 + d.val / 4 % 2 * 4 + d.val % 4) * 1024 + r.val; omega
    | 1 => show 0 + 1 * k.val = k.val; omega
  · show H (pr d) _ = _
    rw [hH, Layout.block_apply]
    refine congrArg x (funext fun a => Fin.ext ?_)
    match a with
    | 0 => show (pr d).val * 1024 + (512 + 1 * r.val) = (d.val / 8 * 8 + (1 - d.val / 4 % 2) * 4 + d.val % 4) * 1024 + (512 + r.val); rw [hp]; omega
    | 1 => show 0 + 1 * k.val = k.val; omega

include hH in
/-- A device's result is its block of the reference's. -/
theorem result_block (h : Layout.Tiles ⟨2, ![4096, 2048]⟩ ⟨2, ![65536, 2048]⟩ 0 16) (c : Dev nD) :
    result H c = Layout.block ⟨2, ![4096, 2048]⟩ ⟨2, ![65536, 2048]⟩ 0 16 c (seen x) h := by
  funext i
  obtain ⟨s, k, rfl⟩ : ∃ (s : Fin 4096) (k : Fin 2048), i = ix2 s k := ⟨i 0, i 1, eq_ix2 i⟩
  have hc : c.val < 16 := c.isLt
  have hs := s.isLt
  have hj : h.idx c (ix2 s k) = ix2 (⟨c.val * 4096 + s.val, by omega⟩ : Fin 65536) k :=
    funext fun a => Fin.ext (by match a with | 0 => rfl | 1 => rfl)
  rw [Layout.block_apply, hj, seen_at x (⟨c.val / 8, by omega⟩ : Fin 2) (⟨c.val / 4 % 2, by omega⟩ : Fin 2) (⟨c.val % 4, by omega⟩ : Fin 4)
    (⟨s.val / 512, by omega⟩ : Fin 8) (⟨s.val % 512, by omega⟩ : Fin 512) k _ (by dsimp only; omega)]
  have hin : inner (ix2 s k) = ix2 (⟨s.val % 512, by omega⟩ : Fin 512) k :=
    funext fun a => Fin.ext (by match a with | 0 => rfl | 1 => rfl)
  have hn : near (posn c.val) (s.val / 512) ↔ nearby (ix3 (⟨c.val / 8, by omega⟩ : Fin 2) (⟨c.val % 4, by omega⟩ : Fin 4) (⟨s.val / 512, by omega⟩ : Fin 8)) = 1 :=
    (nearby_at (⟨c.val / 8, by omega⟩ : Fin 2) (⟨c.val % 4, by omega⟩ : Fin 4) (⟨s.val / 512, by omega⟩ : Fin 8)).symm
  show (if near (posn c.val) (s.val / 512) then own H (at8 c (s.val / 512)) (inner (ix2 s k)) else _) = _
  by_cases hc1 : near (posn c.val) (s.val / 512)
  · rw [if_pos hc1, if_pos (hn.1 hc1), hin, own_at x H hx hH, ring_at]
    have hv : (at8 c (s.val / 512)).val = if s.val / 512 < 4 then 4 * (c.val / 4 % 2) + s.val / 512 else 8 + 4 * (c.val / 4 % 2) + (7 - s.val / 512) := rfl
    by_cases h4 : s.val / 512 < 4
    · rw [if_pos h4] at hv
      rw [dif_pos h4]
      refine congrArg (total x) (funext fun a => Fin.ext ?_)
      match a with
      | 0 => show (at8 c (s.val / 512)).val / 8 = 0; omega
      | 1 => show (at8 c (s.val / 512)).val / 4 % 2 = c.val / 4 % 2; omega
      | 2 => show (at8 c (s.val / 512)).val % 4 = s.val / 512; omega
      | 3 => rfl
      | 4 => rfl
    · rw [if_neg h4] at hv
      rw [dif_neg h4]
      refine congrArg (total x) (funext fun a => Fin.ext ?_)
      match a with
      | 0 => show (at8 c (s.val / 512)).val / 8 = 1; omega
      | 1 => show (at8 c (s.val / 512)).val / 4 % 2 = c.val / 4 % 2; omega
      | 2 => show (at8 c (s.val / 512)).val % 4 = 7 - s.val / 512; omega
      | 3 => rfl
      | 4 => rfl
  · rw [if_neg hc1, if_neg fun hh => hc1 (hn.2 hh)]

end Cert.CombineIdeal.Comb

end
-- ==== Proof.Hop.lean ====
module

public import proofs.«01_k».proof.Proof.Gen.SecondIdeal.Launch
public import proofs.«01_k».proof.Proof.Gen.SecondIdeal.Points
public import proofs.«01_k».proof.Proof.Gen.SecondIdeal.Skeleton
public import proofs.«01_k».proof.Proof.Ring

/-! The ring's second hop: the buffers, and what every copy and store leaves. Who talks to whom is as in the first. -/

@[expose] public section

noncomputable section

namespace Cert.SecondIdeal.Hop

open Cert.SecondIdeal.Gen
open Idealize.ShloMosaic
open Idealize.ShloMosaic.TcCoe
open Talk
open Cert.CombineIdeal.Comb (pr posn devn at8 rt lf pr_pr rt_lf lf_rt peer right left at8_self posn_lt inner)

variable {F : FTy → Type} [FloatOps F]

theorem dev1_eq : ∀ c : Dev nD, (⟨k0_dev1 c, k0_dev1_lt c⟩ : Dev nD) = pr c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = lf c := by decide +kernel
theorem dev4_eq : ∀ c : Dev nD, (⟨k0_dev4 c, k0_dev4_lt c⟩ : Dev nD) = rt c := by decide +kernel
theorem dev5_eq : ∀ c : Dev nD, (⟨k0_dev5 c, k0_dev5_lt c⟩ : Dev nD) = lf c := by decide +kernel

/-- How far a block has come round when this hop is over. -/
abbrev far : ℕ := 2
theorem off1_eq : ∀ c : Dev nD, k0_off1 c = ![512 * ((posn c.val + (8 - far)) % 8), 0] := by decide +kernel
theorem off2_eq : ∀ c : Dev nD, k0_off2 c = ![512 * ((posn c.val + far) % 8), 0] := by decide +kernel
theorem apart (p : ℕ) : (p + (8 - far)) % 8 ≠ (p + far) % 8 := by unfold far; omega

/-! ## The buffers and the semaphores -/

abbrev barS : Sem sig := (SemArray.scalar (sig.barrier 1 rfl) : Sems sig S_).sem
abbrev sBar : SemLoc sig := .reg barS
/-- Sent from the second slot, received into the first. -/
abbrev semS (s : DmaSems sig S2) : DmaSem sig := ((s.slice (Rect.unit (s := S2) ![1] S1.size inb_S2_S1_1)).squeeze S_ squeezes_S1_S_).sem
abbrev semR (s : DmaSems sig S2) : DmaSem sig := ((s.slice (Rect.unit (s := S2) ![0] S1.size inb_S2_S1_0)).squeeze S_ squeezes_S1_S_).sem
abbrev RS : Rect S2x512x2048 := Rect.unit (s := S2x512x2048) ![1, 0, 0] S1x512x2048.size inb_S2x512x2048_S1x512x2048_1_0_0
abbrev RR : Rect S2x512x2048 := Rect.unit (s := S2x512x2048) ![0, 0, 0] S1x512x2048.size inb_S2x512x2048_S1x512x2048_0_0_0
/-- Both slots, of what is sent and what arrives. -/
abbrev pair {α : Type} (x y : S512x2048.Idx → α) : S2x512x2048.Idx → α := Talk.both (R := 512) (C := 2048) y x
theorem pair_sent {α : Type} (x y : S512x2048.Idx → α) (j) : pair x y (Talk.high 1 j) = x j := Talk.both_snd y x j
theorem pair_arrived {α : Type} (x y : S512x2048.Idx → α) (j) : pair x y (Talk.high 0 j) = y j := Talk.both_fst y x j
theorem RS_idx (j : S1x512x2048.Idx) : RS.toLoadRect.idx j = Talk.high 1 (Talk.low j) := Talk.slot_idx (R := 512) (C := 2048) 1 _ j
theorem RR_idx (j : S1x512x2048.Idx) : RR.toLoadRect.idx j = Talk.high 0 (Talk.low j) := Talk.slot_idx (R := 512) (C := 2048) 0 _ j
theorem mem_RS (i : S2x512x2048.Idx) : i ∈ RS.set ↔ (i 0).val = 1 := Talk.mem_slot (R := 512) (C := 2048) 1 _ i
theorem mem_RR (i : S2x512x2048.Idx) : i ∈ RR.set ↔ (i 0).val = 0 := Talk.mem_slot (R := 512) (C := 2048) 0 _ i

abbrev slotS (M : Memref sig .tc .vmem S2x512x2048 .bf16) : Memref sig .tc .vmem S512x2048 .bf16 :=
  (M.slice RS (fun _ => rfl)).squeeze S512x2048 squeezes_S1x512x2048_S512x2048
abbrev slotR (M : Memref sig .tc .vmem S2x512x2048 .bf16) : Memref sig .tc .vmem S512x2048 .bf16 :=
  (M.slice RR (fun _ => rfl)).squeeze S512x2048 squeezes_S1x512x2048_S512x2048
theorem read_slotS (M : Memref sig .tc .vmem S2x512x2048 .bf16) (g : M.view.ty.Contents (Elt F)) :
    (slotS M).view.read (Elt F) g = fun j => M.view.read (Elt F) g (Talk.high 1 j) :=
  Talk.read_slot (Val := Elt F) (R := 512) (C := 2048) M 1 inb_S2x512x2048_S1x512x2048_1_0_0 (fun _ => rfl) squeezes_S1x512x2048_S512x2048 rfl g
theorem read_slotR (M : Memref sig .tc .vmem S2x512x2048 .bf16) (g : M.view.ty.Contents (Elt F)) :
    (slotR M).view.read (Elt F) g = fun j => M.view.read (Elt F) g (Talk.high 0 j) :=
  Talk.read_slot (Val := Elt F) (R := 512) (C := 2048) M 0 inb_S2x512x2048_S1x512x2048_0_0_0 (fun _ => rfl) squeezes_S1x512x2048_S512x2048 rfl g

abbrev sUs : SemLoc sig := .dma (semS cc0_scratch7)
abbrev sUr : SemLoc sig := .dma (semR cc0_scratch8)
abbrev sDs : SemLoc sig := .dma (semS cc0_scratch9)
abbrev sDr : SemLoc sig := .dma (semR cc0_scratch10)
/-- Those that this hop leaves alone. -/
abbrev z0 : SemLoc sig := .dma cc0_scratch4.sem
abbrev z1 : SemLoc sig := .dma cc0_scratch5.sem
abbrev z2 : SemLoc sig := .dma cc0_scratch6.sem
abbrev z3 : SemLoc sig := .dma (semR cc0_scratch7)
abbrev z4 : SemLoc sig := .dma (semS cc0_scratch8)
abbrev z5 : SemLoc sig := .dma (semR cc0_scratch9)
abbrev z6 : SemLoc sig := .dma (semS cc0_scratch10)

abbrev aM : Memref sig .tc .vmem S4096x2048 .bf16 := Memref.whole cc0_stg0_0
abbrev xM : Memref sig .tc .vmem S512x2048 .bf16 := Memref.whole cc0_stg1_0
abbrev yM : Memref sig .tc .vmem S512x2048 .bf16 := Memref.whole cc0_stg2_0
abbrev oM : Memref sig .tc .vmem S4096x2048 .bf16 := Memref.whole cc0_stg3_0
abbrev uM : Memref sig .tc .vmem S2x512x2048 .bf16 := Memref.whole cc0_scratch2
abbrev dM : Memref sig .tc .vmem S2x512x2048 .bf16 := Memref.whole cc0_scratch3
abbrev uS := slotS uM
abbrev uR := slotR uM
abbrev dS := slotS dM
abbrev dR := slotR dM
abbrev oZ : Rect S4096x2048 := Rect.unit (s := S4096x2048) ![0, 0] S4096x2048.size inb_S4096x2048_S4096x2048_0_0
abbrev oR1 (c : Dev nD) : Rect S4096x2048 := Rect.unit (s := S4096x2048) (k0_off1 c) S512x2048.size (k0_off1_inb c)
abbrev oR2 (c : Dev nD) : Rect S4096x2048 := Rect.unit (s := S4096x2048) (k0_off2 c) S512x2048.size (k0_off2_inb c)

theorem set_uS : uS.view.set = RS.set := by
  show ((uM.slice RS (fun _ => rfl)).view.reshape S512x2048 _).set = _
  rw [View.set_reshape]; exact View.set_slice_whole _ _
theorem set_uR : uR.view.set = RR.set := by
  show ((uM.slice RR (fun _ => rfl)).view.reshape S512x2048 _).set = _
  rw [View.set_reshape]; exact View.set_slice_whole _ _
theorem set_dS : dS.view.set = RS.set := by
  show ((dM.slice RS (fun _ => rfl)).view.reshape S512x2048 _).set = _
  rw [View.set_reshape]; exact View.set_slice_whole _ _
theorem set_dR : dR.view.set = RR.set := by
  show ((dM.slice RR (fun _ => rfl)).view.reshape S512x2048 _).set = _
  rw [View.set_reshape]; exact View.set_slice_whole _ _

theorem RS_eq : RS.set = Finset.univ \ RR.set := by
  ext i
  rw [Finset.mem_sdiff, mem_RS, mem_RR]
  have h2 : (i 0).val < 2 := (i 0).isLt
  constructor
  · intro h; exact ⟨Finset.mem_univ _, by omega⟩
  · intro h; have := h.2; omega

/-! ## What the buffers hold -/

abbrev BT (F : FTy → Type) : Type := S512x2048.Idx → Elt F .bf16
abbrev OT (F : FTy → Type) : Type := S4096x2048.Idx → Elt F .bf16

variable (A : Dev nD → OT F) (X Y : Dev nD → BT F)

/-- The two slots of either direction when the hop is over. -/
def fullU (c : Dev nD) : S2x512x2048.Idx → Elt F .bf16 := pair (X c) (X (lf c))
def fullD (c : Dev nD) : S2x512x2048.Idx → Elt F .bf16 := pair (Y c) (Y (rt c))

/-- A device's result: what it held, and in two blocks the rows that arrived. -/
def result (c : Dev nD) : OT F := fun i =>
  if (i 0).val / 512 = (posn c.val + far) % 8 then Y (rt c) (inner i)
  else if (i 0).val / 512 = (posn c.val + (8 - far)) % 8 then X (lf c) (inner i)
  else A c i

theorem read_uS (c : Dev nD) : uS.view.read (Elt F) (fullU X c) = X c :=
  (read_slotS uM (fullU X c)).trans (funext fun j => pair_sent (X c) (X (lf c)) j)
theorem read_uR (c : Dev nD) : uR.view.read (Elt F) (fullU X c) = X (lf c) :=
  (read_slotR uM (fullU X c)).trans (funext fun j => pair_arrived (X c) (X (lf c)) j)
theorem read_dS (c : Dev nD) : dS.view.read (Elt F) (fullD Y c) = Y c :=
  (read_slotS dM (fullD Y c)).trans (funext fun j => pair_sent (Y c) (Y (rt c)) j)
theorem read_dR (c : Dev nD) : dR.view.read (Elt F) (fullD Y c) = Y (rt c) :=
  (read_slotR dM (fullD Y c)).trans (funext fun j => pair_arrived (Y c) (Y (rt c)) j)

/-- The stores of what goes out. -/
theorem pay_sent (x y : BT F) :
    (fun j => pair x y (RS.toLoadRect.idx j))
      = shapeCast S1x512x2048 (shapeCast S512x2048 x shapeCasts_S512x2048_S512x2048) shapeCasts_S512x2048_S1x512x2048 := by
  rw [shapeCast_self]
  funext j
  rw [shapeCast_addUnit_apply ![512, 2048], RS_idx j]
  exact pair_sent _ _ _
theorem stored_u (c : Dev nD) (f : (cc0_scratch2 : Ref sig .tc).ty.Contents (Elt F)) (i : S2x512x2048.Idx) (hi : i ∈ RS.set) :
    (uM.access RS : View sig .tc _ _ _).write (Elt F) f (k0_pay2 (X c)) Finset.univ i = fullU X c i :=
  Talk.write_in (uM.access RS : View sig .tc _ _ _) f (fullU X c) _ (pay_sent (X c) (X (lf c))) i
    (by show i ∈ ((View.whole cc0_scratch2).slice RS).set; rw [View.set_slice_whole]; exact hi)
theorem stored_d (c : Dev nD) (f : (cc0_scratch3 : Ref sig .tc).ty.Contents (Elt F)) (i : S2x512x2048.Idx) (hi : i ∈ RS.set) :
    (dM.access RS : View sig .tc _ _ _).write (Elt F) f (k0_pay3 (Y c)) Finset.univ i = fullD Y c i :=
  Talk.write_in (dM.access RS : View sig .tc _ _ _) f (fullD Y c) _ (pay_sent (Y c) (Y (rt c))) i
    (by show i ∈ ((View.whole cc0_scratch3).slice RS).set; rw [View.set_slice_whole]; exact hi)

/-- What a load of the slot received gives the store into the result. -/
theorem pay_arrived (x y : BT F) :
    shapeCast S512x2048 (fun j => pair x y (RR.toLoadRect.idx j)) shapeCasts_S1x512x2048_S512x2048 = y := by
  funext j
  rw [shapeCast_dropUnit_apply ![512, 2048]]
  show pair x y (RR.toLoadRect.idx _) = _
  rw [RR_idx]
  exact pair_arrived _ _ _
theorem pay4_eq (c : Dev nD) : k0_pay4 ((uM.access RR : View sig .tc _ _ _).read (Elt F) (fullU X c)) = X (lf c) := pay_arrived _ _
theorem pay5_eq (c : Dev nD) : k0_pay5 ((dM.access RR : View sig .tc _ _ _).read (Elt F) (fullD Y c)) = Y (rt c) := pay_arrived _ _

/-! ### The result -/

/-- A row of block `b`, as an index of the result. -/
theorem block_idx (b : ℕ) (off : Fin 2 → ℕ) (ho : off = ![512 * b, 0]) (inb : ∀ a, off a + S512x2048.size a ≤ S4096x2048.size a) (j : S512x2048.Idx) :
    (((Rect.unit (s := S4096x2048) off S512x2048.size inb).toLoadRect.idx j) 0).val / 512 = b
      ∧ inner ((Rect.unit (s := S4096x2048) off S512x2048.size inb).toLoadRect.idx j) = j := by
  subst ho
  have h0 : (j 0).val < 512 := (j 0).isLt
  have e0 : (((Rect.unit (s := S4096x2048) ![512 * b, 0] S512x2048.size inb).toLoadRect.idx j) 0).val = 512 * b + (j 0).val := by
    show 512 * b + 1 * (j 0).val = _; omega
  refine ⟨by omega, funext fun a => Fin.ext ?_⟩
  refine Fin.cases ?_ (fun a => ?_) a
  · show (((Rect.unit (s := S4096x2048) ![512 * b, 0] S512x2048.size inb).toLoadRect.idx j) 0).val % 512 = (j 0).val
    omega
  · obtain rfl : a = 0 := Subsingleton.elim _ _
    show 0 + 1 * (j 1).val = (j 1).val; omega

theorem mem_access (r : Rect S4096x2048) (i : S4096x2048.Idx) : i ∈ (oM.access r : View sig .tc _ _ _).set ↔ i ∈ r.set := by
  show i ∈ ((View.whole cc0_stg3_0).slice r).set ↔ _
  rw [View.set_slice_whole]

theorem read_r1 (c : Dev nD) : (oM.access (oR1 c) : View sig .tc _ _ _).read (Elt F) (result A X Y c) = X (lf c) := by
  funext j
  show result A X Y c ((Rect.unit (s := S4096x2048) (k0_off1 c) S512x2048.size (k0_off1_inb c)).toLoadRect.idx j) = _
  have h := block_idx _ _ (off1_eq c) (k0_off1_inb c) j
  unfold result
  rw [h.1, h.2, if_neg (apart _), if_pos rfl]
theorem read_r2 (c : Dev nD) : (oM.access (oR2 c) : View sig .tc _ _ _).read (Elt F) (result A X Y c) = Y (rt c) := by
  funext j
  show result A X Y c ((Rect.unit (s := S4096x2048) (k0_off2 c) S512x2048.size (k0_off2_inb c)).toLoadRect.idx j) = _
  have h := block_idx _ _ (off2_eq c) (k0_off2_inb c) j
  unfold result
  rw [h.1, h.2, if_pos rfl]

/-- The three stores into the result, in their order. -/
theorem stored_eq (c : Dev nD) (f : OT F) :
    (oM.access (oR2 c) : View sig .tc _ _ _).write (Elt F)
      ((oM.access (oR1 c) : View sig .tc _ _ _).write (Elt F)
        ((oM.access oZ : View sig .tc _ _ _).write (Elt F) f (k0_pay1 (A c)) Finset.univ)
        (k0_pay4 ((uM.access RR : View sig .tc _ _ _).read (Elt F) (fullU X c))) Finset.univ)
      (k0_pay5 ((dM.access RR : View sig .tc _ _ _).read (Elt F) (fullD Y c))) Finset.univ = result A X Y c := by
  rw [pay4_eq, pay5_eq]
  funext i
  have m1 : i ∈ (oM.access (oR1 c) : View sig .tc _ _ _).set ↔ (i 0).val / 512 = (posn c.val + (8 - far)) % 8 := by
    rw [mem_access]; unfold oR1; simp only [off1_eq c]; exact Cert.CombineIdeal.Comb.mem_block _ _ i
  have m2 : i ∈ (oM.access (oR2 c) : View sig .tc _ _ _).set ↔ (i 0).val / 512 = (posn c.val + far) % 8 := by
    rw [mem_access]; unfold oR2; simp only [off2_eq c]; exact Cert.CombineIdeal.Comb.mem_block _ _ i
  by_cases h2 : (i 0).val / 512 = (posn c.val + far) % 8
  · exact Talk.write_in (oM.access (oR2 c) : View sig .tc _ _ _) _ (result A X Y c) (Y (rt c)) (read_r2 A X Y c) i (m2.mpr h2)
  refine (Talk.write_out (oM.access (oR2 c) : View sig .tc _ _ _) _ (result A X Y c) (Y (rt c)) (read_r2 A X Y c) i (fun h => h2 (m2.mp h))).trans ?_
  by_cases h1 : (i 0).val / 512 = (posn c.val + (8 - far)) % 8
  · exact Talk.write_in (oM.access (oR1 c) : View sig .tc _ _ _) _ (result A X Y c) (X (lf c)) (read_r1 A X Y c) i (m1.mpr h1)
  refine (Talk.write_out (oM.access (oR1 c) : View sig .tc _ _ _) _ (result A X Y c) (X (lf c)) (read_r1 A X Y c) i (fun h => h1 (m1.mp h))).trans ?_
  refine (Talk.write_in (oM.access oZ : View sig .tc _ _ _) f (A c) _ ?_ i ?_).trans ?_
  · refine Eq.trans ?_ (shapeCast_self (A c) shapeCasts_S4096x2048_S4096x2048).symm
    exact Memref.readAt_unit_zero (Elt F) cc0_stg3_0 (funext fun a => by fin_cases a <;> rfl) _ (A c)
  · rw [mem_access]; exact View.mem_set_unit_zero (S := S4096x2048) (funext fun a => by fin_cases a <;> rfl) _ i
  · unfold result; rw [if_neg h2, if_neg h1]

end Cert.SecondIdeal.Hop

end
-- ==== Proof.HopTalk.lean ====
module

public import proofs.«01_k».proof.Proof.Hop

/-! The protocol of the ring's second hop, and the body of the kernel run under it. -/

@[expose] public section

noncomputable section

namespace Cert.SecondIdeal.Hop

open Cert.SecondIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk
open Cert.CombineIdeal.Comb (pr posn devn at8 rt lf pr_pr rt_lf lf_rt peer right left at8_self posn_lt inner)

variable {F : FTy → Type} [FloatOps F]

local notation "𝕄" => MT nD τ sig Unit (Elt F) ℕ (UU nD τ sig 7) ℕ

/-- The worth of a copy of 512 rows into on-chip memory. -/
abbrev N : ℕ := uR.view.dmaCredit
theorem N_pos : 0 < N := View.dmaCredit_pos _ (by decide)

/-- The table: three units on the barriers of the peer and the neighbours, and the two ends of the copies to the right and
    to the left. -/
def P : Plan nD sig 7 where
  sm := ![sBar, sBar, sBar, sUs, sUr, sDs, sDr]
  rd := fun _ => 0
  dst := ![peer, right, left, Equiv.refl _, right, Equiv.refl _, left]
  am := ![1, 1, 1, N, N, N, N]
  am_pos := fun j => by
    fin_cases j
    exacts [Nat.one_pos, Nat.one_pos, Nat.one_pos, N_pos, N_pos, N_pos, N_pos]

/-- The semaphores whose cells are open from the launch on, and those a device opens when it enters the kernel. -/
def So : Finset (SemLoc sig) := {sBar}
def Sd : Finset (SemLoc sig) := {sUs, sUr, sDs, sDr}
/-- What a device still owes, when it enters and later. -/
def J₀ : Finset (Fin 7) := {0, 1, 2, 4, 6}
def J₁ : Finset (Fin 7) := {1, 2, 4, 6}
def J₂ : Finset (Fin 7) := {2, 4, 6}
def J₃ : Finset (Fin 7) := {4, 6}
def J₄ : Finset (Fin 7) := {6}

/-- Waiting order: the barrier, the neighbours' rows. -/
def rk (s : SemLoc sig) : ℕ := if s = sBar then 1 else if s = sUr ∨ s = sDr then 2 else 0

variable (A : Dev nD → OT F) (X Y : Dev nD → BT F)

/-- Parts of a device's buffers, at given contents. -/
abbrev aPts (c : Dev nD) : sProp 𝕄 := aM.view.loc (c : Thread nD τ) ↦[Finset.univ]{fullShare} A c
abbrev xPts (c : Dev nD) : sProp 𝕄 := xM.view.loc (c : Thread nD τ) ↦[Finset.univ]{fullShare} X c
abbrev yPts (c : Dev nD) : sProp 𝕄 := yM.view.loc (c : Thread nD τ) ↦[Finset.univ]{fullShare} Y c
abbrev uPts (S : Finset S2x512x2048.Idx) (c : Dev nD) (f : (cc0_scratch2 : Ref sig .tc).ty.Contents (Elt F)) : sProp 𝕄 :=
  uM.view.loc (c : Thread nD τ) ↦[S]{fullShare} f
abbrev dPts (S : Finset S2x512x2048.Idx) (c : Dev nD) (f : (cc0_scratch3 : Ref sig .tc).ty.Contents (Elt F)) : sProp 𝕄 :=
  dM.view.loc (c : Thread nD τ) ↦[S]{fullShare} f
abbrev oPts (c : Dev nD) (f : OT F) : sProp 𝕄 := oM.view.loc (c : Thread nD τ) ↦[Finset.univ]{fullShare} f

/-- What the units on a barrier from the left and from the right hand over: where the receiver may write, and that it is
    ready there. The peer's unit hands over nothing. -/
abbrev payLeft (c : Dev nD) : sProp 𝕄 := iprop((∃ f, dPts dR.view.set (lf c) f) ∗ reached ER (cell τ (lf c) sDr) 0)
abbrev payRight (c : Dev nD) : sProp 𝕄 := iprop((∃ f, uPts uR.view.set (rt c) f) ∗ reached ER (cell τ (rt c) sUr) 0)

/-- What each payment hands to the owner of its cell. -/
def pay : Fin 7 → Dev nD → sProp 𝕄 :=
  ![fun _ => iprop(emp), payLeft, payRight,
    fun c => uPts uS.view.set c (fullU X c), fun c => uPts uR.view.set c (fullU X c),
    fun c => dPts dS.view.set c (fullD Y c), fun c => dPts dR.view.set c (fullD Y c)]

theorem pay_storable (j : Fin 7) (c : Dev nD) : BI.Storable (upEmb : UEmb _ 𝕄) (pay X Y j c) := by
  match j with
  | 0 => exact (inferInstance : BI.Storable (upEmb : UEmb _ 𝕄) (iprop(emp) : sProp 𝕄))
  | 1 => exact (inferInstance : BI.Storable (upEmb : UEmb _ 𝕄) (payLeft c))
  | 2 => exact (inferInstance : BI.Storable (upEmb : UEmb _ 𝕄) (payRight c))
  | 3 => exact (inferInstance : BI.Storable (upEmb : UEmb _ 𝕄) (uPts uS.view.set c (fullU X c)))
  | 4 => exact (inferInstance : BI.Storable (upEmb : UEmb _ 𝕄) (uPts uR.view.set c (fullU X c)))
  | 5 => exact (inferInstance : BI.Storable (upEmb : UEmb _ 𝕄) (dPts dS.view.set c (fullD Y c)))
  | 6 => exact (inferInstance : BI.Storable (upEmb : UEmb _ 𝕄) (dPts dR.view.set c (fullD Y c)))

instance pay_storable' (g : GSem nD τ sig) (r : ℕ) (d : Fin 7) : BI.Storable (upEmb : UEmb _ 𝕄) ((sched P (pay X Y)).payload g r d) :=
  payload_storable P _ (pay_storable X Y) g r d

abbrev Rd : Schedule (GSem nD τ sig) (Fin 7) 𝕄 := sched P (pay X Y)

theorem at_bar : duesAt P sBar 0 = {0, 1, 2} := by decide
theorem at_us : duesAt P sUs 0 = {3} := by decide
theorem at_ur : duesAt P sUr 0 = {4} := by decide
theorem at_ds : duesAt P sDs 0 = {5} := by decide
theorem at_dr : duesAt P sDr 0 = {6} := by decide

theorem over_bar (Φ : Fin 7 → sProp 𝕄) : bigSep ({0, 1, 2} : Finset (Fin 7)) Φ = iprop(Φ 0 ∗ Φ 1 ∗ Φ 2) := by
  rw [bigSep_insert (by decide), bigSep_insert (by decide), bigSep_singleton]; rfl

/-- What a device holds when its cells are open. -/
def opened (κ : GSem nD τ sig → ℕ) (c : Dev nD) : sProp 𝕄 :=
  iprop(□ recs P (pay X Y) So Sd κ
    ∗ atPos ER (cell τ c sBar) 0 ∅ 0
    ∗ (atPos ER (cell τ c sUs) 0 ∅ 0 ∗ reached ER (cell τ c sUs) 0)
    ∗ (atPos ER (cell τ c sUr) 0 ∅ 0 ∗ reached ER (cell τ c sUr) 0)
    ∗ (atPos ER (cell τ c sDs) 0 ∅ 0 ∗ reached ER (cell τ c sDs) 0)
    ∗ (atPos ER (cell τ c sDr) 0 ∅ 0 ∗ reached ER (cell τ c sDr) 0)
    ∗ dutyTok ER (cell τ (pr c) sBar) 0 0 ∗ dutyTok ER (cell τ (rt c) sBar) 0 1 ∗ dutyTok ER (cell τ (lf c) sBar) 0 2
    ∗ dutyTok ER (cell τ c sUs) 0 3 ∗ dutyTok ER (cell τ (rt c) sUr) 0 4
    ∗ dutyTok ER (cell τ c sDs) 0 5 ∗ dutyTok ER (cell τ (lf c) sDr) 0 6)

def creds (c : Dev nD) : sProp 𝕄 :=
  iprop(cred (tallyAt (cell τ c sBar) () 3) ∗ cred (tallyAt (cell τ c sUr) () N) ∗ cred (tallyAt (cell τ c sDr) () N))

def runPre (κ : GSem nD τ sig → ℕ) (c : Dev nD) (W : Waits sig Unit) : sProp 𝕄 :=
  iprop(opened X Y κ c ∗ creds c ∗ levAts L (lv rk) ∗ owes (c : Thread nD τ) (dues P J₀ c) W
    ∗ aPts A c ∗ xPts X c ∗ yPts Y c ∗ (∃ f, uPts Finset.univ c f) ∗ (∃ f, dPts Finset.univ c f) ∗ (∃ f, oPts c f))

def runPost (c : Dev nD) : sProp 𝕄 :=
  iprop((semVal (cell τ c sBar) 0 ∗ semVal (cell τ c sUs) 0 ∗ semVal (cell τ c sUr) 0 ∗ semVal (cell τ c sDs) 0 ∗ semVal (cell τ c sDr) 0)
    ∗ (∃ W, owes (c : Thread nD τ) 0 W)
    ∗ aPts A c ∗ xPts X c ∗ yPts Y c ∗ (∃ f, uPts Finset.univ c f) ∗ (∃ f, dPts Finset.univ c f) ∗ oPts c (result A X Y c))

abbrev 𝒱₀ : Variants := Variants.none

theorem hz2 : (![0, 0] : Fin 2 → Nat) = fun _ => 0 := funext fun a => by fin_cases a <;> rfl
theorem read_a (f : OT F) : aM.view.readAt (Elt F) (Rect.unit (s := S4096x2048) ![0, 0] S4096x2048.size inb_S4096x2048_S4096x2048_0_0).toLoadRect f = f :=
  Memref.readAt_unit_zero (Elt F) cc0_stg0_0 hz2 _ f
theorem read_x (f : BT F) : xM.view.readAt (Elt F) (Rect.unit (s := S512x2048) ![0, 0] S512x2048.size inb_S512x2048_S512x2048_0_0).toLoadRect f = f :=
  Memref.readAt_unit_zero (Elt F) cc0_stg1_0 hz2 _ f
theorem read_y (f : BT F) : yM.view.readAt (Elt F) (Rect.unit (s := S512x2048) ![0, 0] S512x2048.size inb_S512x2048_S512x2048_0_0).toLoadRect f = f :=
  Memref.readAt_unit_zero (Elt F) cc0_stg2_0 hz2 _ f

theorem dues_0 (c : Dev nD) : dues P J₀ c = dues P J₁ c + tallyAt (cell τ (pr c) sBar) () 1 := dues_take P (j := 0) (by decide) c
theorem dues_1 (c : Dev nD) : dues P J₁ c = dues P J₂ c + tallyAt (cell τ (rt c) sBar) () 1 := dues_take P (j := 1) (by decide) c
theorem dues_2 (c : Dev nD) : dues P J₂ c = dues P J₃ c + tallyAt (cell τ (lf c) sBar) () 1 := dues_take P (j := 2) (by decide) c
theorem dues_3 (c : Dev nD) : dues P J₃ c = dues P J₄ c + tallyAt (cell τ (rt c) sUr) () N := dues_take P (j := 4) (by decide) c
theorem dues_4 (c : Dev nD) : dues P J₄ c = 0 + tallyAt (cell τ (lf c) sDr) () N :=
  (dues_take P (j := 6) (by decide) c).trans (congrArg (· + _) (dues_empty P c))

/-- The copy to the right. -/
theorem send_u (κ : GSem nD τ sig → ℕ) (c n : Dev nD) (hn : n = rt c) {hsc : uR.view.ref.isScScratch = false}
    {hsrc : uS.view.WordExact} {hdst : uR.view.WordExact}
    {hsem : DmaTarget.Typed .vmem sUr (.remote (Dev.tc n : Thread nD τ) uR sUs hsc)}
    {α : Type} {Q : α → sProp 𝕄} {k : PUnit → Prog (TpuEff nD τ sig (Elt F) Λ₀ .tc) α} (W : Waits sig Unit) :
    iprop(recs P (pay X Y) So Sd κ ∗ uPts uS.view.set c (fullU X c) ∗ (∃ f, uPts uR.view.set (rt c) f)
        ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0)
      ⊢ iprop(((cred (tallyAt (cell τ c sUs) () N) ∗ owes (c : Thread nD τ) (dues P J₄ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma uS (.remote (Dev.tc n : Thread nD τ) uR sUs hsc) sUr hsrc hdst hsem) k) Q) := by
  subst hn
  iintro ⟨#Hr, Hx, ⟨%fn, Ho⟩, HO, Ht1, Hr1, Ht2, Hr2⟩ Hk
  iapply (Rounds.wp_send_pointsTo 𝒱₀ ER (Rd X Y) (c : Thread nD τ) none (c' := (rt c : Thread nD τ)) (src := uS) (dst := uR)
      (sS := sUs) (sem := sUr) (q := fullShare) (fs := fullU X c) (κ₁ := κ (cell τ c sUs)) (κ₂ := κ (cell τ (rt c) sUr))
      (r₁ := 0) (r₂ := 0) (d₁ := 3) (d₂ := 4) (fd := fn)
      (due_mem P (pay X Y) 3 c) (due_mem P (pay X Y) 4 (rt c)) () () N rfl rfl rfl (dues P J₄ c) (dues_3 c) (W := W)
      (BI.Entails.refl _)
      (Entails.of_eq (pointsTo_congr fun i hi =>
        Talk.write_in uR.view fn (fullU X (rt c)) _ (by rw [read_uR X, read_uS X, lf_rt]) i hi))) $$ [Hx Ho HO Ht1 Hr1 Ht2 Hr2]
  · isplitr; · iapply (recs_inv P (pay X Y) So Sd κ (s := sUs) (by decide) c); iexact Hr
    isplitr; · iapply (recs_inv P (pay X Y) So Sd κ (s := sUr) (by decide) (rt c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy to the left. -/
theorem send_d (κ : GSem nD τ sig → ℕ) (c n : Dev nD) (hn : n = lf c) {hsc : dR.view.ref.isScScratch = false}
    {hsrc : dS.view.WordExact} {hdst : dR.view.WordExact}
    {hsem : DmaTarget.Typed .vmem sDr (.remote (Dev.tc n : Thread nD τ) dR sDs hsc)}
    {α : Type} {Q : α → sProp 𝕄} {k : PUnit → Prog (TpuEff nD τ sig (Elt F) Λ₀ .tc) α} (W : Waits sig Unit) :
    iprop(recs P (pay X Y) So Sd κ ∗ dPts dS.view.set c (fullD Y c) ∗ (∃ f, dPts dR.view.set (lf c) f)
        ∗ owes (c : Thread nD τ) (dues P J₄ c) W
        ∗ dutyTok ER (cell τ c sDs) 0 5 ∗ reached ER (cell τ c sDs) 0
        ∗ dutyTok ER (cell τ (lf c) sDr) 0 6 ∗ reached ER (cell τ (lf c) sDr) 0)
      ⊢ iprop(((cred (tallyAt (cell τ c sDs) () N) ∗ owes (c : Thread nD τ) (0) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dS (.remote (Dev.tc n : Thread nD τ) dR sDs hsc) sDr hsrc hdst hsem) k) Q) := by
  subst hn
  iintro ⟨#Hr, Hx, ⟨%fn, Ho⟩, HO, Ht1, Hr1, Ht2, Hr2⟩ Hk
  iapply (Rounds.wp_send_pointsTo 𝒱₀ ER (Rd X Y) (c : Thread nD τ) none (c' := (lf c : Thread nD τ)) (src := dS) (dst := dR)
      (sS := sDs) (sem := sDr) (q := fullShare) (fs := fullD Y c) (κ₁ := κ (cell τ c sDs)) (κ₂ := κ (cell τ (lf c) sDr))
      (r₁ := 0) (r₂ := 0) (d₁ := 5) (d₂ := 6) (fd := fn)
      (due_mem P (pay X Y) 5 c) (due_mem P (pay X Y) 6 (lf c)) () () N rfl rfl rfl (0) (dues_4 c) (W := W)
      (BI.Entails.refl _)
      (Entails.of_eq (pointsTo_congr fun i hi =>
        Talk.write_in dR.view fn (fullD Y (lf c)) _ (by rw [read_dR Y, read_dS Y, rt_lf]) i hi))) $$ [Hx Ho HO Ht1 Hr1 Ht2 Hr2]
  · isplitr; · iapply (recs_inv P (pay X Y) So Sd κ (s := sDs) (by decide) c); iexact Hr
    isplitr; · iapply (recs_inv P (pay X Y) So Sd κ (s := sDr) (by decide) (lf c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

theorem joined_u (c : Dev nD) (f : (cc0_scratch2 : Ref sig .tc).ty.Contents (Elt F)) :
    iprop(uPts uR.view.set c f ∗ uPts (Finset.univ \ uR.view.set) c f) ⊢ (uPts Finset.univ c f : sProp 𝕄) :=
  (pointsTo_join_subset (Finset.subset_univ _)).trans (Entails.of_eq (by rw [Finset.piecewise_same]))
theorem joined_d (c : Dev nD) (f : (cc0_scratch3 : Ref sig .tc).ty.Contents (Elt F)) :
    iprop(dPts dR.view.set c f ∗ dPts (Finset.univ \ dR.view.set) c f) ⊢ (dPts Finset.univ c f : sProp 𝕄) :=
  (pointsTo_join_subset (Finset.subset_univ _)).trans (Entails.of_eq (by rw [Finset.piecewise_same]))
theorem rest_u : Finset.univ \ uR.view.set = uS.view.set := by rw [set_uS, set_uR]; exact RS_eq.symm
theorem rest_d : Finset.univ \ dR.view.set = dS.view.set := by rw [set_dS, set_dR]; exact RS_eq.symm

theorem access_uS : (uM.access RS).setOn Finset.univ ⊆ uS.view.set := by
  intro i hi
  rw [View.setOn_univ] at hi
  rw [set_uS, ← View.set_slice_whole cc0_scratch2 RS]; exact hi
theorem access_dS : (dM.access RS).setOn Finset.univ ⊆ dS.view.set := by
  intro i hi
  rw [View.setOn_univ] at hi
  rw [set_dS, ← View.set_slice_whole cc0_scratch3 RS]; exact hi
theorem access_uR : (uM.access RR).setOn Finset.univ ⊆ uR.view.set := by
  intro i hi
  rw [View.setOn_univ] at hi
  rw [set_uR, ← View.set_slice_whole cc0_scratch2 RR]; exact hi
theorem access_dR : (dM.access RR).setOn Finset.univ ⊆ dR.view.set := by
  intro i hi
  rw [View.setOn_univ] at hi
  rw [set_dR, ← View.set_slice_whole cc0_scratch3 RR]; exact hi

set_option maxHeartbeats 1600000 in
/-- The rows go out both ways; those to the right have been read out. -/
theorem run4 (κ : GSem nD τ sig → ℕ) (c : Dev nD) (W : Waits sig Unit) (v11 v34 v50 v53 : BitVec 32) (Kt : BitVec 32 → sProp 𝕄) :
    iprop((recs P (pay X Y) So Sd κ ∗ uPts uS.view.set c (fullU X c) ∗ dPts dS.view.set c (fullD Y c)
        ∗ (∃ f, uPts uR.view.set (rt c) f) ∗ (∃ f, dPts dR.view.set (lf c) f) ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0
        ∗ dutyTok ER (cell τ c sDs) 0 5 ∗ reached ER (cell τ c sDs) 0
        ∗ dutyTok ER (cell τ (lf c) sDr) 0 6 ∗ reached ER (cell τ (lf c) sDr) 0
        ∗ atPos ER (cell τ c sUs) 0 ∅ 0)
      ∗ (∀ x, (uPts uS.view.set c (fullU X c) ∗ atPos ER (cell τ c sUs) 1 ∅ 0 ∗ cred (tallyAt (cell τ c sDs) () N)
          ∗ ∃ W, owes (c : Thread nD τ) 0 W) -∗ Kt x))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v11 v34 v50 v53) Kt := by
  simp only [k0_part4_eq_skeleton]
  unfold k0_part4_skel
  simp only [Prog.lift, Prog.bind_op, Prog.bind_ret, Prog.pure_eq_ret]
  iintro ⟨⟨#HR, Hu, Hd, Hun, Hdn, HO, HtUs, #HrUs, HtUr, #HnUr, HtDs, #HrDs, HtDr, #HnDr, HatUs⟩, Hk⟩
  iapply (send_u X Y κ c _ (dev4_eq c) _) $$ [Hu Hun HO HtUs HtUr]
  · isplitr; · iexact HR
    isplitl [Hu]; · iexact Hu
    isplitl [Hun]; · iexact Hun
    isplitl [HO]; · iexact HO
    isplitl [HtUs]; · iexact HtUs
    isplitr; · iexact HrUs
    isplitl [HtUr]; · iexact HtUr
    iexact HnUr
  iintro ⟨HcUs, HO⟩
  iapply (send_d X Y κ c _ (dev5_eq c) _) $$ [Hd Hdn HO HtDs HtDr]
  · isplitr; · iexact HR
    isplitl [Hd]; · iexact Hd
    isplitl [Hdn]; · iexact Hdn
    isplitl [HO]; · iexact HO
    isplitl [HtDs]; · iexact HtDs
    isplitr; · iexact HrDs
    isplitl [HtDr]; · iexact HtDr
    iexact HnDr
  iintro ⟨HcDs, HO⟩
  iapply (Rounds.wp_wait_rest_token 𝒱₀ ER (Rd X Y) (c : Thread nD τ) none (κ := κ (cell τ c sUs))
      (wpE_waitDma2_eq 𝒱₀ (c : Thread nD τ) none Set.univ) (Set.mem_univ _) () (O := 0) (R := 0) (m := 0) (T := ∅)
      ((Nat.zero_add _).trans (by rw [expect_at, at_us]; rfl))) $$ [HcUs HO HatUs]
  · isplitr; · iapply (recs_inv P (pay X Y) So Sd κ (s := sUs) (by decide) c); iexact HR
    isplitl [HcUs]; · iexact HcUs
    isplitl [HO]; · iexact HO
    isplitr; · rw [MayWait_zero]; iempintro
    iexact HatUs
  iintro ⟨HO, HatUs, -, Hpay⟩
  ihave Hu := (Entails.of_eq ((rest_at P (pay X Y) c sUs 0).trans (by rw [at_us, bigSep_singleton]; rfl : _ = uPts uS.view.set c (fullU X c)))) $$ Hpay
  rw [wp_ret]
  imodintro
  iapply Hk
  isplitl [Hu]; · iexact Hu
  isplitl [HatUs]; · iexact HatUs
  isplitl [HcDs]; · iexact HcDs
  iexists _; iexact HO

set_option maxHeartbeats 1600000 in
/-- The left neighbour's rows arrive and are stored. -/
theorem run5 (κ : GSem nD τ sig → ℕ) (c : Dev nD) (W : Waits sig Unit) (v8 v11 v37 v120 : BitVec 32) (fo : OT F) (Kt : PUnit → sProp 𝕄) :
    iprop((recs P (pay X Y) So Sd κ ∗ oPts c fo ∗ owes (c : Thread nD τ) 0 W
        ∗ cred (tallyAt (cell τ c sUr) () N) ∗ atPos ER (cell τ c sUr) 0 ∅ 0)
      ∗ (∀ x, (atPos ER (cell τ c sUr) 1 ∅ 0 ∗ uPts uR.view.set c (fullU X c) ∗ oPts c ((oM.access (oR1 c) : View sig .tc _ _ _).write (Elt F) fo
          (k0_pay4 ((uM.access RR : View sig .tc _ _ _).read (Elt F) (fullU X c))) Finset.univ)
          ∗ ∃ W, owes (c : Thread nD τ) 0 W) -∗ Kt x))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v8 v11 v37 v120) Kt := by
  simp only [k0_part5_eq_skeleton]
  unfold k0_part5_skel
  simp only [Prog.lift, Prog.bind_op, Prog.bind_ret, Prog.pure_eq_ret]
  iintro ⟨⟨#HR, Ho, HO, HcUr, HatUr⟩, Hk⟩
  iapply (Rounds.wp_wait_rest_token 𝒱₀ ER (Rd X Y) (c : Thread nD τ) none (κ := κ (cell τ c sUr))
      (wpE_waitDma2_eq 𝒱₀ (c : Thread nD τ) none Set.univ) (Set.mem_univ _) () (O := 0) (R := 0) (m := 0) (T := ∅)
      ((Nat.zero_add _).trans (by rw [expect_at, at_ur]; rfl))) $$ [HcUr HO HatUr]
  · isplitr; · iapply (recs_inv P (pay X Y) So Sd κ (s := sUr) (by decide) c); iexact HR
    isplitl [HcUr]; · iexact HcUr
    isplitl [HO]; · iexact HO
    isplitr; · rw [MayWait_zero]; iempintro
    iexact HatUr
  iintro ⟨HO, HatUr, -, Hpay⟩
  ihave Hu := (Entails.of_eq ((rest_at P (pay X Y) c sUr 0).trans (by rw [at_ur, bigSep_singleton]; rfl : _ = uPts uR.view.set c (fullU X c)))) $$ Hpay
  iapply (wp_load_rect 𝒱₀ (c : Thread nD τ) none Set.univ (m := uM) (r := RR) (by rw [← View.setOn_univ]; exact access_uR)) $$ Hu
  iintro Hu
  iapply (wp_load_rect 𝒱₀ (c : Thread nD τ) none Set.univ (m := oM) (r := oR1 c) (Finset.subset_univ _)) $$ Ho
  iintro Ho
  iapply (wp_store 𝒱₀ (c : Thread nD τ) none Set.univ (m := oM) (r := oR1 c) (Mk := Finset.univ) (Finset.subset_univ _)) $$ Ho
  iintro Ho
  rw [wp_ret]
  imodintro
  iapply Hk
  isplitl [HatUr]; · iexact HatUr
  isplitl [Hu]; · iexact Hu
  isplitl [Ho]; · iexact Ho
  iexists _; iexact HO

set_option maxHeartbeats 1600000 in
/-- The rows to the left have been read out; the right neighbour's arrive. -/
theorem run6 (κ : GSem nD τ sig → ℕ) (c : Dev nD) (W : Waits sig Unit) (v8 v11 v50 v53 : BitVec 32) (Kt : FVec F S512x2048 .bf16 → sProp 𝕄) :
    iprop((recs P (pay X Y) So Sd κ ∗ owes (c : Thread nD τ) 0 W
        ∗ cred (tallyAt (cell τ c sDs) () N) ∗ atPos ER (cell τ c sDs) 0 ∅ 0
        ∗ cred (tallyAt (cell τ c sDr) () N) ∗ atPos ER (cell τ c sDr) 0 ∅ 0)
      ∗ ((atPos ER (cell τ c sDs) 1 ∅ 0 ∗ dPts dS.view.set c (fullD Y c) ∗ atPos ER (cell τ c sDr) 1 ∅ 0 ∗ dPts dR.view.set c (fullD Y c)
          ∗ ∃ W, owes (c : Thread nD τ) 0 W) -∗ Kt (k0_pay5 ((dM.access RR : View sig .tc _ _ _).read (Elt F) (fullD Y c)))))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 v8 v11 v50 v53) Kt := by
  simp only [k0_part6_eq_skeleton]
  unfold k0_part6_skel
  simp only [Prog.lift, Prog.bind_op, Prog.bind_ret, Prog.pure_eq_ret]
  iintro ⟨⟨#HR, HO, HcDs, HatDs, HcDr, HatDr⟩, Hk⟩
  iapply (Rounds.wp_wait_rest_token 𝒱₀ ER (Rd X Y) (c : Thread nD τ) none (κ := κ (cell τ c sDs))
      (wpE_waitDma2_eq 𝒱₀ (c : Thread nD τ) none Set.univ) (Set.mem_univ _) () (O := 0) (R := 0) (m := 0) (T := ∅)
      ((Nat.zero_add _).trans (by rw [expect_at, at_ds]; rfl))) $$ [HcDs HO HatDs]
  · isplitr; · iapply (recs_inv P (pay X Y) So Sd κ (s := sDs) (by decide) c); iexact HR
    isplitl [HcDs]; · iexact HcDs
    isplitl [HO]; · iexact HO
    isplitr; · rw [MayWait_zero]; iempintro
    iexact HatDs
  iintro ⟨HO, HatDs, -, Hpay⟩
  ihave Hd0 := (Entails.of_eq ((rest_at P (pay X Y) c sDs 0).trans (by rw [at_ds, bigSep_singleton]; rfl : _ = dPts dS.view.set c (fullD Y c)))) $$ Hpay
  iapply (Rounds.wp_wait_rest_token 𝒱₀ ER (Rd X Y) (c : Thread nD τ) none (κ := κ (cell τ c sDr))
      (wpE_waitDma2_eq 𝒱₀ (c : Thread nD τ) none Set.univ) (Set.mem_univ _) () (O := 0) (R := 0) (m := 0) (T := ∅)
      ((Nat.zero_add _).trans (by rw [expect_at, at_dr]; rfl))) $$ [HcDr HO HatDr]
  · isplitr; · iapply (recs_inv P (pay X Y) So Sd κ (s := sDr) (by decide) c); iexact HR
    isplitl [HcDr]; · iexact HcDr
    isplitl [HO]; · iexact HO
    isplitr; · rw [MayWait_zero]; iempintro
    iexact HatDr
  iintro ⟨HO, HatDr, -, Hpay⟩
  ihave Hd1 := (Entails.of_eq ((rest_at P (pay X Y) c sDr 0).trans (by rw [at_dr, bigSep_singleton]; rfl : _ = dPts dR.view.set c (fullD Y c)))) $$ Hpay
  iapply (wp_load_rect 𝒱₀ (c : Thread nD τ) none Set.univ (m := dM) (r := RR) (by rw [← View.setOn_univ]; exact access_dR)) $$ Hd1
  iintro Hd1
  rw [wp_ret]
  imodintro
  iapply Hk
  isplitl [HatDs]; · iexact HatDs
  isplitl [Hd0]; · iexact Hd0
  isplitl [HatDr]; · iexact HatDr
  isplitl [Hd1]; · iexact Hd1
  iexists _; iexact HO

/-- When every round is over, every counter is zero. -/
theorem closing (κ : GSem nD τ sig → ℕ) (c : Dev nD) :
    iprop(recs P (pay X Y) So Sd κ ∗ atPos ER (cell τ c sBar) 1 ∅ 0 ∗ atPos ER (cell τ c sUs) 1 ∅ 0 ∗ atPos ER (cell τ c sUr) 1 ∅ 0
        ∗ atPos ER (cell τ c sDs) 1 ∅ 0 ∗ atPos ER (cell τ c sDr) 1 ∅ 0)
      ⊢ (|={Set.univ}=> (semVal (cell τ c sBar) 0 ∗ semVal (cell τ c sUs) 0 ∗ semVal (cell τ c sUr) 0 ∗ semVal (cell τ c sDs) 0
        ∗ semVal (cell τ c sDr) 0) : sProp 𝕄) := by
  iintro ⟨#HR, HatB, HatUs, HatUr, HatDs, HatDr⟩
  imod (close_at P (pay X Y) c sBar (κ (cell τ c sBar)) 1 (fun _ _ => Nat.one_pos)) $$ [HatB] with Hv0
  · isplitr; · iapply (recs_inv P (pay X Y) So Sd κ (s := sBar) (by decide) c); iexact HR
    iexact HatB
  imod (close_at P (pay X Y) c sUs (κ (cell τ c sUs)) 1 (fun _ _ => Nat.one_pos)) $$ [HatUs] with Hv1
  · isplitr; · iapply (recs_inv P (pay X Y) So Sd κ (s := sUs) (by decide) c); iexact HR
    iexact HatUs
  imod (close_at P (pay X Y) c sUr (κ (cell τ c sUr)) 1 (fun _ _ => Nat.one_pos)) $$ [HatUr] with Hv2
  · isplitr; · iapply (recs_inv P (pay X Y) So Sd κ (s := sUr) (by decide) c); iexact HR
    iexact HatUr
  imod (close_at P (pay X Y) c sDs (κ (cell τ c sDs)) 1 (fun _ _ => Nat.one_pos)) $$ [HatDs] with Hv3
  · isplitr; · iapply (recs_inv P (pay X Y) So Sd κ (s := sDs) (by decide) c); iexact HR
    iexact HatDs
  imod (close_at P (pay X Y) c sDr (κ (cell τ c sDr)) 1 (fun _ _ => Nat.one_pos)) $$ [HatDr] with Hv4
  · isplitr; · iapply (recs_inv P (pay X Y) So Sd κ (s := sDr) (by decide) c); iexact HR
    iexact HatDr
  imodintro
  isplitl [Hv0]; · iexact Hv0
  isplitl [Hv1]; · iexact Hv1
  isplitl [Hv2]; · iexact Hv2
  isplitl [Hv3]; · iexact Hv3
  iexact Hv4

set_option maxHeartbeats 3200000 in
/-- The body of the kernel, run under the protocol. -/
theorem run (κ : GSem nD τ sig → ℕ) (c : Dev nD) (W : Waits sig Unit) (Kt : PUnit → sProp 𝕄) :
    iprop(runPre A X Y κ c W ∗ (runPost A X Y c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold runPre opened creds
  iintro ⟨⟨⟨#HR, HatB, ⟨HatUs, #HrUs⟩, ⟨HatUr, #HrUr⟩, ⟨HatDs, #HrDs⟩, ⟨HatDr, #HrDr⟩,
      HtB0, HtB1, HtB2, HtUs, HtUr, HtDs, HtDr⟩,
    ⟨HcB, HcUr, HcDr⟩, #Hlev, HO, Ha, Hx, Hy, ⟨%fu, Hu⟩, ⟨%fd, Hd⟩, ⟨%fo, Ho⟩⟩, Hk⟩
  ihave Hu2 := (pointsTo_split_subset (Finset.subset_univ uR.view.set)).1 $$ Hu
  icases Hu2 with ⟨Hu1, Hu0⟩
  ihave Hd2 := (pointsTo_split_subset (Finset.subset_univ dR.view.set)).1 $$ Hd
  icases Hd2 with ⟨Hd1, Hd0⟩
  rw [rest_u, rest_d]
  simp only [dev1_eq c, dev2_eq c, dev3_eq c]
  -- the three signals; two hand the neighbours the places they may write
  rw [dues_0 c]
  iapply (Rounds.wp_signal 𝒱₀ ER (Rd X Y) (c : Thread nD τ) none (dst := (pr c : Thread nD τ)) (sem := barS) (r := 0) (d := 0) (κ := κ (cell τ (pr c) sBar))
      (due_mem P (pay X Y) 0 (pr c)) rfl () (dues P J₁ c) rfl) $$ [HO HtB0]
  · isplitr; · iapply (recs_inv P (pay X Y) So Sd κ (s := sBar) (by decide) (pr c)); iexact HR
    isplitl [HO]; · iexact HO
    isplitl [HtB0]; · iexact HtB0
    isplitr
    · rw [show (Rd X Y).payload (cell τ (pr c) sBar) 0 0 = iprop(emp) from rfl]
      iempintro
    iapply (recs_reached P (pay X Y) So Sd κ (s := sBar) (by decide) (pr c)); iexact HR
  iintro HO
  rw [dues_1 c]
  iapply (Rounds.wp_signal 𝒱₀ ER (Rd X Y) (c : Thread nD τ) none (dst := (rt c : Thread nD τ)) (sem := barS) (r := 0) (d := 1) (κ := κ (cell τ (rt c) sBar))
      (due_mem P (pay X Y) 1 (rt c)) rfl () (dues P J₂ c) rfl) $$ [HO HtB1 Hd1]
  · isplitr; · iapply (recs_inv P (pay X Y) So Sd κ (s := sBar) (by decide) (rt c)); iexact HR
    isplitl [HO]; · iexact HO
    isplitl [HtB1]; · iexact HtB1
    isplitl [Hd1]
    · rw [show (Rd X Y).payload (cell τ (rt c) sBar) 0 1 = payLeft (rt c) from rfl]
      unfold payLeft
      rw [lf_rt]
      isplitl [Hd1]; · iexists fd; iexact Hd1
      iexact HrDr
    iapply (recs_reached P (pay X Y) So Sd κ (s := sBar) (by decide) (rt c)); iexact HR
  iintro HO
  rw [dues_2 c]
  iapply (Rounds.wp_signal 𝒱₀ ER (Rd X Y) (c : Thread nD τ) none (dst := (lf c : Thread nD τ)) (sem := barS) (r := 0) (d := 2) (κ := κ (cell τ (lf c) sBar))
      (due_mem P (pay X Y) 2 (lf c)) rfl () (dues P J₃ c) rfl) $$ [HO HtB2 Hu1]
  · isplitr; · iapply (recs_inv P (pay X Y) So Sd κ (s := sBar) (by decide) (lf c)); iexact HR
    isplitl [HO]; · iexact HO
    isplitl [HtB2]; · iexact HtB2
    isplitl [Hu1]
    · rw [show (Rd X Y).payload (cell τ (lf c) sBar) 0 2 = payRight (lf c) from rfl]
      unfold payRight
      rw [rt_lf]
      isplitl [Hu1]; · iexists fu; iexact Hu1
      iexact HrUr
    iapply (recs_reached P (pay X Y) So Sd κ (s := sBar) (by decide) (lf c)); iexact HR
  iintro HO
  -- the wait for theirs
  iapply (Rounds.wp_wait_rest_token 𝒱₀ ER (Rd X Y) (c : Thread nD τ) none (κ := κ (cell τ c sBar))
      (wpE_semWait_eq 𝒱₀ (c : Thread nD τ) none Set.univ) (Set.mem_univ _) () (O := dues P J₃ c) (R := 0) (m := 0) (T := ∅)
      ((Nat.zero_add _).trans (by rw [expect_at, at_bar]; rfl))) $$ [HcB HO HatB]
  · isplitr; · iapply (recs_inv P (pay X Y) So Sd κ (s := sBar) (by decide) c); iexact HR
    isplitl [HcB]; · iexact HcB
    isplitl [HO]; · iexact HO
    isplitr; · iapply (mayWait P rk c sBar J₃ (by decide)); iexact Hlev
    iexact HatB
  iintro ⟨HO, HatB, -, Hpay⟩
  ihave Hp := (Entails.of_eq ((rest_at P (pay X Y) c sBar 0).trans (by rw [at_bar, over_bar]; rfl : _ = iprop(emp ∗ payLeft c ∗ payRight c)))) $$ Hpay
  unfold payLeft payRight
  icases Hp with ⟨-, ⟨Hdn, #HnDr⟩, ⟨Hun, #HnUr⟩⟩
  -- the state of the loop is loaded
  iapply (wp_load 𝒱₀ (c : Thread nD τ) none Set.univ (m := aM) (S := Finset.univ) (Finset.subset_univ _)) $$ Ha
  iintro Ha
  rw [read_a]
  iapply (wp_load 𝒱₀ (c : Thread nD τ) none Set.univ (m := oM) (S := Finset.univ) (Finset.subset_univ _)) $$ Ho
  iintro Ho
  iapply (wp_store 𝒱₀ (c : Thread nD τ) none Set.univ (m := oM) (r := oZ) (Mk := Finset.univ) (Finset.subset_univ _)) $$ Ho
  iintro Ho
  iapply (wp_load 𝒱₀ (c : Thread nD τ) none Set.univ (m := xM) (S := Finset.univ) (Finset.subset_univ _)) $$ Hx
  iintro Hx
  rw [read_x]
  iapply (wp_load_rect 𝒱₀ (c : Thread nD τ) none Set.univ (m := uM) (r := RS) (by rw [← View.setOn_univ]; exact access_uS)) $$ Hu0
  iintro Hu0
  iapply (wp_store 𝒱₀ (c : Thread nD τ) none Set.univ (m := uM) (r := RS) (Mk := Finset.univ) access_uS) $$ Hu0
  iintro Hu0
  iapply (wp_load 𝒱₀ (c : Thread nD τ) none Set.univ (m := yM) (S := Finset.univ) (Finset.subset_univ _)) $$ Hy
  iintro Hy
  rw [read_y]
  iapply (wp_load_rect 𝒱₀ (c : Thread nD τ) none Set.univ (m := dM) (r := RS) (by rw [← View.setOn_univ]; exact access_dS)) $$ Hd0
  iintro Hd0
  iapply (wp_store 𝒱₀ (c : Thread nD τ) none Set.univ (m := dM) (r := RS) (Mk := Finset.univ) access_dS) $$ Hd0
  iintro Hd0
  ihave Hu0 := (Entails.of_eq (pointsTo_congr fun i hi => stored_u X c fu i (by rw [← set_uS]; exact hi))) $$ Hu0
  ihave Hd0 := (Entails.of_eq (pointsTo_congr fun i hi => stored_d Y c fd i (by rw [← set_dS]; exact hi))) $$ Hd0
  rw [wp_bind]
  iapply (run4 X Y κ c _ _ _ _ _ _) $$ [-]
  isplitl [Hu0 Hd0 Hun Hdn HO HtUs HtUr HtDs HtDr HatUs]
  · isplitr; · iexact HR
    isplitl [Hu0]; · iexact Hu0
    isplitl [Hd0]; · iexact Hd0
    isplitl [Hun]; · iexact Hun
    isplitl [Hdn]; · iexact Hdn
    isplitl [HO]; · iexact HO
    isplitl [HtUs]; · iexact HtUs
    isplitr; · iexact HrUs
    isplitl [HtUr]; · iexact HtUr
    isplitr; · iexact HnUr
    isplitl [HtDs]; · iexact HtDs
    isplitr; · iexact HrDs
    isplitl [HtDr]; · iexact HtDr
    isplitr; · iexact HnDr
    iexact HatUs
  iintro %x4 ⟨Hu0, HatUs, HcDs, %W4, HO⟩
  rw [wp_bind]
  iapply (run5 X Y κ c W4 _ _ _ _ _ _) $$ [-]
  isplitl [Ho HO HcUr HatUr]
  · isplitr; · iexact HR
    isplitl [Ho]; · iexact Ho
    isplitl [HO]; · iexact HO
    isplitl [HcUr]; · iexact HcUr
    iexact HatUr
  iintro %x5 ⟨HatUr, Hu1, Ho, %W5, HO⟩
  rw [wp_bind]
  iapply (run6 X Y κ c W5 _ _ _ _ _) $$ [-]
  isplitl [HO HcDs HatDs HcDr HatDr]
  · isplitr; · iexact HR
    isplitl [HO]; · iexact HO
    isplitl [HcDs]; · iexact HcDs
    isplitl [HatDs]; · iexact HatDs
    isplitl [HcDr]; · iexact HcDr
    iexact HatDr
  iintro ⟨HatDs, Hd0, HatDr, Hd1, %W6, HO⟩
  simp only [Prog.lift, Prog.bind_op, Prog.bind_ret, Prog.pure_eq_ret]
  iapply (wp_load_rect 𝒱₀ (c : Thread nD τ) none Set.univ (m := oM) (r := oR2 c) (Finset.subset_univ _)) $$ Ho
  iintro Ho
  iapply (wp_store 𝒱₀ (c : Thread nD τ) none Set.univ (m := oM) (r := oR2 c) (Mk := Finset.univ) (Finset.subset_univ _)) $$ Ho
  iintro Ho
  rw [stored_eq A X Y c fo]
  -- every counter comes back at zero
  rw [wp_ret]
  imod (closing X Y κ c) $$ [HatB HatUs HatUr HatDs HatDr] with ⟨Hv0, Hv1, Hv2, Hv3, Hv4⟩
  · isplitr; · iexact HR
    isplitl [HatB]; · iexact HatB
    isplitl [HatUs]; · iexact HatUs
    isplitl [HatUr]; · iexact HatUr
    isplitl [HatDs]; · iexact HatDs
    iexact HatDr
  imodintro
  iapply Hk
  unfold runPost
  isplitl [Hv0 Hv1 Hv2 Hv3 Hv4]
  · isplitl [Hv0]; · iexact Hv0
    isplitl [Hv1]; · iexact Hv1
    isplitl [Hv2]; · iexact Hv2
    isplitl [Hv3]; · iexact Hv3
    iexact Hv4
  isplitl [HO]; · iexists _; iexact HO
  isplitl [Ha]; · iexact Ha
  isplitl [Hx]; · iexact Hx
  isplitl [Hy]; · iexact Hy
  isplitl [Hu0 Hu1]
  · iexists (fullU X c)
    iapply (joined_u c (fullU X c))
    rw [rest_u]
    isplitl [Hu1]; · iexact Hu1
    iexact Hu0
  isplitl [Hd0 Hd1]
  · iexists (fullD Y c)
    iapply (joined_d c (fullD Y c))
    rw [rest_d]
    isplitl [Hd1]; · iexact Hd1
    iexact Hd0
  iexact Ho

end Cert.SecondIdeal.Hop

end
-- ==== Proof.HopRegion.lean ====
module

public import proofs.«01_k».proof.Proof.HopTalk
public import Idealize.ShloMosaic.Lib.Pipeline.Frame
public import Idealize.ShloMosaic.Lib.Pipeline.ValueKit

/-! The ring's second hop as a program: the body in the pipeline, and the region. -/

@[expose] public section

noncomputable section

namespace Cert.SecondIdeal.Hop

open Cert.SecondIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Cert.CombineIdeal.Comb (pr rt lf)

variable {F : FTy → Type} [FloatOps F]

local notation "𝕄" => MT nD τ sig Unit (Elt F) ℕ (UU nD τ sig 7) ℕ

variable (m : (ℓ : Loc nD τ sig) → Buf (Elt F) ℓ) (ρ : Dev nD → PrngReg)

/-! ## What the region carries -/

/-- A device's rows so far, and those going right and left, as the pipeline stages them. -/
def As (c : Dev nD) : OT F := ((cfg0.win 0).blk t0_0).view.read (Elt F) (m ((c : Thread nD τ).loc main_arg0))
def Xs (c : Dev nD) : BT F := ((cfg0.win 1).blk t0_0).view.read (Elt F) (m ((c : Thread nD τ).loc main_arg1))
def Ys (c : Dev nD) : BT F := ((cfg0.win 2).blk t0_0).view.read (Elt F) (m ((c : Thread nD τ).loc main_arg2))

abbrev osem : Fin 11 → SemLoc sig := ![sUs, sUr, sDs, sDr, z0, z1, z2, z3, z4, z5, z6]

def idleZero (c : Dev nD) : sProp 𝕄 :=
  iprop(semVal (cell τ c z0) 0 ∗ semVal (cell τ c z1) 0 ∗ semVal (cell τ c z2) 0 ∗ semVal (cell τ c z3) 0
    ∗ semVal (cell τ c z4) 0 ∗ semVal (cell τ c z5) 0 ∗ semVal (cell τ c z6) 0)
/-- What enters the kernel with its buffers, and what leaves it. -/
def Xk (c : Dev nD) : sProp 𝕄 := iprop((∃ κ, opened (Xs m) (Ys m) κ c) ∗ creds c ∗ levAts L (lv rk) ∗ idleZero c)
def Yk (c : Dev nD) : sProp 𝕄 := semVal (cell τ c sBar) 0
def dmaZero (c : Dev nD) : sProp 𝕄 :=
  iprop(semVal (cell τ c sUs) 0 ∗ semVal (cell τ c sUr) 0 ∗ semVal (cell τ c sDs) 0 ∗ semVal (cell τ c sDr) 0)

/-- A buffer whole at some contents. -/
abbrev any (c : Dev nD) (b : Ref sig .tc) : sProp 𝕄 :=
  iprop(∃ f : Buf (Elt F) ((c : Thread nD τ).loc b), ((c : Thread nD τ).loc b) ↦{fullShare} f)
def bufs (c : Dev nD) : sProp 𝕄 := iprop(any c cc0_scratch0 ∗ any c cc0_scratch1 ∗ any c cc0_scratch2 ∗ any c cc0_scratch3)

def dat (c : Dev nD) : Dat τ (Elt F) Unit ℕ (UU nD τ sig 7) ℕ cfg0 c where
  A w := m ((cfg0.win w).arr.view.loc (c : Thread nD τ))
  after w _ := match w with
    | ⟨0, _⟩ => As m c
    | ⟨1, _⟩ => Xs m c
    | ⟨2, _⟩ => Ys m c
    | ⟨3, _⟩ => result (As m) (Xs m) (Ys m) c
  Φ t := match t with
    | ⟨0, _⟩ => iprop(Xk m c ∗ (∃ r, prngReg c r) ∗ bufs c)
    | ⟨_ + 1, _⟩ => iprop(Yk c ∗ (dmaZero c ∗ idleZero c) ∗ (∃ r, prngReg c r) ∗ bufs c)
  q _ := fullShare
  owed t := if t.val = 0 then dues P J₀ c else 0

abbrev adm : (p : Fin 1) → (pcfgs (F := F) p).Adm := fun p => (cfgs p).toPCfg_adm
def pdats (p : Fin 1) (c : Dev nD) : Dat τ (Elt F) Unit ℕ (UU nD τ sig 7) ℕ (Pipeline.pin (pcfgs (F := F)) adm p) c :=
  match p with
  | 0 => dat m c

/-! ## The body -/

theorem owed_first (c : Dev nD) : (dat m c).owed t0_0.castSucc = dues P J₀ c := by
  show (if t0_0.castSucc.val = 0 then dues P J₀ c else 0) = _; exact if_pos rfl
theorem owed_last (c : Dev nD) : (dat m c).owed t0_0.succ = 0 := by
  show (if t0_0.succ.val = 0 then dues P J₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Z : b.ty.Contents (Elt F)) :
    (owns (Ix := Unit) (Name := ℕ) (U := UU nD τ sig 7) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop((Xk m c ∗ (∃ r, prngReg c r) ∗ bufs c) ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((Yk c ∗ (dmaZero c ∗ idleZero c) ∗ (∃ r, prngReg c r) ∗ bufs c) ∗ (dat m c).owesAt () t0_0.succ
    ∗ stg c cc0_stg0_0 (As m c) ∗ stg c cc0_stg1_0 (Xs m c) ∗ stg c cc0_stg2_0 (Ys m c)
    ∗ stg c cc0_stg3_0 (result (As m) (Xs m) (Ys m) c))

theorem sound_body (c : Dev nD) :
    bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c) := by
  unfold bodyPre Xk bufs
  iintro ⟨⟨⟨⟨%κ, Hop⟩, Hcr, #Hlev, Hz⟩, Hp, Hw, Hr, ⟨%u, Hu⟩, ⟨%d, Hd⟩⟩, HO, ⟨%d0, %g0, %hg0, Ha⟩, ⟨%d1, %g1, %hg1, Hx⟩,
    ⟨%d2, %g2, %hg2, Hy⟩, ⟨%d3, %g3, -, Ho⟩⟩
  have ha : g0 = As m c := by rw [hg0]; unfold Dat.before; rw [if_pos (fetch0_0 t0_0)]; rfl
  have hx : g1 = Xs m c := by rw [hg1]; unfold Dat.before; rw [if_pos (fetch0_1 t0_0)]; rfl
  have hy : g2 = Ys m c := by rw [hg2]; unfold Dat.before; rw [if_pos (fetch0_2 t0_0)]; rfl
  subst ha hx hy
  ihave HO' := (owesAt_elim m c _ _ (owed_first m c)) $$ HO
  icases HO' with ⟨%W, HO⟩
  iapply (run (As m) (Xs m) (Ys m) κ c W (fun _ => bodyPost m c))
  isplitl [Hop Hcr HO Ha Hx Hy Hu Hd Ho]
  · unfold runPre
    isplitl [Hop]; · iexact Hop
    isplitl [Hcr]; · iexact Hcr
    isplitr; · iexact Hlev
    isplitl [HO]; · iexact HO
    isplitl [Ha]; · iexact Ha
    isplitl [Hx]; · iexact Hx
    isplitl [Hy]; · iexact Hy
    isplitl [Hu]; · iexists u; iexact Hu
    isplitl [Hd]; · iexists d; iexact Hd
    iexists g3; iexact Ho
  unfold runPost bodyPost
  iintro ⟨⟨Hv0, Hv1, Hv2, Hv3, Hv4⟩, ⟨%W', HO⟩, Ha, Hx, Hy, ⟨%u1, Hu⟩, ⟨%d1, Hd⟩, Ho⟩
  isplitr [HO Ha Hx Hy Ho]
  · isplitl [Hv0]; · unfold Yk; iexact Hv0
    isplitl [Hv1 Hv2 Hv3 Hv4 Hz]
    · isplitr [Hz]
      · unfold dmaZero
        isplitl [Hv1]; · iexact Hv1
        isplitl [Hv2]; · iexact Hv2
        isplitl [Hv3]; · iexact Hv3
        iexact Hv4
      iexact Hz
    isplitl [Hp]; · iexact Hp
    unfold bufs
    isplitl [Hw]; · iexact Hw
    isplitl [Hr]; · iexact Hr
    isplitl [Hu]; · iexists u1; iexact Hu
    iexists d1; iexact Hd
  isplitl [HO]; · iapply (owesAt_intro m c t0_0.succ 0 (owed_last m c) W'); iexact HO
  isplitl [Ha]
  · iexists (As m c); isplitr; · ipureintro; rfl
    iexact Ha
  isplitl [Hx]
  · iexists (Xs m c); isplitr; · ipureintro; rfl
    iexact Hx
  isplitl [Hy]
  · iexists (Ys m c); isplitr; · ipureintro; rfl
    iexact Hy
  iexists (result (As m) (Xs m) (Ys m) c); isplitr; · ipureintro; rfl
  iexact Ho

theorem body_obligation (c : Dev nD) : BodyObligation (dat (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c)
  exact sound_body m c

/-! ## The region -/

abbrev V₀ (c : Dev nD) : Valuation τ sig (Elt F) := fun b => m ((c : Dev nD), b)
/-- The buffers after the call. -/
def V₁ (c : Dev nD) : Valuation τ sig (Elt F) :=
  Function.update (V₀ m c) (Proc.devRef .tc main_v1) ((dat m c).arrAt 3 cfg0.N)

theorem V₁_of_ne (c : Dev nD) {b : DevRef τ sig} (h : b ≠ Proc.devRef .tc main_v1) : V₁ m c b = V₀ m c b := by
  unfold V₁; rw [Function.update_of_ne h]
theorem V₁_arg0 (c : Dev nD) : V₁ m c (Proc.devRef .tc main_arg0) = m ((c : Thread nD τ).loc main_arg0) := V₁_of_ne m c (by decide)
theorem V₁_arg1 (c : Dev nD) : V₁ m c (Proc.devRef .tc main_arg1) = m ((c : Thread nD τ).loc main_arg1) := V₁_of_ne m c (by decide)
theorem V₁_arg2 (c : Dev nD) : V₁ m c (Proc.devRef .tc main_arg2) = m ((c : Thread nD τ).loc main_arg2) := V₁_of_ne m c (by decide)
theorem V₁_out (c : Dev nD) : V₁ m c (Proc.devRef .tc main_v1) = (dat m c).arrAt 3 cfg0.N := by
  unfold V₁; rw [Function.update_self]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem ownSems_eq (c : Dev nD) : (Pipeline.ownSems0 osem c : sProp 𝕄) ⊣⊢ iprop(dmaZero c ∗ idleZero c) := by
  rw [show (Pipeline.ownSems0 osem c : sProp 𝕄) = _ from bigSep_fin11 (fun k : Fin 11 => (semVal ((c : Thread nD τ), osem k) 0 : sProp 𝕄))]
  unfold dmaZero idleZero
  constructor
  · iintro ⟨H0, H1, H2, H3, H⟩
    isplitl [H0 H1 H2 H3]
    · isplitl [H0]; · iexact H0
      isplitl [H1]; · iexact H1
      isplitl [H2]; · iexact H2
      iexact H3
    iexact H
  · iintro ⟨⟨H0, H1, H2, H3⟩, H⟩
    isplitl [H0]; · iexact H0
    isplitl [H1]; · iexact H1
    isplitl [H2]; · iexact H2
    isplitl [H3]; · iexact H3
    iexact H

theorem overSd (Φ : SemLoc sig → sProp 𝕄) : bigSep Sd Φ = iprop(Φ sUs ∗ Φ sUr ∗ Φ sDs ∗ Φ sDr) := by
  unfold Sd
  rw [bigSep_insert (by decide), bigSep_insert (by decide), bigSep_insert (by decide), bigSep_singleton]; rfl
theorem overSo (Φ : SemLoc sig → sProp 𝕄) : bigSep So Φ = Φ sBar := by unfold So; rw [bigSep_singleton]
theorem overJ (Φ : Fin 7 → sProp 𝕄) : bigSep J₀ Φ = iprop(Φ 0 ∗ Φ 1 ∗ Φ 2 ∗ Φ 4 ∗ Φ 6) := by
  unfold J₀
  rw [bigSep_insert (by decide), bigSep_insert (by decide), bigSep_insert (by decide), bigSep_insert (by decide), bigSep_singleton]; rfl

/-- What a device carries from the launch to the kernel. -/
def Tk (c : Dev nD) : sProp 𝕄 := iprop((∃ κ, □ recs P (pay (Xs m) (Ys m)) So Sd κ ∗ mine P So Sd c) ∗ creds c)

theorem hopen (c : Dev nD) : iprop(Tk m c ∗ Pipeline.ownSems0 osem c ∗ levAts L (lv rk)) ⊢ (|={Set.univ}=> Xk m c : sProp 𝕄) := by
  refine (sep_mono .rfl (sep_mono (ownSems_eq c).1 .rfl)).trans ?_
  unfold Tk Xk mine dmaZero
  rw [overSd, overSo, bigSep_fin7]
  iintro ⟨⟨⟨%κ, #HR, HatB, ⟨Ho1, Ho2, Ho3, Ho4⟩, Ht⟩, Hcr⟩, ⟨⟨Hv1, Hv2, Hv3, Hv4⟩, Hz⟩, #Hlev⟩
  imod (Rounds.cell_open ER (Rd (Xs m) (Ys m)) (g := cell τ c sUs) (Set.mem_univ (κ (cell τ c sUs)))) $$ [Ho1 Hv1] with ⟨Hat1, #Hr1⟩
  · isplitr; · iapply (recs_inv P (pay (Xs m) (Ys m)) So Sd κ (s := sUs) (by decide) c); iexact HR
    isplitl [Ho1] <;> iassumption
  imod (Rounds.cell_open ER (Rd (Xs m) (Ys m)) (g := cell τ c sUr) (Set.mem_univ (κ (cell τ c sUr)))) $$ [Ho2 Hv2] with ⟨Hat2, #Hr2⟩
  · isplitr; · iapply (recs_inv P (pay (Xs m) (Ys m)) So Sd κ (s := sUr) (by decide) c); iexact HR
    isplitl [Ho2] <;> iassumption
  imod (Rounds.cell_open ER (Rd (Xs m) (Ys m)) (g := cell τ c sDs) (Set.mem_univ (κ (cell τ c sDs)))) $$ [Ho3 Hv3] with ⟨Hat3, #Hr3⟩
  · isplitr; · iapply (recs_inv P (pay (Xs m) (Ys m)) So Sd κ (s := sDs) (by decide) c); iexact HR
    isplitl [Ho3] <;> iassumption
  imod (Rounds.cell_open ER (Rd (Xs m) (Ys m)) (g := cell τ c sDr) (Set.mem_univ (κ (cell τ c sDr)))) $$ [Ho4 Hv4] with ⟨Hat4, #Hr4⟩
  · isplitr; · iapply (recs_inv P (pay (Xs m) (Ys m)) So Sd κ (s := sDr) (by decide) c); iexact HR
    isplitl [Ho4] <;> iassumption
  imodintro
  isplitr [Hcr Hz]
  · iexists κ
    unfold opened
    isplitr; · iexact HR
    isplitl [HatB]; · iexact HatB
    isplitl [Hat1]; · isplitl [Hat1]; · iexact Hat1
                      iexact Hr1
    isplitl [Hat2]; · isplitl [Hat2]; · iexact Hat2
                      iexact Hr2
    isplitl [Hat3]; · isplitl [Hat3]; · iexact Hat3
                      iexact Hr3
    isplitl [Hat4]; · isplitl [Hat4]; · iexact Hat4
                      iexact Hr4
    iexact Ht
  isplitl [Hcr]; · iexact Hcr
  isplitr; · iexact Hlev
  iexact Hz

theorem held_none (c : Dev nD) (W : Valuation τ sig (Elt F)) : (StableHlo.held (c.tc : Thread nD τ) ∅ W : sProp 𝕄) = BI.emp := by
  unfold StableHlo.held; exact BI.bigSep_empty

theorem rest_eq (c : Dev nD) : (Pipeline.scopedRest (Pipeline.pin (pcfgs (F := F)) adm 0).spec c : sProp 𝕄) = bufs c := scopedRest0_eq c

theorem hin (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = iprop(Xk m c ∗ (∃ r, prngReg c r) ∗ bufs c) from rfl, rest_eq]
  iintro ⟨Hb, Hp, -, HX⟩
  isplitl [HX]; · iexact HX
  isplitl [Hp]; · iexact Hp
  iexact Hb

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last (Pipeline.pin (pcfgs (F := F)) adm 0).N)
      = iprop(Yk c ∗ (dmaZero c ∗ idleZero c) ∗ (∃ r, prngReg c r) ∗ bufs c) from rfl, rest_eq, held_none]
  iintro ⟨HY, Hs, Hp, Hb⟩
  isplitl [Hb]; · iexact Hb
  isplitl [Hp]; · iexact Hp
  isplitr; · iempintro
  isplitl [Hs]; · iapply (ownSems_eq c).2; iexact Hs
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rk_pos (j : Fin 7) (h : j ∈ J₀) : 0 < rk (P.sm j) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv rk g i := by
  have e : (pdats (F := F) m 0 c).owed t = if t.val = 0 then dues P J₀ c else 0 := rfl
  rw [e] at h
  split at h
  · obtain ⟨j, hj, rfl⟩ := dues_pos P h
    exact ⟨by rw [L_cell]; exact Finset.mem_singleton_self _, rk_pos j hj⟩
  · exact absurd h (Nat.lt_irrefl 0)

theorem cut_in (c : Dev nD) (w : Fin 4) (s : Fin (spec0 w).nbuf) : rk (SemLoc.dma ((spec0 w).sem s)) ≤ 0 := by
  revert s; revert w; decide

theorem share_full (c : Dev nD) (w : Fin 4) : (dat m c).share w = fullShare := by
  unfold Dat.share; split <;> rfl

theorem arr_first (c : Dev nD) (w : Fin 4) : (dat m c).arrAt w 0 = V₀ m c (Proc.devRef .tc (Pipeline.arrRef spec0 w)) := by
  fin_cases w <;> rfl
theorem arr_last (c : Dev nD) (w : Fin 4) : (dat m c).arrAt w cfg0.N = V₁ m c (Proc.devRef .tc (Pipeline.arrRef spec0 w)) := by
  match w with
  | 0 => exact ((dat m c).arrAt_in 0 rfl _).trans (V₁_arg0 m c).symm
  | 1 => exact ((dat m c).arrAt_in 1 rfl _).trans (V₁_arg1 m c).symm
  | 2 => exact ((dat m c).arrAt_in 2 rfl _).trans (V₁_arg2 m c).symm
  | 3 => exact (V₁_out m c).symm

set_option backward.isDefEq.respectTransparency.types false in
def reg : Pipeline.RegionSeg (pcfgs (F := F)) adm (pdats m) () defs₀ 𝒱₀ L (lv rk) 0 :=
  Pipeline.RegionSeg.ofTalk (pcfgs (F := F)) adm (pdats m) () defs₀ 𝒱₀ L (lv rk) 0 osem (by decide : Pipeline.OwnSemFacts spec0 osem)
    ∅ ∅ (Finset.Subset.refl _) kitP rfl (fun c => (body_obligation m c).loose)
    (fun _ => 0) (fun c => dues P J₀ c) (fun c => (owed_first m c).trans (zero_add _).symm) (owed_last m) (fun _ => rfl) (share_full m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_cell]; exact Finset.mem_singleton_self _, fun c w s => cut_in c w s, fun c t g i h => cutD m c t g i h⟩
    (fun _ => iprop(emp))
    (fun c w => arr_first m c w) (fun c w => arr_last m c w)

end Cert.SecondIdeal.Hop

end
-- ==== Proof.HopRun.lean ====
module

public import proofs.«01_k».proof.Proof.HopRegion
public import Idealize.ShloMosaic.Lib.Quiescent
public import Idealize.ShloMosaic.Adequacy
public import Idealize.ShloMosaic.Harness.Basic
public import Idealize.ShloMosaic.Init

/-! The launch of the ring's second hop on all sixteen devices, and what every run of it leaves. -/

@[expose] public section

noncomputable section

namespace Cert.SecondIdeal.Hop

open Cert.SecondIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Idealize.ShloMosaic.Smoke (bigSep_pair bigSep_unpair)

variable {F : FTy → Type} [FloatOps F]

local notation "𝕄" => MT nD τ sig Unit (Elt F) ℕ (UU nD τ sig 7) ℕ

variable (m : (ℓ : Loc nD τ sig) → Buf (Elt F) ℓ) (ρ : Dev nD → PrngReg)

abbrev arrs : Finset (DevRef τ sig) := Pipeline.arrRefs (τ := τ) spec0

theorem arrs_uc : Pipeline.ucRefs τ sig = arrs := by decide

theorem held_arrs (c : Dev nD) (W : Valuation τ sig (Elt F)) :
    (StableHlo.held (c.tc : Thread nD τ) arrs W : sProp 𝕄)
      = iprop((((c : Thread nD τ).loc main_arg0) ↦{fullShare} W (Proc.devRef .tc main_arg0))
        ∗ (((c : Thread nD τ).loc main_arg1) ↦{fullShare} W (Proc.devRef .tc main_arg1))
        ∗ (((c : Thread nD τ).loc main_arg2) ↦{fullShare} W (Proc.devRef .tc main_arg2))
        ∗ (((c : Thread nD τ).loc main_v1) ↦{fullShare} W (Proc.devRef .tc main_v1))) := by
  unfold StableHlo.held arrs Pipeline.arrRefs
  rw [bigSep_map, show (Finset.univ.image (Pipeline.arrRef spec0) : Finset (Ref sig .tc))
      = Finset.univ.map ⟨Pipeline.arrRef spec0, winFacts0.arr_inj⟩ from (Finset.map_eq_image ⟨Pipeline.arrRef spec0, winFacts0.arr_inj⟩ Finset.univ).symm,
    bigSep_map, bigSep_W0]
  rfl

theorem unscopedSems_eq (c : Dev nD) : (unscopedSems0 c : sProp 𝕄) = semVal (cell τ c sBar) 0 := by
  unfold unscopedSems0
  rw [show (Finset.univ.filter fun sm : SemLoc sig => ¬ sm.isScoped .tc) = {sBar} from by decide, BI.bigSep_singleton]

/-- Ghost state of the whole machine, dealt at the first device. -/
def G (c : Dev nD) : sProp 𝕄 := if c = 0 then BI.own (ER (elt P So Sd τ)) else iprop(emp)

theorem G_all : bigSep Finset.univ (G (F := F)) = BI.own (ER (elt P So Sd τ)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def u₀ : UU nD τ sig 7 :=
  (initOf (Pipeline.cells (Pipeline.pin (pcfgs (F := F)) adm) cellOf_inj) (Pipeline.launchToks (Pipeline.pin (pcfgs (F := F)) adm) cellOf_inj), elt P So Sd τ)

/-- What a device holds when the program starts, and when it ends. -/
def T₀ (c : Dev nD) : sProp 𝕄 :=
  iprop(StableHlo.held (c.tc : Thread nD τ) arrs (V₀ m c) ∗ (∃ r, prngReg c r)
    ∗ (StableHlo.held (c.tc : Thread nD τ) ∅ (V₀ m c) ∗ emp) ∗ Tk m c ∗ ∃ Wd, owes (c : Thread nD τ) (0 + dues P J₀ c) Wd)
def Tₙ (c : Dev nD) : sProp 𝕄 := iprop(StableHlo.held (c.tc : Thread nD τ) arrs (V₁ m c) ∗ semVal (cell τ c sBar) 0)

def bundle (c : Dev nD) : sProp 𝕄 :=
  iprop(StableHlo.held (c.tc : Thread nD τ) arrs (V₀ m c) ∗ (∃ r, prngReg c r) ∗ creds c ∗ owes (c : Thread nD τ) (dues P J₀ c) ∅)

theorem T₀_intro (κ : GSem nD τ sig → ℕ) (c : Dev nD) :
    iprop((□ recs P (pay (Xs m) (Ys m)) So Sd κ) ∗ (mine P So Sd c ∗ bundle m c)) ⊢ T₀ m c := by
  unfold bundle T₀ Tk
  rw [held_none, zero_add]
  iintro ⟨#HR, Hl, Hh, Hp, Hc, HO⟩
  isplitl [Hh]; · iexact Hh
  isplitl [Hp]; · iexact Hp
  isplitr; · isplitr <;> iempintro
  isplitr [HO]
  · isplitl [Hl]
    · iexists κ
      isplitr; · iexact HR
      iexact Hl
    iexact Hc
  iexists ∅; iexact HO

/-- Three units of the barrier's credit. -/
theorem cred_three (c : Dev nD) :
    iprop(cred (tallyAt (cell τ c sBar) () 1) ∗ cred (tallyAt (cell τ c sBar) () 1) ∗ cred (tallyAt (cell τ c sBar) () 1))
      ⊢ (cred (tallyAt (cell τ c sBar) () 3) : sProp 𝕄) := by
  refine (sep_mono .rfl (cred_add _ _).2).trans ((cred_add _ _).2.trans ?_)
  rw [tallyAt_add, tallyAt_add]

theorem init :
    iprop((bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c)) ∗ levAts L (lv rk))
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dues P J₀ c) ∅ ∗ Pipeline.launchCred (fun c => dues P J₀ c) c ∗ prngReg c (ρ c) ∗ G c)
      ⊢ (iprop(bundle m c ∗ ((bigSep So fun s => semVal (cell τ c s) 0) ∗ G c)) : sProp 𝕄) := by
    rw [show (unscopedBufs c (fun b => m ((c : Thread nD τ).loc b)) : sProp 𝕄) = StableHlo.held (c.tc : Thread nD τ) arrs (V₀ m c) from
        (Pipeline.unscopedBufs_held c (V₀ m c)).trans (by rw [arrs_uc]),
      unscopedSems_eq, overSo]
    unfold bundle
    iintro ⟨Hh, Hus, HO, Hcr, Hp, HG⟩
    ihave Hc := (launchCred_dues P J₀ c) $$ Hcr
    isplitl [Hh HO Hp Hc]
    · isplitl [Hh]; · iexact Hh
      isplitl [Hp]; · iexists (ρ c); iexact Hp
      isplitl [Hc]
      · ihave Hd := (Entails.of_eq (overJ (F := F) fun j => cred (tallyAt (cell τ c (P.sm j)) () (P.am j)))) $$ Hc
        icases Hd with ⟨H0, H1, H2, H3, H4⟩
        unfold creds
        isplitl [H0 H1 H2]
        · iapply (cred_three (F := F) c)
          isplitl [H0]; · iexact H0
          isplitl [H1]; · iexact H1
          iexact H2
        isplitl [H3]; · iexact H3
        iexact H4
      iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c))
      ⊢ (bigSep Finset.univ fun c : Dev nD => iprop(bundle m c ∗ ((bigSep So fun s => semVal (cell τ c s) 0) ∗ G c)) : sProp 𝕄)
      from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Talk.deal P (pay (Xs m) (Ys m)) So Sd (fun j c => pay_storable (Xs m) (Ys m) j c) (by decide)) $$ [Hv Hu] with ⟨%κ, #HR, Hm⟩
  · isplitl [Hv] <;> iassumption
  imodintro
  iapply (bigSep_with_persistent (R := iprop(□ recs P (pay (Xs m) (Ys m)) So Sd κ)) (Φ := fun c => iprop(mine P So Sd c ∗ bundle m c))
    fun c _ => T₀_intro m κ c)
  isplitr; · iexact HR
  iapply bigSep_pair
  isplitl [Hm] <;> iassumption

theorem unscoped_bar : ∀ sm : SemLoc sig, sm.isScoped .tc = false → sm = sBar := by decide

set_option backward.isDefEq.respectTransparency.types false in
/-- Every run ends; each device keeps what it was given, its result is what the pipeline writes back, and every counter
    is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v1) = (dat m c).arrAt 3 cfg0.N) ∧ r.2.sem = fun _ => 0) :=
  Pipeline.θ_run_regions_kit_sems (pcfgs (F := F)) adm (pdats m) () cellOf_inj EP defs₀ 𝒱₀ L (lv rk) m ρ main [.region (reg m)]
    (fun c Q => by rw [main_segs adm (pdats m) () 𝒱₀ L (lv rk) (reg m) c])
    (by simp only [Pipeline.Seg.pipes_region, Pipeline.Seg.pipes_nil]; decide)
    (O₀ := fun c => dues P J₀ c) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => ?_⟩
      show iprop(StableHlo.held (c.tc : Thread nD τ) arrs (V₁ m c) ∗ (∃ r, prngReg c r)
          ∗ (StableHlo.held (c.tc : Thread nD τ) ∅ (V₁ m c) ∗ emp) ∗ Yk c ∗ ∃ Wd, owes (c : Thread nD τ) (0 : CellTallies nD τ sig Unit) Wd)
        ⊢ iprop(Tₙ m c ∗ ∃ W, owes (c : Thread nD τ) (0 : CellTallies nD τ sig Unit) W)
      unfold Yk Tₙ
      iintro ⟨Hh, -, -, Hb, HO⟩
      isplitr [HO]
      · isplitl [Hh] <;> iassumption
      · iexact HO)
    (hinit := init m ρ)
    (QY := fun c s => (s.mem ((c : Thread nD τ).loc main_arg0) = V₁ m c (Proc.devRef .tc main_arg0)
        ∧ s.mem ((c : Thread nD τ).loc main_arg1) = V₁ m c (Proc.devRef .tc main_arg1)
        ∧ s.mem ((c : Thread nD τ).loc main_arg2) = V₁ m c (Proc.devRef .tc main_arg2)
        ∧ s.mem ((c : Thread nD τ).loc main_v1) = V₁ m c (Proc.devRef .tc main_v1))
      ∧ s.sem (cell τ c sBar) = 0)
    (hfin := fun c s' => by
      dsimp only [Tₙ]; rw [held_arrs]
      iintro ⟨⟨⟨Ha, Hx, Hy, Ho⟩, Hb0⟩, HSI⟩
      icombine HSI Ha gives %ha
      icombine HSI Hx gives %hx
      icombine HSI Hy gives %hy
      icombine HSI Ho gives %ho
      icombine HSI Hb0 gives %hb
      imodintro
      isplitr
      · ipureintro
        exact ⟨⟨Buf.eq_of_forall_mem_univ ha, Buf.eq_of_forall_mem_univ hx, Buf.eq_of_forall_mem_univ hy, Buf.eq_of_forall_mem_univ ho⟩,
          by simpa using hb⟩
      iexact HSI)
    (hQ := fun s h hs => ⟨fun c => by
        obtain ⟨⟨ha, hx, hy, ho⟩, -⟩ := h c
        exact ⟨ha.trans (V₁_arg0 m c), hx.trans (V₁_arg1 m c), hy.trans (V₁_arg2 m c), ho.trans (V₁_out m c)⟩,
      sem_eq_zero hs fun c sm hsm => by
        obtain rfl := unscoped_bar sm hsm
        exact (h c).2⟩)

/-! ## The arguments and the result as arrays -/

theorem As_eq (c : Dev nD) : As m c = m ((c : Thread nD τ).loc main_arg0) := by
  funext i
  unfold As
  blk_simp
  exact congrArg (m ((c : Thread nD τ).loc main_arg0)) (funext fun a => Fin.ext (Pipeline.Window.rect_emb_val_of_index_zero (cfg0.win 0) t0_0 a (by revert a; decide) i))

theorem Xs_eq (c : Dev nD) : Xs m c = m ((c : Thread nD τ).loc main_arg1) := by
  funext i
  unfold Xs
  blk_simp
  exact congrArg (m ((c : Thread nD τ).loc main_arg1)) (funext fun a => Fin.ext (Pipeline.Window.rect_emb_val_of_index_zero (cfg0.win 1) t0_0 a (by revert a; decide) i))

theorem Ys_eq (c : Dev nD) : Ys m c = m ((c : Thread nD τ).loc main_arg2) := by
  funext i
  unfold Ys
  blk_simp
  exact congrArg (m ((c : Thread nD τ).loc main_arg2)) (funext fun a => Fin.ext (Pipeline.Window.rect_emb_val_of_index_zero (cfg0.win 2) t0_0 a (by revert a; decide) i))

theorem out_eq (c : Dev nD) : (dat m c).arrAt 3 cfg0.N
    = result (fun c : Dev nD => m ((c : Thread nD τ).loc main_arg0)) (fun c : Dev nD => m ((c : Thread nD τ).loc main_arg1))
        (fun c : Dev nD => m ((c : Thread nD τ).loc main_arg2)) c := by
  rw [← (funext (As_eq m) : As m = _), ← (funext (Xs_eq m) : Xs m = _), ← (funext (Ys_eq m) : Ys m = _)]
  funext i
  refine ((dat m c).arrAt_emb_eq_after_last 3 t0_0 (by decide +kernel) i).trans ?_
  blk_simp
  rfl

end Cert.SecondIdeal.Hop

end
-- ==== Proof.Third.lean ====
module

public import proofs.«01_k».proof.Proof.Gen.ThirdIdeal.Launch
public import proofs.«01_k».proof.Proof.Gen.ThirdIdeal.Points
public import proofs.«01_k».proof.Proof.Gen.ThirdIdeal.Skeleton
public import proofs.«01_k».proof.Proof.Ring

/-! The ring's third hop: the buffers, and what every copy and store leaves. The slots have changed places. -/

@[expose] public section

noncomputable section

namespace Cert.ThirdIdeal.Hop

open Cert.ThirdIdeal.Gen
open Idealize.ShloMosaic
open Idealize.ShloMosaic.TcCoe
open Talk
open Cert.CombineIdeal.Comb (pr posn devn at8 rt lf pr_pr rt_lf lf_rt peer right left at8_self posn_lt inner)

variable {F : FTy → Type} [FloatOps F]

theorem dev1_eq : ∀ c : Dev nD, (⟨k0_dev1 c, k0_dev1_lt c⟩ : Dev nD) = pr c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = lf c := by decide +kernel
theorem dev4_eq : ∀ c : Dev nD, (⟨k0_dev4 c, k0_dev4_lt c⟩ : Dev nD) = rt c := by decide +kernel
theorem dev5_eq : ∀ c : Dev nD, (⟨k0_dev5 c, k0_dev5_lt c⟩ : Dev nD) = lf c := by decide +kernel

/-- How far a block has come round when this hop is over. -/
abbrev far : ℕ := 3
theorem off1_eq : ∀ c : Dev nD, k0_off1 c = ![512 * ((posn c.val + (8 - far)) % 8), 0] := by decide +kernel
theorem off2_eq : ∀ c : Dev nD, k0_off2 c = ![512 * ((posn c.val + far) % 8), 0] := by decide +kernel
theorem apart (p : ℕ) : (p + (8 - far)) % 8 ≠ (p + far) % 8 := by unfold far; omega

/-! ## The buffers and the semaphores -/

abbrev barS : Sem sig := (SemArray.scalar (sig.barrier 1 rfl) : Sems sig S_).sem
abbrev sBar : SemLoc sig := .reg barS
/-- Sent from the first slot, received into the second. -/
abbrev semS (s : DmaSems sig S2) : DmaSem sig := ((s.slice (Rect.unit (s := S2) ![0] S1.size inb_S2_S1_0)).squeeze S_ squeezes_S1_S_).sem
abbrev semR (s : DmaSems sig S2) : DmaSem sig := ((s.slice (Rect.unit (s := S2) ![1] S1.size inb_S2_S1_1)).squeeze S_ squeezes_S1_S_).sem
abbrev RS : Rect S2x512x2048 := Rect.unit (s := S2x512x2048) ![0, 0, 0] S1x512x2048.size inb_S2x512x2048_S1x512x2048_0_0_0
abbrev RR : Rect S2x512x2048 := Rect.unit (s := S2x512x2048) ![1, 0, 0] S1x512x2048.size inb_S2x512x2048_S1x512x2048_1_0_0
/-- Both slots, of what is sent and what arrives. -/
abbrev pair {α : Type} (x y : S512x2048.Idx → α) : S2x512x2048.Idx → α := Talk.both (R := 512) (C := 2048) x y
theorem pair_sent {α : Type} (x y : S512x2048.Idx → α) (j) : pair x y (Talk.high 0 j) = x j := Talk.both_fst x y j
theorem pair_arrived {α : Type} (x y : S512x2048.Idx → α) (j) : pair x y (Talk.high 1 j) = y j := Talk.both_snd x y j
theorem RS_idx (j : S1x512x2048.Idx) : RS.toLoadRect.idx j = Talk.high 0 (Talk.low j) := Talk.slot_idx (R := 512) (C := 2048) 0 _ j
theorem RR_idx (j : S1x512x2048.Idx) : RR.toLoadRect.idx j = Talk.high 1 (Talk.low j) := Talk.slot_idx (R := 512) (C := 2048) 1 _ j
theorem mem_RS (i : S2x512x2048.Idx) : i ∈ RS.set ↔ (i 0).val = 0 := Talk.mem_slot (R := 512) (C := 2048) 0 _ i
theorem mem_RR (i : S2x512x2048.Idx) : i ∈ RR.set ↔ (i 0).val = 1 := Talk.mem_slot (R := 512) (C := 2048) 1 _ i

abbrev slotS (M : Memref sig .tc .vmem S2x512x2048 .bf16) : Memref sig .tc .vmem S512x2048 .bf16 :=
  (M.slice RS (fun _ => rfl)).squeeze S512x2048 squeezes_S1x512x2048_S512x2048
abbrev slotR (M : Memref sig .tc .vmem S2x512x2048 .bf16) : Memref sig .tc .vmem S512x2048 .bf16 :=
  (M.slice RR (fun _ => rfl)).squeeze S512x2048 squeezes_S1x512x2048_S512x2048
theorem read_slotS (M : Memref sig .tc .vmem S2x512x2048 .bf16) (g : M.view.ty.Contents (Elt F)) :
    (slotS M).view.read (Elt F) g = fun j => M.view.read (Elt F) g (Talk.high 0 j) :=
  Talk.read_slot (Val := Elt F) (R := 512) (C := 2048) M 0 inb_S2x512x2048_S1x512x2048_0_0_0 (fun _ => rfl) squeezes_S1x512x2048_S512x2048 rfl g
theorem read_slotR (M : Memref sig .tc .vmem S2x512x2048 .bf16) (g : M.view.ty.Contents (Elt F)) :
    (slotR M).view.read (Elt F) g = fun j => M.view.read (Elt F) g (Talk.high 1 j) :=
  Talk.read_slot (Val := Elt F) (R := 512) (C := 2048) M 1 inb_S2x512x2048_S1x512x2048_1_0_0 (fun _ => rfl) squeezes_S1x512x2048_S512x2048 rfl g

abbrev sUs : SemLoc sig := .dma (semS cc0_scratch7)
abbrev sUr : SemLoc sig := .dma (semR cc0_scratch8)
abbrev sDs : SemLoc sig := .dma (semS cc0_scratch9)
abbrev sDr : SemLoc sig := .dma (semR cc0_scratch10)
/-- Those that this hop leaves alone. -/
abbrev z0 : SemLoc sig := .dma cc0_scratch4.sem
abbrev z1 : SemLoc sig := .dma cc0_scratch5.sem
abbrev z2 : SemLoc sig := .dma cc0_scratch6.sem
abbrev z3 : SemLoc sig := .dma (semR cc0_scratch7)
abbrev z4 : SemLoc sig := .dma (semS cc0_scratch8)
abbrev z5 : SemLoc sig := .dma (semR cc0_scratch9)
abbrev z6 : SemLoc sig := .dma (semS cc0_scratch10)

abbrev aM : Memref sig .tc .vmem S4096x2048 .bf16 := Memref.whole cc0_stg0_0
abbrev xM : Memref sig .tc .vmem S512x2048 .bf16 := Memref.whole cc0_stg1_0
abbrev yM : Memref sig .tc .vmem S512x2048 .bf16 := Memref.whole cc0_stg2_0
abbrev oM : Memref sig .tc .vmem S4096x2048 .bf16 := Memref.whole cc0_stg3_0
abbrev uM : Memref sig .tc .vmem S2x512x2048 .bf16 := Memref.whole cc0_scratch2
abbrev dM : Memref sig .tc .vmem S2x512x2048 .bf16 := Memref.whole cc0_scratch3
abbrev uS := slotS uM
abbrev uR := slotR uM
abbrev dS := slotS dM
abbrev dR := slotR dM
abbrev oZ : Rect S4096x2048 := Rect.unit (s := S4096x2048) ![0, 0] S4096x2048.size inb_S4096x2048_S4096x2048_0_0
abbrev oR1 (c : Dev nD) : Rect S4096x2048 := Rect.unit (s := S4096x2048) (k0_off1 c) S512x2048.size (k0_off1_inb c)
abbrev oR2 (c : Dev nD) : Rect S4096x2048 := Rect.unit (s := S4096x2048) (k0_off2 c) S512x2048.size (k0_off2_inb c)

theorem set_uS : uS.view.set = RS.set := by
  show ((uM.slice RS (fun _ => rfl)).view.reshape S512x2048 _).set = _
  rw [View.set_reshape]; exact View.set_slice_whole _ _
theorem set_uR : uR.view.set = RR.set := by
  show ((uM.slice RR (fun _ => rfl)).view.reshape S512x2048 _).set = _
  rw [View.set_reshape]; exact View.set_slice_whole _ _
theorem set_dS : dS.view.set = RS.set := by
  show ((dM.slice RS (fun _ => rfl)).view.reshape S512x2048 _).set = _
  rw [View.set_reshape]; exact View.set_slice_whole _ _
theorem set_dR : dR.view.set = RR.set := by
  show ((dM.slice RR (fun _ => rfl)).view.reshape S512x2048 _).set = _
  rw [View.set_reshape]; exact View.set_slice_whole _ _

theorem RS_eq : RS.set = Finset.univ \ RR.set := by
  ext i
  rw [Finset.mem_sdiff, mem_RS, mem_RR]
  have h2 : (i 0).val < 2 := (i 0).isLt
  constructor
  · intro h; exact ⟨Finset.mem_univ _, by omega⟩
  · intro h; have := h.2; omega

/-! ## What the buffers hold -/

abbrev BT (F : FTy → Type) : Type := S512x2048.Idx → Elt F .bf16
abbrev OT (F : FTy → Type) : Type := S4096x2048.Idx → Elt F .bf16

variable (A : Dev nD → OT F) (X Y : Dev nD → BT F)

/-- The two slots of either direction when the hop is over. -/
def fullU (c : Dev nD) : S2x512x2048.Idx → Elt F .bf16 := pair (X c) (X (lf c))
def fullD (c : Dev nD) : S2x512x2048.Idx → Elt F .bf16 := pair (Y c) (Y (rt c))

/-- A device's result: what it held, and in two blocks the rows that arrived. -/
def result (c : Dev nD) : OT F := fun i =>
  if (i 0).val / 512 = (posn c.val + far) % 8 then Y (rt c) (inner i)
  else if (i 0).val / 512 = (posn c.val + (8 - far)) % 8 then X (lf c) (inner i)
  else A c i

theorem read_uS (c : Dev nD) : uS.view.read (Elt F) (fullU X c) = X c :=
  (read_slotS uM (fullU X c)).trans (funext fun j => pair_sent (X c) (X (lf c)) j)
theorem read_uR (c : Dev nD) : uR.view.read (Elt F) (fullU X c) = X (lf c) :=
  (read_slotR uM (fullU X c)).trans (funext fun j => pair_arrived (X c) (X (lf c)) j)
theorem read_dS (c : Dev nD) : dS.view.read (Elt F) (fullD Y c) = Y c :=
  (read_slotS dM (fullD Y c)).trans (funext fun j => pair_sent (Y c) (Y (rt c)) j)
theorem read_dR (c : Dev nD) : dR.view.read (Elt F) (fullD Y c) = Y (rt c) :=
  (read_slotR dM (fullD Y c)).trans (funext fun j => pair_arrived (Y c) (Y (rt c)) j)

/-- The stores of what goes out. -/
theorem pay_sent (x y : BT F) :
    (fun j => pair x y (RS.toLoadRect.idx j))
      = shapeCast S1x512x2048 (shapeCast S512x2048 x shapeCasts_S512x2048_S512x2048) shapeCasts_S512x2048_S1x512x2048 := by
  rw [shapeCast_self]
  funext j
  rw [shapeCast_addUnit_apply ![512, 2048], RS_idx j]
  exact pair_sent _ _ _
theorem stored_u (c : Dev nD) (f : (cc0_scratch2 : Ref sig .tc).ty.Contents (Elt F)) (i : S2x512x2048.Idx) (hi : i ∈ RS.set) :
    (uM.access RS : View sig .tc _ _ _).write (Elt F) f (k0_pay2 (X c)) Finset.univ i = fullU X c i :=
  Talk.write_in (uM.access RS : View sig .tc _ _ _) f (fullU X c) _ (pay_sent (X c) (X (lf c))) i
    (by show i ∈ ((View.whole cc0_scratch2).slice RS).set; rw [View.set_slice_whole]; exact hi)
theorem stored_d (c : Dev nD) (f : (cc0_scratch3 : Ref sig .tc).ty.Contents (Elt F)) (i : S2x512x2048.Idx) (hi : i ∈ RS.set) :
    (dM.access RS : View sig .tc _ _ _).write (Elt F) f (k0_pay3 (Y c)) Finset.univ i = fullD Y c i :=
  Talk.write_in (dM.access RS : View sig .tc _ _ _) f (fullD Y c) _ (pay_sent (Y c) (Y (rt c))) i
    (by show i ∈ ((View.whole cc0_scratch3).slice RS).set; rw [View.set_slice_whole]; exact hi)

/-- What a load of the slot received gives the store into the result. -/
theorem pay_arrived (x y : BT F) :
    shapeCast S512x2048 (fun j => pair x y (RR.toLoadRect.idx j)) shapeCasts_S1x512x2048_S512x2048 = y := by
  funext j
  rw [shapeCast_dropUnit_apply ![512, 2048]]
  show pair x y (RR.toLoadRect.idx _) = _
  rw [RR_idx]
  exact pair_arrived _ _ _
theorem pay4_eq (c : Dev nD) : k0_pay4 ((uM.access RR : View sig .tc _ _ _).read (Elt F) (fullU X c)) = X (lf c) := pay_arrived _ _
theorem pay5_eq (c : Dev nD) : k0_pay5 ((dM.access RR : View sig .tc _ _ _).read (Elt F) (fullD Y c)) = Y (rt c) := pay_arrived _ _

/-! ### The result -/

/-- A row of block `b`, as an index of the result. -/
theorem block_idx (b : ℕ) (off : Fin 2 → ℕ) (ho : off = ![512 * b, 0]) (inb : ∀ a, off a + S512x2048.size a ≤ S4096x2048.size a) (j : S512x2048.Idx) :
    (((Rect.unit (s := S4096x2048) off S512x2048.size inb).toLoadRect.idx j) 0).val / 512 = b
      ∧ inner ((Rect.unit (s := S4096x2048) off S512x2048.size inb).toLoadRect.idx j) = j := by
  subst ho
  have h0 : (j 0).val < 512 := (j 0).isLt
  have e0 : (((Rect.unit (s := S4096x2048) ![512 * b, 0] S512x2048.size inb).toLoadRect.idx j) 0).val = 512 * b + (j 0).val := by
    show 512 * b + 1 * (j 0).val = _; omega
  refine ⟨by omega, funext fun a => Fin.ext ?_⟩
  refine Fin.cases ?_ (fun a => ?_) a
  · show (((Rect.unit (s := S4096x2048) ![512 * b, 0] S512x2048.size inb).toLoadRect.idx j) 0).val % 512 = (j 0).val
    omega
  · obtain rfl : a = 0 := Subsingleton.elim _ _
    show 0 + 1 * (j 1).val = (j 1).val; omega

theorem mem_access (r : Rect S4096x2048) (i : S4096x2048.Idx) : i ∈ (oM.access r : View sig .tc _ _ _).set ↔ i ∈ r.set := by
  show i ∈ ((View.whole cc0_stg3_0).slice r).set ↔ _
  rw [View.set_slice_whole]

theorem read_r1 (c : Dev nD) : (oM.access (oR1 c) : View sig .tc _ _ _).read (Elt F) (result A X Y c) = X (lf c) := by
  funext j
  show result A X Y c ((Rect.unit (s := S4096x2048) (k0_off1 c) S512x2048.size (k0_off1_inb c)).toLoadRect.idx j) = _
  have h := block_idx _ _ (off1_eq c) (k0_off1_inb c) j
  unfold result
  rw [h.1, h.2, if_neg (apart _), if_pos rfl]
theorem read_r2 (c : Dev nD) : (oM.access (oR2 c) : View sig .tc _ _ _).read (Elt F) (result A X Y c) = Y (rt c) := by
  funext j
  show result A X Y c ((Rect.unit (s := S4096x2048) (k0_off2 c) S512x2048.size (k0_off2_inb c)).toLoadRect.idx j) = _
  have h := block_idx _ _ (off2_eq c) (k0_off2_inb c) j
  unfold result
  rw [h.1, h.2, if_pos rfl]

/-- The three stores into the result, in their order. -/
theorem stored_eq (c : Dev nD) (f : OT F) :
    (oM.access (oR2 c) : View sig .tc _ _ _).write (Elt F)
      ((oM.access (oR1 c) : View sig .tc _ _ _).write (Elt F)
        ((oM.access oZ : View sig .tc _ _ _).write (Elt F) f (k0_pay1 (A c)) Finset.univ)
        (k0_pay4 ((uM.access RR : View sig .tc _ _ _).read (Elt F) (fullU X c))) Finset.univ)
      (k0_pay5 ((dM.access RR : View sig .tc _ _ _).read (Elt F) (fullD Y c))) Finset.univ = result A X Y c := by
  rw [pay4_eq, pay5_eq]
  funext i
  have m1 : i ∈ (oM.access (oR1 c) : View sig .tc _ _ _).set ↔ (i 0).val / 512 = (posn c.val + (8 - far)) % 8 := by
    rw [mem_access]; unfold oR1; simp only [off1_eq c]; exact Cert.CombineIdeal.Comb.mem_block _ _ i
  have m2 : i ∈ (oM.access (oR2 c) : View sig .tc _ _ _).set ↔ (i 0).val / 512 = (posn c.val + far) % 8 := by
    rw [mem_access]; unfold oR2; simp only [off2_eq c]; exact Cert.CombineIdeal.Comb.mem_block _ _ i
  by_cases h2 : (i 0).val / 512 = (posn c.val + far) % 8
  · exact Talk.write_in (oM.access (oR2 c) : View sig .tc _ _ _) _ (result A X Y c) (Y (rt c)) (read_r2 A X Y c) i (m2.mpr h2)
  refine (Talk.write_out (oM.access (oR2 c) : View sig .tc _ _ _) _ (result A X Y c) (Y (rt c)) (read_r2 A X Y c) i (fun h => h2 (m2.mp h))).trans ?_
  by_cases h1 : (i 0).val / 512 = (posn c.val + (8 - far)) % 8
  · exact Talk.write_in (oM.access (oR1 c) : View sig .tc _ _ _) _ (result A X Y c) (X (lf c)) (read_r1 A X Y c) i (m1.mpr h1)
  refine (Talk.write_out (oM.access (oR1 c) : View sig .tc _ _ _) _ (result A X Y c) (X (lf c)) (read_r1 A X Y c) i (fun h => h1 (m1.mp h))).trans ?_
  refine (Talk.write_in (oM.access oZ : View sig .tc _ _ _) f (A c) _ ?_ i ?_).trans ?_
  · refine Eq.trans ?_ (shapeCast_self (A c) shapeCasts_S4096x2048_S4096x2048).symm
    exact Memref.readAt_unit_zero (Elt F) cc0_stg3_0 (funext fun a => by fin_cases a <;> rfl) _ (A c)
  · rw [mem_access]; exact View.mem_set_unit_zero (S := S4096x2048) (funext fun a => by fin_cases a <;> rfl) _ i
  · unfold result; rw [if_neg h2, if_neg h1]

end Cert.ThirdIdeal.Hop

end
-- ==== Proof.ThirdTalk.lean ====
module

public import proofs.«01_k».proof.Proof.Third

/-! The protocol of the ring's third hop, and the body of the kernel run under it. -/

@[expose] public section

noncomputable section

namespace Cert.ThirdIdeal.Hop

open Cert.ThirdIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk
open Cert.CombineIdeal.Comb (pr posn devn at8 rt lf pr_pr rt_lf lf_rt peer right left at8_self posn_lt inner)

variable {F : FTy → Type} [FloatOps F]

local notation "𝕄" => MT nD τ sig Unit (Elt F) ℕ (UU nD τ sig 7) ℕ

/-- The worth of a copy of 512 rows into on-chip memory. -/
abbrev N : ℕ := uR.view.dmaCredit
theorem N_pos : 0 < N := View.dmaCredit_pos _ (by decide)

/-- The table: three units on the barriers of the peer and the neighbours, and the two ends of the copies to the right and
    to the left. -/
def P : Plan nD sig 7 where
  sm := ![sBar, sBar, sBar, sUs, sUr, sDs, sDr]
  rd := fun _ => 0
  dst := ![peer, right, left, Equiv.refl _, right, Equiv.refl _, left]
  am := ![1, 1, 1, N, N, N, N]
  am_pos := fun j => by
    fin_cases j
    exacts [Nat.one_pos, Nat.one_pos, Nat.one_pos, N_pos, N_pos, N_pos, N_pos]

/-- The semaphores whose cells are open from the launch on, and those a device opens when it enters the kernel. -/
def So : Finset (SemLoc sig) := {sBar}
def Sd : Finset (SemLoc sig) := {sUs, sUr, sDs, sDr}
/-- What a device still owes, when it enters and later. -/
def J₀ : Finset (Fin 7) := {0, 1, 2, 4, 6}
def J₁ : Finset (Fin 7) := {1, 2, 4, 6}
def J₂ : Finset (Fin 7) := {2, 4, 6}
def J₃ : Finset (Fin 7) := {4, 6}
def J₄ : Finset (Fin 7) := {6}

/-- Waiting order: the barrier, the neighbours' rows. -/
def rk (s : SemLoc sig) : ℕ := if s = sBar then 1 else if s = sUr ∨ s = sDr then 2 else 0

variable (A : Dev nD → OT F) (X Y : Dev nD → BT F)

/-- Parts of a device's buffers, at given contents. -/
abbrev aPts (c : Dev nD) : sProp 𝕄 := aM.view.loc (c : Thread nD τ) ↦[Finset.univ]{fullShare} A c
abbrev xPts (c : Dev nD) : sProp 𝕄 := xM.view.loc (c : Thread nD τ) ↦[Finset.univ]{fullShare} X c
abbrev yPts (c : Dev nD) : sProp 𝕄 := yM.view.loc (c : Thread nD τ) ↦[Finset.univ]{fullShare} Y c
abbrev uPts (S : Finset S2x512x2048.Idx) (c : Dev nD) (f : (cc0_scratch2 : Ref sig .tc).ty.Contents (Elt F)) : sProp 𝕄 :=
  uM.view.loc (c : Thread nD τ) ↦[S]{fullShare} f
abbrev dPts (S : Finset S2x512x2048.Idx) (c : Dev nD) (f : (cc0_scratch3 : Ref sig .tc).ty.Contents (Elt F)) : sProp 𝕄 :=
  dM.view.loc (c : Thread nD τ) ↦[S]{fullShare} f
abbrev oPts (c : Dev nD) (f : OT F) : sProp 𝕄 := oM.view.loc (c : Thread nD τ) ↦[Finset.univ]{fullShare} f

/-- What the units on a barrier from the left and from the right hand over: where the receiver may write, and that it is
    ready there. The peer's unit hands over nothing. -/
abbrev payLeft (c : Dev nD) : sProp 𝕄 := iprop((∃ f, dPts dR.view.set (lf c) f) ∗ reached ER (cell τ (lf c) sDr) 0)
abbrev payRight (c : Dev nD) : sProp 𝕄 := iprop((∃ f, uPts uR.view.set (rt c) f) ∗ reached ER (cell τ (rt c) sUr) 0)

/-- What each payment hands to the owner of its cell. -/
def pay : Fin 7 → Dev nD → sProp 𝕄 :=
  ![fun _ => iprop(emp), payLeft, payRight,
    fun c => uPts uS.view.set c (fullU X c), fun c => uPts uR.view.set c (fullU X c),
    fun c => dPts dS.view.set c (fullD Y c), fun c => dPts dR.view.set c (fullD Y c)]

theorem pay_storable (j : Fin 7) (c : Dev nD) : BI.Storable (upEmb : UEmb _ 𝕄) (pay X Y j c) := by
  match j with
  | 0 => exact (inferInstance : BI.Storable (upEmb : UEmb _ 𝕄) (iprop(emp) : sProp 𝕄))
  | 1 => exact (inferInstance : BI.Storable (upEmb : UEmb _ 𝕄) (payLeft c))
  | 2 => exact (inferInstance : BI.Storable (upEmb : UEmb _ 𝕄) (payRight c))
  | 3 => exact (inferInstance : BI.Storable (upEmb : UEmb _ 𝕄) (uPts uS.view.set c (fullU X c)))
  | 4 => exact (inferInstance : BI.Storable (upEmb : UEmb _ 𝕄) (uPts uR.view.set c (fullU X c)))
  | 5 => exact (inferInstance : BI.Storable (upEmb : UEmb _ 𝕄) (dPts dS.view.set c (fullD Y c)))
  | 6 => exact (inferInstance : BI.Storable (upEmb : UEmb _ 𝕄) (dPts dR.view.set c (fullD Y c)))

instance pay_storable' (g : GSem nD τ sig) (r : ℕ) (d : Fin 7) : BI.Storable (upEmb : UEmb _ 𝕄) ((sched P (pay X Y)).payload g r d) :=
  payload_storable P _ (pay_storable X Y) g r d

abbrev Rd : Schedule (GSem nD τ sig) (Fin 7) 𝕄 := sched P (pay X Y)

theorem at_bar : duesAt P sBar 0 = {0, 1, 2} := by decide
theorem at_us : duesAt P sUs 0 = {3} := by decide
theorem at_ur : duesAt P sUr 0 = {4} := by decide
theorem at_ds : duesAt P sDs 0 = {5} := by decide
theorem at_dr : duesAt P sDr 0 = {6} := by decide

theorem over_bar (Φ : Fin 7 → sProp 𝕄) : bigSep ({0, 1, 2} : Finset (Fin 7)) Φ = iprop(Φ 0 ∗ Φ 1 ∗ Φ 2) := by
  rw [bigSep_insert (by decide), bigSep_insert (by decide), bigSep_singleton]; rfl

/-- What a device holds when its cells are open. -/
def opened (κ : GSem nD τ sig → ℕ) (c : Dev nD) : sProp 𝕄 :=
  iprop(□ recs P (pay X Y) So Sd κ
    ∗ atPos ER (cell τ c sBar) 0 ∅ 0
    ∗ (atPos ER (cell τ c sUs) 0 ∅ 0 ∗ reached ER (cell τ c sUs) 0)
    ∗ (atPos ER (cell τ c sUr) 0 ∅ 0 ∗ reached ER (cell τ c sUr) 0)
    ∗ (atPos ER (cell τ c sDs) 0 ∅ 0 ∗ reached ER (cell τ c sDs) 0)
    ∗ (atPos ER (cell τ c sDr) 0 ∅ 0 ∗ reached ER (cell τ c sDr) 0)
    ∗ dutyTok ER (cell τ (pr c) sBar) 0 0 ∗ dutyTok ER (cell τ (rt c) sBar) 0 1 ∗ dutyTok ER (cell τ (lf c) sBar) 0 2
    ∗ dutyTok ER (cell τ c sUs) 0 3 ∗ dutyTok ER (cell τ (rt c) sUr) 0 4
    ∗ dutyTok ER (cell τ c sDs) 0 5 ∗ dutyTok ER (cell τ (lf c) sDr) 0 6)

def creds (c : Dev nD) : sProp 𝕄 :=
  iprop(cred (tallyAt (cell τ c sBar) () 3) ∗ cred (tallyAt (cell τ c sUr) () N) ∗ cred (tallyAt (cell τ c sDr) () N))

def runPre (κ : GSem nD τ sig → ℕ) (c : Dev nD) (W : Waits sig Unit) : sProp 𝕄 :=
  iprop(opened X Y κ c ∗ creds c ∗ levAts L (lv rk) ∗ owes (c : Thread nD τ) (dues P J₀ c) W
    ∗ aPts A c ∗ xPts X c ∗ yPts Y c ∗ (∃ f, uPts Finset.univ c f) ∗ (∃ f, dPts Finset.univ c f) ∗ (∃ f, oPts c f))

def runPost (c : Dev nD) : sProp 𝕄 :=
  iprop((semVal (cell τ c sBar) 0 ∗ semVal (cell τ c sUs) 0 ∗ semVal (cell τ c sUr) 0 ∗ semVal (cell τ c sDs) 0 ∗ semVal (cell τ c sDr) 0)
    ∗ (∃ W, owes (c : Thread nD τ) 0 W)
    ∗ aPts A c ∗ xPts X c ∗ yPts Y c ∗ (∃ f, uPts Finset.univ c f) ∗ (∃ f, dPts Finset.univ c f) ∗ oPts c (result A X Y c))

abbrev 𝒱₀ : Variants := Variants.none

theorem hz2 : (![0, 0] : Fin 2 → Nat) = fun _ => 0 := funext fun a => by fin_cases a <;> rfl
theorem read_a (f : OT F) : aM.view.readAt (Elt F) (Rect.unit (s := S4096x2048) ![0, 0] S4096x2048.size inb_S4096x2048_S4096x2048_0_0).toLoadRect f = f :=
  Memref.readAt_unit_zero (Elt F) cc0_stg0_0 hz2 _ f
theorem read_x (f : BT F) : xM.view.readAt (Elt F) (Rect.unit (s := S512x2048) ![0, 0] S512x2048.size inb_S512x2048_S512x2048_0_0).toLoadRect f = f :=
  Memref.readAt_unit_zero (Elt F) cc0_stg1_0 hz2 _ f
theorem read_y (f : BT F) : yM.view.readAt (Elt F) (Rect.unit (s := S512x2048) ![0, 0] S512x2048.size inb_S512x2048_S512x2048_0_0).toLoadRect f = f :=
  Memref.readAt_unit_zero (Elt F) cc0_stg2_0 hz2 _ f

theorem dues_0 (c : Dev nD) : dues P J₀ c = dues P J₁ c + tallyAt (cell τ (pr c) sBar) () 1 := dues_take P (j := 0) (by decide) c
theorem dues_1 (c : Dev nD) : dues P J₁ c = dues P J₂ c + tallyAt (cell τ (rt c) sBar) () 1 := dues_take P (j := 1) (by decide) c
theorem dues_2 (c : Dev nD) : dues P J₂ c = dues P J₃ c + tallyAt (cell τ (lf c) sBar) () 1 := dues_take P (j := 2) (by decide) c
theorem dues_3 (c : Dev nD) : dues P J₃ c = dues P J₄ c + tallyAt (cell τ (rt c) sUr) () N := dues_take P (j := 4) (by decide) c
theorem dues_4 (c : Dev nD) : dues P J₄ c = 0 + tallyAt (cell τ (lf c) sDr) () N :=
  (dues_take P (j := 6) (by decide) c).trans (congrArg (· + _) (dues_empty P c))

/-- The copy to the right. -/
theorem send_u (κ : GSem nD τ sig → ℕ) (c n : Dev nD) (hn : n = rt c) {hsc : uR.view.ref.isScScratch = false}
    {hsrc : uS.view.WordExact} {hdst : uR.view.WordExact}
    {hsem : DmaTarget.Typed .vmem sUr (.remote (Dev.tc n : Thread nD τ) uR sUs hsc)}
    {α : Type} {Q : α → sProp 𝕄} {k : PUnit → Prog (TpuEff nD τ sig (Elt F) Λ₀ .tc) α} (W : Waits sig Unit) :
    iprop(recs P (pay X Y) So Sd κ ∗ uPts uS.view.set c (fullU X c) ∗ (∃ f, uPts uR.view.set (rt c) f)
        ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0)
      ⊢ iprop(((cred (tallyAt (cell τ c sUs) () N) ∗ owes (c : Thread nD τ) (dues P J₄ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma uS (.remote (Dev.tc n : Thread nD τ) uR sUs hsc) sUr hsrc hdst hsem) k) Q) := by
  subst hn
  iintro ⟨#Hr, Hx, ⟨%fn, Ho⟩, HO, Ht1, Hr1, Ht2, Hr2⟩ Hk
  iapply (Rounds.wp_send_pointsTo 𝒱₀ ER (Rd X Y) (c : Thread nD τ) none (c' := (rt c : Thread nD τ)) (src := uS) (dst := uR)
      (sS := sUs) (sem := sUr) (q := fullShare) (fs := fullU X c) (κ₁ := κ (cell τ c sUs)) (κ₂ := κ (cell τ (rt c) sUr))
      (r₁ := 0) (r₂ := 0) (d₁ := 3) (d₂ := 4) (fd := fn)
      (due_mem P (pay X Y) 3 c) (due_mem P (pay X Y) 4 (rt c)) () () N rfl rfl rfl (dues P J₄ c) (dues_3 c) (W := W)
      (BI.Entails.refl _)
      (Entails.of_eq (pointsTo_congr fun i hi =>
        Talk.write_in uR.view fn (fullU X (rt c)) _ (by rw [read_uR X, read_uS X, lf_rt]) i hi))) $$ [Hx Ho HO Ht1 Hr1 Ht2 Hr2]
  · isplitr; · iapply (recs_inv P (pay X Y) So Sd κ (s := sUs) (by decide) c); iexact Hr
    isplitr; · iapply (recs_inv P (pay X Y) So Sd κ (s := sUr) (by decide) (rt c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

/-- The copy to the left. -/
theorem send_d (κ : GSem nD τ sig → ℕ) (c n : Dev nD) (hn : n = lf c) {hsc : dR.view.ref.isScScratch = false}
    {hsrc : dS.view.WordExact} {hdst : dR.view.WordExact}
    {hsem : DmaTarget.Typed .vmem sDr (.remote (Dev.tc n : Thread nD τ) dR sDs hsc)}
    {α : Type} {Q : α → sProp 𝕄} {k : PUnit → Prog (TpuEff nD τ sig (Elt F) Λ₀ .tc) α} (W : Waits sig Unit) :
    iprop(recs P (pay X Y) So Sd κ ∗ dPts dS.view.set c (fullD Y c) ∗ (∃ f, dPts dR.view.set (lf c) f)
        ∗ owes (c : Thread nD τ) (dues P J₄ c) W
        ∗ dutyTok ER (cell τ c sDs) 0 5 ∗ reached ER (cell τ c sDs) 0
        ∗ dutyTok ER (cell τ (lf c) sDr) 0 6 ∗ reached ER (cell τ (lf c) sDr) 0)
      ⊢ iprop(((cred (tallyAt (cell τ c sDs) () N) ∗ owes (c : Thread nD τ) (0) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dS (.remote (Dev.tc n : Thread nD τ) dR sDs hsc) sDr hsrc hdst hsem) k) Q) := by
  subst hn
  iintro ⟨#Hr, Hx, ⟨%fn, Ho⟩, HO, Ht1, Hr1, Ht2, Hr2⟩ Hk
  iapply (Rounds.wp_send_pointsTo 𝒱₀ ER (Rd X Y) (c : Thread nD τ) none (c' := (lf c : Thread nD τ)) (src := dS) (dst := dR)
      (sS := sDs) (sem := sDr) (q := fullShare) (fs := fullD Y c) (κ₁ := κ (cell τ c sDs)) (κ₂ := κ (cell τ (lf c) sDr))
      (r₁ := 0) (r₂ := 0) (d₁ := 5) (d₂ := 6) (fd := fn)
      (due_mem P (pay X Y) 5 c) (due_mem P (pay X Y) 6 (lf c)) () () N rfl rfl rfl (0) (dues_4 c) (W := W)
      (BI.Entails.refl _)
      (Entails.of_eq (pointsTo_congr fun i hi =>
        Talk.write_in dR.view fn (fullD Y (lf c)) _ (by rw [read_dR Y, read_dS Y, rt_lf]) i hi))) $$ [Hx Ho HO Ht1 Hr1 Ht2 Hr2]
  · isplitr; · iapply (recs_inv P (pay X Y) So Sd κ (s := sDs) (by decide) c); iexact Hr
    isplitr; · iapply (recs_inv P (pay X Y) So Sd κ (s := sDr) (by decide) (lf c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

theorem joined_u (c : Dev nD) (f : (cc0_scratch2 : Ref sig .tc).ty.Contents (Elt F)) :
    iprop(uPts uR.view.set c f ∗ uPts (Finset.univ \ uR.view.set) c f) ⊢ (uPts Finset.univ c f : sProp 𝕄) :=
  (pointsTo_join_subset (Finset.subset_univ _)).trans (Entails.of_eq (by rw [Finset.piecewise_same]))
theorem joined_d (c : Dev nD) (f : (cc0_scratch3 : Ref sig .tc).ty.Contents (Elt F)) :
    iprop(dPts dR.view.set c f ∗ dPts (Finset.univ \ dR.view.set) c f) ⊢ (dPts Finset.univ c f : sProp 𝕄) :=
  (pointsTo_join_subset (Finset.subset_univ _)).trans (Entails.of_eq (by rw [Finset.piecewise_same]))
theorem rest_u : Finset.univ \ uR.view.set = uS.view.set := by rw [set_uS, set_uR]; exact RS_eq.symm
theorem rest_d : Finset.univ \ dR.view.set = dS.view.set := by rw [set_dS, set_dR]; exact RS_eq.symm

theorem access_uS : (uM.access RS).setOn Finset.univ ⊆ uS.view.set := by
  intro i hi
  rw [View.setOn_univ] at hi
  rw [set_uS, ← View.set_slice_whole cc0_scratch2 RS]; exact hi
theorem access_dS : (dM.access RS).setOn Finset.univ ⊆ dS.view.set := by
  intro i hi
  rw [View.setOn_univ] at hi
  rw [set_dS, ← View.set_slice_whole cc0_scratch3 RS]; exact hi
theorem access_uR : (uM.access RR).setOn Finset.univ ⊆ uR.view.set := by
  intro i hi
  rw [View.setOn_univ] at hi
  rw [set_uR, ← View.set_slice_whole cc0_scratch2 RR]; exact hi
theorem access_dR : (dM.access RR).setOn Finset.univ ⊆ dR.view.set := by
  intro i hi
  rw [View.setOn_univ] at hi
  rw [set_dR, ← View.set_slice_whole cc0_scratch3 RR]; exact hi

set_option maxHeartbeats 1600000 in
/-- The rows go out both ways; those to the right have been read out. -/
theorem run4 (κ : GSem nD τ sig → ℕ) (c : Dev nD) (W : Waits sig Unit) (v11 v34 v50 v53 : BitVec 32) (Kt : BitVec 32 → sProp 𝕄) :
    iprop((recs P (pay X Y) So Sd κ ∗ uPts uS.view.set c (fullU X c) ∗ dPts dS.view.set c (fullD Y c)
        ∗ (∃ f, uPts uR.view.set (rt c) f) ∗ (∃ f, dPts dR.view.set (lf c) f) ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0
        ∗ dutyTok ER (cell τ c sDs) 0 5 ∗ reached ER (cell τ c sDs) 0
        ∗ dutyTok ER (cell τ (lf c) sDr) 0 6 ∗ reached ER (cell τ (lf c) sDr) 0
        ∗ atPos ER (cell τ c sUs) 0 ∅ 0)
      ∗ (∀ x, (uPts uS.view.set c (fullU X c) ∗ atPos ER (cell τ c sUs) 1 ∅ 0 ∗ cred (tallyAt (cell τ c sDs) () N)
          ∗ ∃ W, owes (c : Thread nD τ) 0 W) -∗ Kt x))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v11 v34 v50 v53) Kt := by
  simp only [k0_part4_eq_skeleton]
  unfold k0_part4_skel
  simp only [Prog.lift, Prog.bind_op, Prog.bind_ret, Prog.pure_eq_ret]
  iintro ⟨⟨#HR, Hu, Hd, Hun, Hdn, HO, HtUs, #HrUs, HtUr, #HnUr, HtDs, #HrDs, HtDr, #HnDr, HatUs⟩, Hk⟩
  iapply (send_u X Y κ c _ (dev4_eq c) _) $$ [Hu Hun HO HtUs HtUr]
  · isplitr; · iexact HR
    isplitl [Hu]; · iexact Hu
    isplitl [Hun]; · iexact Hun
    isplitl [HO]; · iexact HO
    isplitl [HtUs]; · iexact HtUs
    isplitr; · iexact HrUs
    isplitl [HtUr]; · iexact HtUr
    iexact HnUr
  iintro ⟨HcUs, HO⟩
  iapply (send_d X Y κ c _ (dev5_eq c) _) $$ [Hd Hdn HO HtDs HtDr]
  · isplitr; · iexact HR
    isplitl [Hd]; · iexact Hd
    isplitl [Hdn]; · iexact Hdn
    isplitl [HO]; · iexact HO
    isplitl [HtDs]; · iexact HtDs
    isplitr; · iexact HrDs
    isplitl [HtDr]; · iexact HtDr
    iexact HnDr
  iintro ⟨HcDs, HO⟩
  iapply (Rounds.wp_wait_rest_token 𝒱₀ ER (Rd X Y) (c : Thread nD τ) none (κ := κ (cell τ c sUs))
      (wpE_waitDma2_eq 𝒱₀ (c : Thread nD τ) none Set.univ) (Set.mem_univ _) () (O := 0) (R := 0) (m := 0) (T := ∅)
      ((Nat.zero_add _).trans (by rw [expect_at, at_us]; rfl))) $$ [HcUs HO HatUs]
  · isplitr; · iapply (recs_inv P (pay X Y) So Sd κ (s := sUs) (by decide) c); iexact HR
    isplitl [HcUs]; · iexact HcUs
    isplitl [HO]; · iexact HO
    isplitr; · rw [MayWait_zero]; iempintro
    iexact HatUs
  iintro ⟨HO, HatUs, -, Hpay⟩
  ihave Hu := (Entails.of_eq ((rest_at P (pay X Y) c sUs 0).trans (by rw [at_us, bigSep_singleton]; rfl : _ = uPts uS.view.set c (fullU X c)))) $$ Hpay
  rw [wp_ret]
  imodintro
  iapply Hk
  isplitl [Hu]; · iexact Hu
  isplitl [HatUs]; · iexact HatUs
  isplitl [HcDs]; · iexact HcDs
  iexists _; iexact HO

set_option maxHeartbeats 1600000 in
/-- The left neighbour's rows arrive and are stored. -/
theorem run5 (κ : GSem nD τ sig → ℕ) (c : Dev nD) (W : Waits sig Unit) (v8 v11 v37 v120 : BitVec 32) (fo : OT F) (Kt : PUnit → sProp 𝕄) :
    iprop((recs P (pay X Y) So Sd κ ∗ oPts c fo ∗ owes (c : Thread nD τ) 0 W
        ∗ cred (tallyAt (cell τ c sUr) () N) ∗ atPos ER (cell τ c sUr) 0 ∅ 0)
      ∗ (∀ x, (atPos ER (cell τ c sUr) 1 ∅ 0 ∗ uPts uR.view.set c (fullU X c) ∗ oPts c ((oM.access (oR1 c) : View sig .tc _ _ _).write (Elt F) fo
          (k0_pay4 ((uM.access RR : View sig .tc _ _ _).read (Elt F) (fullU X c))) Finset.univ)
          ∗ ∃ W, owes (c : Thread nD τ) 0 W) -∗ Kt x))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v8 v11 v37 v120) Kt := by
  simp only [k0_part5_eq_skeleton]
  unfold k0_part5_skel
  simp only [Prog.lift, Prog.bind_op, Prog.bind_ret, Prog.pure_eq_ret]
  iintro ⟨⟨#HR, Ho, HO, HcUr, HatUr⟩, Hk⟩
  iapply (Rounds.wp_wait_rest_token 𝒱₀ ER (Rd X Y) (c : Thread nD τ) none (κ := κ (cell τ c sUr))
      (wpE_waitDma2_eq 𝒱₀ (c : Thread nD τ) none Set.univ) (Set.mem_univ _) () (O := 0) (R := 0) (m := 0) (T := ∅)
      ((Nat.zero_add _).trans (by rw [expect_at, at_ur]; rfl))) $$ [HcUr HO HatUr]
  · isplitr; · iapply (recs_inv P (pay X Y) So Sd κ (s := sUr) (by decide) c); iexact HR
    isplitl [HcUr]; · iexact HcUr
    isplitl [HO]; · iexact HO
    isplitr; · rw [MayWait_zero]; iempintro
    iexact HatUr
  iintro ⟨HO, HatUr, -, Hpay⟩
  ihave Hu := (Entails.of_eq ((rest_at P (pay X Y) c sUr 0).trans (by rw [at_ur, bigSep_singleton]; rfl : _ = uPts uR.view.set c (fullU X c)))) $$ Hpay
  iapply (wp_load_rect 𝒱₀ (c : Thread nD τ) none Set.univ (m := uM) (r := RR) (by rw [← View.setOn_univ]; exact access_uR)) $$ Hu
  iintro Hu
  iapply (wp_load_rect 𝒱₀ (c : Thread nD τ) none Set.univ (m := oM) (r := oR1 c) (Finset.subset_univ _)) $$ Ho
  iintro Ho
  iapply (wp_store 𝒱₀ (c : Thread nD τ) none Set.univ (m := oM) (r := oR1 c) (Mk := Finset.univ) (Finset.subset_univ _)) $$ Ho
  iintro Ho
  rw [wp_ret]
  imodintro
  iapply Hk
  isplitl [HatUr]; · iexact HatUr
  isplitl [Hu]; · iexact Hu
  isplitl [Ho]; · iexact Ho
  iexists _; iexact HO

set_option maxHeartbeats 1600000 in
/-- The rows to the left have been read out; the right neighbour's arrive. -/
theorem run6 (κ : GSem nD τ sig → ℕ) (c : Dev nD) (W : Waits sig Unit) (v8 v11 v50 v53 : BitVec 32) (Kt : FVec F S512x2048 .bf16 → sProp 𝕄) :
    iprop((recs P (pay X Y) So Sd κ ∗ owes (c : Thread nD τ) 0 W
        ∗ cred (tallyAt (cell τ c sDs) () N) ∗ atPos ER (cell τ c sDs) 0 ∅ 0
        ∗ cred (tallyAt (cell τ c sDr) () N) ∗ atPos ER (cell τ c sDr) 0 ∅ 0)
      ∗ ((atPos ER (cell τ c sDs) 1 ∅ 0 ∗ dPts dS.view.set c (fullD Y c) ∗ atPos ER (cell τ c sDr) 1 ∅ 0 ∗ dPts dR.view.set c (fullD Y c)
          ∗ ∃ W, owes (c : Thread nD τ) 0 W) -∗ Kt (k0_pay5 ((dM.access RR : View sig .tc _ _ _).read (Elt F) (fullD Y c)))))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 v8 v11 v50 v53) Kt := by
  simp only [k0_part6_eq_skeleton]
  unfold k0_part6_skel
  simp only [Prog.lift, Prog.bind_op, Prog.bind_ret, Prog.pure_eq_ret]
  iintro ⟨⟨#HR, HO, HcDs, HatDs, HcDr, HatDr⟩, Hk⟩
  iapply (Rounds.wp_wait_rest_token 𝒱₀ ER (Rd X Y) (c : Thread nD τ) none (κ := κ (cell τ c sDs))
      (wpE_waitDma2_eq 𝒱₀ (c : Thread nD τ) none Set.univ) (Set.mem_univ _) () (O := 0) (R := 0) (m := 0) (T := ∅)
      ((Nat.zero_add _).trans (by rw [expect_at, at_ds]; rfl))) $$ [HcDs HO HatDs]
  · isplitr; · iapply (recs_inv P (pay X Y) So Sd κ (s := sDs) (by decide) c); iexact HR
    isplitl [HcDs]; · iexact HcDs
    isplitl [HO]; · iexact HO
    isplitr; · rw [MayWait_zero]; iempintro
    iexact HatDs
  iintro ⟨HO, HatDs, -, Hpay⟩
  ihave Hd0 := (Entails.of_eq ((rest_at P (pay X Y) c sDs 0).trans (by rw [at_ds, bigSep_singleton]; rfl : _ = dPts dS.view.set c (fullD Y c)))) $$ Hpay
  iapply (Rounds.wp_wait_rest_token 𝒱₀ ER (Rd X Y) (c : Thread nD τ) none (κ := κ (cell τ c sDr))
      (wpE_waitDma2_eq 𝒱₀ (c : Thread nD τ) none Set.univ) (Set.mem_univ _) () (O := 0) (R := 0) (m := 0) (T := ∅)
      ((Nat.zero_add _).trans (by rw [expect_at, at_dr]; rfl))) $$ [HcDr HO HatDr]
  · isplitr; · iapply (recs_inv P (pay X Y) So Sd κ (s := sDr) (by decide) c); iexact HR
    isplitl [HcDr]; · iexact HcDr
    isplitl [HO]; · iexact HO
    isplitr; · rw [MayWait_zero]; iempintro
    iexact HatDr
  iintro ⟨HO, HatDr, -, Hpay⟩
  ihave Hd1 := (Entails.of_eq ((rest_at P (pay X Y) c sDr 0).trans (by rw [at_dr, bigSep_singleton]; rfl : _ = dPts dR.view.set c (fullD Y c)))) $$ Hpay
  iapply (wp_load_rect 𝒱₀ (c : Thread nD τ) none Set.univ (m := dM) (r := RR) (by rw [← View.setOn_univ]; exact access_dR)) $$ Hd1
  iintro Hd1
  rw [wp_ret]
  imodintro
  iapply Hk
  isplitl [HatDs]; · iexact HatDs
  isplitl [Hd0]; · iexact Hd0
  isplitl [HatDr]; · iexact HatDr
  isplitl [Hd1]; · iexact Hd1
  iexists _; iexact HO

/-- When every round is over, every counter is zero. -/
theorem closing (κ : GSem nD τ sig → ℕ) (c : Dev nD) :
    iprop(recs P (pay X Y) So Sd κ ∗ atPos ER (cell τ c sBar) 1 ∅ 0 ∗ atPos ER (cell τ c sUs) 1 ∅ 0 ∗ atPos ER (cell τ c sUr) 1 ∅ 0
        ∗ atPos ER (cell τ c sDs) 1 ∅ 0 ∗ atPos ER (cell τ c sDr) 1 ∅ 0)
      ⊢ (|={Set.univ}=> (semVal (cell τ c sBar) 0 ∗ semVal (cell τ c sUs) 0 ∗ semVal (cell τ c sUr) 0 ∗ semVal (cell τ c sDs) 0
        ∗ semVal (cell τ c sDr) 0) : sProp 𝕄) := by
  iintro ⟨#HR, HatB, HatUs, HatUr, HatDs, HatDr⟩
  imod (close_at P (pay X Y) c sBar (κ (cell τ c sBar)) 1 (fun _ _ => Nat.one_pos)) $$ [HatB] with Hv0
  · isplitr; · iapply (recs_inv P (pay X Y) So Sd κ (s := sBar) (by decide) c); iexact HR
    iexact HatB
  imod (close_at P (pay X Y) c sUs (κ (cell τ c sUs)) 1 (fun _ _ => Nat.one_pos)) $$ [HatUs] with Hv1
  · isplitr; · iapply (recs_inv P (pay X Y) So Sd κ (s := sUs) (by decide) c); iexact HR
    iexact HatUs
  imod (close_at P (pay X Y) c sUr (κ (cell τ c sUr)) 1 (fun _ _ => Nat.one_pos)) $$ [HatUr] with Hv2
  · isplitr; · iapply (recs_inv P (pay X Y) So Sd κ (s := sUr) (by decide) c); iexact HR
    iexact HatUr
  imod (close_at P (pay X Y) c sDs (κ (cell τ c sDs)) 1 (fun _ _ => Nat.one_pos)) $$ [HatDs] with Hv3
  · isplitr; · iapply (recs_inv P (pay X Y) So Sd κ (s := sDs) (by decide) c); iexact HR
    iexact HatDs
  imod (close_at P (pay X Y) c sDr (κ (cell τ c sDr)) 1 (fun _ _ => Nat.one_pos)) $$ [HatDr] with Hv4
  · isplitr; · iapply (recs_inv P (pay X Y) So Sd κ (s := sDr) (by decide) c); iexact HR
    iexact HatDr
  imodintro
  isplitl [Hv0]; · iexact Hv0
  isplitl [Hv1]; · iexact Hv1
  isplitl [Hv2]; · iexact Hv2
  isplitl [Hv3]; · iexact Hv3
  iexact Hv4

set_option maxHeartbeats 3200000 in
/-- The body of the kernel, run under the protocol. -/
theorem run (κ : GSem nD τ sig → ℕ) (c : Dev nD) (W : Waits sig Unit) (Kt : PUnit → sProp 𝕄) :
    iprop(runPre A X Y κ c W ∗ (runPost A X Y c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold runPre opened creds
  iintro ⟨⟨⟨#HR, HatB, ⟨HatUs, #HrUs⟩, ⟨HatUr, #HrUr⟩, ⟨HatDs, #HrDs⟩, ⟨HatDr, #HrDr⟩,
      HtB0, HtB1, HtB2, HtUs, HtUr, HtDs, HtDr⟩,
    ⟨HcB, HcUr, HcDr⟩, #Hlev, HO, Ha, Hx, Hy, ⟨%fu, Hu⟩, ⟨%fd, Hd⟩, ⟨%fo, Ho⟩⟩, Hk⟩
  ihave Hu2 := (pointsTo_split_subset (Finset.subset_univ uR.view.set)).1 $$ Hu
  icases Hu2 with ⟨Hu1, Hu0⟩
  ihave Hd2 := (pointsTo_split_subset (Finset.subset_univ dR.view.set)).1 $$ Hd
  icases Hd2 with ⟨Hd1, Hd0⟩
  rw [rest_u, rest_d]
  simp only [dev1_eq c, dev2_eq c, dev3_eq c]
  -- the three signals; two hand the neighbours the places they may write
  rw [dues_0 c]
  iapply (Rounds.wp_signal 𝒱₀ ER (Rd X Y) (c : Thread nD τ) none (dst := (pr c : Thread nD τ)) (sem := barS) (r := 0) (d := 0) (κ := κ (cell τ (pr c) sBar))
      (due_mem P (pay X Y) 0 (pr c)) rfl () (dues P J₁ c) rfl) $$ [HO HtB0]
  · isplitr; · iapply (recs_inv P (pay X Y) So Sd κ (s := sBar) (by decide) (pr c)); iexact HR
    isplitl [HO]; · iexact HO
    isplitl [HtB0]; · iexact HtB0
    isplitr
    · rw [show (Rd X Y).payload (cell τ (pr c) sBar) 0 0 = iprop(emp) from rfl]
      iempintro
    iapply (recs_reached P (pay X Y) So Sd κ (s := sBar) (by decide) (pr c)); iexact HR
  iintro HO
  rw [dues_1 c]
  iapply (Rounds.wp_signal 𝒱₀ ER (Rd X Y) (c : Thread nD τ) none (dst := (rt c : Thread nD τ)) (sem := barS) (r := 0) (d := 1) (κ := κ (cell τ (rt c) sBar))
      (due_mem P (pay X Y) 1 (rt c)) rfl () (dues P J₂ c) rfl) $$ [HO HtB1 Hd1]
  · isplitr; · iapply (recs_inv P (pay X Y) So Sd κ (s := sBar) (by decide) (rt c)); iexact HR
    isplitl [HO]; · iexact HO
    isplitl [HtB1]; · iexact HtB1
    isplitl [Hd1]
    · rw [show (Rd X Y).payload (cell τ (rt c) sBar) 0 1 = payLeft (rt c) from rfl]
      unfold payLeft
      rw [lf_rt]
      isplitl [Hd1]; · iexists fd; iexact Hd1
      iexact HrDr
    iapply (recs_reached P (pay X Y) So Sd κ (s := sBar) (by decide) (rt c)); iexact HR
  iintro HO
  rw [dues_2 c]
  iapply (Rounds.wp_signal 𝒱₀ ER (Rd X Y) (c : Thread nD τ) none (dst := (lf c : Thread nD τ)) (sem := barS) (r := 0) (d := 2) (κ := κ (cell τ (lf c) sBar))
      (due_mem P (pay X Y) 2 (lf c)) rfl () (dues P J₃ c) rfl) $$ [HO HtB2 Hu1]
  · isplitr; · iapply (recs_inv P (pay X Y) So Sd κ (s := sBar) (by decide) (lf c)); iexact HR
    isplitl [HO]; · iexact HO
    isplitl [HtB2]; · iexact HtB2
    isplitl [Hu1]
    · rw [show (Rd X Y).payload (cell τ (lf c) sBar) 0 2 = payRight (lf c) from rfl]
      unfold payRight
      rw [rt_lf]
      isplitl [Hu1]; · iexists fu; iexact Hu1
      iexact HrUr
    iapply (recs_reached P (pay X Y) So Sd κ (s := sBar) (by decide) (lf c)); iexact HR
  iintro HO
  -- the wait for theirs
  iapply (Rounds.wp_wait_rest_token 𝒱₀ ER (Rd X Y) (c : Thread nD τ) none (κ := κ (cell τ c sBar))
      (wpE_semWait_eq 𝒱₀ (c : Thread nD τ) none Set.univ) (Set.mem_univ _) () (O := dues P J₃ c) (R := 0) (m := 0) (T := ∅)
      ((Nat.zero_add _).trans (by rw [expect_at, at_bar]; rfl))) $$ [HcB HO HatB]
  · isplitr; · iapply (recs_inv P (pay X Y) So Sd κ (s := sBar) (by decide) c); iexact HR
    isplitl [HcB]; · iexact HcB
    isplitl [HO]; · iexact HO
    isplitr; · iapply (mayWait P rk c sBar J₃ (by decide)); iexact Hlev
    iexact HatB
  iintro ⟨HO, HatB, -, Hpay⟩
  ihave Hp := (Entails.of_eq ((rest_at P (pay X Y) c sBar 0).trans (by rw [at_bar, over_bar]; rfl : _ = iprop(emp ∗ payLeft c ∗ payRight c)))) $$ Hpay
  unfold payLeft payRight
  icases Hp with ⟨-, ⟨Hdn, #HnDr⟩, ⟨Hun, #HnUr⟩⟩
  -- the state of the loop is loaded
  iapply (wp_load 𝒱₀ (c : Thread nD τ) none Set.univ (m := aM) (S := Finset.univ) (Finset.subset_univ _)) $$ Ha
  iintro Ha
  rw [read_a]
  iapply (wp_load 𝒱₀ (c : Thread nD τ) none Set.univ (m := oM) (S := Finset.univ) (Finset.subset_univ _)) $$ Ho
  iintro Ho
  iapply (wp_store 𝒱₀ (c : Thread nD τ) none Set.univ (m := oM) (r := oZ) (Mk := Finset.univ) (Finset.subset_univ _)) $$ Ho
  iintro Ho
  iapply (wp_load 𝒱₀ (c : Thread nD τ) none Set.univ (m := xM) (S := Finset.univ) (Finset.subset_univ _)) $$ Hx
  iintro Hx
  rw [read_x]
  iapply (wp_load_rect 𝒱₀ (c : Thread nD τ) none Set.univ (m := uM) (r := RS) (by rw [← View.setOn_univ]; exact access_uS)) $$ Hu0
  iintro Hu0
  iapply (wp_store 𝒱₀ (c : Thread nD τ) none Set.univ (m := uM) (r := RS) (Mk := Finset.univ) access_uS) $$ Hu0
  iintro Hu0
  iapply (wp_load 𝒱₀ (c : Thread nD τ) none Set.univ (m := yM) (S := Finset.univ) (Finset.subset_univ _)) $$ Hy
  iintro Hy
  rw [read_y]
  iapply (wp_load_rect 𝒱₀ (c : Thread nD τ) none Set.univ (m := dM) (r := RS) (by rw [← View.setOn_univ]; exact access_dS)) $$ Hd0
  iintro Hd0
  iapply (wp_store 𝒱₀ (c : Thread nD τ) none Set.univ (m := dM) (r := RS) (Mk := Finset.univ) access_dS) $$ Hd0
  iintro Hd0
  ihave Hu0 := (Entails.of_eq (pointsTo_congr fun i hi => stored_u X c fu i (by rw [← set_uS]; exact hi))) $$ Hu0
  ihave Hd0 := (Entails.of_eq (pointsTo_congr fun i hi => stored_d Y c fd i (by rw [← set_dS]; exact hi))) $$ Hd0
  rw [wp_bind]
  iapply (run4 X Y κ c _ _ _ _ _ _) $$ [-]
  isplitl [Hu0 Hd0 Hun Hdn HO HtUs HtUr HtDs HtDr HatUs]
  · isplitr; · iexact HR
    isplitl [Hu0]; · iexact Hu0
    isplitl [Hd0]; · iexact Hd0
    isplitl [Hun]; · iexact Hun
    isplitl [Hdn]; · iexact Hdn
    isplitl [HO]; · iexact HO
    isplitl [HtUs]; · iexact HtUs
    isplitr; · iexact HrUs
    isplitl [HtUr]; · iexact HtUr
    isplitr; · iexact HnUr
    isplitl [HtDs]; · iexact HtDs
    isplitr; · iexact HrDs
    isplitl [HtDr]; · iexact HtDr
    isplitr; · iexact HnDr
    iexact HatUs
  iintro %x4 ⟨Hu0, HatUs, HcDs, %W4, HO⟩
  rw [wp_bind]
  iapply (run5 X Y κ c W4 _ _ _ _ _ _) $$ [-]
  isplitl [Ho HO HcUr HatUr]
  · isplitr; · iexact HR
    isplitl [Ho]; · iexact Ho
    isplitl [HO]; · iexact HO
    isplitl [HcUr]; · iexact HcUr
    iexact HatUr
  iintro %x5 ⟨HatUr, Hu1, Ho, %W5, HO⟩
  rw [wp_bind]
  iapply (run6 X Y κ c W5 _ _ _ _ _) $$ [-]
  isplitl [HO HcDs HatDs HcDr HatDr]
  · isplitr; · iexact HR
    isplitl [HO]; · iexact HO
    isplitl [HcDs]; · iexact HcDs
    isplitl [HatDs]; · iexact HatDs
    isplitl [HcDr]; · iexact HcDr
    iexact HatDr
  iintro ⟨HatDs, Hd0, HatDr, Hd1, %W6, HO⟩
  simp only [Prog.lift, Prog.bind_op, Prog.bind_ret, Prog.pure_eq_ret]
  iapply (wp_load_rect 𝒱₀ (c : Thread nD τ) none Set.univ (m := oM) (r := oR2 c) (Finset.subset_univ _)) $$ Ho
  iintro Ho
  iapply (wp_store 𝒱₀ (c : Thread nD τ) none Set.univ (m := oM) (r := oR2 c) (Mk := Finset.univ) (Finset.subset_univ _)) $$ Ho
  iintro Ho
  rw [stored_eq A X Y c fo]
  -- every counter comes back at zero
  rw [wp_ret]
  imod (closing X Y κ c) $$ [HatB HatUs HatUr HatDs HatDr] with ⟨Hv0, Hv1, Hv2, Hv3, Hv4⟩
  · isplitr; · iexact HR
    isplitl [HatB]; · iexact HatB
    isplitl [HatUs]; · iexact HatUs
    isplitl [HatUr]; · iexact HatUr
    isplitl [HatDs]; · iexact HatDs
    iexact HatDr
  imodintro
  iapply Hk
  unfold runPost
  isplitl [Hv0 Hv1 Hv2 Hv3 Hv4]
  · isplitl [Hv0]; · iexact Hv0
    isplitl [Hv1]; · iexact Hv1
    isplitl [Hv2]; · iexact Hv2
    isplitl [Hv3]; · iexact Hv3
    iexact Hv4
  isplitl [HO]; · iexists _; iexact HO
  isplitl [Ha]; · iexact Ha
  isplitl [Hx]; · iexact Hx
  isplitl [Hy]; · iexact Hy
  isplitl [Hu0 Hu1]
  · iexists (fullU X c)
    iapply (joined_u c (fullU X c))
    rw [rest_u]
    isplitl [Hu1]; · iexact Hu1
    iexact Hu0
  isplitl [Hd0 Hd1]
  · iexists (fullD Y c)
    iapply (joined_d c (fullD Y c))
    rw [rest_d]
    isplitl [Hd1]; · iexact Hd1
    iexact Hd0
  iexact Ho

end Cert.ThirdIdeal.Hop

end
-- ==== Proof.ThirdRegion.lean ====
module

public import proofs.«01_k».proof.Proof.ThirdTalk
public import Idealize.ShloMosaic.Lib.Pipeline.Frame
public import Idealize.ShloMosaic.Lib.Pipeline.ValueKit

/-! The ring's third hop as a program: the body in the pipeline, and the region. -/

@[expose] public section

noncomputable section

namespace Cert.ThirdIdeal.Hop

open Cert.ThirdIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Cert.CombineIdeal.Comb (pr rt lf)

variable {F : FTy → Type} [FloatOps F]

local notation "𝕄" => MT nD τ sig Unit (Elt F) ℕ (UU nD τ sig 7) ℕ

variable (m : (ℓ : Loc nD τ sig) → Buf (Elt F) ℓ) (ρ : Dev nD → PrngReg)

/-! ## What the region carries -/

/-- A device's rows so far, and those going right and left, as the pipeline stages them. -/
def As (c : Dev nD) : OT F := ((cfg0.win 0).blk t0_0).view.read (Elt F) (m ((c : Thread nD τ).loc main_arg0))
def Xs (c : Dev nD) : BT F := ((cfg0.win 1).blk t0_0).view.read (Elt F) (m ((c : Thread nD τ).loc main_arg1))
def Ys (c : Dev nD) : BT F := ((cfg0.win 2).blk t0_0).view.read (Elt F) (m ((c : Thread nD τ).loc main_arg2))

abbrev osem : Fin 11 → SemLoc sig := ![sUs, sUr, sDs, sDr, z0, z1, z2, z3, z4, z5, z6]

def idleZero (c : Dev nD) : sProp 𝕄 :=
  iprop(semVal (cell τ c z0) 0 ∗ semVal (cell τ c z1) 0 ∗ semVal (cell τ c z2) 0 ∗ semVal (cell τ c z3) 0
    ∗ semVal (cell τ c z4) 0 ∗ semVal (cell τ c z5) 0 ∗ semVal (cell τ c z6) 0)
/-- What enters the kernel with its buffers, and what leaves it. -/
def Xk (c : Dev nD) : sProp 𝕄 := iprop((∃ κ, opened (Xs m) (Ys m) κ c) ∗ creds c ∗ levAts L (lv rk) ∗ idleZero c)
def Yk (c : Dev nD) : sProp 𝕄 := semVal (cell τ c sBar) 0
def dmaZero (c : Dev nD) : sProp 𝕄 :=
  iprop(semVal (cell τ c sUs) 0 ∗ semVal (cell τ c sUr) 0 ∗ semVal (cell τ c sDs) 0 ∗ semVal (cell τ c sDr) 0)

/-- A buffer whole at some contents. -/
abbrev any (c : Dev nD) (b : Ref sig .tc) : sProp 𝕄 :=
  iprop(∃ f : Buf (Elt F) ((c : Thread nD τ).loc b), ((c : Thread nD τ).loc b) ↦{fullShare} f)
def bufs (c : Dev nD) : sProp 𝕄 := iprop(any c cc0_scratch0 ∗ any c cc0_scratch1 ∗ any c cc0_scratch2 ∗ any c cc0_scratch3)

def dat (c : Dev nD) : Dat τ (Elt F) Unit ℕ (UU nD τ sig 7) ℕ cfg0 c where
  A w := m ((cfg0.win w).arr.view.loc (c : Thread nD τ))
  after w _ := match w with
    | ⟨0, _⟩ => As m c
    | ⟨1, _⟩ => Xs m c
    | ⟨2, _⟩ => Ys m c
    | ⟨3, _⟩ => result (As m) (Xs m) (Ys m) c
  Φ t := match t with
    | ⟨0, _⟩ => iprop(Xk m c ∗ (∃ r, prngReg c r) ∗ bufs c)
    | ⟨_ + 1, _⟩ => iprop(Yk c ∗ (dmaZero c ∗ idleZero c) ∗ (∃ r, prngReg c r) ∗ bufs c)
  q _ := fullShare
  owed t := if t.val = 0 then dues P J₀ c else 0

abbrev adm : (p : Fin 1) → (pcfgs (F := F) p).Adm := fun p => (cfgs p).toPCfg_adm
def pdats (p : Fin 1) (c : Dev nD) : Dat τ (Elt F) Unit ℕ (UU nD τ sig 7) ℕ (Pipeline.pin (pcfgs (F := F)) adm p) c :=
  match p with
  | 0 => dat m c

/-! ## The body -/

theorem owed_first (c : Dev nD) : (dat m c).owed t0_0.castSucc = dues P J₀ c := by
  show (if t0_0.castSucc.val = 0 then dues P J₀ c else 0) = _; exact if_pos rfl
theorem owed_last (c : Dev nD) : (dat m c).owed t0_0.succ = 0 := by
  show (if t0_0.succ.val = 0 then dues P J₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Z : b.ty.Contents (Elt F)) :
    (owns (Ix := Unit) (Name := ℕ) (U := UU nD τ sig 7) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop((Xk m c ∗ (∃ r, prngReg c r) ∗ bufs c) ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((Yk c ∗ (dmaZero c ∗ idleZero c) ∗ (∃ r, prngReg c r) ∗ bufs c) ∗ (dat m c).owesAt () t0_0.succ
    ∗ stg c cc0_stg0_0 (As m c) ∗ stg c cc0_stg1_0 (Xs m c) ∗ stg c cc0_stg2_0 (Ys m c)
    ∗ stg c cc0_stg3_0 (result (As m) (Xs m) (Ys m) c))

theorem sound_body (c : Dev nD) :
    bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c) := by
  unfold bodyPre Xk bufs
  iintro ⟨⟨⟨⟨%κ, Hop⟩, Hcr, #Hlev, Hz⟩, Hp, Hw, Hr, ⟨%u, Hu⟩, ⟨%d, Hd⟩⟩, HO, ⟨%d0, %g0, %hg0, Ha⟩, ⟨%d1, %g1, %hg1, Hx⟩,
    ⟨%d2, %g2, %hg2, Hy⟩, ⟨%d3, %g3, -, Ho⟩⟩
  have ha : g0 = As m c := by rw [hg0]; unfold Dat.before; rw [if_pos (fetch0_0 t0_0)]; rfl
  have hx : g1 = Xs m c := by rw [hg1]; unfold Dat.before; rw [if_pos (fetch0_1 t0_0)]; rfl
  have hy : g2 = Ys m c := by rw [hg2]; unfold Dat.before; rw [if_pos (fetch0_2 t0_0)]; rfl
  subst ha hx hy
  ihave HO' := (owesAt_elim m c _ _ (owed_first m c)) $$ HO
  icases HO' with ⟨%W, HO⟩
  iapply (run (As m) (Xs m) (Ys m) κ c W (fun _ => bodyPost m c))
  isplitl [Hop Hcr HO Ha Hx Hy Hu Hd Ho]
  · unfold runPre
    isplitl [Hop]; · iexact Hop
    isplitl [Hcr]; · iexact Hcr
    isplitr; · iexact Hlev
    isplitl [HO]; · iexact HO
    isplitl [Ha]; · iexact Ha
    isplitl [Hx]; · iexact Hx
    isplitl [Hy]; · iexact Hy
    isplitl [Hu]; · iexists u; iexact Hu
    isplitl [Hd]; · iexists d; iexact Hd
    iexists g3; iexact Ho
  unfold runPost bodyPost
  iintro ⟨⟨Hv0, Hv1, Hv2, Hv3, Hv4⟩, ⟨%W', HO⟩, Ha, Hx, Hy, ⟨%u1, Hu⟩, ⟨%d1, Hd⟩, Ho⟩
  isplitr [HO Ha Hx Hy Ho]
  · isplitl [Hv0]; · unfold Yk; iexact Hv0
    isplitl [Hv1 Hv2 Hv3 Hv4 Hz]
    · isplitr [Hz]
      · unfold dmaZero
        isplitl [Hv1]; · iexact Hv1
        isplitl [Hv2]; · iexact Hv2
        isplitl [Hv3]; · iexact Hv3
        iexact Hv4
      iexact Hz
    isplitl [Hp]; · iexact Hp
    unfold bufs
    isplitl [Hw]; · iexact Hw
    isplitl [Hr]; · iexact Hr
    isplitl [Hu]; · iexists u1; iexact Hu
    iexists d1; iexact Hd
  isplitl [HO]; · iapply (owesAt_intro m c t0_0.succ 0 (owed_last m c) W'); iexact HO
  isplitl [Ha]
  · iexists (As m c); isplitr; · ipureintro; rfl
    iexact Ha
  isplitl [Hx]
  · iexists (Xs m c); isplitr; · ipureintro; rfl
    iexact Hx
  isplitl [Hy]
  · iexists (Ys m c); isplitr; · ipureintro; rfl
    iexact Hy
  iexists (result (As m) (Xs m) (Ys m) c); isplitr; · ipureintro; rfl
  iexact Ho

theorem body_obligation (c : Dev nD) : BodyObligation (dat (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c)
  exact sound_body m c

/-! ## The region -/

abbrev V₀ (c : Dev nD) : Valuation τ sig (Elt F) := fun b => m ((c : Dev nD), b)
/-- The buffers after the call. -/
def V₁ (c : Dev nD) : Valuation τ sig (Elt F) :=
  Function.update (V₀ m c) (Proc.devRef .tc main_v1) ((dat m c).arrAt 3 cfg0.N)

theorem V₁_of_ne (c : Dev nD) {b : DevRef τ sig} (h : b ≠ Proc.devRef .tc main_v1) : V₁ m c b = V₀ m c b := by
  unfold V₁; rw [Function.update_of_ne h]
theorem V₁_arg0 (c : Dev nD) : V₁ m c (Proc.devRef .tc main_arg0) = m ((c : Thread nD τ).loc main_arg0) := V₁_of_ne m c (by decide)
theorem V₁_arg1 (c : Dev nD) : V₁ m c (Proc.devRef .tc main_arg1) = m ((c : Thread nD τ).loc main_arg1) := V₁_of_ne m c (by decide)
theorem V₁_arg2 (c : Dev nD) : V₁ m c (Proc.devRef .tc main_arg2) = m ((c : Thread nD τ).loc main_arg2) := V₁_of_ne m c (by decide)
theorem V₁_out (c : Dev nD) : V₁ m c (Proc.devRef .tc main_v1) = (dat m c).arrAt 3 cfg0.N := by
  unfold V₁; rw [Function.update_self]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem ownSems_eq (c : Dev nD) : (Pipeline.ownSems0 osem c : sProp 𝕄) ⊣⊢ iprop(dmaZero c ∗ idleZero c) := by
  rw [show (Pipeline.ownSems0 osem c : sProp 𝕄) = _ from bigSep_fin11 (fun k : Fin 11 => (semVal ((c : Thread nD τ), osem k) 0 : sProp 𝕄))]
  unfold dmaZero idleZero
  constructor
  · iintro ⟨H0, H1, H2, H3, H⟩
    isplitl [H0 H1 H2 H3]
    · isplitl [H0]; · iexact H0
      isplitl [H1]; · iexact H1
      isplitl [H2]; · iexact H2
      iexact H3
    iexact H
  · iintro ⟨⟨H0, H1, H2, H3⟩, H⟩
    isplitl [H0]; · iexact H0
    isplitl [H1]; · iexact H1
    isplitl [H2]; · iexact H2
    isplitl [H3]; · iexact H3
    iexact H

theorem overSd (Φ : SemLoc sig → sProp 𝕄) : bigSep Sd Φ = iprop(Φ sUs ∗ Φ sUr ∗ Φ sDs ∗ Φ sDr) := by
  unfold Sd
  rw [bigSep_insert (by decide), bigSep_insert (by decide), bigSep_insert (by decide), bigSep_singleton]; rfl
theorem overSo (Φ : SemLoc sig → sProp 𝕄) : bigSep So Φ = Φ sBar := by unfold So; rw [bigSep_singleton]
theorem overJ (Φ : Fin 7 → sProp 𝕄) : bigSep J₀ Φ = iprop(Φ 0 ∗ Φ 1 ∗ Φ 2 ∗ Φ 4 ∗ Φ 6) := by
  unfold J₀
  rw [bigSep_insert (by decide), bigSep_insert (by decide), bigSep_insert (by decide), bigSep_insert (by decide), bigSep_singleton]; rfl

/-- What a device carries from the launch to the kernel. -/
def Tk (c : Dev nD) : sProp 𝕄 := iprop((∃ κ, □ recs P (pay (Xs m) (Ys m)) So Sd κ ∗ mine P So Sd c) ∗ creds c)

theorem hopen (c : Dev nD) : iprop(Tk m c ∗ Pipeline.ownSems0 osem c ∗ levAts L (lv rk)) ⊢ (|={Set.univ}=> Xk m c : sProp 𝕄) := by
  refine (sep_mono .rfl (sep_mono (ownSems_eq c).1 .rfl)).trans ?_
  unfold Tk Xk mine dmaZero
  rw [overSd, overSo, bigSep_fin7]
  iintro ⟨⟨⟨%κ, #HR, HatB, ⟨Ho1, Ho2, Ho3, Ho4⟩, Ht⟩, Hcr⟩, ⟨⟨Hv1, Hv2, Hv3, Hv4⟩, Hz⟩, #Hlev⟩
  imod (Rounds.cell_open ER (Rd (Xs m) (Ys m)) (g := cell τ c sUs) (Set.mem_univ (κ (cell τ c sUs)))) $$ [Ho1 Hv1] with ⟨Hat1, #Hr1⟩
  · isplitr; · iapply (recs_inv P (pay (Xs m) (Ys m)) So Sd κ (s := sUs) (by decide) c); iexact HR
    isplitl [Ho1] <;> iassumption
  imod (Rounds.cell_open ER (Rd (Xs m) (Ys m)) (g := cell τ c sUr) (Set.mem_univ (κ (cell τ c sUr)))) $$ [Ho2 Hv2] with ⟨Hat2, #Hr2⟩
  · isplitr; · iapply (recs_inv P (pay (Xs m) (Ys m)) So Sd κ (s := sUr) (by decide) c); iexact HR
    isplitl [Ho2] <;> iassumption
  imod (Rounds.cell_open ER (Rd (Xs m) (Ys m)) (g := cell τ c sDs) (Set.mem_univ (κ (cell τ c sDs)))) $$ [Ho3 Hv3] with ⟨Hat3, #Hr3⟩
  · isplitr; · iapply (recs_inv P (pay (Xs m) (Ys m)) So Sd κ (s := sDs) (by decide) c); iexact HR
    isplitl [Ho3] <;> iassumption
  imod (Rounds.cell_open ER (Rd (Xs m) (Ys m)) (g := cell τ c sDr) (Set.mem_univ (κ (cell τ c sDr)))) $$ [Ho4 Hv4] with ⟨Hat4, #Hr4⟩
  · isplitr; · iapply (recs_inv P (pay (Xs m) (Ys m)) So Sd κ (s := sDr) (by decide) c); iexact HR
    isplitl [Ho4] <;> iassumption
  imodintro
  isplitr [Hcr Hz]
  · iexists κ
    unfold opened
    isplitr; · iexact HR
    isplitl [HatB]; · iexact HatB
    isplitl [Hat1]; · isplitl [Hat1]; · iexact Hat1
                      iexact Hr1
    isplitl [Hat2]; · isplitl [Hat2]; · iexact Hat2
                      iexact Hr2
    isplitl [Hat3]; · isplitl [Hat3]; · iexact Hat3
                      iexact Hr3
    isplitl [Hat4]; · isplitl [Hat4]; · iexact Hat4
                      iexact Hr4
    iexact Ht
  isplitl [Hcr]; · iexact Hcr
  isplitr; · iexact Hlev
  iexact Hz

theorem held_none (c : Dev nD) (W : Valuation τ sig (Elt F)) : (StableHlo.held (c.tc : Thread nD τ) ∅ W : sProp 𝕄) = BI.emp := by
  unfold StableHlo.held; exact BI.bigSep_empty

theorem rest_eq (c : Dev nD) : (Pipeline.scopedRest (Pipeline.pin (pcfgs (F := F)) adm 0).spec c : sProp 𝕄) = bufs c := scopedRest0_eq c

theorem hin (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = iprop(Xk m c ∗ (∃ r, prngReg c r) ∗ bufs c) from rfl, rest_eq]
  iintro ⟨Hb, Hp, -, HX⟩
  isplitl [HX]; · iexact HX
  isplitl [Hp]; · iexact Hp
  iexact Hb

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last (Pipeline.pin (pcfgs (F := F)) adm 0).N)
      = iprop(Yk c ∗ (dmaZero c ∗ idleZero c) ∗ (∃ r, prngReg c r) ∗ bufs c) from rfl, rest_eq, held_none]
  iintro ⟨HY, Hs, Hp, Hb⟩
  isplitl [Hb]; · iexact Hb
  isplitl [Hp]; · iexact Hp
  isplitr; · iempintro
  isplitl [Hs]; · iapply (ownSems_eq c).2; iexact Hs
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rk_pos (j : Fin 7) (h : j ∈ J₀) : 0 < rk (P.sm j) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv rk g i := by
  have e : (pdats (F := F) m 0 c).owed t = if t.val = 0 then dues P J₀ c else 0 := rfl
  rw [e] at h
  split at h
  · obtain ⟨j, hj, rfl⟩ := dues_pos P h
    exact ⟨by rw [L_cell]; exact Finset.mem_singleton_self _, rk_pos j hj⟩
  · exact absurd h (Nat.lt_irrefl 0)

theorem cut_in (c : Dev nD) (w : Fin 4) (s : Fin (spec0 w).nbuf) : rk (SemLoc.dma ((spec0 w).sem s)) ≤ 0 := by
  revert s; revert w; decide

theorem share_full (c : Dev nD) (w : Fin 4) : (dat m c).share w = fullShare := by
  unfold Dat.share; split <;> rfl

theorem arr_first (c : Dev nD) (w : Fin 4) : (dat m c).arrAt w 0 = V₀ m c (Proc.devRef .tc (Pipeline.arrRef spec0 w)) := by
  fin_cases w <;> rfl
theorem arr_last (c : Dev nD) (w : Fin 4) : (dat m c).arrAt w cfg0.N = V₁ m c (Proc.devRef .tc (Pipeline.arrRef spec0 w)) := by
  match w with
  | 0 => exact ((dat m c).arrAt_in 0 rfl _).trans (V₁_arg0 m c).symm
  | 1 => exact ((dat m c).arrAt_in 1 rfl _).trans (V₁_arg1 m c).symm
  | 2 => exact ((dat m c).arrAt_in 2 rfl _).trans (V₁_arg2 m c).symm
  | 3 => exact (V₁_out m c).symm

set_option backward.isDefEq.respectTransparency.types false in
def reg : Pipeline.RegionSeg (pcfgs (F := F)) adm (pdats m) () defs₀ 𝒱₀ L (lv rk) 0 :=
  Pipeline.RegionSeg.ofTalk (pcfgs (F := F)) adm (pdats m) () defs₀ 𝒱₀ L (lv rk) 0 osem (by decide : Pipeline.OwnSemFacts spec0 osem)
    ∅ ∅ (Finset.Subset.refl _) kitP rfl (fun c => (body_obligation m c).loose)
    (fun _ => 0) (fun c => dues P J₀ c) (fun c => (owed_first m c).trans (zero_add _).symm) (owed_last m) (fun _ => rfl) (share_full m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_cell]; exact Finset.mem_singleton_self _, fun c w s => cut_in c w s, fun c t g i h => cutD m c t g i h⟩
    (fun _ => iprop(emp))
    (fun c w => arr_first m c w) (fun c w => arr_last m c w)

end Cert.ThirdIdeal.Hop

end
-- ==== Proof.ThirdRun.lean ====
module

public import proofs.«01_k».proof.Proof.ThirdRegion
public import Idealize.ShloMosaic.Lib.Quiescent
public import Idealize.ShloMosaic.Adequacy
public import Idealize.ShloMosaic.Harness.Basic
public import Idealize.ShloMosaic.Init

/-! The launch of the ring's third hop on all sixteen devices, and what every run of it leaves. -/

@[expose] public section

noncomputable section

namespace Cert.ThirdIdeal.Hop

open Cert.ThirdIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Idealize.ShloMosaic.Smoke (bigSep_pair bigSep_unpair)

variable {F : FTy → Type} [FloatOps F]

local notation "𝕄" => MT nD τ sig Unit (Elt F) ℕ (UU nD τ sig 7) ℕ

variable (m : (ℓ : Loc nD τ sig) → Buf (Elt F) ℓ) (ρ : Dev nD → PrngReg)

abbrev arrs : Finset (DevRef τ sig) := Pipeline.arrRefs (τ := τ) spec0

theorem arrs_uc : Pipeline.ucRefs τ sig = arrs := by decide

theorem held_arrs (c : Dev nD) (W : Valuation τ sig (Elt F)) :
    (StableHlo.held (c.tc : Thread nD τ) arrs W : sProp 𝕄)
      = iprop((((c : Thread nD τ).loc main_arg0) ↦{fullShare} W (Proc.devRef .tc main_arg0))
        ∗ (((c : Thread nD τ).loc main_arg1) ↦{fullShare} W (Proc.devRef .tc main_arg1))
        ∗ (((c : Thread nD τ).loc main_arg2) ↦{fullShare} W (Proc.devRef .tc main_arg2))
        ∗ (((c : Thread nD τ).loc main_v1) ↦{fullShare} W (Proc.devRef .tc main_v1))) := by
  unfold StableHlo.held arrs Pipeline.arrRefs
  rw [bigSep_map, show (Finset.univ.image (Pipeline.arrRef spec0) : Finset (Ref sig .tc))
      = Finset.univ.map ⟨Pipeline.arrRef spec0, winFacts0.arr_inj⟩ from (Finset.map_eq_image ⟨Pipeline.arrRef spec0, winFacts0.arr_inj⟩ Finset.univ).symm,
    bigSep_map, bigSep_W0]
  rfl

theorem unscopedSems_eq (c : Dev nD) : (unscopedSems0 c : sProp 𝕄) = semVal (cell τ c sBar) 0 := by
  unfold unscopedSems0
  rw [show (Finset.univ.filter fun sm : SemLoc sig => ¬ sm.isScoped .tc) = {sBar} from by decide, BI.bigSep_singleton]

/-- Ghost state of the whole machine, dealt at the first device. -/
def G (c : Dev nD) : sProp 𝕄 := if c = 0 then BI.own (ER (elt P So Sd τ)) else iprop(emp)

theorem G_all : bigSep Finset.univ (G (F := F)) = BI.own (ER (elt P So Sd τ)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def u₀ : UU nD τ sig 7 :=
  (initOf (Pipeline.cells (Pipeline.pin (pcfgs (F := F)) adm) cellOf_inj) (Pipeline.launchToks (Pipeline.pin (pcfgs (F := F)) adm) cellOf_inj), elt P So Sd τ)

/-- What a device holds when the program starts, and when it ends. -/
def T₀ (c : Dev nD) : sProp 𝕄 :=
  iprop(StableHlo.held (c.tc : Thread nD τ) arrs (V₀ m c) ∗ (∃ r, prngReg c r)
    ∗ (StableHlo.held (c.tc : Thread nD τ) ∅ (V₀ m c) ∗ emp) ∗ Tk m c ∗ ∃ Wd, owes (c : Thread nD τ) (0 + dues P J₀ c) Wd)
def Tₙ (c : Dev nD) : sProp 𝕄 := iprop(StableHlo.held (c.tc : Thread nD τ) arrs (V₁ m c) ∗ semVal (cell τ c sBar) 0)

def bundle (c : Dev nD) : sProp 𝕄 :=
  iprop(StableHlo.held (c.tc : Thread nD τ) arrs (V₀ m c) ∗ (∃ r, prngReg c r) ∗ creds c ∗ owes (c : Thread nD τ) (dues P J₀ c) ∅)

theorem T₀_intro (κ : GSem nD τ sig → ℕ) (c : Dev nD) :
    iprop((□ recs P (pay (Xs m) (Ys m)) So Sd κ) ∗ (mine P So Sd c ∗ bundle m c)) ⊢ T₀ m c := by
  unfold bundle T₀ Tk
  rw [held_none, zero_add]
  iintro ⟨#HR, Hl, Hh, Hp, Hc, HO⟩
  isplitl [Hh]; · iexact Hh
  isplitl [Hp]; · iexact Hp
  isplitr; · isplitr <;> iempintro
  isplitr [HO]
  · isplitl [Hl]
    · iexists κ
      isplitr; · iexact HR
      iexact Hl
    iexact Hc
  iexists ∅; iexact HO

/-- Three units of the barrier's credit. -/
theorem cred_three (c : Dev nD) :
    iprop(cred (tallyAt (cell τ c sBar) () 1) ∗ cred (tallyAt (cell τ c sBar) () 1) ∗ cred (tallyAt (cell τ c sBar) () 1))
      ⊢ (cred (tallyAt (cell τ c sBar) () 3) : sProp 𝕄) := by
  refine (sep_mono .rfl (cred_add _ _).2).trans ((cred_add _ _).2.trans ?_)
  rw [tallyAt_add, tallyAt_add]

theorem init :
    iprop((bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c)) ∗ levAts L (lv rk))
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dues P J₀ c) ∅ ∗ Pipeline.launchCred (fun c => dues P J₀ c) c ∗ prngReg c (ρ c) ∗ G c)
      ⊢ (iprop(bundle m c ∗ ((bigSep So fun s => semVal (cell τ c s) 0) ∗ G c)) : sProp 𝕄) := by
    rw [show (unscopedBufs c (fun b => m ((c : Thread nD τ).loc b)) : sProp 𝕄) = StableHlo.held (c.tc : Thread nD τ) arrs (V₀ m c) from
        (Pipeline.unscopedBufs_held c (V₀ m c)).trans (by rw [arrs_uc]),
      unscopedSems_eq, overSo]
    unfold bundle
    iintro ⟨Hh, Hus, HO, Hcr, Hp, HG⟩
    ihave Hc := (launchCred_dues P J₀ c) $$ Hcr
    isplitl [Hh HO Hp Hc]
    · isplitl [Hh]; · iexact Hh
      isplitl [Hp]; · iexists (ρ c); iexact Hp
      isplitl [Hc]
      · ihave Hd := (Entails.of_eq (overJ (F := F) fun j => cred (tallyAt (cell τ c (P.sm j)) () (P.am j)))) $$ Hc
        icases Hd with ⟨H0, H1, H2, H3, H4⟩
        unfold creds
        isplitl [H0 H1 H2]
        · iapply (cred_three (F := F) c)
          isplitl [H0]; · iexact H0
          isplitl [H1]; · iexact H1
          iexact H2
        isplitl [H3]; · iexact H3
        iexact H4
      iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c))
      ⊢ (bigSep Finset.univ fun c : Dev nD => iprop(bundle m c ∗ ((bigSep So fun s => semVal (cell τ c s) 0) ∗ G c)) : sProp 𝕄)
      from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Talk.deal P (pay (Xs m) (Ys m)) So Sd (fun j c => pay_storable (Xs m) (Ys m) j c) (by decide)) $$ [Hv Hu] with ⟨%κ, #HR, Hm⟩
  · isplitl [Hv] <;> iassumption
  imodintro
  iapply (bigSep_with_persistent (R := iprop(□ recs P (pay (Xs m) (Ys m)) So Sd κ)) (Φ := fun c => iprop(mine P So Sd c ∗ bundle m c))
    fun c _ => T₀_intro m κ c)
  isplitr; · iexact HR
  iapply bigSep_pair
  isplitl [Hm] <;> iassumption

theorem unscoped_bar : ∀ sm : SemLoc sig, sm.isScoped .tc = false → sm = sBar := by decide

set_option backward.isDefEq.respectTransparency.types false in
/-- Every run ends; each device keeps what it was given, its result is what the pipeline writes back, and every counter
    is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v1) = (dat m c).arrAt 3 cfg0.N) ∧ r.2.sem = fun _ => 0) :=
  Pipeline.θ_run_regions_kit_sems (pcfgs (F := F)) adm (pdats m) () cellOf_inj EP defs₀ 𝒱₀ L (lv rk) m ρ main [.region (reg m)]
    (fun c Q => by rw [main_segs adm (pdats m) () 𝒱₀ L (lv rk) (reg m) c])
    (by simp only [Pipeline.Seg.pipes_region, Pipeline.Seg.pipes_nil]; decide)
    (O₀ := fun c => dues P J₀ c) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => ?_⟩
      show iprop(StableHlo.held (c.tc : Thread nD τ) arrs (V₁ m c) ∗ (∃ r, prngReg c r)
          ∗ (StableHlo.held (c.tc : Thread nD τ) ∅ (V₁ m c) ∗ emp) ∗ Yk c ∗ ∃ Wd, owes (c : Thread nD τ) (0 : CellTallies nD τ sig Unit) Wd)
        ⊢ iprop(Tₙ m c ∗ ∃ W, owes (c : Thread nD τ) (0 : CellTallies nD τ sig Unit) W)
      unfold Yk Tₙ
      iintro ⟨Hh, -, -, Hb, HO⟩
      isplitr [HO]
      · isplitl [Hh] <;> iassumption
      · iexact HO)
    (hinit := init m ρ)
    (QY := fun c s => (s.mem ((c : Thread nD τ).loc main_arg0) = V₁ m c (Proc.devRef .tc main_arg0)
        ∧ s.mem ((c : Thread nD τ).loc main_arg1) = V₁ m c (Proc.devRef .tc main_arg1)
        ∧ s.mem ((c : Thread nD τ).loc main_arg2) = V₁ m c (Proc.devRef .tc main_arg2)
        ∧ s.mem ((c : Thread nD τ).loc main_v1) = V₁ m c (Proc.devRef .tc main_v1))
      ∧ s.sem (cell τ c sBar) = 0)
    (hfin := fun c s' => by
      dsimp only [Tₙ]; rw [held_arrs]
      iintro ⟨⟨⟨Ha, Hx, Hy, Ho⟩, Hb0⟩, HSI⟩
      icombine HSI Ha gives %ha
      icombine HSI Hx gives %hx
      icombine HSI Hy gives %hy
      icombine HSI Ho gives %ho
      icombine HSI Hb0 gives %hb
      imodintro
      isplitr
      · ipureintro
        exact ⟨⟨Buf.eq_of_forall_mem_univ ha, Buf.eq_of_forall_mem_univ hx, Buf.eq_of_forall_mem_univ hy, Buf.eq_of_forall_mem_univ ho⟩,
          by simpa using hb⟩
      iexact HSI)
    (hQ := fun s h hs => ⟨fun c => by
        obtain ⟨⟨ha, hx, hy, ho⟩, -⟩ := h c
        exact ⟨ha.trans (V₁_arg0 m c), hx.trans (V₁_arg1 m c), hy.trans (V₁_arg2 m c), ho.trans (V₁_out m c)⟩,
      sem_eq_zero hs fun c sm hsm => by
        obtain rfl := unscoped_bar sm hsm
        exact (h c).2⟩)

/-! ## The arguments and the result as arrays -/

theorem As_eq (c : Dev nD) : As m c = m ((c : Thread nD τ).loc main_arg0) := by
  funext i
  unfold As
  blk_simp
  exact congrArg (m ((c : Thread nD τ).loc main_arg0)) (funext fun a => Fin.ext (Pipeline.Window.rect_emb_val_of_index_zero (cfg0.win 0) t0_0 a (by revert a; decide) i))

theorem Xs_eq (c : Dev nD) : Xs m c = m ((c : Thread nD τ).loc main_arg1) := by
  funext i
  unfold Xs
  blk_simp
  exact congrArg (m ((c : Thread nD τ).loc main_arg1)) (funext fun a => Fin.ext (Pipeline.Window.rect_emb_val_of_index_zero (cfg0.win 1) t0_0 a (by revert a; decide) i))

theorem Ys_eq (c : Dev nD) : Ys m c = m ((c : Thread nD τ).loc main_arg2) := by
  funext i
  unfold Ys
  blk_simp
  exact congrArg (m ((c : Thread nD τ).loc main_arg2)) (funext fun a => Fin.ext (Pipeline.Window.rect_emb_val_of_index_zero (cfg0.win 2) t0_0 a (by revert a; decide) i))

theorem out_eq (c : Dev nD) : (dat m c).arrAt 3 cfg0.N
    = result (fun c : Dev nD => m ((c : Thread nD τ).loc main_arg0)) (fun c : Dev nD => m ((c : Thread nD τ).loc main_arg1))
        (fun c : Dev nD => m ((c : Thread nD τ).loc main_arg2)) c := by
  rw [← (funext (As_eq m) : As m = _), ← (funext (Xs_eq m) : Xs m = _), ← (funext (Ys_eq m) : Ys m = _)]
  funext i
  refine ((dat m c).arrAt_emb_eq_after_last 3 t0_0 (by decide +kernel) i).trans ?_
  blk_simp
  rfl

end Cert.ThirdIdeal.Hop

end
-- ==== Proof.Fourth.lean ====
module

public import proofs.«01_k».proof.Proof.Gen.FourthIdeal.Launch
public import proofs.«01_k».proof.Proof.Gen.FourthIdeal.Points
public import proofs.«01_k».proof.Proof.Gen.FourthIdeal.Skeleton
public import proofs.«01_k».proof.Proof.Ring

/-! The ring's fourth hop, which goes to the right alone: the buffers, and what every copy and store leaves. -/

@[expose] public section

noncomputable section

namespace Cert.FourthIdeal.Hop

open Cert.FourthIdeal.Gen
open Idealize.ShloMosaic
open Idealize.ShloMosaic.TcCoe
open Talk
open Cert.CombineIdeal.Comb (pr posn devn at8 rt lf pr_pr rt_lf lf_rt peer right left at8_self posn_lt inner)

variable {F : FTy → Type} [FloatOps F]

theorem dev1_eq : ∀ c : Dev nD, (⟨k0_dev1 c, k0_dev1_lt c⟩ : Dev nD) = pr c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = lf c := by decide +kernel
theorem dev4_eq : ∀ c : Dev nD, (⟨k0_dev4 c, k0_dev4_lt c⟩ : Dev nD) = rt c := by decide +kernel

/-- How far a block has come round when this hop is over. -/
abbrev far : ℕ := 4
theorem off1_eq : ∀ c : Dev nD, k0_off1 c = ![512 * ((posn c.val + far) % 8), 0] := by decide +kernel

/-! ## The buffers and the semaphores -/

abbrev barS : Sem sig := (SemArray.scalar (sig.barrier 1 rfl) : Sems sig S_).sem
abbrev sBar : SemLoc sig := .reg barS
/-- Sent from the second slot, received into the first. -/
abbrev semS (s : DmaSems sig S2) : DmaSem sig := ((s.slice (Rect.unit (s := S2) ![1] S1.size inb_S2_S1_1)).squeeze S_ squeezes_S1_S_).sem
abbrev semR (s : DmaSems sig S2) : DmaSem sig := ((s.slice (Rect.unit (s := S2) ![0] S1.size inb_S2_S1_0)).squeeze S_ squeezes_S1_S_).sem
abbrev RS : Rect S2x512x2048 := Rect.unit (s := S2x512x2048) ![1, 0, 0] S1x512x2048.size inb_S2x512x2048_S1x512x2048_1_0_0
abbrev RR : Rect S2x512x2048 := Rect.unit (s := S2x512x2048) ![0, 0, 0] S1x512x2048.size inb_S2x512x2048_S1x512x2048_0_0_0
/-- Both slots, of what is sent and what arrives. -/
abbrev pair {α : Type} (x y : S512x2048.Idx → α) : S2x512x2048.Idx → α := Talk.both (R := 512) (C := 2048) y x
theorem pair_sent {α : Type} (x y : S512x2048.Idx → α) (j) : pair x y (Talk.high 1 j) = x j := Talk.both_snd y x j
theorem pair_arrived {α : Type} (x y : S512x2048.Idx → α) (j) : pair x y (Talk.high 0 j) = y j := Talk.both_fst y x j
theorem RS_idx (j : S1x512x2048.Idx) : RS.toLoadRect.idx j = Talk.high 1 (Talk.low j) := Talk.slot_idx (R := 512) (C := 2048) 1 _ j
theorem RR_idx (j : S1x512x2048.Idx) : RR.toLoadRect.idx j = Talk.high 0 (Talk.low j) := Talk.slot_idx (R := 512) (C := 2048) 0 _ j
theorem mem_RS (i : S2x512x2048.Idx) : i ∈ RS.set ↔ (i 0).val = 1 := Talk.mem_slot (R := 512) (C := 2048) 1 _ i
theorem mem_RR (i : S2x512x2048.Idx) : i ∈ RR.set ↔ (i 0).val = 0 := Talk.mem_slot (R := 512) (C := 2048) 0 _ i

abbrev slotS (M : Memref sig .tc .vmem S2x512x2048 .bf16) : Memref sig .tc .vmem S512x2048 .bf16 :=
  (M.slice RS (fun _ => rfl)).squeeze S512x2048 squeezes_S1x512x2048_S512x2048
abbrev slotR (M : Memref sig .tc .vmem S2x512x2048 .bf16) : Memref sig .tc .vmem S512x2048 .bf16 :=
  (M.slice RR (fun _ => rfl)).squeeze S512x2048 squeezes_S1x512x2048_S512x2048
theorem read_slotS (M : Memref sig .tc .vmem S2x512x2048 .bf16) (g : M.view.ty.Contents (Elt F)) :
    (slotS M).view.read (Elt F) g = fun j => M.view.read (Elt F) g (Talk.high 1 j) :=
  Talk.read_slot (Val := Elt F) (R := 512) (C := 2048) M 1 inb_S2x512x2048_S1x512x2048_1_0_0 (fun _ => rfl) squeezes_S1x512x2048_S512x2048 rfl g
theorem read_slotR (M : Memref sig .tc .vmem S2x512x2048 .bf16) (g : M.view.ty.Contents (Elt F)) :
    (slotR M).view.read (Elt F) g = fun j => M.view.read (Elt F) g (Talk.high 0 j) :=
  Talk.read_slot (Val := Elt F) (R := 512) (C := 2048) M 0 inb_S2x512x2048_S1x512x2048_0_0_0 (fun _ => rfl) squeezes_S1x512x2048_S512x2048 rfl g

abbrev sUs : SemLoc sig := .dma (semS cc0_scratch7)
abbrev sUr : SemLoc sig := .dma (semR cc0_scratch8)
/-- Those that this hop leaves alone. -/
abbrev z0 : SemLoc sig := .dma cc0_scratch4.sem
abbrev z1 : SemLoc sig := .dma cc0_scratch5.sem
abbrev z2 : SemLoc sig := .dma cc0_scratch6.sem
abbrev z3 : SemLoc sig := .dma (semR cc0_scratch7)
abbrev z4 : SemLoc sig := .dma (semS cc0_scratch8)
abbrev z5 : SemLoc sig := .dma (semR cc0_scratch9)
abbrev z6 : SemLoc sig := .dma (semS cc0_scratch10)
abbrev z7 : SemLoc sig := .dma (semS cc0_scratch9)
abbrev z8 : SemLoc sig := .dma (semR cc0_scratch10)

abbrev aM : Memref sig .tc .vmem S4096x2048 .bf16 := Memref.whole cc0_stg0_0
abbrev xM : Memref sig .tc .vmem S512x2048 .bf16 := Memref.whole cc0_stg1_0
abbrev yM : Memref sig .tc .vmem S512x2048 .bf16 := Memref.whole cc0_stg2_0
abbrev oM : Memref sig .tc .vmem S4096x2048 .bf16 := Memref.whole cc0_stg3_0
abbrev uM : Memref sig .tc .vmem S2x512x2048 .bf16 := Memref.whole cc0_scratch2
abbrev dM : Memref sig .tc .vmem S2x512x2048 .bf16 := Memref.whole cc0_scratch3
abbrev uS := slotS uM
abbrev uR := slotR uM
abbrev oZ : Rect S4096x2048 := Rect.unit (s := S4096x2048) ![0, 0] S4096x2048.size inb_S4096x2048_S4096x2048_0_0
abbrev oR1 (c : Dev nD) : Rect S4096x2048 := Rect.unit (s := S4096x2048) (k0_off1 c) S512x2048.size (k0_off1_inb c)

theorem set_uS : uS.view.set = RS.set := by
  show ((uM.slice RS (fun _ => rfl)).view.reshape S512x2048 _).set = _
  rw [View.set_reshape]; exact View.set_slice_whole _ _
theorem set_uR : uR.view.set = RR.set := by
  show ((uM.slice RR (fun _ => rfl)).view.reshape S512x2048 _).set = _
  rw [View.set_reshape]; exact View.set_slice_whole _ _

theorem RS_eq : RS.set = Finset.univ \ RR.set := by
  ext i
  rw [Finset.mem_sdiff, mem_RS, mem_RR]
  have h2 : (i 0).val < 2 := (i 0).isLt
  constructor
  · intro h; exact ⟨Finset.mem_univ _, by omega⟩
  · intro h; have := h.2; omega

/-! ## What the buffers hold -/

abbrev BT (F : FTy → Type) : Type := S512x2048.Idx → Elt F .bf16
abbrev OT (F : FTy → Type) : Type := S4096x2048.Idx → Elt F .bf16

variable (A : Dev nD → OT F) (X : Dev nD → BT F)

/-- The two slots when the hop is over. -/
def fullU (c : Dev nD) : S2x512x2048.Idx → Elt F .bf16 := pair (X c) (X (lf c))

/-- A device's result: what it held, and in one block the rows that arrived. -/
def result (c : Dev nD) : OT F := fun i =>
  if (i 0).val / 512 = (posn c.val + far) % 8 then X (lf c) (inner i) else A c i

theorem read_uS (c : Dev nD) : uS.view.read (Elt F) (fullU X c) = X c :=
  (read_slotS uM (fullU X c)).trans (funext fun j => pair_sent (X c) (X (lf c)) j)
theorem read_uR (c : Dev nD) : uR.view.read (Elt F) (fullU X c) = X (lf c) :=
  (read_slotR uM (fullU X c)).trans (funext fun j => pair_arrived (X c) (X (lf c)) j)

/-- The stores of what goes out. -/
theorem pay_sent (x y : BT F) :
    (fun j => pair x y (RS.toLoadRect.idx j))
      = shapeCast S1x512x2048 (shapeCast S512x2048 x shapeCasts_S512x2048_S512x2048) shapeCasts_S512x2048_S1x512x2048 := by
  rw [shapeCast_self]
  funext j
  rw [shapeCast_addUnit_apply ![512, 2048], RS_idx j]
  exact pair_sent _ _ _
theorem stored_u (c : Dev nD) (f : (cc0_scratch2 : Ref sig .tc).ty.Contents (Elt F)) (i : S2x512x2048.Idx) (hi : i ∈ RS.set) :
    (uM.access RS : View sig .tc _ _ _).write (Elt F) f (k0_pay3 (X c)) Finset.univ i = fullU X c i :=
  Talk.write_in (uM.access RS : View sig .tc _ _ _) f (fullU X c) _ (pay_sent (X c) (X (lf c))) i
    (by show i ∈ ((View.whole cc0_scratch2).slice RS).set; rw [View.set_slice_whole]; exact hi)

/-- What a load of the slot received gives the store into the result. -/
theorem pay_arrived (x y : BT F) :
    shapeCast S512x2048 (fun j => pair x y (RR.toLoadRect.idx j)) shapeCasts_S1x512x2048_S512x2048 = y := by
  funext j
  rw [shapeCast_dropUnit_apply ![512, 2048]]
  show pair x y (RR.toLoadRect.idx _) = _
  rw [RR_idx]
  exact pair_arrived _ _ _
theorem pay1_eq (c : Dev nD) : k0_pay1 ((uM.access RR : View sig .tc _ _ _).read (Elt F) (fullU X c)) = X (lf c) := pay_arrived _ _

/-! ### The result -/

/-- A row of block `b`, as an index of the result. -/
theorem block_idx (b : ℕ) (off : Fin 2 → ℕ) (ho : off = ![512 * b, 0]) (inb : ∀ a, off a + S512x2048.size a ≤ S4096x2048.size a) (j : S512x2048.Idx) :
    (((Rect.unit (s := S4096x2048) off S512x2048.size inb).toLoadRect.idx j) 0).val / 512 = b
      ∧ inner ((Rect.unit (s := S4096x2048) off S512x2048.size inb).toLoadRect.idx j) = j := by
  subst ho
  have h0 : (j 0).val < 512 := (j 0).isLt
  have e0 : (((Rect.unit (s := S4096x2048) ![512 * b, 0] S512x2048.size inb).toLoadRect.idx j) 0).val = 512 * b + (j 0).val := by
    show 512 * b + 1 * (j 0).val = _; omega
  refine ⟨by omega, funext fun a => Fin.ext ?_⟩
  refine Fin.cases ?_ (fun a => ?_) a
  · show (((Rect.unit (s := S4096x2048) ![512 * b, 0] S512x2048.size inb).toLoadRect.idx j) 0).val % 512 = (j 0).val
    omega
  · obtain rfl : a = 0 := Subsingleton.elim _ _
    show 0 + 1 * (j 1).val = (j 1).val; omega

theorem mem_access (r : Rect S4096x2048) (i : S4096x2048.Idx) : i ∈ (oM.access r : View sig .tc _ _ _).set ↔ i ∈ r.set := by
  show i ∈ ((View.whole cc0_stg3_0).slice r).set ↔ _
  rw [View.set_slice_whole]

theorem read_r1 (c : Dev nD) : (oM.access (oR1 c) : View sig .tc _ _ _).read (Elt F) (result A X c) = X (lf c) := by
  funext j
  show result A X c ((Rect.unit (s := S4096x2048) (k0_off1 c) S512x2048.size (k0_off1_inb c)).toLoadRect.idx j) = _
  have h := block_idx _ _ (off1_eq c) (k0_off1_inb c) j
  unfold result
  rw [h.1, h.2, if_pos rfl]

/-- The two stores into the result, in their order. -/
theorem stored_eq (c : Dev nD) (f : OT F) :
    (oM.access (oR1 c) : View sig .tc _ _ _).write (Elt F)
        ((oM.access oZ : View sig .tc _ _ _).write (Elt F) f (k0_pay2 (A c)) Finset.univ)
        (k0_pay1 ((uM.access RR : View sig .tc _ _ _).read (Elt F) (fullU X c))) Finset.univ = result A X c := by
  rw [pay1_eq]
  funext i
  have m1 : i ∈ (oM.access (oR1 c) : View sig .tc _ _ _).set ↔ (i 0).val / 512 = (posn c.val + far) % 8 := by
    rw [mem_access]; unfold oR1; simp only [off1_eq c]; exact Cert.CombineIdeal.Comb.mem_block _ _ i
  by_cases h1 : (i 0).val / 512 = (posn c.val + far) % 8
  · exact Talk.write_in (oM.access (oR1 c) : View sig .tc _ _ _) _ (result A X c) (X (lf c)) (read_r1 A X c) i (m1.mpr h1)
  refine (Talk.write_out (oM.access (oR1 c) : View sig .tc _ _ _) _ (result A X c) (X (lf c)) (read_r1 A X c) i (fun h => h1 (m1.mp h))).trans ?_
  refine (Talk.write_in (oM.access oZ : View sig .tc _ _ _) f (A c) _ ?_ i ?_).trans ?_
  · refine Eq.trans ?_ (shapeCast_self (A c) shapeCasts_S4096x2048_S4096x2048).symm
    exact Memref.readAt_unit_zero (Elt F) cc0_stg3_0 (funext fun a => by fin_cases a <;> rfl) _ (A c)
  · rw [mem_access]; exact View.mem_set_unit_zero (S := S4096x2048) (funext fun a => by fin_cases a <;> rfl) _ i
  · unfold result; rw [if_neg h1]

end Cert.FourthIdeal.Hop

end
-- ==== Proof.FourthTalk.lean ====
module

public import proofs.«01_k».proof.Proof.Fourth

/-! The protocol of the ring's fourth hop, and the body of the kernel run under it. -/

@[expose] public section

noncomputable section

namespace Cert.FourthIdeal.Hop

open Cert.FourthIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk
open Cert.CombineIdeal.Comb (pr posn devn at8 rt lf pr_pr rt_lf lf_rt peer right left at8_self posn_lt inner)

variable {F : FTy → Type} [FloatOps F]

local notation "𝕄" => MT nD τ sig Unit (Elt F) ℕ (UU nD τ sig 5) ℕ

/-- The worth of a copy of 512 rows into on-chip memory. -/
abbrev N : ℕ := uR.view.dmaCredit
theorem N_pos : 0 < N := View.dmaCredit_pos _ (by decide)

/-- The table: three units on the barriers of the peer and the neighbours, and the two ends of the copy to the right. -/
def P : Plan nD sig 5 where
  sm := ![sBar, sBar, sBar, sUs, sUr]
  rd := fun _ => 0
  dst := ![peer, right, left, Equiv.refl _, right]
  am := ![1, 1, 1, N, N]
  am_pos := fun j => by
    fin_cases j
    exacts [Nat.one_pos, Nat.one_pos, Nat.one_pos, N_pos, N_pos]

/-- The semaphores whose cells are open from the launch on, and those a device opens when it enters the kernel. -/
def So : Finset (SemLoc sig) := {sBar}
def Sd : Finset (SemLoc sig) := {sUs, sUr}
/-- What a device still owes, when it enters and later. -/
def J₀ : Finset (Fin 5) := {0, 1, 2, 4}
def J₁ : Finset (Fin 5) := {1, 2, 4}
def J₂ : Finset (Fin 5) := {2, 4}
def J₃ : Finset (Fin 5) := {4}

/-- Waiting order: the barrier, the left neighbour's rows. -/
def rk (s : SemLoc sig) : ℕ := if s = sBar then 1 else if s = sUr then 2 else 0

variable (A : Dev nD → OT F) (X Y : Dev nD → BT F)

/-- Parts of a device's buffers, at given contents. -/
abbrev aPts (c : Dev nD) : sProp 𝕄 := aM.view.loc (c : Thread nD τ) ↦[Finset.univ]{fullShare} A c
abbrev xPts (c : Dev nD) : sProp 𝕄 := xM.view.loc (c : Thread nD τ) ↦[Finset.univ]{fullShare} X c
abbrev yPts (c : Dev nD) : sProp 𝕄 := yM.view.loc (c : Thread nD τ) ↦[Finset.univ]{fullShare} Y c
abbrev uPts (S : Finset S2x512x2048.Idx) (c : Dev nD) (f : (cc0_scratch2 : Ref sig .tc).ty.Contents (Elt F)) : sProp 𝕄 :=
  uM.view.loc (c : Thread nD τ) ↦[S]{fullShare} f
abbrev dPts (S : Finset S2x512x2048.Idx) (c : Dev nD) (f : (cc0_scratch3 : Ref sig .tc).ty.Contents (Elt F)) : sProp 𝕄 :=
  dM.view.loc (c : Thread nD τ) ↦[S]{fullShare} f
abbrev oPts (c : Dev nD) (f : OT F) : sProp 𝕄 := oM.view.loc (c : Thread nD τ) ↦[Finset.univ]{fullShare} f

/-- What the unit on a barrier from the right hands over: where the receiver may write, and that it is ready there. The
    other two units hand over nothing. -/
abbrev payRight (c : Dev nD) : sProp 𝕄 := iprop((∃ f, uPts uR.view.set (rt c) f) ∗ reached ER (cell τ (rt c) sUr) 0)

/-- What each payment hands to the owner of its cell. -/
def pay : Fin 5 → Dev nD → sProp 𝕄 :=
  ![fun _ => iprop(emp), fun _ => iprop(emp), payRight,
    fun c => uPts uS.view.set c (fullU X c), fun c => uPts uR.view.set c (fullU X c)]

theorem pay_storable (j : Fin 5) (c : Dev nD) : BI.Storable (upEmb : UEmb _ 𝕄) (pay X j c) := by
  match j with
  | 0 => exact (inferInstance : BI.Storable (upEmb : UEmb _ 𝕄) (iprop(emp) : sProp 𝕄))
  | 1 => exact (inferInstance : BI.Storable (upEmb : UEmb _ 𝕄) (iprop(emp) : sProp 𝕄))
  | 2 => exact (inferInstance : BI.Storable (upEmb : UEmb _ 𝕄) (payRight c))
  | 3 => exact (inferInstance : BI.Storable (upEmb : UEmb _ 𝕄) (uPts uS.view.set c (fullU X c)))
  | 4 => exact (inferInstance : BI.Storable (upEmb : UEmb _ 𝕄) (uPts uR.view.set c (fullU X c)))

instance pay_storable' (g : GSem nD τ sig) (r : ℕ) (d : Fin 5) : BI.Storable (upEmb : UEmb _ 𝕄) ((sched P (pay X)).payload g r d) :=
  payload_storable P _ (pay_storable X) g r d

abbrev Rd : Schedule (GSem nD τ sig) (Fin 5) 𝕄 := sched P (pay X)

theorem at_bar : duesAt P sBar 0 = {0, 1, 2} := by decide
theorem at_us : duesAt P sUs 0 = {3} := by decide
theorem at_ur : duesAt P sUr 0 = {4} := by decide

theorem over_bar (Φ : Fin 5 → sProp 𝕄) : bigSep ({0, 1, 2} : Finset (Fin 5)) Φ = iprop(Φ 0 ∗ Φ 1 ∗ Φ 2) := by
  rw [bigSep_insert (by decide), bigSep_insert (by decide), bigSep_singleton]; rfl

/-- What a device holds when its cells are open. -/
def opened (κ : GSem nD τ sig → ℕ) (c : Dev nD) : sProp 𝕄 :=
  iprop(□ recs P (pay X) So Sd κ
    ∗ atPos ER (cell τ c sBar) 0 ∅ 0
    ∗ (atPos ER (cell τ c sUs) 0 ∅ 0 ∗ reached ER (cell τ c sUs) 0)
    ∗ (atPos ER (cell τ c sUr) 0 ∅ 0 ∗ reached ER (cell τ c sUr) 0)
    ∗ dutyTok ER (cell τ (pr c) sBar) 0 0 ∗ dutyTok ER (cell τ (rt c) sBar) 0 1 ∗ dutyTok ER (cell τ (lf c) sBar) 0 2
    ∗ dutyTok ER (cell τ c sUs) 0 3 ∗ dutyTok ER (cell τ (rt c) sUr) 0 4)

def creds (c : Dev nD) : sProp 𝕄 :=
  iprop(cred (tallyAt (cell τ c sBar) () 3) ∗ cred (tallyAt (cell τ c sUr) () N))

def runPre (κ : GSem nD τ sig → ℕ) (c : Dev nD) (W : Waits sig Unit) : sProp 𝕄 :=
  iprop(opened X κ c ∗ creds c ∗ levAts L (lv rk) ∗ owes (c : Thread nD τ) (dues P J₀ c) W
    ∗ aPts A c ∗ xPts X c ∗ yPts Y c ∗ (∃ f, uPts Finset.univ c f) ∗ (∃ f, dPts Finset.univ c f) ∗ (∃ f, oPts c f))

def runPost (c : Dev nD) : sProp 𝕄 :=
  iprop((semVal (cell τ c sBar) 0 ∗ semVal (cell τ c sUs) 0 ∗ semVal (cell τ c sUr) 0)
    ∗ (∃ W, owes (c : Thread nD τ) 0 W)
    ∗ aPts A c ∗ xPts X c ∗ yPts Y c ∗ (∃ f, uPts Finset.univ c f) ∗ (∃ f, dPts Finset.univ c f) ∗ oPts c (result A X c))

abbrev 𝒱₀ : Variants := Variants.none

theorem hz2 : (![0, 0] : Fin 2 → Nat) = fun _ => 0 := funext fun a => by fin_cases a <;> rfl
theorem read_a (f : OT F) : aM.view.readAt (Elt F) (Rect.unit (s := S4096x2048) ![0, 0] S4096x2048.size inb_S4096x2048_S4096x2048_0_0).toLoadRect f = f :=
  Memref.readAt_unit_zero (Elt F) cc0_stg0_0 hz2 _ f
theorem read_x (f : BT F) : xM.view.readAt (Elt F) (Rect.unit (s := S512x2048) ![0, 0] S512x2048.size inb_S512x2048_S512x2048_0_0).toLoadRect f = f :=
  Memref.readAt_unit_zero (Elt F) cc0_stg1_0 hz2 _ f
theorem read_y (f : BT F) : yM.view.readAt (Elt F) (Rect.unit (s := S512x2048) ![0, 0] S512x2048.size inb_S512x2048_S512x2048_0_0).toLoadRect f = f :=
  Memref.readAt_unit_zero (Elt F) cc0_stg2_0 hz2 _ f

theorem dues_0 (c : Dev nD) : dues P J₀ c = dues P J₁ c + tallyAt (cell τ (pr c) sBar) () 1 := dues_take P (j := 0) (by decide) c
theorem dues_1 (c : Dev nD) : dues P J₁ c = dues P J₂ c + tallyAt (cell τ (rt c) sBar) () 1 := dues_take P (j := 1) (by decide) c
theorem dues_2 (c : Dev nD) : dues P J₂ c = dues P J₃ c + tallyAt (cell τ (lf c) sBar) () 1 := dues_take P (j := 2) (by decide) c
theorem dues_3 (c : Dev nD) : dues P J₃ c = 0 + tallyAt (cell τ (rt c) sUr) () N :=
  (dues_take P (j := 4) (by decide) c).trans (congrArg (· + _) (dues_empty P c))

/-- The copy to the right. -/
theorem send_u (κ : GSem nD τ sig → ℕ) (c n : Dev nD) (hn : n = rt c) {hsc : uR.view.ref.isScScratch = false}
    {hsrc : uS.view.WordExact} {hdst : uR.view.WordExact}
    {hsem : DmaTarget.Typed .vmem sUr (.remote (Dev.tc n : Thread nD τ) uR sUs hsc)}
    {α : Type} {Q : α → sProp 𝕄} {k : PUnit → Prog (TpuEff nD τ sig (Elt F) Λ₀ .tc) α} (W : Waits sig Unit) :
    iprop(recs P (pay X) So Sd κ ∗ uPts uS.view.set c (fullU X c) ∗ (∃ f, uPts uR.view.set (rt c) f)
        ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0)
      ⊢ iprop(((cred (tallyAt (cell τ c sUs) () N) ∗ owes (c : Thread nD τ) (0) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma uS (.remote (Dev.tc n : Thread nD τ) uR sUs hsc) sUr hsrc hdst hsem) k) Q) := by
  subst hn
  iintro ⟨#Hr, Hx, ⟨%fn, Ho⟩, HO, Ht1, Hr1, Ht2, Hr2⟩ Hk
  iapply (Rounds.wp_send_pointsTo 𝒱₀ ER (Rd X) (c : Thread nD τ) none (c' := (rt c : Thread nD τ)) (src := uS) (dst := uR)
      (sS := sUs) (sem := sUr) (q := fullShare) (fs := fullU X c) (κ₁ := κ (cell τ c sUs)) (κ₂ := κ (cell τ (rt c) sUr))
      (r₁ := 0) (r₂ := 0) (d₁ := 3) (d₂ := 4) (fd := fn)
      (due_mem P (pay X) 3 c) (due_mem P (pay X) 4 (rt c)) () () N rfl rfl rfl (0) (dues_3 c) (W := W)
      (BI.Entails.refl _)
      (Entails.of_eq (pointsTo_congr fun i hi =>
        Talk.write_in uR.view fn (fullU X (rt c)) _ (by rw [read_uR X, read_uS X, lf_rt]) i hi))) $$ [Hx Ho HO Ht1 Hr1 Ht2 Hr2]
  · isplitr; · iapply (recs_inv P (pay X) So Sd κ (s := sUs) (by decide) c); iexact Hr
    isplitr; · iapply (recs_inv P (pay X) So Sd κ (s := sUr) (by decide) (rt c)); iexact Hr
    isplitl [Hx]; · iexact Hx
    isplitl [Ho]; · iexact Ho
    isplitl [HO]; · iexact HO
    isplitl [Ht1]; · iexact Ht1
    isplitl [Hr1]; · iexact Hr1
    isplitl [Ht2]; · iexact Ht2
    iexact Hr2
  iexact Hk

theorem joined_u (c : Dev nD) (f : (cc0_scratch2 : Ref sig .tc).ty.Contents (Elt F)) :
    iprop(uPts uR.view.set c f ∗ uPts (Finset.univ \ uR.view.set) c f) ⊢ (uPts Finset.univ c f : sProp 𝕄) :=
  (pointsTo_join_subset (Finset.subset_univ _)).trans (Entails.of_eq (by rw [Finset.piecewise_same]))
theorem rest_u : Finset.univ \ uR.view.set = uS.view.set := by rw [set_uS, set_uR]; exact RS_eq.symm

theorem access_uS : (uM.access RS).setOn Finset.univ ⊆ uS.view.set := by
  intro i hi
  rw [View.setOn_univ] at hi
  rw [set_uS, ← View.set_slice_whole cc0_scratch2 RS]; exact hi
theorem access_uR : (uM.access RR).setOn Finset.univ ⊆ uR.view.set := by
  intro i hi
  rw [View.setOn_univ] at hi
  rw [set_uR, ← View.set_slice_whole cc0_scratch2 RR]; exact hi
set_option maxHeartbeats 1600000 in
/-- The rows go out to the right and have been read out, and the left neighbour's arrive. -/
theorem run4 (κ : GSem nD τ sig → ℕ) (c : Dev nD) (W : Waits sig Unit) (v8 v11 v34 v37 : BitVec 32) (Kt : (Σ' (_ : BitVec 32) (_ : BitVec 32) (_ : BitVec 1), BitVec 32) → sProp 𝕄) :
    iprop((recs P (pay X) So Sd κ ∗ uPts uS.view.set c (fullU X c)
        ∗ (∃ f, uPts uR.view.set (rt c) f) ∗ owes (c : Thread nD τ) (dues P J₃ c) W
        ∗ dutyTok ER (cell τ c sUs) 0 3 ∗ reached ER (cell τ c sUs) 0
        ∗ dutyTok ER (cell τ (rt c) sUr) 0 4 ∗ reached ER (cell τ (rt c) sUr) 0
        ∗ atPos ER (cell τ c sUs) 0 ∅ 0 ∗ cred (tallyAt (cell τ c sUr) () N) ∗ atPos ER (cell τ c sUr) 0 ∅ 0)
      ∗ (∀ x, (uPts uS.view.set c (fullU X c) ∗ atPos ER (cell τ c sUs) 1 ∅ 0
          ∗ uPts uR.view.set c (fullU X c) ∗ atPos ER (cell τ c sUr) 1 ∅ 0
          ∗ ∃ W, owes (c : Thread nD τ) 0 W) -∗ Kt x))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 c v8 v11 v34 v37) Kt := by
  simp only [k0_part4_eq_skeleton]
  unfold k0_part4_skel
  simp only [Prog.lift, Prog.bind_op, Prog.bind_ret, Prog.pure_eq_ret]
  iintro ⟨⟨#HR, Hu, Hun, HO, HtUs, #HrUs, HtUr, #HnUr, HatUs, HcUr, HatUr⟩, Hk⟩
  iapply (send_u X κ c _ (dev4_eq c) _) $$ [Hu Hun HO HtUs HtUr]
  · isplitr; · iexact HR
    isplitl [Hu]; · iexact Hu
    isplitl [Hun]; · iexact Hun
    isplitl [HO]; · iexact HO
    isplitl [HtUs]; · iexact HtUs
    isplitr; · iexact HrUs
    isplitl [HtUr]; · iexact HtUr
    iexact HnUr
  iintro ⟨HcUs, HO⟩
  iapply (Rounds.wp_wait_rest_token 𝒱₀ ER (Rd X) (c : Thread nD τ) none (κ := κ (cell τ c sUs))
      (wpE_waitDma2_eq 𝒱₀ (c : Thread nD τ) none Set.univ) (Set.mem_univ _) () (O := 0) (R := 0) (m := 0) (T := ∅)
      ((Nat.zero_add _).trans (by rw [expect_at, at_us]; rfl))) $$ [HcUs HO HatUs]
  · isplitr; · iapply (recs_inv P (pay X) So Sd κ (s := sUs) (by decide) c); iexact HR
    isplitl [HcUs]; · iexact HcUs
    isplitl [HO]; · iexact HO
    isplitr; · rw [MayWait_zero]; iempintro
    iexact HatUs
  iintro ⟨HO, HatUs, -, Hpay⟩
  ihave Hu0 := (Entails.of_eq ((rest_at P (pay X) c sUs 0).trans (by rw [at_us, bigSep_singleton]; rfl : _ = uPts uS.view.set c (fullU X c)))) $$ Hpay
  iapply (Rounds.wp_wait_rest_token 𝒱₀ ER (Rd X) (c : Thread nD τ) none (κ := κ (cell τ c sUr))
      (wpE_waitDma2_eq 𝒱₀ (c : Thread nD τ) none Set.univ) (Set.mem_univ _) () (O := 0) (R := 0) (m := 0) (T := ∅)
      ((Nat.zero_add _).trans (by rw [expect_at, at_ur]; rfl))) $$ [HcUr HO HatUr]
  · isplitr; · iapply (recs_inv P (pay X) So Sd κ (s := sUr) (by decide) c); iexact HR
    isplitl [HcUr]; · iexact HcUr
    isplitl [HO]; · iexact HO
    isplitr; · rw [MayWait_zero]; iempintro
    iexact HatUr
  iintro ⟨HO, HatUr, -, Hpay⟩
  ihave Hu1 := (Entails.of_eq ((rest_at P (pay X) c sUr 0).trans (by rw [at_ur, bigSep_singleton]; rfl : _ = uPts uR.view.set c (fullU X c)))) $$ Hpay
  rw [wp_ret]
  imodintro
  iapply Hk
  isplitl [Hu0]; · iexact Hu0
  isplitl [HatUs]; · iexact HatUs
  isplitl [Hu1]; · iexact Hu1
  isplitl [HatUr]; · iexact HatUr
  iexists _; iexact HO

/-- When every round is over, every counter is zero. -/
theorem closing (κ : GSem nD τ sig → ℕ) (c : Dev nD) :
    iprop(recs P (pay X) So Sd κ ∗ atPos ER (cell τ c sBar) 1 ∅ 0 ∗ atPos ER (cell τ c sUs) 1 ∅ 0 ∗ atPos ER (cell τ c sUr) 1 ∅ 0)
      ⊢ (|={Set.univ}=> (semVal (cell τ c sBar) 0 ∗ semVal (cell τ c sUs) 0 ∗ semVal (cell τ c sUr) 0) : sProp 𝕄) := by
  iintro ⟨#HR, HatB, HatUs, HatUr⟩
  imod (close_at P (pay X) c sBar (κ (cell τ c sBar)) 1 (fun _ _ => Nat.one_pos)) $$ [HatB] with Hv0
  · isplitr; · iapply (recs_inv P (pay X) So Sd κ (s := sBar) (by decide) c); iexact HR
    iexact HatB
  imod (close_at P (pay X) c sUs (κ (cell τ c sUs)) 1 (fun _ _ => Nat.one_pos)) $$ [HatUs] with Hv1
  · isplitr; · iapply (recs_inv P (pay X) So Sd κ (s := sUs) (by decide) c); iexact HR
    iexact HatUs
  imod (close_at P (pay X) c sUr (κ (cell τ c sUr)) 1 (fun _ _ => Nat.one_pos)) $$ [HatUr] with Hv2
  · isplitr; · iapply (recs_inv P (pay X) So Sd κ (s := sUr) (by decide) c); iexact HR
    iexact HatUr
  imodintro
  isplitl [Hv0]; · iexact Hv0
  isplitl [Hv1]; · iexact Hv1
  iexact Hv2

set_option maxHeartbeats 3200000 in
/-- The body of the kernel, run under the protocol. -/
theorem run (κ : GSem nD τ sig → ℕ) (c : Dev nD) (W : Waits sig Unit) (Kt : PUnit → sProp 𝕄) :
    iprop(runPre A X Y κ c W ∗ (runPost A X Y c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold runPre opened creds
  iintro ⟨⟨⟨#HR, HatB, ⟨HatUs, #HrUs⟩, ⟨HatUr, #HrUr⟩,
      HtB0, HtB1, HtB2, HtUs, HtUr⟩,
    ⟨HcB, HcUr⟩, #Hlev, HO, Ha, Hx, Hy, ⟨%fu, Hu⟩, ⟨%fd, Hd⟩, ⟨%fo, Ho⟩⟩, Hk⟩
  ihave Hu2 := (pointsTo_split_subset (Finset.subset_univ uR.view.set)).1 $$ Hu
  icases Hu2 with ⟨Hu1, Hu0⟩
  rw [rest_u]
  simp only [dev1_eq c, dev2_eq c, dev3_eq c]
  -- the three signals; the last hands the left neighbour the place that it may write
  rw [dues_0 c]
  iapply (Rounds.wp_signal 𝒱₀ ER (Rd X) (c : Thread nD τ) none (dst := (pr c : Thread nD τ)) (sem := barS) (r := 0) (d := 0) (κ := κ (cell τ (pr c) sBar))
      (due_mem P (pay X) 0 (pr c)) rfl () (dues P J₁ c) rfl) $$ [HO HtB0]
  · isplitr; · iapply (recs_inv P (pay X) So Sd κ (s := sBar) (by decide) (pr c)); iexact HR
    isplitl [HO]; · iexact HO
    isplitl [HtB0]; · iexact HtB0
    isplitr
    · rw [show (Rd X).payload (cell τ (pr c) sBar) 0 0 = iprop(emp) from rfl]
      iempintro
    iapply (recs_reached P (pay X) So Sd κ (s := sBar) (by decide) (pr c)); iexact HR
  iintro HO
  rw [dues_1 c]
  iapply (Rounds.wp_signal 𝒱₀ ER (Rd X) (c : Thread nD τ) none (dst := (rt c : Thread nD τ)) (sem := barS) (r := 0) (d := 1) (κ := κ (cell τ (rt c) sBar))
      (due_mem P (pay X) 1 (rt c)) rfl () (dues P J₂ c) rfl) $$ [HO HtB1]
  · isplitr; · iapply (recs_inv P (pay X) So Sd κ (s := sBar) (by decide) (rt c)); iexact HR
    isplitl [HO]; · iexact HO
    isplitl [HtB1]; · iexact HtB1
    isplitr
    · rw [show (Rd X).payload (cell τ (rt c) sBar) 0 1 = iprop(emp) from rfl]
      iempintro
    iapply (recs_reached P (pay X) So Sd κ (s := sBar) (by decide) (rt c)); iexact HR
  iintro HO
  rw [dues_2 c]
  iapply (Rounds.wp_signal 𝒱₀ ER (Rd X) (c : Thread nD τ) none (dst := (lf c : Thread nD τ)) (sem := barS) (r := 0) (d := 2) (κ := κ (cell τ (lf c) sBar))
      (due_mem P (pay X) 2 (lf c)) rfl () (dues P J₃ c) rfl) $$ [HO HtB2 Hu1]
  · isplitr; · iapply (recs_inv P (pay X) So Sd κ (s := sBar) (by decide) (lf c)); iexact HR
    isplitl [HO]; · iexact HO
    isplitl [HtB2]; · iexact HtB2
    isplitl [Hu1]
    · rw [show (Rd X).payload (cell τ (lf c) sBar) 0 2 = payRight (lf c) from rfl]
      unfold payRight
      rw [rt_lf]
      isplitl [Hu1]; · iexists fu; iexact Hu1
      iexact HrUr
    iapply (recs_reached P (pay X) So Sd κ (s := sBar) (by decide) (lf c)); iexact HR
  iintro HO
  -- the wait for theirs
  iapply (Rounds.wp_wait_rest_token 𝒱₀ ER (Rd X) (c : Thread nD τ) none (κ := κ (cell τ c sBar))
      (wpE_semWait_eq 𝒱₀ (c : Thread nD τ) none Set.univ) (Set.mem_univ _) () (O := dues P J₃ c) (R := 0) (m := 0) (T := ∅)
      ((Nat.zero_add _).trans (by rw [expect_at, at_bar]; rfl))) $$ [HcB HO HatB]
  · isplitr; · iapply (recs_inv P (pay X) So Sd κ (s := sBar) (by decide) c); iexact HR
    isplitl [HcB]; · iexact HcB
    isplitl [HO]; · iexact HO
    isplitr; · iapply (mayWait P rk c sBar J₃ (by decide)); iexact Hlev
    iexact HatB
  iintro ⟨HO, HatB, -, Hpay⟩
  ihave Hp := (Entails.of_eq ((rest_at P (pay X) c sBar 0).trans (by rw [at_bar, over_bar]; rfl : _ = iprop(emp ∗ emp ∗ payRight c)))) $$ Hpay
  unfold payRight
  icases Hp with ⟨-, -, ⟨Hun, #HnUr⟩⟩
  -- the state of the loop is loaded
  iapply (wp_load 𝒱₀ (c : Thread nD τ) none Set.univ (m := aM) (S := Finset.univ) (Finset.subset_univ _)) $$ Ha
  iintro Ha
  rw [read_a]
  iapply (wp_load 𝒱₀ (c : Thread nD τ) none Set.univ (m := oM) (S := Finset.univ) (Finset.subset_univ _)) $$ Ho
  iintro Ho
  iapply (wp_store 𝒱₀ (c : Thread nD τ) none Set.univ (m := oM) (r := oZ) (Mk := Finset.univ) (Finset.subset_univ _)) $$ Ho
  iintro Ho
  iapply (wp_load 𝒱₀ (c : Thread nD τ) none Set.univ (m := xM) (S := Finset.univ) (Finset.subset_univ _)) $$ Hx
  iintro Hx
  rw [read_x]
  iapply (wp_load_rect 𝒱₀ (c : Thread nD τ) none Set.univ (m := uM) (r := RS) (by rw [← View.setOn_univ]; exact access_uS)) $$ Hu0
  iintro Hu0
  iapply (wp_store 𝒱₀ (c : Thread nD τ) none Set.univ (m := uM) (r := RS) (Mk := Finset.univ) access_uS) $$ Hu0
  iintro Hu0
  iapply (wp_load 𝒱₀ (c : Thread nD τ) none Set.univ (m := yM) (S := Finset.univ) (Finset.subset_univ _)) $$ Hy
  iintro Hy
  rw [read_y]
  iapply (wp_load_rect 𝒱₀ (c : Thread nD τ) none Set.univ (m := dM) (r := RS) (Finset.subset_univ _)) $$ Hd
  iintro Hd
  iapply (wp_store 𝒱₀ (c : Thread nD τ) none Set.univ (m := dM) (r := RS) (Mk := Finset.univ) (Finset.subset_univ _)) $$ Hd
  iintro Hd
  ihave Hu0 := (Entails.of_eq (pointsTo_congr fun i hi => stored_u X c fu i (by rw [← set_uS]; exact hi))) $$ Hu0
  rw [wp_bind]
  iapply (run4 X κ c _ _ _ _ _ _) $$ [-]
  isplitl [Hu0 Hun HO HtUs HtUr HatUs HcUr HatUr]
  · isplitr; · iexact HR
    isplitl [Hu0]; · iexact Hu0
    isplitl [Hun]; · iexact Hun
    isplitl [HO]; · iexact HO
    isplitl [HtUs]; · iexact HtUs
    isplitr; · iexact HrUs
    isplitl [HtUr]; · iexact HtUr
    isplitr; · iexact HnUr
    isplitl [HatUs]; · iexact HatUs
    isplitl [HcUr]; · iexact HcUr
    iexact HatUr
  iintro %x4 ⟨Hu0, HatUs, Hu1, HatUr, %W4, HO⟩
  obtain ⟨x40, x41, x42, x43⟩ := x4
  simp only [Prog.lift, Prog.bind_op, Prog.bind_ret, Prog.pure_eq_ret]
  iapply (wp_load_rect 𝒱₀ (c : Thread nD τ) none Set.univ (m := uM) (r := RR) (by rw [← View.setOn_univ]; exact access_uR)) $$ Hu1
  iintro Hu1
  iapply (wp_load_rect 𝒱₀ (c : Thread nD τ) none Set.univ (m := oM) (r := oR1 c) (Finset.subset_univ _)) $$ Ho
  iintro Ho
  iapply (wp_store 𝒱₀ (c : Thread nD τ) none Set.univ (m := oM) (r := oR1 c) (Mk := Finset.univ) (Finset.subset_univ _)) $$ Ho
  iintro Ho
  rw [stored_eq A X c fo]
  -- every counter comes back at zero
  rw [wp_ret]
  imod (closing X κ c) $$ [HatB HatUs HatUr] with ⟨Hv0, Hv1, Hv2⟩
  · isplitr; · iexact HR
    isplitl [HatB]; · iexact HatB
    isplitl [HatUs]; · iexact HatUs
    iexact HatUr
  imodintro
  iapply Hk
  unfold runPost
  isplitl [Hv0 Hv1 Hv2]
  · isplitl [Hv0]; · iexact Hv0
    isplitl [Hv1]; · iexact Hv1
    iexact Hv2
  isplitl [HO]; · iexists _; iexact HO
  isplitl [Ha]; · iexact Ha
  isplitl [Hx]; · iexact Hx
  isplitl [Hy]; · iexact Hy
  isplitl [Hu0 Hu1]
  · iexists (fullU X c)
    iapply (joined_u c (fullU X c))
    rw [rest_u]
    isplitl [Hu1]; · iexact Hu1
    iexact Hu0
  isplitl [Hd]; · iexists _; iexact Hd
  iexact Ho

end Cert.FourthIdeal.Hop

end
-- ==== Proof.FourthRegion.lean ====
module

public import proofs.«01_k».proof.Proof.FourthTalk
public import Idealize.ShloMosaic.Lib.Pipeline.Frame
public import Idealize.ShloMosaic.Lib.Pipeline.ValueKit

/-! The ring's fourth hop as a program: the body in the pipeline, and the region. -/

@[expose] public section

noncomputable section

namespace Cert.FourthIdeal.Hop

open Cert.FourthIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Cert.CombineIdeal.Comb (pr rt lf)

variable {F : FTy → Type} [FloatOps F]

local notation "𝕄" => MT nD τ sig Unit (Elt F) ℕ (UU nD τ sig 5) ℕ

variable (m : (ℓ : Loc nD τ sig) → Buf (Elt F) ℓ) (ρ : Dev nD → PrngReg)

/-! ## What the region carries -/

/-- A device's rows so far, and those going right and left, as the pipeline stages them. -/
def As (c : Dev nD) : OT F := ((cfg0.win 0).blk t0_0).view.read (Elt F) (m ((c : Thread nD τ).loc main_arg0))
def Xs (c : Dev nD) : BT F := ((cfg0.win 1).blk t0_0).view.read (Elt F) (m ((c : Thread nD τ).loc main_arg1))
def Ys (c : Dev nD) : BT F := ((cfg0.win 2).blk t0_0).view.read (Elt F) (m ((c : Thread nD τ).loc main_arg2))

abbrev osem : Fin 11 → SemLoc sig := ![sUs, sUr, z0, z1, z2, z3, z4, z5, z6, z7, z8]

def idleZero (c : Dev nD) : sProp 𝕄 :=
  iprop(semVal (cell τ c z0) 0 ∗ semVal (cell τ c z1) 0 ∗ semVal (cell τ c z2) 0 ∗ semVal (cell τ c z3) 0
    ∗ semVal (cell τ c z4) 0 ∗ semVal (cell τ c z5) 0 ∗ semVal (cell τ c z6) 0 ∗ semVal (cell τ c z7) 0 ∗ semVal (cell τ c z8) 0)
/-- What enters the kernel with its buffers, and what leaves it. -/
def Xk (c : Dev nD) : sProp 𝕄 := iprop((∃ κ, opened (Xs m) κ c) ∗ creds c ∗ levAts L (lv rk) ∗ idleZero c)
def Yk (c : Dev nD) : sProp 𝕄 := semVal (cell τ c sBar) 0
def dmaZero (c : Dev nD) : sProp 𝕄 :=
  iprop(semVal (cell τ c sUs) 0 ∗ semVal (cell τ c sUr) 0)

/-- A buffer whole at some contents. -/
abbrev any (c : Dev nD) (b : Ref sig .tc) : sProp 𝕄 :=
  iprop(∃ f : Buf (Elt F) ((c : Thread nD τ).loc b), ((c : Thread nD τ).loc b) ↦{fullShare} f)
def bufs (c : Dev nD) : sProp 𝕄 := iprop(any c cc0_scratch0 ∗ any c cc0_scratch1 ∗ any c cc0_scratch2 ∗ any c cc0_scratch3)

def dat (c : Dev nD) : Dat τ (Elt F) Unit ℕ (UU nD τ sig 5) ℕ cfg0 c where
  A w := m ((cfg0.win w).arr.view.loc (c : Thread nD τ))
  after w _ := match w with
    | ⟨0, _⟩ => As m c
    | ⟨1, _⟩ => Xs m c
    | ⟨2, _⟩ => Ys m c
    | ⟨3, _⟩ => result (As m) (Xs m) c
  Φ t := match t with
    | ⟨0, _⟩ => iprop(Xk m c ∗ (∃ r, prngReg c r) ∗ bufs c)
    | ⟨_ + 1, _⟩ => iprop(Yk c ∗ (dmaZero c ∗ idleZero c) ∗ (∃ r, prngReg c r) ∗ bufs c)
  q _ := fullShare
  owed t := if t.val = 0 then dues P J₀ c else 0

abbrev adm : (p : Fin 1) → (pcfgs (F := F) p).Adm := fun p => (cfgs p).toPCfg_adm
def pdats (p : Fin 1) (c : Dev nD) : Dat τ (Elt F) Unit ℕ (UU nD τ sig 5) ℕ (Pipeline.pin (pcfgs (F := F)) adm p) c :=
  match p with
  | 0 => dat m c

/-! ## The body -/

theorem owed_first (c : Dev nD) : (dat m c).owed t0_0.castSucc = dues P J₀ c := by
  show (if t0_0.castSucc.val = 0 then dues P J₀ c else 0) = _; exact if_pos rfl
theorem owed_last (c : Dev nD) : (dat m c).owed t0_0.succ = 0 := by
  show (if t0_0.succ.val = 0 then dues P J₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Z : b.ty.Contents (Elt F)) :
    (owns (Ix := Unit) (Name := ℕ) (U := UU nD τ sig 5) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop((Xk m c ∗ (∃ r, prngReg c r) ∗ bufs c) ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((Yk c ∗ (dmaZero c ∗ idleZero c) ∗ (∃ r, prngReg c r) ∗ bufs c) ∗ (dat m c).owesAt () t0_0.succ
    ∗ stg c cc0_stg0_0 (As m c) ∗ stg c cc0_stg1_0 (Xs m c) ∗ stg c cc0_stg2_0 (Ys m c)
    ∗ stg c cc0_stg3_0 (result (As m) (Xs m) c))

theorem sound_body (c : Dev nD) :
    bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c) := by
  unfold bodyPre Xk bufs
  iintro ⟨⟨⟨⟨%κ, Hop⟩, Hcr, #Hlev, Hz⟩, Hp, Hw, Hr, ⟨%u, Hu⟩, ⟨%d, Hd⟩⟩, HO, ⟨%d0, %g0, %hg0, Ha⟩, ⟨%d1, %g1, %hg1, Hx⟩,
    ⟨%d2, %g2, %hg2, Hy⟩, ⟨%d3, %g3, -, Ho⟩⟩
  have ha : g0 = As m c := by rw [hg0]; unfold Dat.before; rw [if_pos (fetch0_0 t0_0)]; rfl
  have hx : g1 = Xs m c := by rw [hg1]; unfold Dat.before; rw [if_pos (fetch0_1 t0_0)]; rfl
  have hy : g2 = Ys m c := by rw [hg2]; unfold Dat.before; rw [if_pos (fetch0_2 t0_0)]; rfl
  subst ha hx hy
  ihave HO' := (owesAt_elim m c _ _ (owed_first m c)) $$ HO
  icases HO' with ⟨%W, HO⟩
  iapply (run (As m) (Xs m) (Ys m) κ c W (fun _ => bodyPost m c))
  isplitl [Hop Hcr HO Ha Hx Hy Hu Hd Ho]
  · unfold runPre
    isplitl [Hop]; · iexact Hop
    isplitl [Hcr]; · iexact Hcr
    isplitr; · iexact Hlev
    isplitl [HO]; · iexact HO
    isplitl [Ha]; · iexact Ha
    isplitl [Hx]; · iexact Hx
    isplitl [Hy]; · iexact Hy
    isplitl [Hu]; · iexists u; iexact Hu
    isplitl [Hd]; · iexists d; iexact Hd
    iexists g3; iexact Ho
  unfold runPost bodyPost
  iintro ⟨⟨Hv0, Hv1, Hv2⟩, ⟨%W', HO⟩, Ha, Hx, Hy, ⟨%u1, Hu⟩, ⟨%d1, Hd⟩, Ho⟩
  isplitr [HO Ha Hx Hy Ho]
  · isplitl [Hv0]; · unfold Yk; iexact Hv0
    isplitl [Hv1 Hv2 Hz]
    · isplitr [Hz]
      · unfold dmaZero
        isplitl [Hv1]; · iexact Hv1
        iexact Hv2
      iexact Hz
    isplitl [Hp]; · iexact Hp
    unfold bufs
    isplitl [Hw]; · iexact Hw
    isplitl [Hr]; · iexact Hr
    isplitl [Hu]; · iexists u1; iexact Hu
    iexists d1; iexact Hd
  isplitl [HO]; · iapply (owesAt_intro m c t0_0.succ 0 (owed_last m c) W'); iexact HO
  isplitl [Ha]
  · iexists (As m c); isplitr; · ipureintro; rfl
    iexact Ha
  isplitl [Hx]
  · iexists (Xs m c); isplitr; · ipureintro; rfl
    iexact Hx
  isplitl [Hy]
  · iexists (Ys m c); isplitr; · ipureintro; rfl
    iexact Hy
  iexists (result (As m) (Xs m) c); isplitr; · ipureintro; rfl
  iexact Ho

theorem body_obligation (c : Dev nD) : BodyObligation (dat (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10) (fun _ => bodyPost m c)
  exact sound_body m c

/-! ## The region -/

abbrev V₀ (c : Dev nD) : Valuation τ sig (Elt F) := fun b => m ((c : Dev nD), b)
/-- The buffers after the call. -/
def V₁ (c : Dev nD) : Valuation τ sig (Elt F) :=
  Function.update (V₀ m c) (Proc.devRef .tc main_v1) ((dat m c).arrAt 3 cfg0.N)

theorem V₁_of_ne (c : Dev nD) {b : DevRef τ sig} (h : b ≠ Proc.devRef .tc main_v1) : V₁ m c b = V₀ m c b := by
  unfold V₁; rw [Function.update_of_ne h]
theorem V₁_arg0 (c : Dev nD) : V₁ m c (Proc.devRef .tc main_arg0) = m ((c : Thread nD τ).loc main_arg0) := V₁_of_ne m c (by decide)
theorem V₁_arg1 (c : Dev nD) : V₁ m c (Proc.devRef .tc main_arg1) = m ((c : Thread nD τ).loc main_arg1) := V₁_of_ne m c (by decide)
theorem V₁_arg2 (c : Dev nD) : V₁ m c (Proc.devRef .tc main_arg2) = m ((c : Thread nD τ).loc main_arg2) := V₁_of_ne m c (by decide)
theorem V₁_out (c : Dev nD) : V₁ m c (Proc.devRef .tc main_v1) = (dat m c).arrAt 3 cfg0.N := by
  unfold V₁; rw [Function.update_self]

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem ownSems_eq (c : Dev nD) : (Pipeline.ownSems0 osem c : sProp 𝕄) ⊣⊢ iprop(dmaZero c ∗ idleZero c) := by
  rw [show (Pipeline.ownSems0 osem c : sProp 𝕄) = _ from bigSep_fin11 (fun k : Fin 11 => (semVal ((c : Thread nD τ), osem k) 0 : sProp 𝕄))]
  unfold dmaZero idleZero
  constructor
  · iintro ⟨H0, H1, H⟩
    isplitl [H0 H1]
    · isplitl [H0]; · iexact H0
      iexact H1
    iexact H
  · iintro ⟨⟨H0, H1⟩, H⟩
    isplitl [H0]; · iexact H0
    isplitl [H1]; · iexact H1
    iexact H

theorem overSd (Φ : SemLoc sig → sProp 𝕄) : bigSep Sd Φ = iprop(Φ sUs ∗ Φ sUr) := by
  unfold Sd
  rw [bigSep_insert (by decide), bigSep_singleton]; rfl
theorem overSo (Φ : SemLoc sig → sProp 𝕄) : bigSep So Φ = Φ sBar := by unfold So; rw [bigSep_singleton]
theorem overJ (Φ : Fin 5 → sProp 𝕄) : bigSep J₀ Φ = iprop(Φ 0 ∗ Φ 1 ∗ Φ 2 ∗ Φ 4) := by
  unfold J₀
  rw [bigSep_insert (by decide), bigSep_insert (by decide), bigSep_insert (by decide), bigSep_singleton]; rfl

/-- What a device carries from the launch to the kernel. -/
def Tk (c : Dev nD) : sProp 𝕄 := iprop((∃ κ, □ recs P (pay (Xs m)) So Sd κ ∗ mine P So Sd c) ∗ creds c)

theorem hopen (c : Dev nD) : iprop(Tk m c ∗ Pipeline.ownSems0 osem c ∗ levAts L (lv rk)) ⊢ (|={Set.univ}=> Xk m c : sProp 𝕄) := by
  refine (sep_mono .rfl (sep_mono (ownSems_eq c).1 .rfl)).trans ?_
  unfold Tk Xk mine dmaZero
  rw [overSd, overSo, bigSep_fin5]
  iintro ⟨⟨⟨%κ, #HR, HatB, ⟨Ho1, Ho2⟩, Ht⟩, Hcr⟩, ⟨⟨Hv1, Hv2⟩, Hz⟩, #Hlev⟩
  imod (Rounds.cell_open ER (Rd (Xs m)) (g := cell τ c sUs) (Set.mem_univ (κ (cell τ c sUs)))) $$ [Ho1 Hv1] with ⟨Hat1, #Hr1⟩
  · isplitr; · iapply (recs_inv P (pay (Xs m)) So Sd κ (s := sUs) (by decide) c); iexact HR
    isplitl [Ho1] <;> iassumption
  imod (Rounds.cell_open ER (Rd (Xs m)) (g := cell τ c sUr) (Set.mem_univ (κ (cell τ c sUr)))) $$ [Ho2 Hv2] with ⟨Hat2, #Hr2⟩
  · isplitr; · iapply (recs_inv P (pay (Xs m)) So Sd κ (s := sUr) (by decide) c); iexact HR
    isplitl [Ho2] <;> iassumption
  imodintro
  isplitr [Hcr Hz]
  · iexists κ
    unfold opened
    isplitr; · iexact HR
    isplitl [HatB]; · iexact HatB
    isplitl [Hat1]; · isplitl [Hat1]; · iexact Hat1
                      iexact Hr1
    isplitl [Hat2]; · isplitl [Hat2]; · iexact Hat2
                      iexact Hr2
    iexact Ht
  isplitl [Hcr]; · iexact Hcr
  isplitr; · iexact Hlev
  iexact Hz

theorem held_none (c : Dev nD) (W : Valuation τ sig (Elt F)) : (StableHlo.held (c.tc : Thread nD τ) ∅ W : sProp 𝕄) = BI.emp := by
  unfold StableHlo.held; exact BI.bigSep_empty

theorem rest_eq (c : Dev nD) : (Pipeline.scopedRest (Pipeline.pin (pcfgs (F := F)) adm 0).spec c : sProp 𝕄) = bufs c := scopedRest0_eq c

theorem hin (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = iprop(Xk m c ∗ (∃ r, prngReg c r) ∗ bufs c) from rfl, rest_eq]
  iintro ⟨Hb, Hp, -, HX⟩
  isplitl [HX]; · iexact HX
  isplitl [Hp]; · iexact Hp
  iexact Hb

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last (Pipeline.pin (pcfgs (F := F)) adm 0).N)
      = iprop(Yk c ∗ (dmaZero c ∗ idleZero c) ∗ (∃ r, prngReg c r) ∗ bufs c) from rfl, rest_eq, held_none]
  iintro ⟨HY, Hs, Hp, Hb⟩
  isplitl [Hb]; · iexact Hb
  isplitl [Hp]; · iexact Hp
  isplitr; · iempintro
  isplitl [Hs]; · iapply (ownSems_eq c).2; iexact Hs
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rk_pos (j : Fin 5) (h : j ∈ J₀) : 0 < rk (P.sm j) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv rk g i := by
  have e : (pdats (F := F) m 0 c).owed t = if t.val = 0 then dues P J₀ c else 0 := rfl
  rw [e] at h
  split at h
  · obtain ⟨j, hj, rfl⟩ := dues_pos P h
    exact ⟨by rw [L_cell]; exact Finset.mem_singleton_self _, rk_pos j hj⟩
  · exact absurd h (Nat.lt_irrefl 0)

theorem cut_in (c : Dev nD) (w : Fin 4) (s : Fin (spec0 w).nbuf) : rk (SemLoc.dma ((spec0 w).sem s)) ≤ 0 := by
  revert s; revert w; decide

theorem share_full (c : Dev nD) (w : Fin 4) : (dat m c).share w = fullShare := by
  unfold Dat.share; split <;> rfl

theorem arr_first (c : Dev nD) (w : Fin 4) : (dat m c).arrAt w 0 = V₀ m c (Proc.devRef .tc (Pipeline.arrRef spec0 w)) := by
  fin_cases w <;> rfl
theorem arr_last (c : Dev nD) (w : Fin 4) : (dat m c).arrAt w cfg0.N = V₁ m c (Proc.devRef .tc (Pipeline.arrRef spec0 w)) := by
  match w with
  | 0 => exact ((dat m c).arrAt_in 0 rfl _).trans (V₁_arg0 m c).symm
  | 1 => exact ((dat m c).arrAt_in 1 rfl _).trans (V₁_arg1 m c).symm
  | 2 => exact ((dat m c).arrAt_in 2 rfl _).trans (V₁_arg2 m c).symm
  | 3 => exact (V₁_out m c).symm

set_option backward.isDefEq.respectTransparency.types false in
def reg : Pipeline.RegionSeg (pcfgs (F := F)) adm (pdats m) () defs₀ 𝒱₀ L (lv rk) 0 :=
  Pipeline.RegionSeg.ofTalk (pcfgs (F := F)) adm (pdats m) () defs₀ 𝒱₀ L (lv rk) 0 osem (by decide : Pipeline.OwnSemFacts spec0 osem)
    ∅ ∅ (Finset.Subset.refl _) kitP rfl (fun c => (body_obligation m c).loose)
    (fun _ => 0) (fun c => dues P J₀ c) (fun c => (owed_first m c).trans (zero_add _).symm) (owed_last m) (fun _ => rfl) (share_full m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_cell]; exact Finset.mem_singleton_self _, fun c w s => cut_in c w s, fun c t g i h => cutD m c t g i h⟩
    (fun _ => iprop(emp))
    (fun c w => arr_first m c w) (fun c w => arr_last m c w)

end Cert.FourthIdeal.Hop

end
-- ==== Proof.FourthRun.lean ====
module

public import proofs.«01_k».proof.Proof.FourthRegion
public import Idealize.ShloMosaic.Lib.Quiescent
public import Idealize.ShloMosaic.Adequacy
public import Idealize.ShloMosaic.Harness.Basic
public import Idealize.ShloMosaic.Init

/-! The launch of the ring's fourth hop on all sixteen devices, and what every run of it leaves. -/

@[expose] public section

noncomputable section

namespace Cert.FourthIdeal.Hop

open Cert.FourthIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Talk
open Idealize.ShloMosaic.Smoke (bigSep_pair bigSep_unpair)

variable {F : FTy → Type} [FloatOps F]

local notation "𝕄" => MT nD τ sig Unit (Elt F) ℕ (UU nD τ sig 5) ℕ

variable (m : (ℓ : Loc nD τ sig) → Buf (Elt F) ℓ) (ρ : Dev nD → PrngReg)

abbrev arrs : Finset (DevRef τ sig) := Pipeline.arrRefs (τ := τ) spec0

theorem arrs_uc : Pipeline.ucRefs τ sig = arrs := by decide

theorem held_arrs (c : Dev nD) (W : Valuation τ sig (Elt F)) :
    (StableHlo.held (c.tc : Thread nD τ) arrs W : sProp 𝕄)
      = iprop((((c : Thread nD τ).loc main_arg0) ↦{fullShare} W (Proc.devRef .tc main_arg0))
        ∗ (((c : Thread nD τ).loc main_arg1) ↦{fullShare} W (Proc.devRef .tc main_arg1))
        ∗ (((c : Thread nD τ).loc main_arg2) ↦{fullShare} W (Proc.devRef .tc main_arg2))
        ∗ (((c : Thread nD τ).loc main_v1) ↦{fullShare} W (Proc.devRef .tc main_v1))) := by
  unfold StableHlo.held arrs Pipeline.arrRefs
  rw [bigSep_map, show (Finset.univ.image (Pipeline.arrRef spec0) : Finset (Ref sig .tc))
      = Finset.univ.map ⟨Pipeline.arrRef spec0, winFacts0.arr_inj⟩ from (Finset.map_eq_image ⟨Pipeline.arrRef spec0, winFacts0.arr_inj⟩ Finset.univ).symm,
    bigSep_map, bigSep_W0]
  rfl

theorem unscopedSems_eq (c : Dev nD) : (unscopedSems0 c : sProp 𝕄) = semVal (cell τ c sBar) 0 := by
  unfold unscopedSems0
  rw [show (Finset.univ.filter fun sm : SemLoc sig => ¬ sm.isScoped .tc) = {sBar} from by decide, BI.bigSep_singleton]

/-- Ghost state of the whole machine, dealt at the first device. -/
def G (c : Dev nD) : sProp 𝕄 := if c = 0 then BI.own (ER (elt P So Sd τ)) else iprop(emp)

theorem G_all : bigSep Finset.univ (G (F := F)) = BI.own (ER (elt P So Sd τ)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

def u₀ : UU nD τ sig 5 :=
  (initOf (Pipeline.cells (Pipeline.pin (pcfgs (F := F)) adm) cellOf_inj) (Pipeline.launchToks (Pipeline.pin (pcfgs (F := F)) adm) cellOf_inj), elt P So Sd τ)

/-- What a device holds when the program starts, and when it ends. -/
def T₀ (c : Dev nD) : sProp 𝕄 :=
  iprop(StableHlo.held (c.tc : Thread nD τ) arrs (V₀ m c) ∗ (∃ r, prngReg c r)
    ∗ (StableHlo.held (c.tc : Thread nD τ) ∅ (V₀ m c) ∗ emp) ∗ Tk m c ∗ ∃ Wd, owes (c : Thread nD τ) (0 + dues P J₀ c) Wd)
def Tₙ (c : Dev nD) : sProp 𝕄 := iprop(StableHlo.held (c.tc : Thread nD τ) arrs (V₁ m c) ∗ semVal (cell τ c sBar) 0)

def bundle (c : Dev nD) : sProp 𝕄 :=
  iprop(StableHlo.held (c.tc : Thread nD τ) arrs (V₀ m c) ∗ (∃ r, prngReg c r) ∗ creds c ∗ owes (c : Thread nD τ) (dues P J₀ c) ∅)

theorem T₀_intro (κ : GSem nD τ sig → ℕ) (c : Dev nD) :
    iprop((□ recs P (pay (Xs m)) So Sd κ) ∗ (mine P So Sd c ∗ bundle m c)) ⊢ T₀ m c := by
  unfold bundle T₀ Tk
  rw [held_none, zero_add]
  iintro ⟨#HR, Hl, Hh, Hp, Hc, HO⟩
  isplitl [Hh]; · iexact Hh
  isplitl [Hp]; · iexact Hp
  isplitr; · isplitr <;> iempintro
  isplitr [HO]
  · isplitl [Hl]
    · iexists κ
      isplitr; · iexact HR
      iexact Hl
    iexact Hc
  iexists ∅; iexact HO

/-- Three units of the barrier's credit. -/
theorem cred_three (c : Dev nD) :
    iprop(cred (tallyAt (cell τ c sBar) () 1) ∗ cred (tallyAt (cell τ c sBar) () 1) ∗ cred (tallyAt (cell τ c sBar) () 1))
      ⊢ (cred (tallyAt (cell τ c sBar) () 3) : sProp 𝕄) := by
  refine (sep_mono .rfl (cred_add _ _).2).trans ((cred_add _ _).2.trans ?_)
  rw [tallyAt_add, tallyAt_add]

theorem init :
    iprop((bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c)) ∗ levAts L (lv rk))
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dues P J₀ c) ∅ ∗ Pipeline.launchCred (fun c => dues P J₀ c) c ∗ prngReg c (ρ c) ∗ G c)
      ⊢ (iprop(bundle m c ∗ ((bigSep So fun s => semVal (cell τ c s) 0) ∗ G c)) : sProp 𝕄) := by
    rw [show (unscopedBufs c (fun b => m ((c : Thread nD τ).loc b)) : sProp 𝕄) = StableHlo.held (c.tc : Thread nD τ) arrs (V₀ m c) from
        (Pipeline.unscopedBufs_held c (V₀ m c)).trans (by rw [arrs_uc]),
      unscopedSems_eq, overSo]
    unfold bundle
    iintro ⟨Hh, Hus, HO, Hcr, Hp, HG⟩
    ihave Hc := (launchCred_dues P J₀ c) $$ Hcr
    isplitl [Hh HO Hp Hc]
    · isplitl [Hh]; · iexact Hh
      isplitl [Hp]; · iexists (ρ c); iexact Hp
      isplitl [Hc]
      · ihave Hd := (Entails.of_eq (overJ (F := F) fun j => cred (tallyAt (cell τ c (P.sm j)) () (P.am j)))) $$ Hc
        icases Hd with ⟨H0, H1, H2, H3⟩
        unfold creds
        isplitl [H0 H1 H2]
        · iapply (cred_three (F := F) c)
          isplitl [H0]; · iexact H0
          isplitl [H1]; · iexact H1
          iexact H2
        iexact H3
      iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (dues P J₀ c) ∅ ∗ Pipeline.launchCred (fun c => dues P J₀ c) c ∗ prngReg c (ρ c) ∗ G c))
      ⊢ (bigSep Finset.univ fun c : Dev nD => iprop(bundle m c ∗ ((bigSep So fun s => semVal (cell τ c s) 0) ∗ G c)) : sProp 𝕄)
      from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Talk.deal P (pay (Xs m)) So Sd (fun j c => pay_storable (Xs m) j c) (by decide)) $$ [Hv Hu] with ⟨%κ, #HR, Hm⟩
  · isplitl [Hv] <;> iassumption
  imodintro
  iapply (bigSep_with_persistent (R := iprop(□ recs P (pay (Xs m)) So Sd κ)) (Φ := fun c => iprop(mine P So Sd c ∗ bundle m c))
    fun c _ => T₀_intro m κ c)
  isplitr; · iexact HR
  iapply bigSep_pair
  isplitl [Hm] <;> iassumption

theorem unscoped_bar : ∀ sm : SemLoc sig, sm.isScoped .tc = false → sm = sBar := by decide

set_option backward.isDefEq.respectTransparency.types false in
/-- Every run ends; each device keeps what it was given, its result is what the pipeline writes back, and every counter
    is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v1) = (dat m c).arrAt 3 cfg0.N) ∧ r.2.sem = fun _ => 0) :=
  Pipeline.θ_run_regions_kit_sems (pcfgs (F := F)) adm (pdats m) () cellOf_inj EP defs₀ 𝒱₀ L (lv rk) m ρ main [.region (reg m)]
    (fun c Q => by rw [main_segs adm (pdats m) () 𝒱₀ L (lv rk) (reg m) c])
    (by simp only [Pipeline.Seg.pipes_region, Pipeline.Seg.pipes_nil]; decide)
    (O₀ := fun c => dues P J₀ c) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => ?_⟩
      show iprop(StableHlo.held (c.tc : Thread nD τ) arrs (V₁ m c) ∗ (∃ r, prngReg c r)
          ∗ (StableHlo.held (c.tc : Thread nD τ) ∅ (V₁ m c) ∗ emp) ∗ Yk c ∗ ∃ Wd, owes (c : Thread nD τ) (0 : CellTallies nD τ sig Unit) Wd)
        ⊢ iprop(Tₙ m c ∗ ∃ W, owes (c : Thread nD τ) (0 : CellTallies nD τ sig Unit) W)
      unfold Yk Tₙ
      iintro ⟨Hh, -, -, Hb, HO⟩
      isplitr [HO]
      · isplitl [Hh] <;> iassumption
      · iexact HO)
    (hinit := init m ρ)
    (QY := fun c s => (s.mem ((c : Thread nD τ).loc main_arg0) = V₁ m c (Proc.devRef .tc main_arg0)
        ∧ s.mem ((c : Thread nD τ).loc main_arg1) = V₁ m c (Proc.devRef .tc main_arg1)
        ∧ s.mem ((c : Thread nD τ).loc main_arg2) = V₁ m c (Proc.devRef .tc main_arg2)
        ∧ s.mem ((c : Thread nD τ).loc main_v1) = V₁ m c (Proc.devRef .tc main_v1))
      ∧ s.sem (cell τ c sBar) = 0)
    (hfin := fun c s' => by
      dsimp only [Tₙ]; rw [held_arrs]
      iintro ⟨⟨⟨Ha, Hx, Hy, Ho⟩, Hb0⟩, HSI⟩
      icombine HSI Ha gives %ha
      icombine HSI Hx gives %hx
      icombine HSI Hy gives %hy
      icombine HSI Ho gives %ho
      icombine HSI Hb0 gives %hb
      imodintro
      isplitr
      · ipureintro
        exact ⟨⟨Buf.eq_of_forall_mem_univ ha, Buf.eq_of_forall_mem_univ hx, Buf.eq_of_forall_mem_univ hy, Buf.eq_of_forall_mem_univ ho⟩,
          by simpa using hb⟩
      iexact HSI)
    (hQ := fun s h hs => ⟨fun c => by
        obtain ⟨⟨ha, hx, hy, ho⟩, -⟩ := h c
        exact ⟨ha.trans (V₁_arg0 m c), hx.trans (V₁_arg1 m c), hy.trans (V₁_arg2 m c), ho.trans (V₁_out m c)⟩,
      sem_eq_zero hs fun c sm hsm => by
        obtain rfl := unscoped_bar sm hsm
        exact (h c).2⟩)

/-! ## The arguments and the result as arrays -/

theorem As_eq (c : Dev nD) : As m c = m ((c : Thread nD τ).loc main_arg0) := by
  funext i
  unfold As
  blk_simp
  exact congrArg (m ((c : Thread nD τ).loc main_arg0)) (funext fun a => Fin.ext (Pipeline.Window.rect_emb_val_of_index_zero (cfg0.win 0) t0_0 a (by revert a; decide) i))

theorem Xs_eq (c : Dev nD) : Xs m c = m ((c : Thread nD τ).loc main_arg1) := by
  funext i
  unfold Xs
  blk_simp
  exact congrArg (m ((c : Thread nD τ).loc main_arg1)) (funext fun a => Fin.ext (Pipeline.Window.rect_emb_val_of_index_zero (cfg0.win 1) t0_0 a (by revert a; decide) i))

theorem out_eq (c : Dev nD) : (dat m c).arrAt 3 cfg0.N
    = result (fun c : Dev nD => m ((c : Thread nD τ).loc main_arg0)) (fun c : Dev nD => m ((c : Thread nD τ).loc main_arg1)) c := by
  rw [← (funext (As_eq m) : As m = _), ← (funext (Xs_eq m) : Xs m = _)]
  funext i
  refine ((dat m c).arrAt_emb_eq_after_last 3 t0_0 (by decide +kernel) i).trans ?_
  blk_simp
  rfl

end Cert.FourthIdeal.Hop

end
-- ==== Proof.Onward.lean ====
module

public import proofs.«01_k».proof.Proof.HopRun
public import proofs.«01_k».proof.Proof.ThirdRun
public import proofs.«01_k».proof.Proof.FourthRun
public import proofs.«01_k».proof.Proof.Gen.SecondPlainIdeal.Run
public import Idealize.ShloMosaic.Lib.Layout
public import Idealize.ShloMosaic.Lib.Pointwise
public import Idealize.ShloMosaic.Lib.Pipeline.Value
public import Idealize.ShloMosaic.Lib.ValueIdxRank6

/-! Rows passed one place on along the rings and laid at their places, read at a device. -/

@[expose] public section

set_option maxRecDepth 16384

noncomputable section

open Idealize.ShloMosaic Idealize.ShloMosaic.TcCoe Idealize.SL.Sem

namespace Cert.SecondPlainIdeal.Onw

open Cert.SecondPlainIdeal Cert.SecondPlainIdeal.Gen

/-- The blocks of the devices in the order of their rings. -/
def ring (v : FVec Ideal S8192x2048 .bf16) : FVec Ideal S2x8x512x2048 .bf16 :=
  concatenate S2x8x512x2048 1 [⟨S2x4x512x2048, (shapeCast _ (extractStridedSlice S1x2x4x512x2048 ![0, 0, 0, 0, 0] (shapeCast _ v shapeCasts_S8192x2048_S2x2x4x512x2048) slices_S2x2x4x512x2048_S1x2x4x512x2048_0_0_0_0_0) shapeCasts_S1x2x4x512x2048_S2x4x512x2048)⟩,
    ⟨S2x4x512x2048, (Host.reverse [1] (shapeCast _ (extractStridedSlice S1x2x4x512x2048 ![1, 0, 0, 0, 0] (shapeCast _ v shapeCasts_S8192x2048_S2x2x4x512x2048) slices_S2x2x4x512x2048_S1x2x4x512x2048_1_0_0_0_0) shapeCasts_S1x2x4x512x2048_S2x4x512x2048))⟩] concatenates_S2x4x512x2048_S2x4x512x2048_S2x8x512x2048_d1
/-- One place on, to the right and to the left. -/
def rightward (w : FVec Ideal S2x8x512x2048 .bf16) : FVec Ideal S2x8x512x2048 .bf16 :=
  concatenate S2x8x512x2048 1 [⟨S2x1x512x2048, (extractStridedSlice S2x1x512x2048 ![0, 7, 0, 0] w slices_S2x8x512x2048_S2x1x512x2048_0_7_0_0)⟩, ⟨S2x7x512x2048, (extractStridedSlice S2x7x512x2048 ![0, 0, 0, 0] w slices_S2x8x512x2048_S2x7x512x2048_0_0_0_0)⟩] concatenates_S2x1x512x2048_S2x7x512x2048_S2x8x512x2048_d1
def leftward (w : FVec Ideal S2x8x512x2048 .bf16) : FVec Ideal S2x8x512x2048 .bf16 :=
  concatenate S2x8x512x2048 1 [⟨S2x7x512x2048, (extractStridedSlice S2x7x512x2048 ![0, 1, 0, 0] w slices_S2x8x512x2048_S2x7x512x2048_0_1_0_0)⟩, ⟨S2x1x512x2048, (extractStridedSlice S2x1x512x2048 ![0, 0, 0, 0] w slices_S2x8x512x2048_S2x1x512x2048_0_0_0_0)⟩] concatenates_S2x7x512x2048_S2x1x512x2048_S2x8x512x2048_d1
/-- From the order of the rings to that of the devices. -/
def unring (w : FVec Ideal S2x8x512x2048 .bf16) : FVec Ideal S2x2x4x512x2048 .bf16 :=
  concatenate S2x2x4x512x2048 0 [⟨S1x2x4x512x2048, (broadcastInDim S1x2x4x512x2048 ![1, 2, 3, 4] bcast_S2x4x512x2048_S1x2x4x512x2048_1_2_3_4 (extractStridedSlice S2x4x512x2048 ![0, 0, 0, 0] w slices_S2x8x512x2048_S2x4x512x2048_0_0_0_0))⟩,
    ⟨S1x2x4x512x2048, (broadcastInDim S1x2x4x512x2048 ![1, 2, 3, 4] bcast_S2x4x512x2048_S1x2x4x512x2048_1_2_3_4 (Host.reverse [1] (extractStridedSlice S2x4x512x2048 ![0, 4, 0, 0] w slices_S2x8x512x2048_S2x4x512x2048_0_4_0_0)))⟩] concatenates_S1x2x4x512x2048_S1x2x4x512x2048_S2x2x4x512x2048_d0

/-- The place of each device on its ring, how far each place lies ahead of it, and which lie `n` ahead. -/
def places : IVec S2x4 32 := concatenate S2x4 0 [⟨S1x4, (broadcastInDim S1x4 ![1] bcast_S4_S1x4_1 (iotaInDim S4 32 0))⟩, ⟨S1x4, (broadcastInDim S1x4 ![1] bcast_S4_S1x4_1 (subi (broadcastInDim S4 ![] bcast_S_S4 (constantI S_ 32 7#32)) (iotaInDim S4 32 0)))⟩] concatenates_S1x4_S1x4_S2x4_d0
def ahead : IVec S2x4x8 32 := andi (subi (broadcastInDim S2x4x8 ![0, 1, 2] bcast_S1x1x8_S2x4x8_0_1_2 (broadcastInDim S1x1x8 ![2] bcast_S8_S1x1x8_2 (iotaInDim S8 32 0))) (broadcastInDim S2x4x8 ![0, 1, 2] bcast_S2x4x1_S2x4x8_0_1_2 (broadcastInDim S2x4x1 ![0, 1] bcast_S2x4_S2x4x1_0_1 places))) (broadcastInDim S2x4x8 ![] bcast_S_S2x4x8 (constantI S_ 32 7#32))
def there (n : Fin 8) : IVec S2x1x4x8x1x1 1 := cmpi .eq (broadcastInDim S2x1x4x8x1x1 ![0, 2, 3] bcast_S2x4x8_S2x1x4x8x1x1_0_2_3 ahead) (broadcastInDim S2x1x4x8x1x1 ![] bcast_S_S2x1x4x8x1x1 (constantI S_ 32 (BitVec.ofNat 32 n.val)))

/-- Rows laid at the places `n` ahead, among those held. -/
def put (n : Fin 8) (w : FVec Ideal S2x2x4x512x2048 .bf16) (o : FVec Ideal S2x2x4x8x512x2048 .bf16) : FVec Ideal S2x2x4x8x512x2048 .bf16 :=
  select (broadcastInDim S2x2x4x8x512x2048 ![0, 1, 2, 3, 4, 5] bcast_S2x1x4x8x1x1_S2x2x4x8x512x2048_0_1_2_3_4_5 (there n))
    (broadcastInDim S2x2x4x8x512x2048 ![0, 1, 2, 3, 4, 5] bcast_S2x2x4x1x512x2048_S2x2x4x8x512x2048_0_1_2_3_4_5 (broadcastInDim S2x2x4x1x512x2048 ![0, 1, 2, 4, 5] bcast_S2x2x4x512x2048_S2x2x4x1x512x2048_0_1_2_4_5 w)) o
def held (a : FVec Ideal S65536x2048 .bf16) : FVec Ideal S2x2x4x8x512x2048 .bf16 := shapeCast _ a shapeCasts_S65536x2048_S2x2x4x8x512x2048
def rows (o : FVec Ideal S2x2x4x8x512x2048 .bf16) : FVec Ideal S65536x2048 .bf16 := shapeCast _ o shapeCasts_S2x2x4x8x512x2048_S65536x2048

/-- The result of the reference: blocks that come from `far` places away on either side. -/
def onward (far back : Fin 8) (a : FVec Ideal S65536x2048 .bf16) (x y : FVec Ideal S8192x2048 .bf16) : FVec Ideal S65536x2048 .bf16 :=
  rows (put far (unring (leftward (ring y))) (put back (unring (rightward (ring x))) (held a)))

/-- The same from one side alone. -/
def onwardRight (back : Fin 8) (a : FVec Ideal S65536x2048 .bf16) (x : FVec Ideal S8192x2048 .bf16) : FVec Ideal S65536x2048 .bf16 :=
  rows (put back (unring (rightward (ring x))) (held a))

/-! ## One element of each -/

/-- The device at a place of a ring. -/
def devAt (q b : ℕ) : ℕ := if b < 4 then 4 * q + b else 8 + 4 * q + (7 - b)
/-- The place of a device on its ring. -/
def place (p : Fin 2) (z : Fin 4) : ℕ := if p.val = 0 then z.val else 7 - z.val
theorem place_lt (p : Fin 2) (z : Fin 4) : place p z < 8 := by unfold place; split <;> omega

theorem there_at : ∀ (n : Fin 8) (p : Fin 2) (z : Fin 4) (b : Fin 8),
    there n (ix6 p (0 : Fin 1) z b (0 : Fin 1) (0 : Fin 1)) = 1 ↔ b.val = (place p z + n.val) % 8 := by
  decide +kernel

theorem devAt_lt (q : Fin 2) (b : ℕ) (hb : b < 8) : devAt q.val b < 16 := by unfold devAt; split <;> omega

theorem ring_at (v : FVec Ideal S8192x2048 .bf16) (q : Fin 2) (b : Fin 8) (r : Fin 512) (k : Fin 2048) (row : Fin 8192)
    (hrow : row.val = devAt q.val b.val * 512 + r.val) : ring v (ix4 q b r k) = v (ix2 row k) := by
  have e : ∀ z : Fin 4, (S1x2x4x512x2048.rowMajor (ix5 (0 : Fin 1) q z r k)).val = (S2x4x512x2048.rowMajor (ix4 q z r k)).val := fun z => by
    rw [rowMajor_val5 _ (2 * (4 * (512 * 2048))) (4 * (512 * 2048)) (512 * 2048) 2048 rfl rfl rfl rfl, rowMajor_val4 _ (4 * (512 * 2048)) (512 * 2048) 2048 rfl rfl rfl]
    show 0 * (2 * (4 * (512 * 2048))) + q.val * (4 * (512 * 2048)) + z.val * (512 * 2048) + r.val * 2048 + k.val
      = q.val * (4 * (512 * 2048)) + z.val * (512 * 2048) + r.val * 2048 + k.val
    omega
  have e2 : ∀ (p : Fin 2) (z : Fin 4), row.val = (p.val * 8 + q.val * 4 + z.val) * 512 + r.val →
      (S8192x2048.rowMajor (ix2 row k)).val = (S2x2x4x512x2048.rowMajor (ix5 p q z r k)).val := fun p z h => by
    rw [rowMajor_val5 _ (2 * (4 * (512 * 2048))) (4 * (512 * 2048)) (512 * 2048) 2048 rfl rfl rfl rfl, rowMajor_val2 _ 2048 rfl]
    show row.val * 2048 + k.val = p.val * (2 * (4 * (512 * 2048))) + q.val * (4 * (512 * 2048)) + z.val * (512 * 2048) + r.val * 2048 + k.val
    omega
  unfold ring
  by_cases h : b.val < 4
  · have hd : devAt q.val b.val = 4 * q.val + b.val := if_pos h
    rw [concatenate_pair_apply_left (s₁ := S2x4x512x2048) (s₂ := S2x4x512x2048) 1 _ _ _ (ix4 q b r k) rfl (ix4 q (⟨b.val, h⟩ : Fin 4) r k : S2x4x512x2048.Idx) (fun a => by
      match a with
      | 0 => rfl | 1 => rfl | 2 => rfl | 3 => rfl), shapeCast_apply _ _ _ _ (e _)]
    rw [extractStridedSlice_apply _ _ _ _ (ix5 (0 : Fin 2) q (⟨b.val, h⟩ : Fin 4) r k) (fun a => by
      match a with
      | 0 => rfl | 1 => exact (Nat.zero_add _).symm | 2 => exact (Nat.zero_add _).symm
      | 3 => exact (Nat.zero_add _).symm | 4 => exact (Nat.zero_add _).symm)]
    exact shapeCast_apply _ _ _ _ (e2 (0 : Fin 2) _ (by show row.val = (0 * 8 + q.val * 4 + b.val) * 512 + r.val; omega))
  · have hd : devAt q.val b.val = 8 + 4 * q.val + (7 - b.val) := if_neg h
    rw [concatenate_pair_apply_right (s₁ := S2x4x512x2048) (s₂ := S2x4x512x2048) 1 _ _ _ (ix4 q b r k) rfl rfl (ix4 q (⟨b.val - 4, by omega⟩ : Fin 4) r k : S2x4x512x2048.Idx) (fun a ha => by
      match a with
      | 0 => rfl | 1 => exact absurd rfl ha | 2 => rfl | 3 => rfl) (by show b.val - 4 + 4 = b.val; omega)]
    have hrev : ∀ v : S2x4x512x2048.Idx → Ideal .bf16, Host.reverse [1] v (ix4 q (⟨b.val - 4, by omega⟩ : Fin 4) r k)
        = v (ix4 q (⟨7 - b.val, by omega⟩ : Fin 4) r k) := fun v => by
      unfold Host.reverse
      refine congrArg v (funext fun a => Fin.ext ?_)
      match a with
      | 0 => rfl
      | 1 => show 4 - (b.val - 4 + 1) = 7 - b.val; omega
      | 2 => rfl
      | 3 => rfl
    rw [hrev, shapeCast_apply _ _ _ _ (e _)]
    rw [extractStridedSlice_apply _ _ _ _ (ix5 (1 : Fin 2) q (⟨7 - b.val, by omega⟩ : Fin 4) r k) (fun a => by
      match a with
      | 0 => rfl | 1 => exact (Nat.zero_add _).symm | 2 => exact (Nat.zero_add _).symm
      | 3 => exact (Nat.zero_add _).symm | 4 => exact (Nat.zero_add _).symm)]
    exact shapeCast_apply _ _ _ _ (e2 (1 : Fin 2) _ (by show row.val = (1 * 8 + q.val * 4 + (7 - b.val)) * 512 + r.val; omega))

theorem rightward_at (w : FVec Ideal S2x8x512x2048 .bf16) (q : Fin 2) (b : Fin 8) (r : Fin 512) (k : Fin 2048) :
    rightward w (ix4 q b r k) = w (ix4 q (⟨(b.val + 7) % 8, Nat.mod_lt _ (by decide)⟩ : Fin 8) r k) := by
  unfold rightward
  by_cases h : b.val < 1
  · rw [concatenate_pair_apply_left (s₁ := S2x1x512x2048) (s₂ := S2x7x512x2048) 1 _ _ _ (ix4 q b r k) rfl (ix4 q (⟨b.val, h⟩ : Fin 1) r k : S2x1x512x2048.Idx) (fun a => by
      match a with
      | 0 => rfl | 1 => rfl | 2 => rfl | 3 => rfl)]
    exact extractStridedSlice_apply _ _ _ _ _ (fun a => by
      match a with
      | 0 => exact (Nat.zero_add _).symm
      | 1 => show (b.val + 7) % 8 = 7 + b.val; omega
      | 2 => exact (Nat.zero_add _).symm | 3 => exact (Nat.zero_add _).symm)
  · rw [concatenate_pair_apply_right (s₁ := S2x1x512x2048) (s₂ := S2x7x512x2048) 1 _ _ _ (ix4 q b r k) rfl rfl (ix4 q (⟨b.val - 1, by omega⟩ : Fin 7) r k : S2x7x512x2048.Idx) (fun a ha => by
      match a with
      | 0 => rfl | 1 => exact absurd rfl ha | 2 => rfl | 3 => rfl) (by show b.val - 1 + 1 = b.val; omega)]
    exact extractStridedSlice_apply _ _ _ _ _ (fun a => by
      match a with
      | 0 => exact (Nat.zero_add _).symm
      | 1 => show (b.val + 7) % 8 = 0 + (b.val - 1); omega
      | 2 => exact (Nat.zero_add _).symm | 3 => exact (Nat.zero_add _).symm)

theorem leftward_at (w : FVec Ideal S2x8x512x2048 .bf16) (q : Fin 2) (b : Fin 8) (r : Fin 512) (k : Fin 2048) :
    leftward w (ix4 q b r k) = w (ix4 q (⟨(b.val + 1) % 8, Nat.mod_lt _ (by decide)⟩ : Fin 8) r k) := by
  unfold leftward
  by_cases h : b.val < 7
  · rw [concatenate_pair_apply_left (s₁ := S2x7x512x2048) (s₂ := S2x1x512x2048) 1 _ _ _ (ix4 q b r k) rfl (ix4 q (⟨b.val, h⟩ : Fin 7) r k : S2x7x512x2048.Idx) (fun a => by
      match a with
      | 0 => rfl | 1 => rfl | 2 => rfl | 3 => rfl)]
    exact extractStridedSlice_apply _ _ _ _ _ (fun a => by
      match a with
      | 0 => exact (Nat.zero_add _).symm
      | 1 => show (b.val + 1) % 8 = 1 + b.val; omega
      | 2 => exact (Nat.zero_add _).symm | 3 => exact (Nat.zero_add _).symm)
  · rw [concatenate_pair_apply_right (s₁ := S2x7x512x2048) (s₂ := S2x1x512x2048) 1 _ _ _ (ix4 q b r k) rfl rfl (ix4 q (⟨b.val - 7, by omega⟩ : Fin 1) r k : S2x1x512x2048.Idx) (fun a ha => by
      match a with
      | 0 => rfl | 1 => exact absurd rfl ha | 2 => rfl | 3 => rfl) (by show b.val - 7 + 7 = b.val; omega)]
    exact extractStridedSlice_apply _ _ _ _ _ (fun a => by
      match a with
      | 0 => exact (Nat.zero_add _).symm
      | 1 => show (b.val + 1) % 8 = 0 + (b.val - 7); omega
      | 2 => exact (Nat.zero_add _).symm | 3 => exact (Nat.zero_add _).symm)

theorem unring_at (w : FVec Ideal S2x8x512x2048 .bf16) (p q : Fin 2) (z : Fin 4) (r : Fin 512) (k : Fin 2048) :
    unring w (ix5 p q z r k) = w (ix4 q (⟨place p z, place_lt p z⟩ : Fin 8) r k) := by
  have hb : ∀ u : S2x4x512x2048.Idx → Ideal .bf16,
      broadcastInDim S1x2x4x512x2048 ![1, 2, 3, 4] bcast_S2x4x512x2048_S1x2x4x512x2048_1_2_3_4 u (ix5 (0 : Fin 1) q z r k) = u (ix4 q z r k) := fun u => by
    unfold broadcastInDim
    refine congrArg u (funext fun a => Fin.ext ?_)
    match a with
    | 0 => rfl
    | 1 => rfl
    | 2 => rfl
    | 3 => rfl
  unfold unring
  by_cases h : p.val < 1
  · have hp : place p z = z.val := if_pos (by omega)
    rw [concatenate_pair_apply_left (s₁ := S1x2x4x512x2048) (s₂ := S1x2x4x512x2048) 0 _ _ _ (ix5 p q z r k) rfl (ix5 (0 : Fin 1) q z r k : S1x2x4x512x2048.Idx) (fun a => by
      match a with
      | 0 => show 0 = p.val; omega
      | 1 => rfl | 2 => rfl | 3 => rfl | 4 => rfl), hb]
    exact extractStridedSlice_apply _ _ _ _ _ (fun a => by
      match a with
      | 0 => exact (Nat.zero_add _).symm
      | 1 => show place p z = 0 + z.val; omega
      | 2 => exact (Nat.zero_add _).symm | 3 => exact (Nat.zero_add _).symm)
  · have hp : place p z = 7 - z.val := if_neg (by omega)
    rw [concatenate_pair_apply_right (s₁ := S1x2x4x512x2048) (s₂ := S1x2x4x512x2048) 0 _ _ _ (ix5 p q z r k) rfl rfl (ix5 (0 : Fin 1) q z r k : S1x2x4x512x2048.Idx) (fun a ha => by
      match a with
      | 0 => exact absurd rfl ha | 1 => rfl | 2 => rfl | 3 => rfl | 4 => rfl) (by show 0 + 1 = p.val; omega), hb]
    have hrev : ∀ v : S2x4x512x2048.Idx → Ideal .bf16, Host.reverse [1] v (ix4 q z r k)
        = v (ix4 q (⟨3 - z.val, by omega⟩ : Fin 4) r k) := fun v => by
      unfold Host.reverse
      refine congrArg v (funext fun a => Fin.ext ?_)
      match a with
      | 0 => rfl
      | 1 => show 4 - (z.val + 1) = 3 - z.val; omega
      | 2 => rfl
      | 3 => rfl
    rw [hrev]
    exact extractStridedSlice_apply _ _ _ _ _ (fun a => by
      match a with
      | 0 => exact (Nat.zero_add _).symm
      | 1 => show place p z = 4 + (3 - z.val); omega
      | 2 => exact (Nat.zero_add _).symm | 3 => exact (Nat.zero_add _).symm)

theorem put_at (n : Fin 8) (w : FVec Ideal S2x2x4x512x2048 .bf16) (o : FVec Ideal S2x2x4x8x512x2048 .bf16) (p q : Fin 2) (z : Fin 4) (b : Fin 8)
    (r : Fin 512) (k : Fin 2048) :
    put n w o (ix6 p q z b r k) = if b.val = (place p z + n.val) % 8 then w (ix5 p q z r k) else o (ix6 p q z b r k) := by
  have e1 : broadcastInDim S2x2x4x8x512x2048 ![0, 1, 2, 3, 4, 5] bcast_S2x1x4x8x1x1_S2x2x4x8x512x2048_0_1_2_3_4_5 (there n) (ix6 p q z b r k)
      = there n (ix6 p (0 : Fin 1) z b (0 : Fin 1) (0 : Fin 1)) := by
    unfold broadcastInDim
    refine congrArg (there n) (funext fun a => Fin.ext ?_)
    match a with
    | 0 => rfl
    | 1 => rfl
    | 2 => rfl
    | 3 => rfl
    | 4 => rfl
    | 5 => rfl
  have e2 : broadcastInDim S2x2x4x8x512x2048 ![0, 1, 2, 3, 4, 5] bcast_S2x2x4x1x512x2048_S2x2x4x8x512x2048_0_1_2_3_4_5 (broadcastInDim S2x2x4x1x512x2048 ![0, 1, 2, 4, 5] bcast_S2x2x4x512x2048_S2x2x4x1x512x2048_0_1_2_4_5 w) (ix6 p q z b r k)
      = w (ix5 p q z r k) := by
    unfold broadcastInDim
    refine congrArg w (funext fun a => Fin.ext ?_)
    match a with
    | 0 => rfl
    | 1 => rfl
    | 2 => rfl
    | 3 => rfl
    | 4 => rfl
  show Scalar.select _ _ _ = _
  rw [e1, e2]
  show (if there n _ = 1 then _ else _) = _
  exact if_congr (there_at n p z b) rfl rfl

theorem rows_at (o : FVec Ideal S2x2x4x8x512x2048 .bf16) (p q : Fin 2) (z : Fin 4) (b : Fin 8) (r : Fin 512) (k : Fin 2048) (row : Fin 65536)
    (h : row.val = (p.val * 8 + q.val * 4 + z.val) * 4096 + (b.val * 512 + r.val)) :
    rows o (ix2 row k) = o (ix6 p q z b r k) :=
  shapeCast_apply _ _ _ _ (by
    rw [Shape.rowMajor_val_six, rowMajor_val2 _ 2048 rfl]
    show ((((p.val * 2 + q.val) * 4 + z.val) * 8 + b.val) * 512 + r.val) * 2048 + k.val = row.val * 2048 + k.val
    omega)
theorem held_at (v : FVec Ideal S65536x2048 .bf16) (p q : Fin 2) (z : Fin 4) (b : Fin 8) (r : Fin 512) (k : Fin 2048) (row : Fin 65536)
    (h : row.val = (p.val * 8 + q.val * 4 + z.val) * 4096 + (b.val * 512 + r.val)) :
    held v (ix6 p q z b r k) = v (ix2 row k) :=
  shapeCast_apply _ _ _ _ (by
    rw [Shape.rowMajor_val_six, rowMajor_val2 _ 2048 rfl]
    show row.val * 2048 + k.val = ((((p.val * 2 + q.val) * 4 + z.val) * 8 + b.val) * 512 + r.val) * 2048 + k.val
    omega)

end Cert.SecondPlainIdeal.Onw

namespace Cert.SecondIdeal.Hop

open Cert.SecondPlainIdeal.Onw
open Cert.CombineIdeal.Comb (posn at8 rt lf inner)

variable (a : FVec Ideal Cert.SecondPlainIdeal.S65536x2048 .bf16) (x : FVec Ideal Cert.SecondPlainIdeal.S8192x2048 .bf16)
  (A : Dev nD → OT Ideal) (X : Dev nD → BT Ideal)
  (ha : Layout.Tiles ⟨2, ![4096, 2048]⟩ ⟨2, ![65536, 2048]⟩ 0 16) (hx : Layout.Tiles ⟨2, ![512, 2048]⟩ ⟨2, ![8192, 2048]⟩ 0 16)
  (hA : ∀ c, A c = Layout.block ⟨2, ![4096, 2048]⟩ ⟨2, ![65536, 2048]⟩ 0 16 c a ha)
  (hX : ∀ c, X c = Layout.block ⟨2, ![512, 2048]⟩ ⟨2, ![8192, 2048]⟩ 0 16 c x hx)

include hX in
/-- A row of a device's block. -/
theorem row_at (d : Dev nD) (r : Fin 512) (k : Fin 2048) (row : Fin 8192) (h : row.val = d.val * 512 + r.val) : X d (ix2 r k) = x (ix2 row k) := by
  rw [hX, Layout.block_apply]
  refine congrArg x (funext fun i => Fin.ext ?_)
  match i with
  | 0 => exact h.symm
  | 1 => rfl

include hX in
/-- A device's block, read in the order of the rings. -/
theorem block_at (c : Dev nD) (b : ℕ) (hb : b < 8) (r : Fin 512) (k : Fin 2048) :
    ring x (ix4 (⟨c.val / 4 % 2, by omega⟩ : Fin 2) (⟨b, hb⟩ : Fin 8) r k) = X (at8 c b) (ix2 r k) := by
  have hd : (at8 c b).val < 16 := (at8 c b).isLt
  have hv : (at8 c b).val = devAt (c.val / 4 % 2) b := rfl
  have hr : (at8 c b).val * 512 + r.val < 8192 := by omega
  exact (ring_at x _ _ r k (⟨(at8 c b).val * 512 + r.val, hr⟩ : Fin 8192) (by dsimp only; rw [hv])).trans
    (row_at x X hx hX (at8 c b) r k _ rfl).symm

/-- The element of a device's block of the laid out rows. -/
theorem laid_at (o : FVec Ideal Cert.SecondPlainIdeal.S2x2x4x8x512x2048 .bf16) (c : Dev nD) (s : Fin 4096) (k : Fin 2048) :
    Layout.block ⟨2, ![4096, 2048]⟩ ⟨2, ![65536, 2048]⟩ 0 16 c (rows o) ha (ix2 s k)
      = o (ix6 (⟨c.val / 8, by have : c.val < 16 := c.isLt; omega⟩ : Fin 2) (⟨c.val / 4 % 2, by omega⟩ : Fin 2) (⟨c.val % 4, by omega⟩ : Fin 4)
          (⟨s.val / 512, by omega⟩ : Fin 8) (⟨s.val % 512, by omega⟩ : Fin 512) k) := by
  have hc : c.val < 16 := c.isLt
  have hj : ha.idx c (ix2 s k) = ix2 (⟨c.val * 4096 + s.val, by omega⟩ : Fin 65536) k :=
    funext fun i => Fin.ext (by match i with | 0 => rfl | 1 => rfl)
  rw [Layout.block_apply, hj]
  exact rows_at o _ _ _ _ _ k _ (by dsimp only; omega)

include hA in
/-- What a device held, among the rows laid out. -/
theorem held_block (c : Dev nD) (s : Fin 4096) (k : Fin 2048) :
    held a (ix6 (⟨c.val / 8, by have : c.val < 16 := c.isLt; omega⟩ : Fin 2) (⟨c.val / 4 % 2, by omega⟩ : Fin 2) (⟨c.val % 4, by omega⟩ : Fin 4)
          (⟨s.val / 512, by omega⟩ : Fin 8) (⟨s.val % 512, by omega⟩ : Fin 512) k) = A c (ix2 s k) := by
  have hc : c.val < 16 := c.isLt
  have hj : ha.idx c (ix2 s k) = ix2 (⟨c.val * 4096 + s.val, by omega⟩ : Fin 65536) k :=
    funext fun i => Fin.ext (by match i with | 0 => rfl | 1 => rfl)
  rw [held_at a _ _ _ _ _ k (⟨c.val * 4096 + s.val, by omega⟩ : Fin 65536) (by dsimp only; omega), hA, Layout.block_apply, hj]

theorem inner_at (s : Fin 4096) (k : Fin 2048) : inner (ix2 s k) = ix2 (⟨s.val % 512, by omega⟩ : Fin 512) k :=
  funext fun i => Fin.ext (by match i with | 0 => rfl | 1 => rfl)

include hX in
/-- What a device receives from its left neighbour. -/
theorem from_left (c : Dev nD) (r : Fin 512) (k : Fin 2048) :
    unring (rightward (ring x)) (ix5 (⟨c.val / 8, by have : c.val < 16 := c.isLt; omega⟩ : Fin 2) (⟨c.val / 4 % 2, by omega⟩ : Fin 2) (⟨c.val % 4, by omega⟩ : Fin 4) r k)
      = X (lf c) (ix2 r k) := by
  rw [unring_at, rightward_at]
  exact block_at x X hx hX c _ _ r k
include hX in
/-- What a device receives from its right neighbour. -/
theorem from_right (c : Dev nD) (r : Fin 512) (k : Fin 2048) :
    unring (leftward (ring x)) (ix5 (⟨c.val / 8, by have : c.val < 16 := c.isLt; omega⟩ : Fin 2) (⟨c.val / 4 % 2, by omega⟩ : Fin 2) (⟨c.val % 4, by omega⟩ : Fin 4) r k)
      = X (rt c) (ix2 r k) := by
  rw [unring_at, leftward_at]
  exact block_at x X hx hX c _ _ r k

include hA hX in
/-- A device's rows with what arrived from the left. -/
theorem onwardRight_block (back : Fin 8) (c : Dev nD) :
    (fun i : (⟨2, ![4096, 2048]⟩ : Shape).Idx => if (i 0).val / 512 = (posn c.val + back.val) % 8 then X (lf c) (inner i) else A c i)
      = Layout.block ⟨2, ![4096, 2048]⟩ ⟨2, ![65536, 2048]⟩ 0 16 c (onwardRight back a x) ha := by
  funext i
  obtain ⟨s, k, rfl⟩ : ∃ (s : Fin 4096) (k : Fin 2048), i = ix2 s k := ⟨i 0, i 1, eq_ix2 i⟩
  unfold onwardRight
  rw [laid_at, put_at, from_left x X hx hX, held_block a A ha hA, inner_at]
  rfl

variable (y : FVec Ideal Cert.SecondPlainIdeal.S8192x2048 .bf16) (Y : Dev nD → BT Ideal)
  (hY : ∀ c, Y c = Layout.block ⟨2, ![512, 2048]⟩ ⟨2, ![8192, 2048]⟩ 0 16 c y hx)

include hA hX hY in
/-- A device's rows with what arrived on either side are its block of the reference's result. -/
theorem onward_block (far back : Fin 8) (c : Dev nD) :
    (fun i : (⟨2, ![4096, 2048]⟩ : Shape).Idx => if (i 0).val / 512 = (posn c.val + far.val) % 8 then Y (rt c) (inner i)
      else if (i 0).val / 512 = (posn c.val + back.val) % 8 then X (lf c) (inner i) else A c i)
      = Layout.block ⟨2, ![4096, 2048]⟩ ⟨2, ![65536, 2048]⟩ 0 16 c (onward far back a x y) ha := by
  funext i
  obtain ⟨s, k, rfl⟩ : ∃ (s : Fin 4096) (k : Fin 2048), i = ix2 s k := ⟨i 0, i 1, eq_ix2 i⟩
  unfold onward
  rw [laid_at, put_at, put_at, from_left x X hx hX, from_right y Y hx hY, held_block a A ha hA, inner_at]
  rfl

/-- The second hop. -/
theorem result_block (hA : ∀ c, A c = Layout.block ⟨2, ![4096, 2048]⟩ ⟨2, ![65536, 2048]⟩ 0 16 c a ha)
    (hX : ∀ c, X c = Layout.block ⟨2, ![512, 2048]⟩ ⟨2, ![8192, 2048]⟩ 0 16 c x hx)
    (hY : ∀ c, Y c = Layout.block ⟨2, ![512, 2048]⟩ ⟨2, ![8192, 2048]⟩ 0 16 c y hx) (c : Dev nD) :
    result A X Y c = Layout.block ⟨2, ![4096, 2048]⟩ ⟨2, ![65536, 2048]⟩ 0 16 c (onward 2 6 a x y) ha :=
  onward_block a x A X ha hx hA hX y Y hY 2 6 c

/-- The third hop. -/
theorem third_block (hA : ∀ c, A c = Layout.block ⟨2, ![4096, 2048]⟩ ⟨2, ![65536, 2048]⟩ 0 16 c a ha)
    (hX : ∀ c, X c = Layout.block ⟨2, ![512, 2048]⟩ ⟨2, ![8192, 2048]⟩ 0 16 c x hx)
    (hY : ∀ c, Y c = Layout.block ⟨2, ![512, 2048]⟩ ⟨2, ![8192, 2048]⟩ 0 16 c y hx) (c : Dev nD) :
    Cert.ThirdIdeal.Hop.result A X Y c = Layout.block ⟨2, ![4096, 2048]⟩ ⟨2, ![65536, 2048]⟩ 0 16 c (onward 3 5 a x y) ha :=
  onward_block a x A X ha hx hA hX y Y hY 3 5 c

/-- The fourth hop. -/
theorem fourth_block (hA : ∀ c, A c = Layout.block ⟨2, ![4096, 2048]⟩ ⟨2, ![65536, 2048]⟩ 0 16 c a ha)
    (hX : ∀ c, X c = Layout.block ⟨2, ![512, 2048]⟩ ⟨2, ![8192, 2048]⟩ 0 16 c x hx) (c : Dev nD) :
    Cert.FourthIdeal.Hop.result A X c = Layout.block ⟨2, ![4096, 2048]⟩ ⟨2, ![65536, 2048]⟩ 0 16 c (onwardRight 4 a x) ha :=
  onwardRight_block a x A X ha hx hA hX 4 c

end Cert.SecondIdeal.Hop

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Second
public import proofs.«01_k».proof.Proof.Gen.Second.Skeleton
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondPlainIdeal
public import proofs.«01_k».proof.Proof.Gen.SecondPlainIdeal.Run
public import proofs.«01_k».proof.Proof.Gen.Third
public import proofs.«01_k».proof.Proof.Gen.Third.Skeleton
public import proofs.«01_k».proof.Proof.Gen.Third.Launch
public import proofs.«01_k».proof.Proof.Gen.Third.Points
public import proofs.«01_k».proof.Proof.Gen.Third.Frame
public import proofs.«01_k».proof.Proof.Gen.ThirdIdeal
public import proofs.«01_k».proof.Proof.Gen.ThirdIdeal.Skeleton
public import proofs.«01_k».proof.Proof.Gen.ThirdIdeal.Launch
public import proofs.«01_k».proof.Proof.Gen.ThirdIdeal.Points
public import proofs.«01_k».proof.Proof.Gen.ThirdIdeal.Frame
public import proofs.«01_k».proof.Proof.Gen.ThirdPlainIdeal
public import proofs.«01_k».proof.Proof.Gen.ThirdPlainIdeal.Run
public import proofs.«01_k».proof.Proof.Gen.Fourth
public import proofs.«01_k».proof.Proof.Gen.Fourth.Skeleton
public import proofs.«01_k».proof.Proof.Gen.Fourth.Launch
public import proofs.«01_k».proof.Proof.Gen.Fourth.Points
public import proofs.«01_k».proof.Proof.Gen.Fourth.Frame
public import proofs.«01_k».proof.Proof.Gen.FourthIdeal
public import proofs.«01_k».proof.Proof.Gen.FourthIdeal.Skeleton
public import proofs.«01_k».proof.Proof.Gen.FourthIdeal.Launch
public import proofs.«01_k».proof.Proof.Gen.FourthIdeal.Points
public import proofs.«01_k».proof.Proof.Gen.FourthIdeal.Frame
public import proofs.«01_k».proof.Proof.Gen.FourthPlainIdeal
public import proofs.«01_k».proof.Proof.Gen.FourthPlainIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.MixtureIdeal
public import proofs.«01_k».proof.Proof.Gen.MixtureIdeal.Run
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.TotalsIdeal
public import proofs.«01_k».proof.Proof.Gen.TotalsIdeal.Run
public import proofs.«01_k».proof.Proof.Run
public import proofs.«01_k».proof.Proof.Pairs
public import proofs.«01_k».proof.Proof.Whole
public import proofs.«01_k».proof.Proof.RingRun
public import proofs.«01_k».proof.Proof.Totals
public import proofs.«01_k».proof.Proof.HopRun
public import proofs.«01_k».proof.Proof.ThirdRun
public import proofs.«01_k».proof.Proof.FourthRun
public import proofs.«01_k».proof.Proof.Onward
public import Idealize.ShloMosaic.Adequacy
public import Idealize.ShloMosaic.Init

@[expose] public section

noncomputable section

namespace Cert.Proof

open Idealize.ShloMosaic Idealize.ShloMosaic.TcCoe Idealize.SL.Sem
open Cert.KernelIdeal.Exch

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

attribute [local instance] Cert.Kernel.Gen.facts Cert.KernelIdeal.Gen.facts in
/-- The two programs have the same text. -/
theorem same_bodies : Cert.Kernel.defs₀ (F := Bits) = Cert.KernelIdeal.defs₀ := by
  unfold Cert.Kernel.defs₀ Cert.KernelIdeal.defs₀
  refine congrArg Defs.onTc (funext fun ℓ => funext fun a => ?_)
  match ℓ, a with
  | 0, (t, s) => rfl
  | ⟨_ + 1, h⟩, _ => exact absurd h (Nat.not_lt.2 (Nat.le_add_left _ _))

theorem frame_kernel : Cert.quiescent_Kernel := by
  intro m ρ _
  show θ_run (Pipeline.defs Cert.Kernel.pcfgs Cert.Kernel.defs₀) _ _ _
  rw [same_bodies]
  exact (θ_run Cert.KernelIdeal.defs _ _).mono (fun r (h : _ ∧ _) =>
    (⟨fun c => ⟨(h.1 c).1, (h.1 c).2.1⟩, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) (run_main (F := Bits) m ρ)

theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems rfl r.2⟩) (Cert.ReferenceIdeal.Value.run m ρ)

theorem frame_mixture : Cert.quiescent_MixtureIdeal := fun m ρ _ =>
  (θ_run Cert.MixtureIdeal.defs _ _).mono
    (fun r h => ⟨fun c => (h c).2, sem_eq_zero_of_no_sems rfl r.2⟩) (Cert.MixtureIdeal.Value.run m ρ)

theorem value : Cert.algebraic_KernelIdeal_ReferenceIdeal := by
  intro m ρ m' ρ' _ hm
  refine ⟨_, _, (θ_run _ _ _).mono (fun r h c => ?_) (run_main (F := Ideal) m ρ),
    (θ_run _ _ _).mono (fun r h => h 0) (Cert.ReferenceIdeal.Value.run m' ρ')⟩
  obtain ⟨hx, ha, ho, hq⟩ := h.1 c
  refine ⟨?_, ?_, hx, ha⟩
  · rw [ho, out0_eq, (hm c).1, (hm (pr c)).1]
    exact (pairs_block (by decide) _ _ _ _ _ _ _ c).symm
  · rw [hq, out1_eq, (hm c).2, (hm (pr c)).2]
    exact (pairs_block (by decide) _ _ _ _ _ _ _ c).symm

theorem value_experts : Cert.algebraic_ExpertsIdeal_MixtureIdeal := by
  intro m ρ m' ρ' _ hm
  refine ⟨_, (θ_run _ _ _).mono (fun r h c => ?_) (θ_run_and (Cert.ExpertsIdeal.Gen.run_main m ρ) (Cert.ExpertsIdeal.Gen.unchanged m ρ)),
    (θ_run _ _ _).mono (fun r h => h 0) (Cert.MixtureIdeal.Value.run m' ρ')⟩
  refine ⟨(h.1.written c (by decide)).trans ?_, h.2 c⟩
  exact Cert.ExpertsIdeal.Moe.result_block m c _ _ _ _ (hm c).1 (hm c).2.1 (hm c).2.2.1 (hm c).2.2.2

theorem frame_combineIdeal : Cert.quiescent_CombineIdeal := fun m ρ _ =>
  (θ_run Cert.CombineIdeal.defs _ _).mono (fun _ h => ⟨fun c => (h.1 c).1, h.2⟩) (Cert.CombineIdeal.Comb.run_main (F := Ideal) m ρ)

attribute [local instance] Cert.Combine.Gen.facts Cert.CombineIdeal.Gen.facts in
/-- The two programs of the third call have the same text. -/
theorem same_bodies_combine : Cert.Combine.defs₀ (F := Bits) = Cert.CombineIdeal.defs₀ := by
  unfold Cert.Combine.defs₀ Cert.CombineIdeal.defs₀
  refine congrArg Defs.onTc (funext fun ℓ => funext fun a => ?_)
  match ℓ, a with
  | 0, (t, s) => rfl
  | ⟨_ + 1, h⟩, _ => exact absurd h (Nat.not_lt.2 (Nat.le_add_left _ _))

theorem frame_combine : Cert.quiescent_Combine := by
  intro m ρ _
  show θ_run (Pipeline.defs Cert.Combine.pcfgs Cert.Combine.defs₀) _ _ _
  rw [same_bodies_combine]
  exact (θ_run Cert.CombineIdeal.defs _ _).mono (fun r (h : _ ∧ _) =>
    (⟨fun c => (h.1 c).1, h.2⟩ : (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ r.2.sem = fun _ => 0)) (Cert.CombineIdeal.Comb.run_main (F := Bits) m ρ)

theorem frame_totals : Cert.quiescent_TotalsIdeal := fun m ρ _ =>
  (θ_run Cert.TotalsIdeal.defs _ _).mono
    (fun r h => ⟨fun c => (h c).2, sem_eq_zero_of_no_sems rfl r.2⟩) (Cert.TotalsIdeal.Value.run m ρ)

theorem value_combine : Cert.algebraic_CombineIdeal_TotalsIdeal := by
  intro m ρ m' ρ' _ hm
  refine ⟨_, (θ_run _ _ _).mono (fun r h c => ?_) (Cert.CombineIdeal.Comb.run_main (F := Ideal) m ρ),
    (θ_run _ _ _).mono (fun r h => h 0) (Cert.TotalsIdeal.Value.run m' ρ')⟩
  obtain ⟨hx, ho⟩ := h.1 c
  refine ⟨?_, hx⟩
  rw [ho, Cert.CombineIdeal.Comb.out_eq]
  exact Cert.CombineIdeal.Comb.result_block _ _ _ hm _ c

theorem frame_secondIdeal : Cert.quiescent_SecondIdeal := fun m ρ _ =>
  (θ_run Cert.SecondIdeal.defs _ _).mono (fun _ h => ⟨fun c => ⟨(h.1 c).1, (h.1 c).2.1, (h.1 c).2.2.1⟩, h.2⟩) (Cert.SecondIdeal.Hop.run_main (F := Ideal) m ρ)

attribute [local instance] Cert.Second.Gen.facts Cert.SecondIdeal.Gen.facts in
/-- The two programs of the second hop have the same text. -/
theorem same_bodies_second : Cert.Second.defs₀ (F := Bits) = Cert.SecondIdeal.defs₀ := by
  unfold Cert.Second.defs₀ Cert.SecondIdeal.defs₀
  refine congrArg Defs.onTc (funext fun ℓ => funext fun a => ?_)
  match ℓ, a with
  | 0, (t, s) => rfl
  | ⟨_ + 1, h⟩, _ => exact absurd h (Nat.not_lt.2 (Nat.le_add_left _ _))

theorem frame_second : Cert.quiescent_Second := by
  intro m ρ _
  show θ_run (Pipeline.defs Cert.Second.pcfgs Cert.Second.defs₀) _ _ _
  rw [same_bodies_second]
  exact (θ_run Cert.SecondIdeal.defs _ _).mono (fun r (h : _ ∧ _) =>
    (⟨fun c => ⟨(h.1 c).1, (h.1 c).2.1, (h.1 c).2.2.1⟩, h.2⟩ : (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2))
      ∧ r.2.sem = fun _ => 0)) (Cert.SecondIdeal.Hop.run_main (F := Bits) m ρ)

theorem frame_secondPlain : Cert.quiescent_SecondPlainIdeal := fun m ρ _ =>
  (θ_run Cert.SecondPlainIdeal.defs _ _).mono
    (fun r h => ⟨fun c => (h c).2, sem_eq_zero_of_no_sems rfl r.2⟩) (Cert.SecondPlainIdeal.Value.run m ρ)

theorem value_second : Cert.algebraic_SecondIdeal_SecondPlainIdeal := by
  intro m ρ m' ρ' _ hm
  refine ⟨_, (θ_run _ _ _).mono (fun r h c => ?_) (Cert.SecondIdeal.Hop.run_main (F := Ideal) m ρ),
    (θ_run _ _ _).mono (fun r h => h 0) (Cert.SecondPlainIdeal.Value.run m' ρ')⟩
  obtain ⟨ha, hx, hy, ho⟩ := h.1 c
  refine ⟨?_, ha, hx, hy⟩
  rw [ho, Cert.SecondIdeal.Hop.out_eq]
  exact Cert.SecondIdeal.Hop.result_block _ _ _ _ _ _ _ _ (fun c => (hm c).1) (fun c => (hm c).2.1) (fun c => (hm c).2.2) c

theorem frame_thirdIdeal : Cert.quiescent_ThirdIdeal := fun m ρ _ =>
  (θ_run Cert.ThirdIdeal.defs _ _).mono (fun _ h => ⟨fun c => ⟨(h.1 c).1, (h.1 c).2.1, (h.1 c).2.2.1⟩, h.2⟩) (Cert.ThirdIdeal.Hop.run_main (F := Ideal) m ρ)

attribute [local instance] Cert.Third.Gen.facts Cert.ThirdIdeal.Gen.facts in
/-- The two programs of the third hop have the same text. -/
theorem same_bodies_third : Cert.Third.defs₀ (F := Bits) = Cert.ThirdIdeal.defs₀ := by
  unfold Cert.Third.defs₀ Cert.ThirdIdeal.defs₀
  refine congrArg Defs.onTc (funext fun ℓ => funext fun a => ?_)
  match ℓ, a with
  | 0, (t, s) => rfl
  | ⟨_ + 1, h⟩, _ => exact absurd h (Nat.not_lt.2 (Nat.le_add_left _ _))

theorem frame_third : Cert.quiescent_Third := by
  intro m ρ _
  show θ_run (Pipeline.defs Cert.Third.pcfgs Cert.Third.defs₀) _ _ _
  rw [same_bodies_third]
  exact (θ_run Cert.ThirdIdeal.defs _ _).mono (fun r (h : _ ∧ _) =>
    (⟨fun c => ⟨(h.1 c).1, (h.1 c).2.1, (h.1 c).2.2.1⟩, h.2⟩ : (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2))
      ∧ r.2.sem = fun _ => 0)) (Cert.ThirdIdeal.Hop.run_main (F := Bits) m ρ)

theorem frame_thirdPlain : Cert.quiescent_ThirdPlainIdeal := fun m ρ _ =>
  (θ_run Cert.ThirdPlainIdeal.defs _ _).mono
    (fun r h => ⟨fun c => (h c).2, sem_eq_zero_of_no_sems rfl r.2⟩) (Cert.ThirdPlainIdeal.Value.run m ρ)

theorem value_third : Cert.algebraic_ThirdIdeal_ThirdPlainIdeal := by
  intro m ρ m' ρ' _ hm
  refine ⟨_, (θ_run _ _ _).mono (fun r h c => ?_) (Cert.ThirdIdeal.Hop.run_main (F := Ideal) m ρ),
    (θ_run _ _ _).mono (fun r h => h 0) (Cert.ThirdPlainIdeal.Value.run m' ρ')⟩
  obtain ⟨ha, hx, hy, ho⟩ := h.1 c
  refine ⟨?_, ha, hx, hy⟩
  rw [ho, Cert.ThirdIdeal.Hop.out_eq]
  exact Cert.SecondIdeal.Hop.third_block _ _ _ _ _ _ _ _ (fun c => (hm c).1) (fun c => (hm c).2.1) (fun c => (hm c).2.2) c

theorem frame_fourthIdeal : Cert.quiescent_FourthIdeal := fun m ρ _ =>
  (θ_run Cert.FourthIdeal.defs _ _).mono (fun _ h => ⟨fun c => ⟨(h.1 c).1, (h.1 c).2.1, (h.1 c).2.2.1⟩, h.2⟩) (Cert.FourthIdeal.Hop.run_main (F := Ideal) m ρ)

attribute [local instance] Cert.Fourth.Gen.facts Cert.FourthIdeal.Gen.facts in
/-- The two programs of the fourth hop have the same text. -/
theorem same_bodies_fourth : Cert.Fourth.defs₀ (F := Bits) = Cert.FourthIdeal.defs₀ := by
  unfold Cert.Fourth.defs₀ Cert.FourthIdeal.defs₀
  refine congrArg Defs.onTc (funext fun ℓ => funext fun a => ?_)
  match ℓ, a with
  | 0, (t, s) => rfl
  | ⟨_ + 1, h⟩, _ => exact absurd h (Nat.not_lt.2 (Nat.le_add_left _ _))

theorem frame_fourth : Cert.quiescent_Fourth := by
  intro m ρ _
  show θ_run (Pipeline.defs Cert.Fourth.pcfgs Cert.Fourth.defs₀) _ _ _
  rw [same_bodies_fourth]
  exact (θ_run Cert.FourthIdeal.defs _ _).mono (fun r (h : _ ∧ _) =>
    (⟨fun c => ⟨(h.1 c).1, (h.1 c).2.1, (h.1 c).2.2.1⟩, h.2⟩ : (∀ c : Dev Cert.FourthIdeal.nD,
      r.2.mem ((c.tc : Thread Cert.FourthIdeal.nD Cert.FourthIdeal.τ).loc Cert.FourthIdeal.main_arg0) = m ((c.tc : Thread Cert.FourthIdeal.nD Cert.FourthIdeal.τ).loc Cert.FourthIdeal.main_arg0)
      ∧ r.2.mem ((c.tc : Thread Cert.FourthIdeal.nD Cert.FourthIdeal.τ).loc Cert.FourthIdeal.main_arg1) = m ((c.tc : Thread Cert.FourthIdeal.nD Cert.FourthIdeal.τ).loc Cert.FourthIdeal.main_arg1)
      ∧ r.2.mem ((c.tc : Thread Cert.FourthIdeal.nD Cert.FourthIdeal.τ).loc Cert.FourthIdeal.main_arg2) = m ((c.tc : Thread Cert.FourthIdeal.nD Cert.FourthIdeal.τ).loc Cert.FourthIdeal.main_arg2))
      ∧ r.2.sem = fun _ => 0)) (Cert.FourthIdeal.Hop.run_main (F := Bits) m ρ)

theorem frame_fourthPlain : Cert.quiescent_FourthPlainIdeal := fun m ρ _ =>
  (θ_run Cert.FourthPlainIdeal.defs _ _).mono
    (fun r h => ⟨fun c => (h c).2, sem_eq_zero_of_no_sems rfl r.2⟩) (Cert.FourthPlainIdeal.Value.run m ρ)

theorem value_fourth : Cert.algebraic_FourthIdeal_FourthPlainIdeal := by
  intro m ρ m' ρ' _ hm
  refine ⟨_, (θ_run _ _ _).mono (fun r h c => ?_) (Cert.FourthIdeal.Hop.run_main (F := Ideal) m ρ),
    (θ_run _ _ _).mono (fun r h => h 0) (Cert.FourthPlainIdeal.Value.run m' ρ')⟩
  obtain ⟨ha, hx, hy, ho⟩ := h.1 c
  refine ⟨?_, ha, hx, hy⟩
  rw [ho, Cert.FourthIdeal.Hop.out_eq]
  exact Cert.SecondIdeal.Hop.fourth_block _ _ _ _ _ _ (fun c => (hm c).1) (fun c => (hm c).2.1) c

theorem claim : Cert.Claim := ⟨Cert.Kernel.Gen.facts, Cert.KernelIdeal.Gen.facts, Cert.ReferenceIdeal.Gen.facts,
  Cert.Experts.Gen.facts, Cert.ExpertsIdeal.Gen.facts, Cert.MixtureIdeal.Gen.facts,
  Cert.Combine.Gen.facts, Cert.CombineIdeal.Gen.facts, Cert.TotalsIdeal.Gen.facts,
  Cert.Second.Gen.facts, Cert.SecondIdeal.Gen.facts, Cert.SecondPlainIdeal.Gen.facts,
  Cert.Third.Gen.facts, Cert.ThirdIdeal.Gen.facts, Cert.ThirdPlainIdeal.Gen.facts,
  Cert.Fourth.Gen.facts, Cert.FourthIdeal.Gen.facts, Cert.FourthPlainIdeal.Gen.facts,
  frame_kernel, frame_kernelIdeal, frame_reference,
  fun m ρ _ => Cert.Experts.Gen.frame m ρ, fun m ρ _ => Cert.ExpertsIdeal.Gen.frame m ρ, frame_mixture,
  frame_combine, frame_combineIdeal, frame_totals,
  frame_second, frame_secondIdeal, frame_secondPlain,
  frame_third, frame_thirdIdeal, frame_thirdPlain,
  frame_fourth, frame_fourthIdeal, frame_fourthPlain,
  trivial, value, trivial, value_experts, trivial, value_combine, trivial, value_second, trivial, value_third, trivial, value_fourth⟩

end Cert.Proof

end
